-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13)
      ∧ r.2.mem ((c.tc : Thread Cert.Kernel3.nD Cert.Kernel3.τ).loc Cert.Kernel3.main_arg14) = m ((c.tc : Thread Cert.Kernel3.nD Cert.Kernel3.τ).loc Cert.Kernel3.main_arg14)
      ∧ r.2.mem ((c.tc : Thread Cert.Kernel3.nD Cert.Kernel3.τ).loc Cert.Kernel3.main_arg15) = m ((c.tc : Thread Cert.Kernel3.nD Cert.Kernel3.τ).loc Cert.Kernel3.main_arg15)
      ∧ r.2.mem ((c.tc : Thread Cert.Kernel3.nD Cert.Kernel3.τ).loc Cert.Kernel3.main_arg16) = m ((c.tc : Thread Cert.Kernel3.nD Cert.Kernel3.τ).loc Cert.Kernel3.main_arg16))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
      ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
      ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15)
      ∧ r.2.mem ((c.tc : Thread Cert.Kernel3Ideal.nD Cert.Kernel3Ideal.τ).loc Cert.Kernel3Ideal.main_arg16) = m ((c.tc : Thread Cert.Kernel3Ideal.nD Cert.Kernel3Ideal.τ).loc Cert.Kernel3Ideal.main_arg16))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13)
      ∧ r.2.mem ((c.tc : Thread Cert.Reference3Ideal.nD Cert.Reference3Ideal.τ).loc Cert.Reference3Ideal.main_arg14) = m ((c.tc : Thread Cert.Reference3Ideal.nD Cert.Reference3Ideal.τ).loc Cert.Reference3Ideal.main_arg14)
      ∧ r.2.mem ((c.tc : Thread Cert.Reference3Ideal.nD Cert.Reference3Ideal.τ).loc Cert.Reference3Ideal.main_arg15) = m ((c.tc : Thread Cert.Reference3Ideal.nD Cert.Reference3Ideal.τ).loc Cert.Reference3Ideal.main_arg15)
      ∧ r.2.mem ((c.tc : Thread Cert.Reference3Ideal.nD Cert.Reference3Ideal.τ).loc Cert.Reference3Ideal.main_arg16) = m ((c.tc : Thread Cert.Reference3Ideal.nD Cert.Reference3Ideal.τ).loc Cert.Reference3Ideal.main_arg16))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11)
      ∧ r.2.mem ((c.tc : Thread Cert.Kernel5.nD Cert.Kernel5.τ).loc Cert.Kernel5.main_arg12) = m ((c.tc : Thread Cert.Kernel5.nD Cert.Kernel5.τ).loc Cert.Kernel5.main_arg12)
      ∧ r.2.mem ((c.tc : Thread Cert.Kernel5.nD Cert.Kernel5.τ).loc Cert.Kernel5.main_arg13) = m ((c.tc : Thread Cert.Kernel5.nD Cert.Kernel5.τ).loc Cert.Kernel5.main_arg13)
      ∧ r.2.mem ((c.tc : Thread Cert.Kernel5.nD Cert.Kernel5.τ).loc Cert.Kernel5.main_arg14) = m ((c.tc : Thread Cert.Kernel5.nD Cert.Kernel5.τ).loc Cert.Kernel5.main_arg14)
      ∧ r.2.mem ((c.tc : Thread Cert.Kernel5.nD Cert.Kernel5.τ).loc Cert.Kernel5.main_arg15) = m ((c.tc : Thread Cert.Kernel5.nD Cert.Kernel5.τ).loc Cert.Kernel5.main_arg15)
      ∧ r.2.mem ((c.tc : Thread Cert.Kernel5.nD Cert.Kernel5.τ).loc Cert.Kernel5.main_arg16) = m ((c.tc : Thread Cert.Kernel5.nD Cert.Kernel5.τ).loc Cert.Kernel5.main_arg16))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
      ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
      ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13)
      ∧ r.2.mem ((c.tc : Thread Cert.Kernel5Ideal.nD Cert.Kernel5Ideal.τ).loc Cert.Kernel5Ideal.main_arg14) = m ((c.tc : Thread Cert.Kernel5Ideal.nD Cert.Kernel5Ideal.τ).loc Cert.Kernel5Ideal.main_arg14)
      ∧ r.2.mem ((c.tc : Thread Cert.Kernel5Ideal.nD Cert.Kernel5Ideal.τ).loc Cert.Kernel5Ideal.main_arg15) = m ((c.tc : Thread Cert.Kernel5Ideal.nD Cert.Kernel5Ideal.τ).loc Cert.Kernel5Ideal.main_arg15)
      ∧ r.2.mem ((c.tc : Thread Cert.Kernel5Ideal.nD Cert.Kernel5Ideal.τ).loc Cert.Kernel5Ideal.main_arg16) = m ((c.tc : Thread Cert.Kernel5Ideal.nD Cert.Kernel5Ideal.τ).loc Cert.Kernel5Ideal.main_arg16))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11)
      ∧ r.2.mem ((c.tc : Thread Cert.Reference5Ideal.nD Cert.Reference5Ideal.τ).loc Cert.Reference5Ideal.main_arg12) = m ((c.tc : Thread Cert.Reference5Ideal.nD Cert.Reference5Ideal.τ).loc Cert.Reference5Ideal.main_arg12)
      ∧ r.2.mem ((c.tc : Thread Cert.Reference5Ideal.nD Cert.Reference5Ideal.τ).loc Cert.Reference5Ideal.main_arg13) = m ((c.tc : Thread Cert.Reference5Ideal.nD Cert.Reference5Ideal.τ).loc Cert.Reference5Ideal.main_arg13)
      ∧ r.2.mem ((c.tc : Thread Cert.Reference5Ideal.nD Cert.Reference5Ideal.τ).loc Cert.Reference5Ideal.main_arg14) = m ((c.tc : Thread Cert.Reference5Ideal.nD Cert.Reference5Ideal.τ).loc Cert.Reference5Ideal.main_arg14)
      ∧ r.2.mem ((c.tc : Thread Cert.Reference5Ideal.nD Cert.Reference5Ideal.τ).loc Cert.Reference5Ideal.main_arg15) = m ((c.tc : Thread Cert.Reference5Ideal.nD Cert.Reference5Ideal.τ).loc Cert.Reference5Ideal.main_arg15)
      ∧ r.2.mem ((c.tc : Thread Cert.Reference5Ideal.nD Cert.Reference5Ideal.τ).loc Cert.Reference5Ideal.main_arg16) = m ((c.tc : Thread Cert.Reference5Ideal.nD Cert.Reference5Ideal.τ).loc Cert.Reference5Ideal.main_arg16))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def preserves_Kernel_KernelIdeal : Prop :=
  IdealRules.named_const.Statement Cert.KernelIdeal.κ "scale" .f32 0x3E38AA3B#32 (((1 / 8) * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v12_0)) (v1 : (c : Dev Cert.Kernel2Ideal.nD) → Buf (Elt Ideal) ((c.tc : Thread Cert.Kernel2Ideal.nD Cert.Kernel2Ideal.τ).loc Cert.Kernel2Ideal.main_v12_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v12_0) = v0 c
          ∧ r.2.mem ((c.tc : Thread Cert.Kernel2Ideal.nD Cert.Kernel2Ideal.τ).loc Cert.Kernel2Ideal.main_v12_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v25) = v0 c
          ∧ r.2.mem ((c.tc : Thread Cert.Reference2Ideal.nD Cert.Reference2Ideal.τ).loc Cert.Reference2Ideal.main_v24) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)
      ∧ m' ((c.tc : Thread Cert.Reference3Ideal.nD Cert.Reference3Ideal.τ).loc Cert.Reference3Ideal.main_arg14) = m ((c.tc : Thread Cert.Kernel3Ideal.nD Cert.Kernel3Ideal.τ).loc Cert.Kernel3Ideal.main_arg14)
      ∧ m' ((c.tc : Thread Cert.Reference3Ideal.nD Cert.Reference3Ideal.τ).loc Cert.Reference3Ideal.main_arg15) = m ((c.tc : Thread Cert.Kernel3Ideal.nD Cert.Kernel3Ideal.τ).loc Cert.Kernel3Ideal.main_arg15)
      ∧ m' ((c.tc : Thread Cert.Reference3Ideal.nD Cert.Reference3Ideal.τ).loc Cert.Reference3Ideal.main_arg16) = m ((c.tc : Thread Cert.Kernel3Ideal.nD Cert.Kernel3Ideal.τ).loc Cert.Kernel3Ideal.main_arg16)) →
    ∃ (v0 : (c : Dev Cert.Kernel3Ideal.nD) → Buf (Elt Ideal) ((c.tc : Thread Cert.Kernel3Ideal.nD Cert.Kernel3Ideal.τ).loc Cert.Kernel3Ideal.main_v13_0)) (v1 : (c : Dev Cert.Kernel3Ideal.nD) → Buf (Elt Ideal) ((c.tc : Thread Cert.Kernel3Ideal.nD Cert.Kernel3Ideal.τ).loc Cert.Kernel3Ideal.main_v13_1)) (v2 : (c : Dev Cert.Kernel3Ideal.nD) → Buf (Elt Ideal) ((c.tc : Thread Cert.Kernel3Ideal.nD Cert.Kernel3Ideal.τ).loc Cert.Kernel3Ideal.main_v13_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v13_0) = v0 c
          ∧ r.2.mem ((c.tc : Thread Cert.Kernel3Ideal.nD Cert.Kernel3Ideal.τ).loc Cert.Kernel3Ideal.main_v13_1) = v1 c
          ∧ r.2.mem ((c.tc : Thread Cert.Kernel3Ideal.nD Cert.Kernel3Ideal.τ).loc Cert.Kernel3Ideal.main_v13_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
          ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
          ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15)
          ∧ r.2.mem ((c.tc : Thread Cert.Kernel3Ideal.nD Cert.Kernel3Ideal.τ).loc Cert.Kernel3Ideal.main_arg16) = m ((c.tc : Thread Cert.Kernel3Ideal.nD Cert.Kernel3Ideal.τ).loc Cert.Kernel3Ideal.main_arg16))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v73) = v0 c
          ∧ r.2.mem ((c.tc : Thread Cert.Reference3Ideal.nD Cert.Reference3Ideal.τ).loc Cert.Reference3Ideal.main_v93) = v1 c
          ∧ r.2.mem ((c.tc : Thread Cert.Reference3Ideal.nD Cert.Reference3Ideal.τ).loc Cert.Reference3Ideal.main_v95) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13)
          ∧ r.2.mem ((c.tc : Thread Cert.Reference3Ideal.nD Cert.Reference3Ideal.τ).loc Cert.Reference3Ideal.main_arg14) = m' ((c.tc : Thread Cert.Reference3Ideal.nD Cert.Reference3Ideal.τ).loc Cert.Reference3Ideal.main_arg14)
          ∧ r.2.mem ((c.tc : Thread Cert.Reference3Ideal.nD Cert.Reference3Ideal.τ).loc Cert.Reference3Ideal.main_arg15) = m' ((c.tc : Thread Cert.Reference3Ideal.nD Cert.Reference3Ideal.τ).loc Cert.Reference3Ideal.main_arg15)
          ∧ r.2.mem ((c.tc : Thread Cert.Reference3Ideal.nD Cert.Reference3Ideal.τ).loc Cert.Reference3Ideal.main_arg16) = m' ((c.tc : Thread Cert.Reference3Ideal.nD Cert.Reference3Ideal.τ).loc Cert.Reference3Ideal.main_arg16))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v12_0)) (v1 : (c : Dev Cert.Kernel4Ideal.nD) → Buf (Elt Ideal) ((c.tc : Thread Cert.Kernel4Ideal.nD Cert.Kernel4Ideal.τ).loc Cert.Kernel4Ideal.main_v12_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v12_0) = v0 c
          ∧ r.2.mem ((c.tc : Thread Cert.Kernel4Ideal.nD Cert.Kernel4Ideal.τ).loc Cert.Kernel4Ideal.main_v12_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v25) = v0 c
          ∧ r.2.mem ((c.tc : Thread Cert.Reference4Ideal.nD Cert.Reference4Ideal.τ).loc Cert.Reference4Ideal.main_v24) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)
      ∧ m' ((c.tc : Thread Cert.Reference5Ideal.nD Cert.Reference5Ideal.τ).loc Cert.Reference5Ideal.main_arg12) = m ((c.tc : Thread Cert.Kernel5Ideal.nD Cert.Kernel5Ideal.τ).loc Cert.Kernel5Ideal.main_arg12)
      ∧ m' ((c.tc : Thread Cert.Reference5Ideal.nD Cert.Reference5Ideal.τ).loc Cert.Reference5Ideal.main_arg13) = m ((c.tc : Thread Cert.Kernel5Ideal.nD Cert.Kernel5Ideal.τ).loc Cert.Kernel5Ideal.main_arg13)
      ∧ m' ((c.tc : Thread Cert.Reference5Ideal.nD Cert.Reference5Ideal.τ).loc Cert.Reference5Ideal.main_arg14) = m ((c.tc : Thread Cert.Kernel5Ideal.nD Cert.Kernel5Ideal.τ).loc Cert.Kernel5Ideal.main_arg14)
      ∧ m' ((c.tc : Thread Cert.Reference5Ideal.nD Cert.Reference5Ideal.τ).loc Cert.Reference5Ideal.main_arg15) = m ((c.tc : Thread Cert.Kernel5Ideal.nD Cert.Kernel5Ideal.τ).loc Cert.Kernel5Ideal.main_arg15)
      ∧ m' ((c.tc : Thread Cert.Reference5Ideal.nD Cert.Reference5Ideal.τ).loc Cert.Reference5Ideal.main_arg16) = m ((c.tc : Thread Cert.Kernel5Ideal.nD Cert.Kernel5Ideal.τ).loc Cert.Kernel5Ideal.main_arg16)) →
    ∃ (v0 : (c : Dev Cert.Kernel5Ideal.nD) → Buf (Elt Ideal) ((c.tc : Thread Cert.Kernel5Ideal.nD Cert.Kernel5Ideal.τ).loc Cert.Kernel5Ideal.main_v13_0)) (v1 : (c : Dev Cert.Kernel5Ideal.nD) → Buf (Elt Ideal) ((c.tc : Thread Cert.Kernel5Ideal.nD Cert.Kernel5Ideal.τ).loc Cert.Kernel5Ideal.main_v13_1)) (v2 : (c : Dev Cert.Kernel5Ideal.nD) → Buf (Elt Ideal) ((c.tc : Thread Cert.Kernel5Ideal.nD Cert.Kernel5Ideal.τ).loc Cert.Kernel5Ideal.main_v13_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v13_0) = v0 c
          ∧ r.2.mem ((c.tc : Thread Cert.Kernel5Ideal.nD Cert.Kernel5Ideal.τ).loc Cert.Kernel5Ideal.main_v13_1) = v1 c
          ∧ r.2.mem ((c.tc : Thread Cert.Kernel5Ideal.nD Cert.Kernel5Ideal.τ).loc Cert.Kernel5Ideal.main_v13_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
          ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
          ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
          ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13)
          ∧ r.2.mem ((c.tc : Thread Cert.Kernel5Ideal.nD Cert.Kernel5Ideal.τ).loc Cert.Kernel5Ideal.main_arg14) = m ((c.tc : Thread Cert.Kernel5Ideal.nD Cert.Kernel5Ideal.τ).loc Cert.Kernel5Ideal.main_arg14)
          ∧ r.2.mem ((c.tc : Thread Cert.Kernel5Ideal.nD Cert.Kernel5Ideal.τ).loc Cert.Kernel5Ideal.main_arg15) = m ((c.tc : Thread Cert.Kernel5Ideal.nD Cert.Kernel5Ideal.τ).loc Cert.Kernel5Ideal.main_arg15)
          ∧ r.2.mem ((c.tc : Thread Cert.Kernel5Ideal.nD Cert.Kernel5Ideal.τ).loc Cert.Kernel5Ideal.main_arg16) = m ((c.tc : Thread Cert.Kernel5Ideal.nD Cert.Kernel5Ideal.τ).loc Cert.Kernel5Ideal.main_arg16))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v73) = v0 c
          ∧ r.2.mem ((c.tc : Thread Cert.Reference5Ideal.nD Cert.Reference5Ideal.τ).loc Cert.Reference5Ideal.main_v93) = v1 c
          ∧ r.2.mem ((c.tc : Thread Cert.Reference5Ideal.nD Cert.Reference5Ideal.τ).loc Cert.Reference5Ideal.main_v95) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10)
          ∧ r.2.mem ((c.tc : Thread Cert.Reference5Ideal.nD Cert.Reference5Ideal.τ).loc Cert.Reference5Ideal.main_arg11) = m' ((c.tc : Thread Cert.Reference5Ideal.nD Cert.Reference5Ideal.τ).loc Cert.Reference5Ideal.main_arg11)
          ∧ r.2.mem ((c.tc : Thread Cert.Reference5Ideal.nD Cert.Reference5Ideal.τ).loc Cert.Reference5Ideal.main_arg12) = m' ((c.tc : Thread Cert.Reference5Ideal.nD Cert.Reference5Ideal.τ).loc Cert.Reference5Ideal.main_arg12)
          ∧ r.2.mem ((c.tc : Thread Cert.Reference5Ideal.nD Cert.Reference5Ideal.τ).loc Cert.Reference5Ideal.main_arg13) = m' ((c.tc : Thread Cert.Reference5Ideal.nD Cert.Reference5Ideal.τ).loc Cert.Reference5Ideal.main_arg13)
          ∧ r.2.mem ((c.tc : Thread Cert.Reference5Ideal.nD Cert.Reference5Ideal.τ).loc Cert.Reference5Ideal.main_arg14) = m' ((c.tc : Thread Cert.Reference5Ideal.nD Cert.Reference5Ideal.τ).loc Cert.Reference5Ideal.main_arg14)
          ∧ r.2.mem ((c.tc : Thread Cert.Reference5Ideal.nD Cert.Reference5Ideal.τ).loc Cert.Reference5Ideal.main_arg15) = m' ((c.tc : Thread Cert.Reference5Ideal.nD Cert.Reference5Ideal.τ).loc Cert.Reference5Ideal.main_arg15)
          ∧ r.2.mem ((c.tc : Thread Cert.Reference5Ideal.nD Cert.Reference5Ideal.τ).loc Cert.Reference5Ideal.main_arg16) = m' ((c.tc : Thread Cert.Reference5Ideal.nD Cert.Reference5Ideal.τ).loc Cert.Reference5Ideal.main_arg16))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v25) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v3) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v25) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_finite.lean ====
abbrev S4x8192x1024 : Shape := ⟨3, ![4, 8192, 1024]⟩
abbrev S4x1024x8192 : Shape := ⟨3, ![4, 1024, 8192]⟩
abbrev S4x256x10240 : Shape := ⟨3, ![4, 256, 10240]⟩
abbrev S4x64 : Shape := ⟨2, ![4, 64]⟩
abbrev S128 : Shape := ⟨1, ![128]⟩
abbrev S1 : Shape := ⟨1, ![1]⟩
abbrev S_ : Shape := ⟨0, ![]⟩

class Facts : Prop where
  bitsLt_bf16_f32 : FTy.bits .bf16 < FTy.bits .f32
  bcast_S_S4x8192x1024 : S_.BroadcastsInDim S4x8192x1024 (![] : Fin 0 → Fin S4x8192x1024.rank)
  bcast_S_S4x1024x8192 : S_.BroadcastsInDim S4x1024x8192 (![] : Fin 0 → Fin S4x1024x8192.rank)
  bcast_S_S4x256x10240 : S_.BroadcastsInDim S4x256x10240 (![] : Fin 0 → Fin S4x256x10240.rank)
  bcast_S_S4x64 : S_.BroadcastsInDim S4x64 (![] : Fin 0 → Fin S4x64.rank)
  bcast_S_S1 : S_.BroadcastsInDim S1 (![] : Fin 0 → Fin S1.rank)

variable [Facts]

def fn_part1 {F : FTy → Type} [FloatOps F] (main_arg6 : FVec F S1 .f32) (main_v3 : IVec S4x8192x1024 1) (main_v7 : IVec S4x8192x1024 1) (main_v11 : IVec S4x1024x8192 1) (main_v15 : IVec S4x256x10240 1) (main_v18 : IVec S4x64 1) : IVec S4x8192x1024 1 × IVec S4x8192x1024 1 × IVec S4x1024x8192 1 × IVec S4x256x10240 1 × IVec S4x64 1 × IVec S1 1 :=
  let main_v19 : FVec F S1 .f32 := Host.absf main_arg6
  let main_cst_4 : FVec F S_ .f32 := constant S_ .f32 0x7F800000#32
  let main_v20 : FVec F S1 .f32 := broadcastInDim S1 ![] bcast_S_S1 main_cst_4
  let main_v21 : IVec S1 1 := cmpf .olt main_v19 main_v20
  (main_v3, main_v7, main_v11, main_v15, main_v18, main_v21)

def fn {F : FTy → Type} [FloatOps F] (main_arg0 : FVec F S4x8192x1024 .bf16) (main_arg1 : FVec F S4x8192x1024 .bf16) (main_arg2 : FVec F S4x1024x8192 .bf16) (main_arg3 : FVec F S4x256x10240 .bf16) (main_arg4 : FVec F S4x64 .f32) (main_arg5 : FVec F S128 .f32) (main_arg6 : FVec F S1 .f32) : IVec S4x8192x1024 1 × IVec S4x8192x1024 1 × IVec S4x1024x8192 1 × IVec S4x256x10240 1 × IVec S4x64 1 × IVec S1 1 :=
  let main_v0 : FVec F S4x8192x1024 .f32 := (extf .f32 · bitsLt_bf16_f32) main_arg0
  let main_v1 : FVec F S4x8192x1024 .f32 := Host.absf main_v0
  let main_cst : FVec F S_ .f32 := constant S_ .f32 0x7F800000#32
  let main_v2 : FVec F S4x8192x1024 .f32 := broadcastInDim S4x8192x1024 ![] bcast_S_S4x8192x1024 main_cst
  let main_v3 : IVec S4x8192x1024 1 := cmpf .olt main_v1 main_v2
  let main_v4 : FVec F S4x8192x1024 .f32 := (extf .f32 · bitsLt_bf16_f32) main_arg1
  let main_v5 : FVec F S4x8192x1024 .f32 := Host.absf main_v4
  let main_cst_0 : FVec F S_ .f32 := constant S_ .f32 0x7F800000#32
  let main_v6 : FVec F S4x8192x1024 .f32 := broadcastInDim S4x8192x1024 ![] bcast_S_S4x8192x1024 main_cst_0
  let main_v7 : IVec S4x8192x1024 1 := cmpf .olt main_v5 main_v6
  let main_v8 : FVec F S4x1024x8192 .f32 := (extf .f32 · bitsLt_bf16_f32) main_arg2
  let main_v9 : FVec F S4x1024x8192 .f32 := Host.absf main_v8
  let main_cst_1 : FVec F S_ .f32 := constant S_ .f32 0x7F800000#32
  let main_v10 : FVec F S4x1024x8192 .f32 := broadcastInDim S4x1024x8192 ![] bcast_S_S4x1024x8192 main_cst_1
  let main_v11 : IVec S4x1024x8192 1 := cmpf .olt main_v9 main_v10
  let main_v12 : FVec F S4x256x10240 .f32 := (extf .f32 · bitsLt_bf16_f32) main_arg3
  let main_v13 : FVec F S4x256x10240 .f32 := Host.absf main_v12
  let main_cst_2 : FVec F S_ .f32 := constant S_ .f32 0x7F800000#32
  let main_v14 : FVec F S4x256x10240 .f32 := broadcastInDim S4x256x10240 ![] bcast_S_S4x256x10240 main_cst_2
  let main_v15 : IVec S4x256x10240 1 := cmpf .olt main_v13 main_v14
  let main_v16 : FVec F S4x64 .f32 := Host.absf main_arg4
  let main_cst_3 : FVec F S_ .f32 := constant S_ .f32 0x7F800000#32
  let main_v17 : FVec F S4x64 .f32 := broadcastInDim S4x64 ![] bcast_S_S4x64 main_cst_3
  let main_v18 : IVec S4x64 1 := cmpf .olt main_v16 main_v17
  fn_part1 (F := F) main_arg6 main_v3 main_v7 main_v11 main_v15 main_v18
-- ==== Kernel.lean ====
abbrev S4x8192x1024 : Shape := ⟨3, ![4, 8192, 1024]⟩
abbrev S4x1024x8192 : Shape := ⟨3, ![4, 1024, 8192]⟩
abbrev S4x256x10240 : Shape := ⟨3, ![4, 256, 10240]⟩
abbrev S4x64 : Shape := ⟨2, ![4, 64]⟩
abbrev S128 : Shape := ⟨1, ![128]⟩
abbrev S1 : Shape := ⟨1, ![1]⟩
abbrev S1x64 : Shape := ⟨2, ![1, 64]⟩
abbrev S64 : Shape := ⟨1, ![64]⟩
abbrev S_ : Shape := ⟨0, ![]⟩
abbrev S1x128 : Shape := ⟨2, ![1, 128]⟩
abbrev S4x256x1024 : Shape := ⟨3, ![4, 256, 1024]⟩
abbrev S4x1024x256 : Shape := ⟨3, ![4, 1024, 256]⟩
abbrev S1x2048x128 : Shape := ⟨3, ![1, 2048, 128]⟩
abbrev S1x8192x128 : Shape := ⟨3, ![1, 8192, 128]⟩
abbrev S1x128x8192 : Shape := ⟨3, ![1, 128, 8192]⟩
abbrev S1x256x128 : Shape := ⟨3, ![1, 256, 128]⟩
abbrev S1x128x256 : Shape := ⟨3, ![1, 128, 256]⟩
abbrev S128x4096 : Shape := ⟨2, ![128, 4096]⟩
abbrev S1x4096 : Shape := ⟨2, ![1, 4096]⟩
abbrev S144x4096 : Shape := ⟨2, ![144, 4096]⟩
abbrev S2x512x4096 : Shape := ⟨3, ![2, 512, 4096]⟩
abbrev S2048x128 : Shape := ⟨2, ![2048, 128]⟩
abbrev S4096x128 : Shape := ⟨2, ![4096, 128]⟩
abbrev S1x512x128 : Shape := ⟨3, ![1, 512, 128]⟩
abbrev S512x128 : Shape := ⟨2, ![512, 128]⟩
abbrev S512x4096 : Shape := ⟨2, ![512, 4096]⟩
abbrev S1x512x4096 : Shape := ⟨3, ![1, 512, 4096]⟩
abbrev S1x128x512 : Shape := ⟨3, ![1, 128, 512]⟩
abbrev S128x512 : Shape := ⟨2, ![128, 512]⟩
abbrev S16x512 : Shape := ⟨2, ![16, 512]⟩
abbrev S144x512 : Shape := ⟨2, ![144, 512]⟩
abbrev S4096 : Shape := ⟨1, ![4096]⟩
abbrev S256x128 : Shape := ⟨2, ![256, 128]⟩
abbrev S256x4096 : Shape := ⟨2, ![256, 4096]⟩
abbrev S128x256 : Shape := ⟨2, ![128, 256]⟩
abbrev S16x256 : Shape := ⟨2, ![16, 256]⟩
abbrev S144x256 : Shape := ⟨2, ![144, 256]⟩
abbrev S128x2048 : Shape := ⟨2, ![128, 2048]⟩
abbrev S1x2048 : Shape := ⟨2, ![1, 2048]⟩
abbrev S2048 : Shape := ⟨1, ![2048]⟩
abbrev S2048x1 : Shape := ⟨2, ![2048, 1]⟩

abbrev nBuf : Space → Nat
  | .hbm => 36
  | .vmem => 17
  | .smem => 1
  | _ => 0

abbrev bufTy : (tb : Table) → Fin (tcTables nBuf tb) → BufTy
  | .hbm, ⟨0, _⟩ => ⟨S4x8192x1024, .bf16⟩
  | .hbm, ⟨1, _⟩ => ⟨S4x8192x1024, .bf16⟩
  | .hbm, ⟨2, _⟩ => ⟨S4x1024x8192, .bf16⟩
  | .hbm, ⟨3, _⟩ => ⟨S4x256x10240, .bf16⟩
  | .hbm, ⟨4, _⟩ => ⟨S4x64, .f32⟩
  | .hbm, ⟨5, _⟩ => ⟨S128, .f32⟩
  | .hbm, ⟨6, _⟩ => ⟨S1, .f32⟩
  | .hbm, ⟨7, _⟩ => ⟨S1x64, .f32⟩
  | .hbm, ⟨8, _⟩ => ⟨S64, .f32⟩
  | .hbm, ⟨9, _⟩ => ⟨S1x64, .f32⟩
  | .hbm, ⟨10, _⟩ => ⟨S64, .f32⟩
  | .hbm, ⟨11, _⟩ => ⟨S64, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S1x64, .f32⟩
  | .hbm, ⟨16, _⟩ => ⟨S64, .f32⟩
  | .hbm, ⟨17, _⟩ => ⟨S1x64, .f32⟩
  | .hbm, ⟨18, _⟩ => ⟨S64, .f32⟩
  | .hbm, ⟨19, _⟩ => ⟨S64, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S1, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S128, .f32⟩
  | .hbm, ⟨31, _⟩ => ⟨S128, .f32⟩
  | .hbm, ⟨32, _⟩ => ⟨S1x128, .f32⟩
  | .hbm, ⟨33, _⟩ => ⟨S4x256x1024, .bf16⟩
  | .hbm, ⟨34, _⟩ => ⟨S4x1024x256, .bf16⟩
  | .hbm, ⟨35, _⟩ => ⟨S4x8192x1024, .bf16⟩
  | .local _ .vmem, ⟨0, _⟩ => ⟨S1x2048x128, .bf16⟩
  | .local _ .vmem, ⟨1, _⟩ => ⟨S1x2048x128, .bf16⟩
  | .local _ .vmem, ⟨2, _⟩ => ⟨S1x8192x128, .bf16⟩
  | .local _ .vmem, ⟨3, _⟩ => ⟨S1x8192x128, .bf16⟩
  | .local _ .vmem, ⟨4, _⟩ => ⟨S1x128x8192, .bf16⟩
  | .local _ .vmem, ⟨5, _⟩ => ⟨S1x128x8192, .bf16⟩
  | .local _ .vmem, ⟨6, _⟩ => ⟨S1x256x128, .bf16⟩
  | .local _ .vmem, ⟨7, _⟩ => ⟨S1x256x128, .bf16⟩
  | .local _ .vmem, ⟨8, _⟩ => ⟨S1x128x256, .bf16⟩
  | .local _ .vmem, ⟨9, _⟩ => ⟨S1x128x256, .bf16⟩
  | .local _ .vmem, ⟨10, _⟩ => ⟨S1x128, .f32⟩
  | .local _ .vmem, ⟨11, _⟩ => ⟨S1x2048x128, .bf16⟩
  | .local _ .vmem, ⟨12, _⟩ => ⟨S1x2048x128, .bf16⟩
  | .local _ .vmem, ⟨13, _⟩ => ⟨S128x4096, .bf16⟩
  | .local _ .vmem, ⟨14, _⟩ => ⟨S1x4096, .f32⟩
  | .local _ .vmem, ⟨15, _⟩ => ⟨S144x4096, .f32⟩
  | .local _ .vmem, ⟨16, _⟩ => ⟨S2x512x4096, .f32⟩
  | .local _ .smem, ⟨0, _⟩ => ⟨S1, .f32⟩
  | _, _ => ⟨S4x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨3, ![4, 8, 4], ![false, false, false]⟩

def k0_mult1 : BitVec 32 :=
  let c0_i32 : BitVec 32 := 0#32
  c0_i32
@[reducible] def k0_t1_loop : Scf.Loop 32 :=
  let c0_i32_21 : BitVec 32 := 0#32
  let c8_i32 : BitVec 32 := 8#32
  let v37 : BitVec 32 := Scalar.addi c0_i32_21 c8_i32
  let c1_i32 : BitVec 32 := 1#32
  ⟨c0_i32_21, v37, c1_i32⟩
def k0_mult2 (k0_t1 : Fin k0_t1_loop.trips) : BitVec 32 :=
  let c2_i32 : BitVec 32 := 2#32
  let c0_i32_21 : BitVec 32 := 0#32
  let c1_i32 : BitVec 32 := 1#32
  let arg15 : BitVec 32 := Scf.iv c0_i32_21 c1_i32 k0_t1
  let v99 : BitVec 32 := Scalar.muli c2_i32 arg15
  let c1_i32_54 : BitVec 32 := 1#32
  let v100 : BitVec 32 := Scalar.addi v99 c1_i32_54
  let c512_i32 : BitVec 32 := 512#32
  let v101 : BitVec 32 := Scalar.muli v100 c512_i32
  v101
def k0_off1 (k0_t1 : Fin k0_t1_loop.trips) : Fin 3 → Nat :=
  let c0_55 : Index := 0#32
  let c2_i32 : BitVec 32 := 2#32
  let c0_i32_21 : BitVec 32 := 0#32
  let c1_i32 : BitVec 32 := 1#32
  let arg15 : BitVec 32 := Scf.iv c0_i32_21 c1_i32 k0_t1
  let v99 : BitVec 32 := Scalar.muli c2_i32 arg15
  let c1_i32_54 : BitVec 32 := 1#32
  let v100 : BitVec 32 := Scalar.addi v99 c1_i32_54
  let c512_i32 : BitVec 32 := 512#32
  let v101 : BitVec 32 := Scalar.muli v100 c512_i32
  let v102 : BitVec 32 := v101
  let v103 : Index := Scalar.indexCast v102
  let c0_56 : Index := 0#32
  ![0, v103.toNat, 0]
def k0_mult3 (k0_t1 : Fin k0_t1_loop.trips) : BitVec 32 :=
  let c2_i32 : BitVec 32 := 2#32
  let c0_i32_21 : BitVec 32 := 0#32
  let c1_i32 : BitVec 32 := 1#32
  let arg15 : BitVec 32 := Scf.iv c0_i32_21 c1_i32 k0_t1
  let v99 : BitVec 32 := Scalar.muli c2_i32 arg15
  let c512_i32_62 : BitVec 32 := 512#32
  let v111 : BitVec 32 := Scalar.muli v99 c512_i32_62
  v111
def k0_off2 (k0_t1 : Fin k0_t1_loop.trips) : Fin 3 → Nat :=
  let c0_66 : Index := 0#32
  let c0_67 : Index := 0#32
  let c2_i32 : BitVec 32 := 2#32
  let c0_i32_21 : BitVec 32 := 0#32
  let c1_i32 : BitVec 32 := 1#32
  let arg15 : BitVec 32 := Scf.iv c0_i32_21 c1_i32 k0_t1
  let v99 : BitVec 32 := Scalar.muli c2_i32 arg15
  let c512_i32_62 : BitVec 32 := 512#32
  let v111 : BitVec 32 := Scalar.muli v99 c512_i32_62
  let v112 : BitVec 32 := v111
  let v115 : Index := Scalar.indexCast v112
  ![0, 0, v115.toNat]
def k0_mult4 (k0_t1 : Fin k0_t1_loop.trips) : BitVec 32 :=
  let c2_i32 : BitVec 32 := 2#32
  let c0_i32_21 : BitVec 32 := 0#32
  let c1_i32 : BitVec 32 := 1#32
  let arg15 : BitVec 32 := Scf.iv c0_i32_21 c1_i32 k0_t1
  let v99 : BitVec 32 := Scalar.muli c2_i32 arg15
  let c2_i32_79 : BitVec 32 := 2#32
  let v141 : BitVec 32 := Scalar.addi v99 c2_i32_79
  let c15_i32 : BitVec 32 := 15#32
  let v142 : BitVec 32 := Scalar.minsi v141 c15_i32
  let c512_i32_80 : BitVec 32 := 512#32
  let v143 : BitVec 32 := Scalar.muli v142 c512_i32_80
  v143
def k0_off3 (k0_t1 : Fin k0_t1_loop.trips) : Fin 3 → Nat :=
  let c0_81 : Index := 0#32
  let c2_i32 : BitVec 32 := 2#32
  let c0_i32_21 : BitVec 32 := 0#32
  let c1_i32 : BitVec 32 := 1#32
  let arg15 : BitVec 32 := Scf.iv c0_i32_21 c1_i32 k0_t1
  let v99 : BitVec 32 := Scalar.muli c2_i32 arg15
  let c2_i32_79 : BitVec 32 := 2#32
  let v141 : BitVec 32 := Scalar.addi v99 c2_i32_79
  let c15_i32 : BitVec 32 := 15#32
  let v142 : BitVec 32 := Scalar.minsi v141 c15_i32
  let c512_i32_80 : BitVec 32 := 512#32
  let v143 : BitVec 32 := Scalar.muli v142 c512_i32_80
  let v144 : BitVec 32 := v143
  let v145 : Index := Scalar.indexCast v144
  let c0_82 : Index := 0#32
  ![0, v145.toNat, 0]
def k0_mult5 (k0_t1 : Fin k0_t1_loop.trips) : BitVec 32 :=
  let c2_i32 : BitVec 32 := 2#32
  let c0_i32_21 : BitVec 32 := 0#32
  let c1_i32 : BitVec 32 := 1#32
  let arg15 : BitVec 32 := Scf.iv c0_i32_21 c1_i32 k0_t1
  let v99 : BitVec 32 := Scalar.muli c2_i32 arg15
  let c1_i32_89 : BitVec 32 := 1#32
  let v153 : BitVec 32 := Scalar.addi v99 c1_i32_89
  let c512_i32_90 : BitVec 32 := 512#32
  let v154 : BitVec 32 := Scalar.muli v153 c512_i32_90
  v154
def k0_off4 (k0_t1 : Fin k0_t1_loop.trips) : Fin 3 → Nat :=
  let c0_94 : Index := 0#32
  let c0_95 : Index := 0#32
  let c2_i32 : BitVec 32 := 2#32
  let c0_i32_21 : BitVec 32 := 0#32
  let c1_i32 : BitVec 32 := 1#32
  let arg15 : BitVec 32 := Scf.iv c0_i32_21 c1_i32 k0_t1
  let v99 : BitVec 32 := Scalar.muli c2_i32 arg15
  let c1_i32_89 : BitVec 32 := 1#32
  let v153 : BitVec 32 := Scalar.addi v99 c1_i32_89
  let c512_i32_90 : BitVec 32 := 512#32
  let v154 : BitVec 32 := Scalar.muli v153 c512_i32_90
  let v155 : BitVec 32 := v154
  let v158 : Index := Scalar.indexCast v155
  ![0, 0, v158.toNat]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x128x8192 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x128x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S1x2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== KernelIdeal.lean ====
variable {F : FTy → Type} [FloatOps F] [Named F]
def κ : String → Option EReal := fun
  | "scale" => some (((1 / 8) * (Real.log 2)⁻¹ : ℝ) : EReal)
  | _ => none
-- ==== ReferenceIdeal.lean ====
abbrev S4x8192x1024 : Shape := ⟨3, ![4, 8192, 1024]⟩
abbrev S4x1024x8192 : Shape := ⟨3, ![4, 1024, 8192]⟩
abbrev S4x256x10240 : Shape := ⟨3, ![4, 256, 10240]⟩
abbrev S4x64 : Shape := ⟨2, ![4, 64]⟩
abbrev S128 : Shape := ⟨1, ![128]⟩
abbrev S1 : Shape := ⟨1, ![1]⟩
abbrev S1x64 : Shape := ⟨2, ![1, 64]⟩
abbrev S64 : Shape := ⟨1, ![64]⟩
abbrev S_ : Shape := ⟨0, ![]⟩
abbrev S4x8192x8x2x64 : Shape := ⟨5, ![4, 8192, 8, 2, 64]⟩
abbrev S4x8192x8x128 : Shape := ⟨4, ![4, 8192, 8, 128]⟩
abbrev S4x256x1024 : Shape := ⟨3, ![4, 256, 1024]⟩
abbrev S4x256x8x2x64 : Shape := ⟨5, ![4, 256, 8, 2, 64]⟩
abbrev S4x256x8x128 : Shape := ⟨4, ![4, 256, 8, 128]⟩
abbrev S4x8448x8x2x64 : Shape := ⟨5, ![4, 8448, 8, 2, 64]⟩
abbrev S4x8448x8x128 : Shape := ⟨4, ![4, 8448, 8, 128]⟩
abbrev S4x8x2x8192x8448 : Shape := ⟨5, ![4, 8, 2, 8192, 8448]⟩
abbrev S4x8x2x8192 : Shape := ⟨4, ![4, 8, 2, 8192]⟩
abbrev S4x8x2x8192x1 : Shape := ⟨5, ![4, 8, 2, 8192, 1]⟩
abbrev S4x8x1x8192x8448 : Shape := ⟨5, ![4, 8, 1, 8192, 8448]⟩
abbrev S4x8x8192x8448 : Shape := ⟨4, ![4, 8, 8192, 8448]⟩
abbrev S4x8x128x8192 : Shape := ⟨4, ![4, 8, 128, 8192]⟩
abbrev S4x8192x8 : Shape := ⟨3, ![4, 8192, 8]⟩
abbrev S4x8192x8x1 : Shape := ⟨4, ![4, 8192, 8, 1]⟩
abbrev S1x1x1x128 : Shape := ⟨4, ![1, 1, 1, 128]⟩

abbrev nBuf : Space → Nat
  | .hbm => 91
  | .vmem => 0
  | .smem => 0
  | _ => 0

abbrev bufTy : (tb : Table) → Fin (tcTables nBuf tb) → BufTy
  | .hbm, ⟨0, _⟩ => ⟨S4x8192x1024, .bf16⟩
  | .hbm, ⟨1, _⟩ => ⟨S4x8192x1024, .bf16⟩
  | .hbm, ⟨2, _⟩ => ⟨S4x1024x8192, .bf16⟩
  | .hbm, ⟨3, _⟩ => ⟨S4x256x10240, .bf16⟩
  | .hbm, ⟨4, _⟩ => ⟨S4x64, .f32⟩
  | .hbm, ⟨5, _⟩ => ⟨S128, .f32⟩
  | .hbm, ⟨6, _⟩ => ⟨S1, .f32⟩
  | .hbm, ⟨7, _⟩ => ⟨S1x64, .f32⟩
  | .hbm, ⟨8, _⟩ => ⟨S64, .f32⟩
  | .hbm, ⟨9, _⟩ => ⟨S1x64, .f32⟩
  | .hbm, ⟨10, _⟩ => ⟨S64, .f32⟩
  | .hbm, ⟨11, _⟩ => ⟨S64, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S1x64, .f32⟩
  | .hbm, ⟨16, _⟩ => ⟨S64, .f32⟩
  | .hbm, ⟨17, _⟩ => ⟨S1x64, .f32⟩
  | .hbm, ⟨18, _⟩ => ⟨S64, .f32⟩
  | .hbm, ⟨19, _⟩ => ⟨S64, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S4x8192x1024, .f32⟩
  | .hbm, ⟨27, _⟩ => ⟨S4x8192x8x2x64, .f32⟩
  | .hbm, ⟨28, _⟩ => ⟨S4x8192x1024, .f32⟩
  | .hbm, ⟨29, _⟩ => ⟨S4x8192x8x2x64, .f32⟩
  | .hbm, ⟨30, _⟩ => ⟨S4x1024x8192, .f32⟩
  | .hbm, ⟨31, _⟩ => ⟨S4x8192x1024, .f32⟩
  | .hbm, ⟨32, _⟩ => ⟨S4x8192x8x128, .f32⟩
  | .hbm, ⟨33, _⟩ => ⟨S4x256x1024, .bf16⟩
  | .hbm, ⟨34, _⟩ => ⟨S4x256x1024, .f32⟩
  | .hbm, ⟨35, _⟩ => ⟨S4x256x8x2x64, .f32⟩
  | .hbm, ⟨36, _⟩ => ⟨S4x256x1024, .bf16⟩
  | .hbm, ⟨37, _⟩ => ⟨S4x256x1024, .f32⟩
  | .hbm, ⟨38, _⟩ => ⟨S4x256x8x128, .f32⟩
  | .hbm, ⟨39, _⟩ => ⟨S4x8448x8x2x64, .f32⟩
  | .hbm, ⟨40, _⟩ => ⟨S4x8448x8x128, .f32⟩
  | .hbm, ⟨41, _⟩ => ⟨S4x8x2x8192x8448, .f32⟩
  | .hbm, ⟨42, _⟩ => ⟨S_, .f32⟩
  | .hbm, ⟨43, _⟩ => ⟨S4x8x2x8192x8448, .f32⟩
  | .hbm, ⟨44, _⟩ => ⟨S4x8x2x8192x8448, .f32⟩
  | .hbm, ⟨45, _⟩ => ⟨S_, .f32⟩
  | .hbm, ⟨46, _⟩ => ⟨S4x8x2x8192, .f32⟩
  | .hbm, ⟨47, _⟩ => ⟨S_, .f32⟩
  | .hbm, ⟨48, _⟩ => ⟨S4x8x2x8192, .f32⟩
  | .hbm, ⟨49, _⟩ => ⟨S4x8x2x8192, .f32⟩
  | .hbm, ⟨50, _⟩ => ⟨S4x8x2x8192x1, .f32⟩
  | .hbm, ⟨51, _⟩ => ⟨S4x8x2x8192x8448, .f32⟩
  | .hbm, ⟨52, _⟩ => ⟨S4x8x2x8192x8448, .f32⟩
  | .hbm, ⟨53, _⟩ => ⟨S4x8x2x8192x8448, .f32⟩
  | .hbm, ⟨54, _⟩ => ⟨S_, .f32⟩
  | .hbm, ⟨55, _⟩ => ⟨S4x8x2x8192, .f32⟩
  | .hbm, ⟨56, _⟩ => ⟨S4x8x2x8192x1, .f32⟩
  | .hbm, ⟨57, _⟩ => ⟨S4x8x2x8192x8448, .f32⟩
  | .hbm, ⟨58, _⟩ => ⟨S4x8x2x8192x8448, .f32⟩
  | .hbm, ⟨59, _⟩ => ⟨S4x8x1x8192x8448, .f32⟩
  | .hbm, ⟨60, _⟩ => ⟨S4x8x8192x8448, .f32⟩
  | .hbm, ⟨61, _⟩ => ⟨S4x8x1x8192x8448, .f32⟩
  | .hbm, ⟨62, _⟩ => ⟨S4x8x8192x8448, .f32⟩
  | .hbm, ⟨63, _⟩ => ⟨S4x8x8192x8448, .f32⟩
  | .hbm, ⟨64, _⟩ => ⟨S4x8x8192x8448, .f32⟩
  | .hbm, ⟨65, _⟩ => ⟨S4x8x8192x8448, .f32⟩
  | .hbm, ⟨66, _⟩ => ⟨S4x8x128x8192, .f32⟩
  | .hbm, ⟨67, _⟩ => ⟨S4x8192x8x128, .f32⟩
  | .hbm, ⟨68, _⟩ => ⟨S4x8192x8x128, .f32⟩
  | .hbm, ⟨69, _⟩ => ⟨S_, .f32⟩
  | .hbm, ⟨70, _⟩ => ⟨S4x8192x8, .f32⟩
  | .hbm, ⟨71, _⟩ => ⟨S4x8192x8x1, .f32⟩
  | .hbm, ⟨72, _⟩ => ⟨S_, .f32⟩
  | .hbm, ⟨73, _⟩ => ⟨S4x8192x8x1, .f32⟩
  | .hbm, ⟨74, _⟩ => ⟨S4x8192x8x1, .f32⟩
  | .hbm, ⟨75, _⟩ => ⟨S_, .f32⟩
  | .hbm, ⟨76, _⟩ => ⟨S4x8192x8x1, .f32⟩
  | .hbm, ⟨77, _⟩ => ⟨S4x8192x8x1, .f32⟩
  | .hbm, ⟨78, _⟩ => ⟨S4x8192x8x1, .f32⟩
  | .hbm, ⟨79, _⟩ => ⟨S4x8192x8x128, .f32⟩
  | .hbm, ⟨80, _⟩ => ⟨S4x8192x8x128, .f32⟩
  | .hbm, ⟨81, _⟩ => ⟨S1x1x1x128, .f32⟩
  | .hbm, ⟨82, _⟩ => ⟨S4x8192x8x128, .f32⟩
  | .hbm, ⟨83, _⟩ => ⟨S4x8192x8x128, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S4x8192x8x128, .f32⟩
  | .hbm, ⟨88, _⟩ => ⟨S4x8192x8x128, .f32⟩
  | .hbm, ⟨89, _⟩ => ⟨S4x8192x1024, .f32⟩
  | .hbm, ⟨90, _⟩ => ⟨S4x8192x1024, .bf16⟩
  | _, _ => ⟨S4x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_1 : Ref sig .tc := ⟨.hbm, 42, rfl⟩
abbrev main_v33 : Ref sig .tc := ⟨.hbm, 43, rfl⟩
abbrev main_v34 : Ref sig .tc := ⟨.hbm, 44, rfl⟩
abbrev main_cst_2 : Ref sig .tc := ⟨.hbm, 45, rfl⟩
abbrev main_v35 : Ref sig .tc := ⟨.hbm, 46, rfl⟩
abbrev main_cst_3 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_4 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_cst_5 : Ref sig .tc := ⟨.hbm, 69, rfl⟩
abbrev main_v56 : Ref sig .tc := ⟨.hbm, 70, rfl⟩
abbrev main_v57 : Ref sig .tc := ⟨.hbm, 71, rfl⟩
abbrev main_cst_6 : Ref sig .tc := ⟨.hbm, 72, rfl⟩
abbrev main_v58 : Ref sig .tc := ⟨.hbm, 73, rfl⟩
abbrev main_v59 : Ref sig .tc := ⟨.hbm, 74, rfl⟩
abbrev main_cst_7 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_cst_8 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩

abbrev nD : Nat := 1
abbrev τ : Topo := Topo.v7x

variable {F : FTy → Type} [FloatOps F]
-- ==== Kernel2.lean ====
abbrev S4x8192x1024 : Shape := ⟨3, ![4, 8192, 1024]⟩
abbrev S1024 : Shape := ⟨1, ![1024]⟩
abbrev S4x1x1024 : Shape := ⟨3, ![4, 1, 1024]⟩
abbrev S1024x10272 : Shape := ⟨2, ![1024, 10272]⟩
abbrev S1024x2048 : Shape := ⟨2, ![1024, 2048]⟩
abbrev S1024x8192 : Shape := ⟨2, ![1024, 8192]⟩
abbrev S1024x10240 : Shape := ⟨2, ![1024, 10240]⟩
abbrev S1024x32 : Shape := ⟨2, ![1024, 32]⟩
abbrev S_ : Shape := ⟨0, ![]⟩
abbrev S1024x128 : Shape := ⟨2, ![1024, 128]⟩
abbrev S1x1x1024 : Shape := ⟨3, ![1, 1, 1024]⟩
abbrev S4x8192x10240 : Shape := ⟨3, ![4, 8192, 10240]⟩
abbrev S4x8192x128 : Shape := ⟨3, ![4, 8192, 128]⟩
abbrev S1x2048x1024 : Shape := ⟨3, ![1, 2048, 1024]⟩
abbrev S1024x1024 : Shape := ⟨2, ![1024, 1024]⟩
abbrev S1x2048x128 : Shape := ⟨3, ![1, 2048, 128]⟩
abbrev S2048x1024 : Shape := ⟨2, ![2048, 1024]⟩
abbrev S2048 : Shape := ⟨1, ![2048]⟩
abbrev S2048x1 : Shape := ⟨2, ![2048, 1]⟩
abbrev S1x1024 : Shape := ⟨2, ![1, 1024]⟩
abbrev S2048x128 : Shape := ⟨2, ![2048, 128]⟩

abbrev nBuf : Space → Nat
  | .hbm => 22
  | .vmem => 14
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S4x1x1024, .f32⟩
  | .hbm, ⟨3, _⟩ => ⟨S4x1x1024, .f32⟩
  | .hbm, ⟨4, _⟩ => ⟨S1024x10272, .f32⟩
  | .hbm, ⟨5, _⟩ => ⟨S1024x2048, .f32⟩
  | .hbm, ⟨6, _⟩ => ⟨S1024x8192, .f32⟩
  | .hbm, ⟨7, _⟩ => ⟨S1024x10240, .f32⟩
  | .hbm, ⟨8, _⟩ => ⟨S1024x10240, .bf16⟩
  | .hbm, ⟨9, _⟩ => ⟨S1024x32, .f32⟩
  | .hbm, ⟨10, _⟩ => ⟨S_, .i32⟩
  | .hbm, ⟨11, _⟩ => ⟨S_, .f32⟩
  | .hbm, ⟨12, _⟩ => ⟨S1024x128, .f32⟩
  | .hbm, ⟨13, _⟩ => ⟨S1024x128, .bf16⟩
  | .hbm, ⟨14, _⟩ => ⟨S_, .f32⟩
  | .hbm, ⟨15, _⟩ => ⟨S4x1x1024, .f32⟩
  | .hbm, ⟨16, _⟩ => ⟨S4x1x1024, .f32⟩
  | .hbm, ⟨17, _⟩ => ⟨S1x1x1024, .f32⟩
  | .hbm, ⟨18, _⟩ => ⟨S4x1x1024, .f32⟩
  | .hbm, ⟨19, _⟩ => ⟨S4x1x1024, .f32⟩
  | .hbm, ⟨20, _⟩ => ⟨S4x8192x10240, .bf16⟩
  | .hbm, ⟨21, _⟩ => ⟨S4x8192x128, .f32⟩
  | .local _ .vmem, ⟨0, _⟩ => ⟨S1x2048x1024, .f32⟩
  | .local _ .vmem, ⟨1, _⟩ => ⟨S1x2048x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x128, .bf16⟩
  | .local _ .vmem, ⟨9, _⟩ => ⟨S1x2048x1024, .bf16⟩
  | .local _ .vmem, ⟨10, _⟩ => ⟨S1x2048x1024, .bf16⟩
  | .local _ .vmem, ⟨11, _⟩ => ⟨S1x2048x128, .f32⟩
  | .local _ .vmem, ⟨12, _⟩ => ⟨S1x2048x128, .f32⟩
  | .local _ .vmem, ⟨13, _⟩ => ⟨S2048x1024, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_call0_v0 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12_0 : Ref sig .tc := ⟨.hbm, 20, rfl⟩
abbrev main_v12_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨3, ![4, 4, 10], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x2048x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== Kernel2Ideal.lean ====
abbrev S4x8192x1024 : Shape := ⟨3, ![4, 8192, 1024]⟩
abbrev S1024 : Shape := ⟨1, ![1024]⟩
abbrev S4x1x1024 : Shape := ⟨3, ![4, 1, 1024]⟩
abbrev S1024x10272 : Shape := ⟨2, ![1024, 10272]⟩
abbrev S1024x2048 : Shape := ⟨2, ![1024, 2048]⟩
abbrev S1024x8192 : Shape := ⟨2, ![1024, 8192]⟩
abbrev S1024x10240 : Shape := ⟨2, ![1024, 10240]⟩
abbrev S1024x32 : Shape := ⟨2, ![1024, 32]⟩
abbrev S_ : Shape := ⟨0, ![]⟩
abbrev S1024x128 : Shape := ⟨2, ![1024, 128]⟩
abbrev S1x1x1024 : Shape := ⟨3, ![1, 1, 1024]⟩
abbrev S4x8192x10240 : Shape := ⟨3, ![4, 8192, 10240]⟩
abbrev S4x8192x128 : Shape := ⟨3, ![4, 8192, 128]⟩
abbrev S1x2048x1024 : Shape := ⟨3, ![1, 2048, 1024]⟩
abbrev S1024x1024 : Shape := ⟨2, ![1024, 1024]⟩
abbrev S1x2048x128 : Shape := ⟨3, ![1, 2048, 128]⟩
abbrev S2048x1024 : Shape := ⟨2, ![2048, 1024]⟩
abbrev S2048 : Shape := ⟨1, ![2048]⟩
abbrev S2048x1 : Shape := ⟨2, ![2048, 1]⟩
abbrev S1x1024 : Shape := ⟨2, ![1, 1024]⟩
abbrev S2048x128 : Shape := ⟨2, ![2048, 128]⟩

abbrev nBuf : Space → Nat
  | .hbm => 22
  | .vmem => 14
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S4x1x1024, .f32⟩
  | .hbm, ⟨3, _⟩ => ⟨S4x1x1024, .f32⟩
  | .hbm, ⟨4, _⟩ => ⟨S1024x10272, .f32⟩
  | .hbm, ⟨5, _⟩ => ⟨S1024x2048, .f32⟩
  | .hbm, ⟨6, _⟩ => ⟨S1024x8192, .f32⟩
  | .hbm, ⟨7, _⟩ => ⟨S1024x10240, .f32⟩
  | .hbm, ⟨8, _⟩ => ⟨S1024x10240, .bf16⟩
  | .hbm, ⟨9, _⟩ => ⟨S1024x32, .f32⟩
  | .hbm, ⟨10, _⟩ => ⟨S_, .i32⟩
  | .hbm, ⟨11, _⟩ => ⟨S_, .f32⟩
  | .hbm, ⟨12, _⟩ => ⟨S1024x128, .f32⟩
  | .hbm, ⟨13, _⟩ => ⟨S1024x128, .bf16⟩
  | .hbm, ⟨14, _⟩ => ⟨S_, .f32⟩
  | .hbm, ⟨15, _⟩ => ⟨S4x1x1024, .f32⟩
  | .hbm, ⟨16, _⟩ => ⟨S4x1x1024, .f32⟩
  | .hbm, ⟨17, _⟩ => ⟨S1x1x1024, .f32⟩
  | .hbm, ⟨18, _⟩ => ⟨S4x1x1024, .f32⟩
  | .hbm, ⟨19, _⟩ => ⟨S4x1x1024, .f32⟩
  | .hbm, ⟨20, _⟩ => ⟨S4x8192x10240, .bf16⟩
  | .hbm, ⟨21, _⟩ => ⟨S4x8192x128, .f32⟩
  | .local _ .vmem, ⟨0, _⟩ => ⟨S1x2048x1024, .f32⟩
  | .local _ .vmem, ⟨1, _⟩ => ⟨S1x2048x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x128, .bf16⟩
  | .local _ .vmem, ⟨9, _⟩ => ⟨S1x2048x1024, .bf16⟩
  | .local _ .vmem, ⟨10, _⟩ => ⟨S1x2048x1024, .bf16⟩
  | .local _ .vmem, ⟨11, _⟩ => ⟨S1x2048x128, .f32⟩
  | .local _ .vmem, ⟨12, _⟩ => ⟨S1x2048x128, .f32⟩
  | .local _ .vmem, ⟨13, _⟩ => ⟨S2048x1024, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_call0_v0 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12_0 : Ref sig .tc := ⟨.hbm, 20, rfl⟩
abbrev main_v12_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨3, ![4, 4, 10], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x2048x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== Reference2Ideal.lean ====
abbrev S4x8192x1024 : Shape := ⟨3, ![4, 8192, 1024]⟩
abbrev S1024 : Shape := ⟨1, ![1024]⟩
abbrev S4x1x1024 : Shape := ⟨3, ![4, 1, 1024]⟩
abbrev S1024x10272 : Shape := ⟨2, ![1024, 10272]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x10272 : Shape := ⟨3, ![4, 8192, 10272]⟩
abbrev S4x8192x2048 : Shape := ⟨3, ![4, 8192, 2048]⟩
abbrev S4x8192x8192 : Shape := ⟨3, ![4, 8192, 8192]⟩
abbrev S4x8192x10240 : Shape := ⟨3, ![4, 8192, 10240]⟩
abbrev S4x8192x32 : Shape := ⟨3, ![4, 8192, 32]⟩
abbrev S4x8192x128 : Shape := ⟨3, ![4, 8192, 128]⟩

abbrev nBuf : Space → Nat
  | .hbm => 37
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S4x1x1024, .f32⟩
  | .hbm, ⟨3, _⟩ => ⟨S4x1x1024, .f32⟩
  | .hbm, ⟨4, _⟩ => ⟨S1024x10272, .f32⟩
  | .hbm, ⟨5, _⟩ => ⟨S4x8192x1024, .f32⟩
  | .hbm, ⟨6, _⟩ => ⟨S_, .f32⟩
  | .hbm, ⟨7, _⟩ => ⟨S4x8192, .f32⟩
  | .hbm, ⟨8, _⟩ => ⟨S4x8192x1, .f32⟩
  | .hbm, ⟨9, _⟩ => ⟨S_, .f32⟩
  | .hbm, ⟨10, _⟩ => ⟨S4x8192x1, .f32⟩
  | .hbm, ⟨11, _⟩ => ⟨S4x8192x1, .f32⟩
  | .hbm, ⟨12, _⟩ => ⟨S_, .f32⟩
  | .hbm, ⟨13, _⟩ => ⟨S4x8192x1, .f32⟩
  | .hbm, ⟨14, _⟩ => ⟨S4x8192x1, .f32⟩
  | .hbm, ⟨15, _⟩ => ⟨S4x8192x1, .f32⟩
  | .hbm, ⟨16, _⟩ => ⟨S4x8192x1024, .f32⟩
  | .hbm, ⟨17, _⟩ => ⟨S4x8192x1024, .f32⟩
  | .hbm, ⟨18, _⟩ => ⟨S1x1x1024, .f32⟩
  | .hbm, ⟨19, _⟩ => ⟨S4x8192x1024, .f32⟩
  | .hbm, ⟨20, _⟩ => ⟨S4x8192x1024, .f32⟩
  | .hbm, ⟨21, _⟩ => ⟨S_, .f32⟩
  | .hbm, ⟨22, _⟩ => ⟨S4x1x1024, .f32⟩
  | .hbm, ⟨23, _⟩ => ⟨S4x1x1024, .f32⟩
  | .hbm, ⟨24, _⟩ => ⟨S4x8192x1024, .f32⟩
  | .hbm, ⟨25, _⟩ => ⟨S4x8192x1024, .f32⟩
  | .hbm, ⟨26, _⟩ => ⟨S4x8192x1024, .f32⟩
  | .hbm, ⟨27, _⟩ => ⟨S4x8192x1024, .f32⟩
  | .hbm, ⟨28, _⟩ => ⟨S4x8192x10272, .f32⟩
  | .hbm, ⟨29, _⟩ => ⟨S4x8192x2048, .f32⟩
  | .hbm, ⟨30, _⟩ => ⟨S4x8192x8192, .f32⟩
  | .hbm, ⟨31, _⟩ => ⟨S4x8192x10240, .f32⟩
  | .hbm, ⟨32, _⟩ => ⟨S4x8192x32, .f32⟩
  | .hbm, ⟨33, _⟩ => ⟨S_, .i32⟩
  | .hbm, ⟨34, _⟩ => ⟨S_, .f32⟩
  | .hbm, ⟨35, _⟩ => ⟨S4x8192x128, .f32⟩
  | .hbm, ⟨36, _⟩ => ⟨S4x8192x10240, .bf16⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_c : Ref sig .tc := ⟨.hbm, 33, rfl⟩
abbrev main_call0_v0 : Ref sig .tc := ⟨.hbm, 34, rfl⟩
abbrev main_v24 : Ref sig .tc := ⟨.hbm, 35, rfl⟩
abbrev main_v25 : Ref sig .tc := ⟨.hbm, 36, rfl⟩

abbrev nD : Nat := 1
abbrev τ : Topo := Topo.v7x

variable {F : FTy → Type} [FloatOps F]
-- ==== Kernel3.lean ====
abbrev S4x8448x1024 : Shape := ⟨3, ![4, 8448, 1024]⟩
abbrev S4x8448x2048 : Shape := ⟨3, ![4, 8448, 2048]⟩
abbrev S4x8192x10240 : Shape := ⟨3, ![4, 8192, 10240]⟩
abbrev S4x8192x1024 : Shape := ⟨3, ![4, 8192, 1024]⟩
abbrev S16 : Shape := ⟨1, ![16]⟩
abbrev S1024 : Shape := ⟨1, ![1024]⟩
abbrev S3x1024x1024 : Shape := ⟨3, ![3, 1024, 1024]⟩
abbrev S1024x1024 : Shape := ⟨2, ![1024, 1024]⟩
abbrev S1024x32 : Shape := ⟨2, ![1024, 32]⟩
abbrev S4x1x1024 : Shape := ⟨3, ![4, 1, 1024]⟩
abbrev S16x64 : Shape := ⟨2, ![16, 64]⟩
abbrev S1x1024 : Shape := ⟨2, ![1, 1024]⟩
abbrev S32x1024 : Shape := ⟨2, ![32, 1024]⟩
abbrev S_ : Shape := ⟨0, ![]⟩
abbrev S1x1x1024 : Shape := ⟨3, ![1, 1, 1024]⟩
abbrev S4x32x8192 : Shape := ⟨3, ![4, 32, 8192]⟩
abbrev S1x512x1024 : Shape := ⟨3, ![1, 512, 1024]⟩
abbrev S1x32x512 : Shape := ⟨3, ![1, 32, 512]⟩
abbrev S512x1024 : Shape := ⟨2, ![512, 1024]⟩
abbrev S512 : Shape := ⟨1, ![512]⟩
abbrev S512x1 : Shape := ⟨2, ![512, 1]⟩
abbrev S1x1024x1024 : Shape := ⟨3, ![1, 1024, 1024]⟩
abbrev S32x512 : Shape := ⟨2, ![32, 512]⟩

abbrev nBuf : Space → Nat
  | .hbm => 34
  | .vmem => 38
  | .smem => 0
  | _ => 0

abbrev bufTy : (tb : Table) → Fin (tcTables nBuf tb) → BufTy
  | .hbm, ⟨0, _⟩ => ⟨S4x8448x1024, .bf16⟩
  | .hbm, ⟨1, _⟩ => ⟨S4x8448x1024, .bf16⟩
  | .hbm, ⟨2, _⟩ => ⟨S4x8448x2048, .bf16⟩
  | .hbm, ⟨3, _⟩ => ⟨S4x8192x10240, .bf16⟩
  | .hbm, ⟨4, _⟩ => ⟨S4x8192x1024, .bf16⟩
  | .hbm, ⟨5, _⟩ => ⟨S4x8192x1024, .bf16⟩
  | .hbm, ⟨6, _⟩ => ⟨S4x8192x1024, .f32⟩
  | .hbm, ⟨7, _⟩ => ⟨S16, .f32⟩
  | .hbm, ⟨8, _⟩ => ⟨S1024, .f32⟩
  | .hbm, ⟨9, _⟩ => ⟨S3x1024x1024, .f32⟩
  | .hbm, ⟨10, _⟩ => ⟨S1024x1024, .f32⟩
  | .hbm, ⟨11, _⟩ => ⟨S1024, .f32⟩
  | .hbm, ⟨12, _⟩ => ⟨S1024, .f32⟩
  | .hbm, ⟨13, _⟩ => ⟨S1024x32, .f32⟩
  | .hbm, ⟨14, _⟩ => ⟨S4x1x1024, .f32⟩
  | .hbm, ⟨15, _⟩ => ⟨S4x1x1024, .f32⟩
  | .hbm, ⟨16, _⟩ => ⟨S4x1x1024, .f32⟩
  | .hbm, ⟨17, _⟩ => ⟨S16x64, .f32⟩
  | .hbm, ⟨18, _⟩ => ⟨S1024, .f32⟩
  | .hbm, ⟨19, _⟩ => ⟨S1x1024, .f32⟩
  | .hbm, ⟨20, _⟩ => ⟨S1x1024, .f32⟩
  | .hbm, ⟨21, _⟩ => ⟨S3x1024x1024, .bf16⟩
  | .hbm, ⟨22, _⟩ => ⟨S1024x1024, .bf16⟩
  | .hbm, ⟨23, _⟩ => ⟨S32x1024, .f32⟩
  | .hbm, ⟨24, _⟩ => ⟨S1x1024, .f32⟩
  | .hbm, ⟨25, _⟩ => ⟨S_, .f32⟩
  | .hbm, ⟨26, _⟩ => ⟨S4x1x1024, .f32⟩
  | .hbm, ⟨27, _⟩ => ⟨S4x1x1024, .f32⟩
  | .hbm, ⟨28, _⟩ => ⟨S1x1x1024, .f32⟩
  | .hbm, ⟨29, _⟩ => ⟨S4x1x1024, .f32⟩
  | .hbm, ⟨30, _⟩ => ⟨S4x1x1024, .f32⟩
  | .hbm, ⟨31, _⟩ => ⟨S4x8192x1024, .f32⟩
  | .hbm, ⟨32, _⟩ => ⟨S4x8192x1024, .bf16⟩
  | .hbm, ⟨33, _⟩ => ⟨S4x32x8192, .f32⟩
  | .local _ .vmem, ⟨0, _⟩ => ⟨S1x512x1024, .bf16⟩
  | .local _ .vmem, ⟨1, _⟩ => ⟨S1x512x1024, .bf16⟩
  | .local _ .vmem, ⟨2, _⟩ => ⟨S1x512x1024, .bf16⟩
  | .local _ .vmem, ⟨3, _⟩ => ⟨S1x512x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x512x1024, .bf16⟩
  | .local _ .vmem, ⟨9, _⟩ => ⟨S1x512x1024, .bf16⟩
  | .local _ .vmem, ⟨10, _⟩ => ⟨S1x512x1024, .bf16⟩
  | .local _ .vmem, ⟨11, _⟩ => ⟨S1x512x1024, .bf16⟩
  | .local _ .vmem, ⟨12, _⟩ => ⟨S1x512x1024, .bf16⟩
  | .local _ .vmem, ⟨13, _⟩ => ⟨S1x512x1024, .bf16⟩
  | .local _ .vmem, ⟨14, _⟩ => ⟨S1x512x1024, .bf16⟩
  | .local _ .vmem, ⟨15, _⟩ => ⟨S1x512x1024, .bf16⟩
  | .local _ .vmem, ⟨16, _⟩ => ⟨S1x512x1024, .bf16⟩
  | .local _ .vmem, ⟨17, _⟩ => ⟨S1x512x1024, .bf16⟩
  | .local _ .vmem, ⟨18, _⟩ => ⟨S1x512x1024, .f32⟩
  | .local _ .vmem, ⟨19, _⟩ => ⟨S1x512x1024, .f32⟩
  | .local _ .vmem, ⟨20, _⟩ => ⟨S1x1024, .f32⟩
  | .local _ .vmem, ⟨21, _⟩ => ⟨S1x1024, .f32⟩
  | .local _ .vmem, ⟨22, _⟩ => ⟨S3x1024x1024, .bf16⟩
  | .local _ .vmem, ⟨23, _⟩ => ⟨S1024x1024, .bf16⟩
  | .local _ .vmem, ⟨24, _⟩ => ⟨S1x1024, .f32⟩
  | .local _ .vmem, ⟨25, _⟩ => ⟨S1x1x1024, .f32⟩
  | .local _ .vmem, ⟨26, _⟩ => ⟨S1x1x1024, .f32⟩
  | .local _ .vmem, ⟨27, _⟩ => ⟨S1x1x1024, .f32⟩
  | .local _ .vmem, ⟨28, _⟩ => ⟨S1x1x1024, .f32⟩
  | .local _ .vmem, ⟨29, _⟩ => ⟨S1x1x1024, .f32⟩
  | .local _ .vmem, ⟨30, _⟩ => ⟨S1x1x1024, .f32⟩
  | .local _ .vmem, ⟨31, _⟩ => ⟨S32x1024, .f32⟩
  | .local _ .vmem, ⟨32, _⟩ => ⟨S1x512x1024, .f32⟩
  | .local _ .vmem, ⟨33, _⟩ => ⟨S1x512x1024, .f32⟩
  | .local _ .vmem, ⟨34, _⟩ => ⟨S1x512x1024, .bf16⟩
  | .local _ .vmem, ⟨35, _⟩ => ⟨S1x512x1024, .bf16⟩
  | .local _ .vmem, ⟨36, _⟩ => ⟨S1x32x512, .f32⟩
  | .local _ .vmem, ⟨37, _⟩ => ⟨S1x32x512, .f32⟩
  | _, _ => ⟨S4x8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13_0 : Ref sig .tc := ⟨.hbm, 31, rfl⟩
abbrev main_v13_1 : Ref sig .tc := ⟨.hbm, 32, rfl⟩
abbrev main_v13_2 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc0_stg18_0 : Ref sig .tc := ⟨.vmem, 31, rfl⟩
abbrev cc0_stg19_0 : Ref sig .tc := ⟨.vmem, 32, rfl⟩
abbrev cc0_stg19_1 : Ref sig .tc := ⟨.vmem, 33, rfl⟩
abbrev cc0_stg20_0 : Ref sig .tc := ⟨.vmem, 34, rfl⟩
abbrev cc0_stg20_1 : Ref sig .tc := ⟨.vmem, 35, rfl⟩
abbrev cc0_stg21_0 : Ref sig .tc := ⟨.vmem, 36, rfl⟩
abbrev cc0_stg21_1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem17_1 : DmaSem sig := 30
abbrev cc0_sem18_0 : DmaSem sig := 31
abbrev cc0_sem19_0 : DmaSem sig := 32
abbrev cc0_sem19_1 : DmaSem sig := 33
abbrev cc0_sem20_0 : DmaSem sig := 34
abbrev cc0_sem20_1 : DmaSem sig := 35
abbrev cc0_sem21_0 : DmaSem sig := 36
abbrev cc0_sem21_1 : DmaSem sig := 37

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, v0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, v0.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, v0.toNat, c0_i32_0.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, arg1.toNat, c4_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c7_i32 : BitVec 32 := 7#32
  let c0_i32 : BitVec 32 := 0#32
  ![arg0.toNat, arg1.toNat, c7_i32.toNat]

def cc0_transform_7 (i : grid0.Coords) : Fin 3 → Nat :=
  let arg0 : BitVec 32 := BitVec.ofNat 32 (i 0).val
  let arg1 : BitVec 32 := BitVec.ofNat 32 (i 1).val
  let c8_i32 : BitVec 32 := 8#32
  let c0_i32 : BitVec 32 := 0#32
  ![arg0.toNat, arg1.toNat, c8_i32.toNat]

def cc0_transform_8 (i : grid0.Coords) : Fin 3 → Nat :=
  let arg0 : BitVec 32 := BitVec.ofNat 32 (i 0).val
  let arg1 : BitVec 32 := BitVec.ofNat 32 (i 1).val
  let c9_i32 : BitVec 32 := 9#32
  let c0_i32 : BitVec 32 := 0#32
  ![arg0.toNat, arg1.toNat, c9_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S3x1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S1x1x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 2 → Memref sig .tc .vmem S1x1x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]

abbrev stage0_17 : Fin 2 → Memref sig .tc .vmem S1x1x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]

abbrev stage0_18 : Fin 1 → Memref sig .tc .vmem S32x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 2 → Memref sig .tc .vmem S1x512x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x512x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x32x512 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]
-- ==== Reference3Ideal.lean ====
abbrev S4x8448x1024 : Shape := ⟨3, ![4, 8448, 1024]⟩
abbrev S4x8448x2048 : Shape := ⟨3, ![4, 8448, 2048]⟩
abbrev S4x8192x10240 : Shape := ⟨3, ![4, 8192, 10240]⟩
abbrev S4x8192x1024 : Shape := ⟨3, ![4, 8192, 1024]⟩
abbrev S16 : Shape := ⟨1, ![16]⟩
abbrev S1024 : Shape := ⟨1, ![1024]⟩
abbrev S3x1024x1024 : Shape := ⟨3, ![3, 1024, 1024]⟩
abbrev S1024x1024 : Shape := ⟨2, ![1024, 1024]⟩
abbrev S1024x32 : Shape := ⟨2, ![1024, 32]⟩
abbrev S4x1x1024 : Shape := ⟨3, ![4, 1, 1024]⟩
abbrev S16x64 : Shape := ⟨2, ![16, 64]⟩
abbrev S1x1x1024 : Shape := ⟨3, ![1, 1, 1024]⟩
abbrev S_ : Shape := ⟨0, ![]⟩
abbrev S4x8192 : Shape := ⟨2, ![4, 8192]⟩
abbrev S4x8192x1 : Shape := ⟨3, ![4, 8192, 1]⟩
abbrev S4x8192x3072 : Shape := ⟨3, ![4, 8192, 3072]⟩
abbrev S1x1024x1024 : Shape := ⟨3, ![1, 1024, 1024]⟩
abbrev S4x8192x32 : Shape := ⟨3, ![4, 8192, 32]⟩
abbrev S4x32x8192 : Shape := ⟨3, ![4, 32, 8192]⟩

abbrev nBuf : Space → Nat
  | .hbm => 133
  | .vmem => 0
  | .smem => 0
  | _ => 0

abbrev hbmTy0_0 (i : Nat) : BufTy := match i % 128 with
  | 0 => ⟨S4x8448x1024, .bf16⟩
  | 1 => ⟨S4x8448x1024, .bf16⟩
  | 2 => ⟨S4x8448x2048, .bf16⟩
  | 3 => ⟨S4x8192x10240, .bf16⟩
  | 4 => ⟨S4x8192x1024, .bf16⟩
  | 5 => ⟨S4x8192x1024, .bf16⟩
  | 6 => ⟨S4x8192x1024, .f32⟩
  | 7 => ⟨S16, .f32⟩
  | 8 => ⟨S1024, .f32⟩
  | 9 => ⟨S3x1024x1024, .f32⟩
  | 10 => ⟨S1024x1024, .f32⟩
  | 11 => ⟨S1024, .f32⟩
  | 12 => ⟨S1024, .f32⟩
  | 13 => ⟨S1024x32, .f32⟩
  | 14 => ⟨S4x1x1024, .f32⟩
  | 15 => ⟨S4x1x1024, .f32⟩
  | 16 => ⟨S4x1x1024, .f32⟩
  | 17 => ⟨S4x8192x1024, .bf16⟩
  | 18 => ⟨S4x8192x1024, .f32⟩
  | 19 => ⟨S4x8192x1024, .bf16⟩
  | 20 => ⟨S4x8192x1024, .f32⟩
  | 21 => ⟨S4x8192x1024, .bf16⟩
  | 22 => ⟨S4x8192x1024, .f32⟩
  | 23 => ⟨S4x8192x1024, .bf16⟩
  | 24 => ⟨S4x8192x1024, .f32⟩
  | 25 => ⟨S4x8192x1024, .f32⟩
  | 26 => ⟨S16x64, .f32⟩
  | 27 => ⟨S1024, .f32⟩
  | 28 => ⟨S1x1x1024, .f32⟩
  | 29 => ⟨S4x8192x1024, .f32⟩
  | 30 => ⟨S4x8192x1024, .f32⟩
  | 31 => ⟨S4x8192x1024, .f32⟩
  | 32 => ⟨S4x8192x1024, .f32⟩
  | 33 => ⟨S4x8192x1024, .f32⟩
  | 34 => ⟨S_, .f32⟩
  | 35 => ⟨S4x8192x1024, .f32⟩
  | 36 => ⟨S4x8192x1024, .f32⟩
  | 37 => ⟨S_, .f32⟩
  | 38 => ⟨S4x8192x1024, .f32⟩
  | 39 => ⟨S4x8192x1024, .f32⟩
  | 40 => ⟨S4x8192x1024, .f32⟩
  | 41 => ⟨S4x8192x1024, .f32⟩
  | 42 => ⟨S4x8192x1024, .f32⟩
  | 43 => ⟨S_, .f32⟩
  | 44 => ⟨S4x8192, .f32⟩
  | 45 => ⟨S4x8192x1, .f32⟩
  | 46 => ⟨S_, .f32⟩
  | 47 => ⟨S4x8192x1, .f32⟩
  | 48 => ⟨S4x8192x1, .f32⟩
  | 49 => ⟨S_, .f32⟩
  | 50 => ⟨S4x8192x1, .f32⟩
  | 51 => ⟨S4x8192x1, .f32⟩
  | 52 => ⟨S4x8192x1, .f32⟩
  | 53 => ⟨S4x8192x1024, .f32⟩
  | 54 => ⟨S4x8192x1024, .f32⟩
  | 55 => ⟨S1x1x1024, .f32⟩
  | 56 => ⟨S4x8192x1024, .f32⟩
  | 57 => ⟨S4x8192x1024, .f32⟩
  | 58 => ⟨S4x8192x3072, .bf16⟩
  | 59 => ⟨S4x8192x3072, .f32⟩
  | 60 => ⟨S4x8192x3072, .f32⟩
  | 61 => ⟨S4x8192x3072, .f32⟩
  | 62 => ⟨S_, .f32⟩
  | 63 => ⟨S4x8192x3072, .f32⟩
  | 64 => ⟨S4x8192x3072, .f32⟩
  | 65 => ⟨S_, .f32⟩
  | 66 => ⟨S4x8192x3072, .f32⟩
  | 67 => ⟨S4x8192x3072, .f32⟩
  | 68 => ⟨S4x8192x1024, .f32⟩
  | 69 => ⟨S1x1024x1024, .f32⟩
  | 70 => ⟨S1024x1024, .f32⟩
  | 71 => ⟨S4x8192x1024, .f32⟩
  | 72 => ⟨S4x8192x1024, .f32⟩
  | 73 => ⟨S4x8192x1024, .f32⟩
  | 74 => ⟨S4x8192x1024, .f32⟩
  | 75 => ⟨S1x1024x1024, .f32⟩
  | 76 => ⟨S1024x1024, .f32⟩
  | 77 => ⟨S4x8192x1024, .f32⟩
  | 78 => ⟨S4x8192x1024, .f32⟩
  | 79 => ⟨S4x8192x1024, .f32⟩
  | 80 => ⟨S4x8192x1024, .f32⟩
  | 81 => ⟨S4x8192x1024, .f32⟩
  | 82 => ⟨S1x1024x1024, .f32⟩
  | 83 => ⟨S1024x1024, .f32⟩
  | 84 => ⟨S4x8192x1024, .f32⟩
  | 85 => ⟨S4x8192x1024, .f32⟩
  | 86 => ⟨S4x8192x1024, .f32⟩
  | 87 => ⟨S4x8192x1024, .f32⟩
  | 88 => ⟨S4x8192x1024, .f32⟩
  | 89 => ⟨S_, .f32⟩
  | 90 => ⟨S4x8192, .f32⟩
  | 91 => ⟨S4x8192x1, .f32⟩
  | 92 => ⟨S_, .f32⟩
  | 93 => ⟨S4x8192x1, .f32⟩
  | 94 => ⟨S4x8192x1, .f32⟩
  | 95 => ⟨S_, .f32⟩
  | 96 => ⟨S4x8192x1, .f32⟩
  | 97 => ⟨S4x8192x1, .f32⟩
  | 98 => ⟨S4x8192x1, .f32⟩
  | 99 => ⟨S4x8192x1024, .f32⟩
  | 100 => ⟨S4x8192x1024, .f32⟩
  | 101 => ⟨S1x1x1024, .f32⟩
  | 102 => ⟨S4x8192x1024, .f32⟩
  | 103 => ⟨S4x8192x1024, .f32⟩
  | 104 => ⟨S4x8192x1024, .f32⟩
  | 105 => ⟨S4x8192x1024, .f32⟩
  | 106 => ⟨S4x8192x1024, .f32⟩
  | 107 => ⟨S4x8192x1024, .f32⟩
  | 108 => ⟨S_, .f32⟩
  | 109 => ⟨S4x8192, .f32⟩
  | 110 => ⟨S4x8192x1, .f32⟩
  | 111 => ⟨S_, .f32⟩
  | 112 => ⟨S4x8192x1, .f32⟩
  | 113 => ⟨S4x8192x1, .f32⟩
  | 114 => ⟨S_, .f32⟩
  | 115 => ⟨S4x8192x1, .f32⟩
  | 116 => ⟨S4x8192x1, .f32⟩
  | 117 => ⟨S4x8192x1, .f32⟩
  | 118 => ⟨S4x8192x1024, .f32⟩
  | 119 => ⟨S4x8192x1024, .f32⟩
  | 120 => ⟨S1x1x1024, .f32⟩
  | 121 => ⟨S4x8192x1024, .f32⟩
  | 122 => ⟨S4x8192x1024, .f32⟩
  | 123 => ⟨S_, .f32⟩
  | 124 => ⟨S4x1x1024, .f32⟩
  | 125 => ⟨S4x1x1024, .f32⟩
  | 126 => ⟨S4x8192x1024, .f32⟩
  | 127 => ⟨S4x8192x1024, .f32⟩
  | _ => ⟨S4x8448x1024, .bf16⟩

abbrev hbmTy0_1 (i : Nat) : BufTy := match i % 128 with
  | 0 => ⟨S4x8192x1024, .f32⟩
  | 1 => ⟨S4x8192x1024, .f32⟩
  | 2 => ⟨S4x8192x1024, .bf16⟩
  | 3 => ⟨S4x8192x32, .f32⟩
  | 4 => ⟨S4x32x8192, .f32⟩
  | _ => ⟨S4x8448x1024, .bf16⟩

abbrev hbmTy (i : Nat) : BufTy := match i / 128 with
  | 0 => hbmTy0_0 i
  | 1 => hbmTy0_1 i
  | _ => ⟨S4x8448x1024, .bf16⟩

abbrev bufTy : (tb : Table) → Fin (tcTables nBuf tb) → BufTy
  | .hbm, ⟨i, _⟩ => hbmTy i
  | _, _ => ⟨S4x8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_cst : Ref sig .tc := ⟨.hbm, 43, rfl⟩
abbrev main_v18 : Ref sig .tc := ⟨.hbm, 44, rfl⟩
abbrev main_v19 : Ref sig .tc := ⟨.hbm, 45, rfl⟩
abbrev main_cst_0 : Ref sig .tc := ⟨.hbm, 46, rfl⟩
abbrev main_v20 : Ref sig .tc := ⟨.hbm, 47, rfl⟩
abbrev main_v21 : Ref sig .tc := ⟨.hbm, 48, rfl⟩
abbrev main_cst_1 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_cst_2 : Ref sig .tc := ⟨.hbm, 62, rfl⟩
abbrev main_v34 : Ref sig .tc := ⟨.hbm, 63, rfl⟩
abbrev main_v35 : Ref sig .tc := ⟨.hbm, 64, rfl⟩
abbrev main_cst_3 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_cst_4 : Ref sig .tc := ⟨.hbm, 89, rfl⟩
abbrev main_v59 : Ref sig .tc := ⟨.hbm, 90, rfl⟩
abbrev main_v60 : Ref sig .tc := ⟨.hbm, 91, rfl⟩
abbrev main_cst_5 : Ref sig .tc := ⟨.hbm, 92, rfl⟩
abbrev main_v61 : Ref sig .tc := ⟨.hbm, 93, rfl⟩
abbrev main_v62 : Ref sig .tc := ⟨.hbm, 94, rfl⟩
abbrev main_cst_6 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_cst_7 : Ref sig .tc := ⟨.hbm, 108, rfl⟩
abbrev main_v75 : Ref sig .tc := ⟨.hbm, 109, rfl⟩
abbrev main_v76 : Ref sig .tc := ⟨.hbm, 110, rfl⟩
abbrev main_cst_8 : Ref sig .tc := ⟨.hbm, 111, rfl⟩
abbrev main_v77 : Ref sig .tc := ⟨.hbm, 112, rfl⟩
abbrev main_v78 : Ref sig .tc := ⟨.hbm, 113, rfl⟩
abbrev main_cst_9 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_cst_10 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩

abbrev nD : Nat := 1
abbrev τ : Topo := Topo.v7x

variable {F : FTy → Type} [FloatOps F]
-- ==== Kernel4.lean ====
abbrev S4x256x1024 : Shape := ⟨3, ![4, 256, 1024]⟩
abbrev S1024 : Shape := ⟨1, ![1024]⟩
abbrev S4x1x1024 : Shape := ⟨3, ![4, 1, 1024]⟩
abbrev S1024x10272 : Shape := ⟨2, ![1024, 10272]⟩
abbrev S1024x2048 : Shape := ⟨2, ![1024, 2048]⟩
abbrev S1024x8192 : Shape := ⟨2, ![1024, 8192]⟩
abbrev S1024x10240 : Shape := ⟨2, ![1024, 10240]⟩
abbrev S1024x32 : Shape := ⟨2, ![1024, 32]⟩
abbrev S_ : Shape := ⟨0, ![]⟩
abbrev S1024x128 : Shape := ⟨2, ![1024, 128]⟩
abbrev S1x1x1024 : Shape := ⟨3, ![1, 1, 1024]⟩
abbrev S4x256x10240 : Shape := ⟨3, ![4, 256, 10240]⟩
abbrev S4x256x128 : Shape := ⟨3, ![4, 256, 128]⟩
abbrev S1x256x1024 : Shape := ⟨3, ![1, 256, 1024]⟩
abbrev S1024x1024 : Shape := ⟨2, ![1024, 1024]⟩
abbrev S1x256x128 : Shape := ⟨3, ![1, 256, 128]⟩
abbrev S256x1024 : Shape := ⟨2, ![256, 1024]⟩
abbrev S256 : Shape := ⟨1, ![256]⟩
abbrev S256x1 : Shape := ⟨2, ![256, 1]⟩
abbrev S1x1024 : Shape := ⟨2, ![1, 1024]⟩
abbrev S256x128 : Shape := ⟨2, ![256, 128]⟩

abbrev nBuf : Space → Nat
  | .hbm => 22
  | .vmem => 14
  | .smem => 0
  | _ => 0

abbrev bufTy : (tb : Table) → Fin (tcTables nBuf tb) → BufTy
  | .hbm, ⟨0, _⟩ => ⟨S4x256x1024, .f32⟩
  | .hbm, ⟨1, _⟩ => ⟨S1024, .f32⟩
  | .hbm, ⟨2, _⟩ => ⟨S4x1x1024, .f32⟩
  | .hbm, ⟨3, _⟩ => ⟨S4x1x1024, .f32⟩
  | .hbm, ⟨4, _⟩ => ⟨S1024x10272, .f32⟩
  | .hbm, ⟨5, _⟩ => ⟨S1024x2048, .f32⟩
  | .hbm, ⟨6, _⟩ => ⟨S1024x8192, .f32⟩
  | .hbm, ⟨7, _⟩ => ⟨S1024x10240, .f32⟩
  | .hbm, ⟨8, _⟩ => ⟨S1024x10240, .bf16⟩
  | .hbm, ⟨9, _⟩ => ⟨S1024x32, .f32⟩
  | .hbm, ⟨10, _⟩ => ⟨S_, .i32⟩
  | .hbm, ⟨11, _⟩ => ⟨S_, .f32⟩
  | .hbm, ⟨12, _⟩ => ⟨S1024x128, .f32⟩
  | .hbm, ⟨13, _⟩ => ⟨S1024x128, .bf16⟩
  | .hbm, ⟨14, _⟩ => ⟨S_, .f32⟩
  | .hbm, ⟨15, _⟩ => ⟨S4x1x1024, .f32⟩
  | .hbm, ⟨16, _⟩ => ⟨S4x1x1024, .f32⟩
  | .hbm, ⟨17, _⟩ => ⟨S1x1x1024, .f32⟩
  | .hbm, ⟨18, _⟩ => ⟨S4x1x1024, .f32⟩
  | .hbm, ⟨19, _⟩ => ⟨S4x1x1024, .f32⟩
  | .hbm, ⟨20, _⟩ => ⟨S4x256x10240, .bf16⟩
  | .hbm, ⟨21, _⟩ => ⟨S4x256x128, .f32⟩
  | .local _ .vmem, ⟨0, _⟩ => ⟨S1x256x1024, .f32⟩
  | .local _ .vmem, ⟨1, _⟩ => ⟨S1x256x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x128, .bf16⟩
  | .local _ .vmem, ⟨9, _⟩ => ⟨S1x256x1024, .bf16⟩
  | .local _ .vmem, ⟨10, _⟩ => ⟨S1x256x1024, .bf16⟩
  | .local _ .vmem, ⟨11, _⟩ => ⟨S1x256x128, .f32⟩
  | .local _ .vmem, ⟨12, _⟩ => ⟨S1x256x128, .f32⟩
  | .local _ .vmem, ⟨13, _⟩ => ⟨S256x1024, .bf16⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_call0_v0 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12_0 : Ref sig .tc := ⟨.hbm, 20, rfl⟩
abbrev main_v12_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨3, ![4, 1, 10], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== Reference4Ideal.lean ====
abbrev S4x256x1024 : Shape := ⟨3, ![4, 256, 1024]⟩
abbrev S1024 : Shape := ⟨1, ![1024]⟩
abbrev S4x1x1024 : Shape := ⟨3, ![4, 1, 1024]⟩
abbrev S1024x10272 : Shape := ⟨2, ![1024, 10272]⟩
abbrev S_ : Shape := ⟨0, ![]⟩
abbrev S4x256 : Shape := ⟨2, ![4, 256]⟩
abbrev S4x256x1 : Shape := ⟨3, ![4, 256, 1]⟩
abbrev S1x1x1024 : Shape := ⟨3, ![1, 1, 1024]⟩
abbrev S4x256x10272 : Shape := ⟨3, ![4, 256, 10272]⟩
abbrev S4x256x2048 : Shape := ⟨3, ![4, 256, 2048]⟩
abbrev S4x256x8192 : Shape := ⟨3, ![4, 256, 8192]⟩
abbrev S4x256x10240 : Shape := ⟨3, ![4, 256, 10240]⟩
abbrev S4x256x32 : Shape := ⟨3, ![4, 256, 32]⟩
abbrev S4x256x128 : Shape := ⟨3, ![4, 256, 128]⟩

abbrev nBuf : Space → Nat
  | .hbm => 37
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S1024, .f32⟩
  | .hbm, ⟨2, _⟩ => ⟨S4x1x1024, .f32⟩
  | .hbm, ⟨3, _⟩ => ⟨S4x1x1024, .f32⟩
  | .hbm, ⟨4, _⟩ => ⟨S1024x10272, .f32⟩
  | .hbm, ⟨5, _⟩ => ⟨S4x256x1024, .f32⟩
  | .hbm, ⟨6, _⟩ => ⟨S_, .f32⟩
  | .hbm, ⟨7, _⟩ => ⟨S4x256, .f32⟩
  | .hbm, ⟨8, _⟩ => ⟨S4x256x1, .f32⟩
  | .hbm, ⟨9, _⟩ => ⟨S_, .f32⟩
  | .hbm, ⟨10, _⟩ => ⟨S4x256x1, .f32⟩
  | .hbm, ⟨11, _⟩ => ⟨S4x256x1, .f32⟩
  | .hbm, ⟨12, _⟩ => ⟨S_, .f32⟩
  | .hbm, ⟨13, _⟩ => ⟨S4x256x1, .f32⟩
  | .hbm, ⟨14, _⟩ => ⟨S4x256x1, .f32⟩
  | .hbm, ⟨15, _⟩ => ⟨S4x256x1, .f32⟩
  | .hbm, ⟨16, _⟩ => ⟨S4x256x1024, .f32⟩
  | .hbm, ⟨17, _⟩ => ⟨S4x256x1024, .f32⟩
  | .hbm, ⟨18, _⟩ => ⟨S1x1x1024, .f32⟩
  | .hbm, ⟨19, _⟩ => ⟨S4x256x1024, .f32⟩
  | .hbm, ⟨20, _⟩ => ⟨S4x256x1024, .f32⟩
  | .hbm, ⟨21, _⟩ => ⟨S_, .f32⟩
  | .hbm, ⟨22, _⟩ => ⟨S4x1x1024, .f32⟩
  | .hbm, ⟨23, _⟩ => ⟨S4x1x1024, .f32⟩
  | .hbm, ⟨24, _⟩ => ⟨S4x256x1024, .f32⟩
  | .hbm, ⟨25, _⟩ => ⟨S4x256x1024, .f32⟩
  | .hbm, ⟨26, _⟩ => ⟨S4x256x1024, .f32⟩
  | .hbm, ⟨27, _⟩ => ⟨S4x256x1024, .f32⟩
  | .hbm, ⟨28, _⟩ => ⟨S4x256x10272, .f32⟩
  | .hbm, ⟨29, _⟩ => ⟨S4x256x2048, .f32⟩
  | .hbm, ⟨30, _⟩ => ⟨S4x256x8192, .f32⟩
  | .hbm, ⟨31, _⟩ => ⟨S4x256x10240, .f32⟩
  | .hbm, ⟨32, _⟩ => ⟨S4x256x32, .f32⟩
  | .hbm, ⟨33, _⟩ => ⟨S_, .i32⟩
  | .hbm, ⟨34, _⟩ => ⟨S_, .f32⟩
  | .hbm, ⟨35, _⟩ => ⟨S4x256x128, .f32⟩
  | .hbm, ⟨36, _⟩ => ⟨S4x256x10240, .bf16⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_c : Ref sig .tc := ⟨.hbm, 33, rfl⟩
abbrev main_call0_v0 : Ref sig .tc := ⟨.hbm, 34, rfl⟩
abbrev main_v24 : Ref sig .tc := ⟨.hbm, 35, rfl⟩
abbrev main_v25 : Ref sig .tc := ⟨.hbm, 36, rfl⟩

abbrev nD : Nat := 1
abbrev τ : Topo := Topo.v7x

variable {F : FTy → Type} [FloatOps F]
-- ==== Kernel5.lean ====
abbrev S4x8448x1024 : Shape := ⟨3, ![4, 8448, 1024]⟩
abbrev S4x8448x2048 : Shape := ⟨3, ![4, 8448, 2048]⟩
abbrev S4x256x10240 : Shape := ⟨3, ![4, 256, 10240]⟩
abbrev S4x256x1024 : Shape := ⟨3, ![4, 256, 1024]⟩
abbrev S16 : Shape := ⟨1, ![16]⟩
abbrev S1024 : Shape := ⟨1, ![1024]⟩
abbrev S3x1024x1024 : Shape := ⟨3, ![3, 1024, 1024]⟩
abbrev S1024x1024 : Shape := ⟨2, ![1024, 1024]⟩
abbrev S1024x32 : Shape := ⟨2, ![1024, 32]⟩
abbrev S4x1x1024 : Shape := ⟨3, ![4, 1, 1024]⟩
abbrev S16x64 : Shape := ⟨2, ![16, 64]⟩
abbrev S1x1024 : Shape := ⟨2, ![1, 1024]⟩
abbrev S32x1024 : Shape := ⟨2, ![32, 1024]⟩
abbrev S_ : Shape := ⟨0, ![]⟩
abbrev S1x1x1024 : Shape := ⟨3, ![1, 1, 1024]⟩
abbrev S4x32x256 : Shape := ⟨3, ![4, 32, 256]⟩
abbrev S1x256x1024 : Shape := ⟨3, ![1, 256, 1024]⟩
abbrev S1x32x256 : Shape := ⟨3, ![1, 32, 256]⟩
abbrev S256x1024 : Shape := ⟨2, ![256, 1024]⟩
abbrev S256 : Shape := ⟨1, ![256]⟩
abbrev S256x1 : Shape := ⟨2, ![256, 1]⟩
abbrev S1x1024x1024 : Shape := ⟨3, ![1, 1024, 1024]⟩
abbrev S32x256 : Shape := ⟨2, ![32, 256]⟩

abbrev nBuf : Space → Nat
  | .hbm => 34
  | .vmem => 38
  | .smem => 0
  | _ => 0

abbrev bufTy : (tb : Table) → Fin (tcTables nBuf tb) → BufTy
  | .hbm, ⟨0, _⟩ => ⟨S4x8448x1024, .bf16⟩
  | .hbm, ⟨1, _⟩ => ⟨S4x8448x1024, .bf16⟩
  | .hbm, ⟨2, _⟩ => ⟨S4x8448x2048, .bf16⟩
  | .hbm, ⟨3, _⟩ => ⟨S4x256x10240, .bf16⟩
  | .hbm, ⟨4, _⟩ => ⟨S4x256x1024, .bf16⟩
  | .hbm, ⟨5, _⟩ => ⟨S4x256x1024, .bf16⟩
  | .hbm, ⟨6, _⟩ => ⟨S4x256x1024, .f32⟩
  | .hbm, ⟨7, _⟩ => ⟨S16, .f32⟩
  | .hbm, ⟨8, _⟩ => ⟨S1024, .f32⟩
  | .hbm, ⟨9, _⟩ => ⟨S3x1024x1024, .f32⟩
  | .hbm, ⟨10, _⟩ => ⟨S1024x1024, .f32⟩
  | .hbm, ⟨11, _⟩ => ⟨S1024, .f32⟩
  | .hbm, ⟨12, _⟩ => ⟨S1024, .f32⟩
  | .hbm, ⟨13, _⟩ => ⟨S1024x32, .f32⟩
  | .hbm, ⟨14, _⟩ => ⟨S4x1x1024, .f32⟩
  | .hbm, ⟨15, _⟩ => ⟨S4x1x1024, .f32⟩
  | .hbm, ⟨16, _⟩ => ⟨S4x1x1024, .f32⟩
  | .hbm, ⟨17, _⟩ => ⟨S16x64, .f32⟩
  | .hbm, ⟨18, _⟩ => ⟨S1024, .f32⟩
  | .hbm, ⟨19, _⟩ => ⟨S1x1024, .f32⟩
  | .hbm, ⟨20, _⟩ => ⟨S1x1024, .f32⟩
  | .hbm, ⟨21, _⟩ => ⟨S3x1024x1024, .bf16⟩
  | .hbm, ⟨22, _⟩ => ⟨S1024x1024, .bf16⟩
  | .hbm, ⟨23, _⟩ => ⟨S32x1024, .f32⟩
  | .hbm, ⟨24, _⟩ => ⟨S1x1024, .f32⟩
  | .hbm, ⟨25, _⟩ => ⟨S_, .f32⟩
  | .hbm, ⟨26, _⟩ => ⟨S4x1x1024, .f32⟩
  | .hbm, ⟨27, _⟩ => ⟨S4x1x1024, .f32⟩
  | .hbm, ⟨28, _⟩ => ⟨S1x1x1024, .f32⟩
  | .hbm, ⟨29, _⟩ => ⟨S4x1x1024, .f32⟩
  | .hbm, ⟨30, _⟩ => ⟨S4x1x1024, .f32⟩
  | .hbm, ⟨31, _⟩ => ⟨S4x256x1024, .f32⟩
  | .hbm, ⟨32, _⟩ => ⟨S4x256x1024, .bf16⟩
  | .hbm, ⟨33, _⟩ => ⟨S4x32x256, .f32⟩
  | .local _ .vmem, ⟨0, _⟩ => ⟨S1x256x1024, .bf16⟩
  | .local _ .vmem, ⟨1, _⟩ => ⟨S1x256x1024, .bf16⟩
  | .local _ .vmem, ⟨2, _⟩ => ⟨S1x256x1024, .bf16⟩
  | .local _ .vmem, ⟨3, _⟩ => ⟨S1x256x1024, .bf16⟩
  | .local _ .vmem, ⟨4, _⟩ => ⟨S1x256x1024, .bf16⟩
  | .local _ .vmem, ⟨5, _⟩ => ⟨S1x256x1024, .bf16⟩
  | .local _ .vmem, ⟨6, _⟩ => ⟨S1x256x1024, .bf16⟩
  | .local _ .vmem, ⟨7, _⟩ => ⟨S1x256x1024, .bf16⟩
  | .local _ .vmem, ⟨8, _⟩ => ⟨S1x256x1024, .bf16⟩
  | .local _ .vmem, ⟨9, _⟩ => ⟨S1x256x1024, .bf16⟩
  | .local _ .vmem, ⟨10, _⟩ => ⟨S1x256x1024, .bf16⟩
  | .local _ .vmem, ⟨11, _⟩ => ⟨S1x256x1024, .bf16⟩
  | .local _ .vmem, ⟨12, _⟩ => ⟨S1x256x1024, .bf16⟩
  | .local _ .vmem, ⟨13, _⟩ => ⟨S1x256x1024, .bf16⟩
  | .local _ .vmem, ⟨14, _⟩ => ⟨S1x256x1024, .bf16⟩
  | .local _ .vmem, ⟨15, _⟩ => ⟨S1x256x1024, .bf16⟩
  | .local _ .vmem, ⟨16, _⟩ => ⟨S1x256x1024, .bf16⟩
  | .local _ .vmem, ⟨17, _⟩ => ⟨S1x256x1024, .bf16⟩
  | .local _ .vmem, ⟨18, _⟩ => ⟨S1x256x1024, .f32⟩
  | .local _ .vmem, ⟨19, _⟩ => ⟨S1x256x1024, .f32⟩
  | .local _ .vmem, ⟨20, _⟩ => ⟨S1x1024, .f32⟩
  | .local _ .vmem, ⟨21, _⟩ => ⟨S1x1024, .f32⟩
  | .local _ .vmem, ⟨22, _⟩ => ⟨S3x1024x1024, .bf16⟩
  | .local _ .vmem, ⟨23, _⟩ => ⟨S1024x1024, .bf16⟩
  | .local _ .vmem, ⟨24, _⟩ => ⟨S1x1024, .f32⟩
  | .local _ .vmem, ⟨25, _⟩ => ⟨S1x1x1024, .f32⟩
  | .local _ .vmem, ⟨26, _⟩ => ⟨S1x1x1024, .f32⟩
  | .local _ .vmem, ⟨27, _⟩ => ⟨S1x1x1024, .f32⟩
  | .local _ .vmem, ⟨28, _⟩ => ⟨S1x1x1024, .f32⟩
  | .local _ .vmem, ⟨29, _⟩ => ⟨S1x1x1024, .f32⟩
  | .local _ .vmem, ⟨30, _⟩ => ⟨S1x1x1024, .f32⟩
  | .local _ .vmem, ⟨31, _⟩ => ⟨S32x1024, .f32⟩
  | .local _ .vmem, ⟨32, _⟩ => ⟨S1x256x1024, .f32⟩
  | .local _ .vmem, ⟨33, _⟩ => ⟨S1x256x1024, .f32⟩
  | .local _ .vmem, ⟨34, _⟩ => ⟨S1x256x1024, .bf16⟩
  | .local _ .vmem, ⟨35, _⟩ => ⟨S1x256x1024, .bf16⟩
  | .local _ .vmem, ⟨36, _⟩ => ⟨S1x32x256, .f32⟩
  | .local _ .vmem, ⟨37, _⟩ => ⟨S1x32x256, .f32⟩
  | _, _ => ⟨S4x8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13_0 : Ref sig .tc := ⟨.hbm, 31, rfl⟩
abbrev main_v13_1 : Ref sig .tc := ⟨.hbm, 32, rfl⟩
abbrev main_v13_2 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc0_stg18_0 : Ref sig .tc := ⟨.vmem, 31, rfl⟩
abbrev cc0_stg19_0 : Ref sig .tc := ⟨.vmem, 32, rfl⟩
abbrev cc0_stg19_1 : Ref sig .tc := ⟨.vmem, 33, rfl⟩
abbrev cc0_stg20_0 : Ref sig .tc := ⟨.vmem, 34, rfl⟩
abbrev cc0_stg20_1 : Ref sig .tc := ⟨.vmem, 35, rfl⟩
abbrev cc0_stg21_0 : Ref sig .tc := ⟨.vmem, 36, rfl⟩
abbrev cc0_stg21_1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem17_1 : DmaSem sig := 30
abbrev cc0_sem18_0 : DmaSem sig := 31
abbrev cc0_sem19_0 : DmaSem sig := 32
abbrev cc0_sem19_1 : DmaSem sig := 33
abbrev cc0_sem20_0 : DmaSem sig := 34
abbrev cc0_sem20_1 : DmaSem sig := 35
abbrev cc0_sem21_0 : DmaSem sig := 36
abbrev cc0_sem21_1 : DmaSem sig := 37

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.addi arg1 c32_i32
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.addi arg1 c32_i32
  let c0_i32 : BitVec 32 := 0#32
  let c0_i32_0 : BitVec 32 := 0#32
  ![arg0.toNat, v0.toNat, c0_i32.toNat]

def cc0_transform_2 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.addi arg1 c32_i32
  let c0_i32 : BitVec 32 := 0#32
  let c0_i32_0 : BitVec 32 := 0#32
  ![arg0.toNat, v0.toNat, c0_i32.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, arg1.toNat, c4_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c7_i32 : BitVec 32 := 7#32
  let c0_i32 : BitVec 32 := 0#32
  ![arg0.toNat, arg1.toNat, c7_i32.toNat]

def cc0_transform_7 (i : grid0.Coords) : Fin 3 → Nat :=
  let arg0 : BitVec 32 := BitVec.ofNat 32 (i 0).val
  let arg1 : BitVec 32 := BitVec.ofNat 32 (i 1).val
  let c8_i32 : BitVec 32 := 8#32
  let c0_i32 : BitVec 32 := 0#32
  ![arg0.toNat, arg1.toNat, c8_i32.toNat]

def cc0_transform_8 (i : grid0.Coords) : Fin 3 → Nat :=
  let arg0 : BitVec 32 := BitVec.ofNat 32 (i 0).val
  let arg1 : BitVec 32 := BitVec.ofNat 32 (i 1).val
  let c9_i32 : BitVec 32 := 9#32
  let c0_i32 : BitVec 32 := 0#32
  ![arg0.toNat, arg1.toNat, c9_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S3x1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S1x1x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 2 → Memref sig .tc .vmem S1x1x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]

abbrev stage0_17 : Fin 2 → Memref sig .tc .vmem S1x1x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]

abbrev stage0_18 : Fin 1 → Memref sig .tc .vmem S32x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 2 → Memref sig .tc .vmem S1x256x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x256x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x32x256 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]
-- ==== Reference5Ideal.lean ====
abbrev S4x8448x1024 : Shape := ⟨3, ![4, 8448, 1024]⟩
abbrev S4x8448x2048 : Shape := ⟨3, ![4, 8448, 2048]⟩
abbrev S4x256x10240 : Shape := ⟨3, ![4, 256, 10240]⟩
abbrev S4x256x1024 : Shape := ⟨3, ![4, 256, 1024]⟩
abbrev S16 : Shape := ⟨1, ![16]⟩
abbrev S1024 : Shape := ⟨1, ![1024]⟩
abbrev S3x1024x1024 : Shape := ⟨3, ![3, 1024, 1024]⟩
abbrev S1024x1024 : Shape := ⟨2, ![1024, 1024]⟩
abbrev S1024x32 : Shape := ⟨2, ![1024, 32]⟩
abbrev S4x1x1024 : Shape := ⟨3, ![4, 1, 1024]⟩
abbrev S16x64 : Shape := ⟨2, ![16, 64]⟩
abbrev S1x1x1024 : Shape := ⟨3, ![1, 1, 1024]⟩
abbrev S_ : Shape := ⟨0, ![]⟩
abbrev S4x256 : Shape := ⟨2, ![4, 256]⟩
abbrev S4x256x1 : Shape := ⟨3, ![4, 256, 1]⟩
abbrev S4x256x3072 : Shape := ⟨3, ![4, 256, 3072]⟩
abbrev S1x1024x1024 : Shape := ⟨3, ![1, 1024, 1024]⟩
abbrev S4x256x32 : Shape := ⟨3, ![4, 256, 32]⟩
abbrev S4x32x256 : Shape := ⟨3, ![4, 32, 256]⟩

abbrev nBuf : Space → Nat
  | .hbm => 133
  | .vmem => 0
  | .smem => 0
  | _ => 0

abbrev hbmTy0_0 (i : Nat) : BufTy := match i % 128 with
  | 0 => ⟨S4x8448x1024, .bf16⟩
  | 1 => ⟨S4x8448x1024, .bf16⟩
  | 2 => ⟨S4x8448x2048, .bf16⟩
  | 3 => ⟨S4x256x10240, .bf16⟩
  | 4 => ⟨S4x256x1024, .bf16⟩
  | 5 => ⟨S4x256x1024, .bf16⟩
  | 6 => ⟨S4x256x1024, .f32⟩
  | 7 => ⟨S16, .f32⟩
  | 8 => ⟨S1024, .f32⟩
  | 9 => ⟨S3x1024x1024, .f32⟩
  | 10 => ⟨S1024x1024, .f32⟩
  | 11 => ⟨S1024, .f32⟩
  | 12 => ⟨S1024, .f32⟩
  | 13 => ⟨S1024x32, .f32⟩
  | 14 => ⟨S4x1x1024, .f32⟩
  | 15 => ⟨S4x1x1024, .f32⟩
  | 16 => ⟨S4x1x1024, .f32⟩
  | 17 => ⟨S4x256x1024, .bf16⟩
  | 18 => ⟨S4x256x1024, .f32⟩
  | 19 => ⟨S4x256x1024, .bf16⟩
  | 20 => ⟨S4x256x1024, .f32⟩
  | 21 => ⟨S4x256x1024, .bf16⟩
  | 22 => ⟨S4x256x1024, .f32⟩
  | 23 => ⟨S4x256x1024, .bf16⟩
  | 24 => ⟨S4x256x1024, .f32⟩
  | 25 => ⟨S4x256x1024, .f32⟩
  | 26 => ⟨S16x64, .f32⟩
  | 27 => ⟨S1024, .f32⟩
  | 28 => ⟨S1x1x1024, .f32⟩
  | 29 => ⟨S4x256x1024, .f32⟩
  | 30 => ⟨S4x256x1024, .f32⟩
  | 31 => ⟨S4x256x1024, .f32⟩
  | 32 => ⟨S4x256x1024, .f32⟩
  | 33 => ⟨S4x256x1024, .f32⟩
  | 34 => ⟨S_, .f32⟩
  | 35 => ⟨S4x256x1024, .f32⟩
  | 36 => ⟨S4x256x1024, .f32⟩
  | 37 => ⟨S_, .f32⟩
  | 38 => ⟨S4x256x1024, .f32⟩
  | 39 => ⟨S4x256x1024, .f32⟩
  | 40 => ⟨S4x256x1024, .f32⟩
  | 41 => ⟨S4x256x1024, .f32⟩
  | 42 => ⟨S4x256x1024, .f32⟩
  | 43 => ⟨S_, .f32⟩
  | 44 => ⟨S4x256, .f32⟩
  | 45 => ⟨S4x256x1, .f32⟩
  | 46 => ⟨S_, .f32⟩
  | 47 => ⟨S4x256x1, .f32⟩
  | 48 => ⟨S4x256x1, .f32⟩
  | 49 => ⟨S_, .f32⟩
  | 50 => ⟨S4x256x1, .f32⟩
  | 51 => ⟨S4x256x1, .f32⟩
  | 52 => ⟨S4x256x1, .f32⟩
  | 53 => ⟨S4x256x1024, .f32⟩
  | 54 => ⟨S4x256x1024, .f32⟩
  | 55 => ⟨S1x1x1024, .f32⟩
  | 56 => ⟨S4x256x1024, .f32⟩
  | 57 => ⟨S4x256x1024, .f32⟩
  | 58 => ⟨S4x256x3072, .bf16⟩
  | 59 => ⟨S4x256x3072, .f32⟩
  | 60 => ⟨S4x256x3072, .f32⟩
  | 61 => ⟨S4x256x3072, .f32⟩
  | 62 => ⟨S_, .f32⟩
  | 63 => ⟨S4x256x3072, .f32⟩
  | 64 => ⟨S4x256x3072, .f32⟩
  | 65 => ⟨S_, .f32⟩
  | 66 => ⟨S4x256x3072, .f32⟩
  | 67 => ⟨S4x256x3072, .f32⟩
  | 68 => ⟨S4x256x1024, .f32⟩
  | 69 => ⟨S1x1024x1024, .f32⟩
  | 70 => ⟨S1024x1024, .f32⟩
  | 71 => ⟨S4x256x1024, .f32⟩
  | 72 => ⟨S4x256x1024, .f32⟩
  | 73 => ⟨S4x256x1024, .f32⟩
  | 74 => ⟨S4x256x1024, .f32⟩
  | 75 => ⟨S1x1024x1024, .f32⟩
  | 76 => ⟨S1024x1024, .f32⟩
  | 77 => ⟨S4x256x1024, .f32⟩
  | 78 => ⟨S4x256x1024, .f32⟩
  | 79 => ⟨S4x256x1024, .f32⟩
  | 80 => ⟨S4x256x1024, .f32⟩
  | 81 => ⟨S4x256x1024, .f32⟩
  | 82 => ⟨S1x1024x1024, .f32⟩
  | 83 => ⟨S1024x1024, .f32⟩
  | 84 => ⟨S4x256x1024, .f32⟩
  | 85 => ⟨S4x256x1024, .f32⟩
  | 86 => ⟨S4x256x1024, .f32⟩
  | 87 => ⟨S4x256x1024, .f32⟩
  | 88 => ⟨S4x256x1024, .f32⟩
  | 89 => ⟨S_, .f32⟩
  | 90 => ⟨S4x256, .f32⟩
  | 91 => ⟨S4x256x1, .f32⟩
  | 92 => ⟨S_, .f32⟩
  | 93 => ⟨S4x256x1, .f32⟩
  | 94 => ⟨S4x256x1, .f32⟩
  | 95 => ⟨S_, .f32⟩
  | 96 => ⟨S4x256x1, .f32⟩
  | 97 => ⟨S4x256x1, .f32⟩
  | 98 => ⟨S4x256x1, .f32⟩
  | 99 => ⟨S4x256x1024, .f32⟩
  | 100 => ⟨S4x256x1024, .f32⟩
  | 101 => ⟨S1x1x1024, .f32⟩
  | 102 => ⟨S4x256x1024, .f32⟩
  | 103 => ⟨S4x256x1024, .f32⟩
  | 104 => ⟨S4x256x1024, .f32⟩
  | 105 => ⟨S4x256x1024, .f32⟩
  | 106 => ⟨S4x256x1024, .f32⟩
  | 107 => ⟨S4x256x1024, .f32⟩
  | 108 => ⟨S_, .f32⟩
  | 109 => ⟨S4x256, .f32⟩
  | 110 => ⟨S4x256x1, .f32⟩
  | 111 => ⟨S_, .f32⟩
  | 112 => ⟨S4x256x1, .f32⟩
  | 113 => ⟨S4x256x1, .f32⟩
  | 114 => ⟨S_, .f32⟩
  | 115 => ⟨S4x256x1, .f32⟩
  | 116 => ⟨S4x256x1, .f32⟩
  | 117 => ⟨S4x256x1, .f32⟩
  | 118 => ⟨S4x256x1024, .f32⟩
  | 119 => ⟨S4x256x1024, .f32⟩
  | 120 => ⟨S1x1x1024, .f32⟩
  | 121 => ⟨S4x256x1024, .f32⟩
  | 122 => ⟨S4x256x1024, .f32⟩
  | 123 => ⟨S_, .f32⟩
  | 124 => ⟨S4x1x1024, .f32⟩
  | 125 => ⟨S4x1x1024, .f32⟩
  | 126 => ⟨S4x256x1024, .f32⟩
  | 127 => ⟨S4x256x1024, .f32⟩
  | _ => ⟨S4x8448x1024, .bf16⟩

abbrev hbmTy0_1 (i : Nat) : BufTy := match i % 128 with
  | 0 => ⟨S4x256x1024, .f32⟩
  | 1 => ⟨S4x256x1024, .f32⟩
  | 2 => ⟨S4x256x1024, .bf16⟩
  | 3 => ⟨S4x256x32, .f32⟩
  | 4 => ⟨S4x32x256, .f32⟩
  | _ => ⟨S4x8448x1024, .bf16⟩

abbrev hbmTy (i : Nat) : BufTy := match i / 128 with
  | 0 => hbmTy0_0 i
  | 1 => hbmTy0_1 i
  | _ => ⟨S4x8448x1024, .bf16⟩

abbrev bufTy : (tb : Table) → Fin (tcTables nBuf tb) → BufTy
  | .hbm, ⟨i, _⟩ => hbmTy i
  | _, _ => ⟨S4x8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_cst : Ref sig .tc := ⟨.hbm, 43, rfl⟩
abbrev main_v18 : Ref sig .tc := ⟨.hbm, 44, rfl⟩
abbrev main_v19 : Ref sig .tc := ⟨.hbm, 45, rfl⟩
abbrev main_cst_0 : Ref sig .tc := ⟨.hbm, 46, rfl⟩
abbrev main_v20 : Ref sig .tc := ⟨.hbm, 47, rfl⟩
abbrev main_v21 : Ref sig .tc := ⟨.hbm, 48, rfl⟩
abbrev main_cst_1 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_cst_2 : Ref sig .tc := ⟨.hbm, 62, rfl⟩
abbrev main_v34 : Ref sig .tc := ⟨.hbm, 63, rfl⟩
abbrev main_v35 : Ref sig .tc := ⟨.hbm, 64, rfl⟩
abbrev main_cst_3 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_cst_4 : Ref sig .tc := ⟨.hbm, 89, rfl⟩
abbrev main_v59 : Ref sig .tc := ⟨.hbm, 90, rfl⟩
abbrev main_v60 : Ref sig .tc := ⟨.hbm, 91, rfl⟩
abbrev main_cst_5 : Ref sig .tc := ⟨.hbm, 92, rfl⟩
abbrev main_v61 : Ref sig .tc := ⟨.hbm, 93, rfl⟩
abbrev main_v62 : Ref sig .tc := ⟨.hbm, 94, rfl⟩
abbrev main_cst_6 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_cst_7 : Ref sig .tc := ⟨.hbm, 108, rfl⟩
abbrev main_v75 : Ref sig .tc := ⟨.hbm, 109, rfl⟩
abbrev main_v76 : Ref sig .tc := ⟨.hbm, 110, rfl⟩
abbrev main_cst_8 : Ref sig .tc := ⟨.hbm, 111, rfl⟩
abbrev main_v77 : Ref sig .tc := ⟨.hbm, 112, rfl⟩
abbrev main_v78 : Ref sig .tc := ⟨.hbm, 113, rfl⟩
abbrev main_cst_9 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_cst_10 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩

abbrev nD : Nat := 1
abbrev τ : Topo := Topo.v7x

variable {F : FTy → Type} [FloatOps F]
-- ==== Kernel6.lean ====
abbrev S4x33792x1024 : Shape := ⟨3, ![4, 33792, 1024]⟩
abbrev S33792x4 : Shape := ⟨2, ![33792, 4]⟩
abbrev S32768x1024 : Shape := ⟨2, ![32768, 1024]⟩
abbrev S4x1x1024 : Shape := ⟨3, ![4, 1, 1024]⟩
abbrev S1024 : Shape := ⟨1, ![1024]⟩
abbrev S4x32x1x1024 : Shape := ⟨4, ![4, 32, 1, 1024]⟩
abbrev S128x1x1024 : Shape := ⟨3, ![128, 1, 1024]⟩
abbrev S1x1024 : Shape := ⟨2, ![1, 1024]⟩
abbrev S4x256x1024 : Shape := ⟨3, ![4, 256, 1024]⟩
abbrev S256x4 : Shape := ⟨2, ![256, 4]⟩
abbrev S256x1024 : Shape := ⟨2, ![256, 1024]⟩
abbrev S1x1x1024 : Shape := ⟨3, ![1, 1, 1024]⟩
abbrev S256x1 : Shape := ⟨2, ![256, 1]⟩
abbrev S1x256x1024 : Shape := ⟨3, ![1, 256, 1024]⟩
abbrev S256 : Shape := ⟨1, ![256]⟩

abbrev nBuf : Space → Nat
  | .hbm => 9
  | .vmem => 11
  | .smem => 0
  | _ => 0

abbrev bufTy : (tb : Table) → Fin (tcTables nBuf tb) → BufTy
  | .hbm, ⟨0, _⟩ => ⟨S4x33792x1024, .bf16⟩
  | .hbm, ⟨1, _⟩ => ⟨S33792x4, .f32⟩
  | .hbm, ⟨2, _⟩ => ⟨S32768x1024, .f32⟩
  | .hbm, ⟨3, _⟩ => ⟨S4x1x1024, .f32⟩
  | .hbm, ⟨4, _⟩ => ⟨S1024, .f32⟩
  | .hbm, ⟨5, _⟩ => ⟨S4x32x1x1024, .f32⟩
  | .hbm, ⟨6, _⟩ => ⟨S128x1x1024, .f32⟩
  | .hbm, ⟨7, _⟩ => ⟨S1x1024, .f32⟩
  | .hbm, ⟨8, _⟩ => ⟨S32768x1024, .f32⟩
  | .local _ .vmem, ⟨0, _⟩ => ⟨S4x256x1024, .bf16⟩
  | .local _ .vmem, ⟨1, _⟩ => ⟨S4x256x1024, .bf16⟩
  | .local _ .vmem, ⟨2, _⟩ => ⟨S256x4, .f32⟩
  | .local _ .vmem, ⟨3, _⟩ => ⟨S256x4, .f32⟩
  | .local _ .vmem, ⟨4, _⟩ => ⟨S256x1024, .f32⟩
  | .local _ .vmem, ⟨5, _⟩ => ⟨S256x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1024, .f32⟩
  | .local _ .vmem, ⟨9, _⟩ => ⟨S256x1024, .f32⟩
  | .local _ .vmem, ⟨10, _⟩ => ⟨S256x1024, .f32⟩
  | _, _ => ⟨S4x33792x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, v0.toNat, c0_i32_1.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference6Ideal.lean ====
abbrev S4x33792x1024 : Shape := ⟨3, ![4, 33792, 1024]⟩
abbrev S33792x4 : Shape := ⟨2, ![33792, 4]⟩
abbrev S32768x1024 : Shape := ⟨2, ![32768, 1024]⟩
abbrev S4x1x1024 : Shape := ⟨3, ![4, 1, 1024]⟩
abbrev S1024 : Shape := ⟨1, ![1024]⟩
abbrev S32768x4 : Shape := ⟨2, ![32768, 4]⟩
abbrev S4x32768 : Shape := ⟨2, ![4, 32768]⟩
abbrev S4x32768x1 : Shape := ⟨3, ![4, 32768, 1]⟩
abbrev S4x32768x1024 : Shape := ⟨3, ![4, 32768, 1024]⟩
abbrev S_ : Shape := ⟨0, ![]⟩
abbrev S4x1024 : Shape := ⟨2, ![4, 1024]⟩
abbrev S4x8192x1024 : Shape := ⟨3, ![4, 8192, 1024]⟩
abbrev S32768 : Shape := ⟨1, ![32768]⟩
abbrev S32768x1 : Shape := ⟨2, ![32768, 1]⟩
abbrev S1x1024 : Shape := ⟨2, ![1, 1024]⟩

abbrev nBuf : Space → Nat
  | .hbm => 35
  | .vmem => 0
  | .smem => 0
  | _ => 0

abbrev bufTy : (tb : Table) → Fin (tcTables nBuf tb) → BufTy
  | .hbm, ⟨0, _⟩ => ⟨S4x33792x1024, .bf16⟩
  | .hbm, ⟨1, _⟩ => ⟨S33792x4, .f32⟩
  | .hbm, ⟨2, _⟩ => ⟨S32768x1024, .f32⟩
  | .hbm, ⟨3, _⟩ => ⟨S4x1x1024, .f32⟩
  | .hbm, ⟨4, _⟩ => ⟨S1024, .f32⟩
  | .hbm, ⟨5, _⟩ => ⟨S32768x4, .f32⟩
  | .hbm, ⟨6, _⟩ => ⟨S4x32768, .f32⟩
  | .hbm, ⟨7, _⟩ => ⟨S4x32768x1, .f32⟩
  | .hbm, ⟨8, _⟩ => ⟨S4x32768x1024, .bf16⟩
  | .hbm, ⟨9, _⟩ => ⟨S4x32768x1024, .f32⟩
  | .hbm, ⟨10, _⟩ => ⟨S4x32768x1024, .f32⟩
  | .hbm, ⟨11, _⟩ => ⟨S4x32768x1024, .f32⟩
  | .hbm, ⟨12, _⟩ => ⟨S_, .f32⟩
  | .hbm, ⟨13, _⟩ => ⟨S32768x1024, .f32⟩
  | .hbm, ⟨14, _⟩ => ⟨S4x1024, .f32⟩
  | .hbm, ⟨15, _⟩ => ⟨S4x8192x1024, .f32⟩
  | .hbm, ⟨16, _⟩ => ⟨S32768x1024, .f32⟩
  | .hbm, ⟨17, _⟩ => ⟨S32768x1024, .f32⟩
  | .hbm, ⟨18, _⟩ => ⟨S_, .f32⟩
  | .hbm, ⟨19, _⟩ => ⟨S32768, .f32⟩
  | .hbm, ⟨20, _⟩ => ⟨S32768x1, .f32⟩
  | .hbm, ⟨21, _⟩ => ⟨S_, .f32⟩
  | .hbm, ⟨22, _⟩ => ⟨S32768x1, .f32⟩
  | .hbm, ⟨23, _⟩ => ⟨S32768x1, .f32⟩
  | .hbm, ⟨24, _⟩ => ⟨S_, .f32⟩
  | .hbm, ⟨25, _⟩ => ⟨S32768x1, .f32⟩
  | .hbm, ⟨26, _⟩ => ⟨S32768x1, .f32⟩
  | .hbm, ⟨27, _⟩ => ⟨S32768x1, .f32⟩
  | .hbm, ⟨28, _⟩ => ⟨S32768x1024, .f32⟩
  | .hbm, ⟨29, _⟩ => ⟨S32768x1024, .f32⟩
  | .hbm, ⟨30, _⟩ => ⟨S1x1024, .f32⟩
  | .hbm, ⟨31, _⟩ => ⟨S32768x1024, .f32⟩
  | .hbm, ⟨32, _⟩ => ⟨S32768x1024, .f32⟩
  | .hbm, ⟨33, _⟩ => ⟨S32768x1024, .f32⟩
  | .hbm, ⟨34, _⟩ => ⟨S32768x1024, .f32⟩
  | _, _ => ⟨S4x33792x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]
-- ==== Kernel7.lean ====
abbrev S4x33792x1024 : Shape := ⟨3, ![4, 33792, 1024]⟩
abbrev S33792x4 : Shape := ⟨2, ![33792, 4]⟩
abbrev S1024x1024 : Shape := ⟨2, ![1024, 1024]⟩
abbrev S4x1x1024 : Shape := ⟨3, ![4, 1, 1024]⟩
abbrev S1024 : Shape := ⟨1, ![1024]⟩
abbrev S4x1x1x1024 : Shape := ⟨4, ![4, 1, 1, 1024]⟩
abbrev S1x1024 : Shape := ⟨2, ![1, 1024]⟩
abbrev S4x256x1024 : Shape := ⟨3, ![4, 256, 1024]⟩
abbrev S256x4 : Shape := ⟨2, ![256, 4]⟩
abbrev S256x1024 : Shape := ⟨2, ![256, 1024]⟩
abbrev S1x1x1024 : Shape := ⟨3, ![1, 1, 1024]⟩
abbrev S256x1 : Shape := ⟨2, ![256, 1]⟩
abbrev S1x256x1024 : Shape := ⟨3, ![1, 256, 1024]⟩
abbrev S256 : Shape := ⟨1, ![256]⟩

abbrev nBuf : Space → Nat
  | .hbm => 9
  | .vmem => 11
  | .smem => 0
  | _ => 0

abbrev bufTy : (tb : Table) → Fin (tcTables nBuf tb) → BufTy
  | .hbm, ⟨0, _⟩ => ⟨S4x33792x1024, .bf16⟩
  | .hbm, ⟨1, _⟩ => ⟨S33792x4, .f32⟩
  | .hbm, ⟨2, _⟩ => ⟨S1024x1024, .f32⟩
  | .hbm, ⟨3, _⟩ => ⟨S4x1x1024, .f32⟩
  | .hbm, ⟨4, _⟩ => ⟨S1024, .f32⟩
  | .hbm, ⟨5, _⟩ => ⟨S4x1x1x1024, .f32⟩
  | .hbm, ⟨6, _⟩ => ⟨S4x1x1024, .f32⟩
  | .hbm, ⟨7, _⟩ => ⟨S1x1024, .f32⟩
  | .hbm, ⟨8, _⟩ => ⟨S1024x1024, .f32⟩
  | .local _ .vmem, ⟨0, _⟩ => ⟨S4x256x1024, .bf16⟩
  | .local _ .vmem, ⟨1, _⟩ => ⟨S4x256x1024, .bf16⟩
  | .local _ .vmem, ⟨2, _⟩ => ⟨S256x4, .f32⟩
  | .local _ .vmem, ⟨3, _⟩ => ⟨S256x4, .f32⟩
  | .local _ .vmem, ⟨4, _⟩ => ⟨S256x1024, .f32⟩
  | .local _ .vmem, ⟨5, _⟩ => ⟨S256x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1024, .f32⟩
  | .local _ .vmem, ⟨9, _⟩ => ⟨S256x1024, .f32⟩
  | .local _ .vmem, ⟨10, _⟩ => ⟨S256x1024, .f32⟩
  | _, _ => ⟨S4x33792x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c128_i32 : BitVec 32 := 128#32
  let v0 : BitVec 32 := Scalar.addi arg0 c128_i32
  let c0_i32 : BitVec 32 := 0#32
  let c0_i32_0 : BitVec 32 := 0#32
  let c0_i32_1 : BitVec 32 := 0#32
  ![c0_i32.toNat, v0.toNat, c0_i32_0.toNat]

def cc0_transform_1 (i : grid0.Coords) : Fin 2 → Nat :=
  let arg0 : BitVec 32 := BitVec.ofNat 32 (i 0).val
  let c128_i32 : BitVec 32 := 128#32
  let v0 : BitVec 32 := Scalar.addi arg0 c128_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference7Ideal.lean ====
abbrev S4x33792x1024 : Shape := ⟨3, ![4, 33792, 1024]⟩
abbrev S33792x4 : Shape := ⟨2, ![33792, 4]⟩
abbrev S1024x1024 : Shape := ⟨2, ![1024, 1024]⟩
abbrev S4x1x1024 : Shape := ⟨3, ![4, 1, 1024]⟩
abbrev S1024 : Shape := ⟨1, ![1024]⟩
abbrev S1024x4 : Shape := ⟨2, ![1024, 4]⟩
abbrev S4x1024 : Shape := ⟨2, ![4, 1024]⟩
abbrev S4x1024x1 : Shape := ⟨3, ![4, 1024, 1]⟩
abbrev S4x1024x1024 : Shape := ⟨3, ![4, 1024, 1024]⟩
abbrev S_ : Shape := ⟨0, ![]⟩
abbrev S4x256x1024 : Shape := ⟨3, ![4, 256, 1024]⟩
abbrev S1024x1 : Shape := ⟨2, ![1024, 1]⟩
abbrev S1x1024 : Shape := ⟨2, ![1, 1024]⟩

abbrev nBuf : Space → Nat
  | .hbm => 35
  | .vmem => 0
  | .smem => 0
  | _ => 0

abbrev bufTy : (tb : Table) → Fin (tcTables nBuf tb) → BufTy
  | .hbm, ⟨0, _⟩ => ⟨S4x33792x1024, .bf16⟩
  | .hbm, ⟨1, _⟩ => ⟨S33792x4, .f32⟩
  | .hbm, ⟨2, _⟩ => ⟨S1024x1024, .f32⟩
  | .hbm, ⟨3, _⟩ => ⟨S4x1x1024, .f32⟩
  | .hbm, ⟨4, _⟩ => ⟨S1024, .f32⟩
  | .hbm, ⟨5, _⟩ => ⟨S1024x4, .f32⟩
  | .hbm, ⟨6, _⟩ => ⟨S4x1024, .f32⟩
  | .hbm, ⟨7, _⟩ => ⟨S4x1024x1, .f32⟩
  | .hbm, ⟨8, _⟩ => ⟨S4x1024x1024, .bf16⟩
  | .hbm, ⟨9, _⟩ => ⟨S4x1024x1024, .f32⟩
  | .hbm, ⟨10, _⟩ => ⟨S4x1024x1024, .f32⟩
  | .hbm, ⟨11, _⟩ => ⟨S4x1024x1024, .f32⟩
  | .hbm, ⟨12, _⟩ => ⟨S_, .f32⟩
  | .hbm, ⟨13, _⟩ => ⟨S1024x1024, .f32⟩
  | .hbm, ⟨14, _⟩ => ⟨S4x1024, .f32⟩
  | .hbm, ⟨15, _⟩ => ⟨S4x256x1024, .f32⟩
  | .hbm, ⟨16, _⟩ => ⟨S1024x1024, .f32⟩
  | .hbm, ⟨17, _⟩ => ⟨S1024x1024, .f32⟩
  | .hbm, ⟨18, _⟩ => ⟨S_, .f32⟩
  | .hbm, ⟨19, _⟩ => ⟨S1024, .f32⟩
  | .hbm, ⟨20, _⟩ => ⟨S1024x1, .f32⟩
  | .hbm, ⟨21, _⟩ => ⟨S_, .f32⟩
  | .hbm, ⟨22, _⟩ => ⟨S1024x1, .f32⟩
  | .hbm, ⟨23, _⟩ => ⟨S1024x1, .f32⟩
  | .hbm, ⟨24, _⟩ => ⟨S_, .f32⟩
  | .hbm, ⟨25, _⟩ => ⟨S1024x1, .f32⟩
  | .hbm, ⟨26, _⟩ => ⟨S1024x1, .f32⟩
  | .hbm, ⟨27, _⟩ => ⟨S1024x1, .f32⟩
  | .hbm, ⟨28, _⟩ => ⟨S1024x1024, .f32⟩
  | .hbm, ⟨29, _⟩ => ⟨S1024x1024, .f32⟩
  | .hbm, ⟨30, _⟩ => ⟨S1x1024, .f32⟩
  | .hbm, ⟨31, _⟩ => ⟨S1024x1024, .f32⟩
  | .hbm, ⟨32, _⟩ => ⟨S1024x1024, .f32⟩
  | .hbm, ⟨33, _⟩ => ⟨S1024x1024, .f32⟩
  | .hbm, ⟨34, _⟩ => ⟨S1024x1024, .f32⟩
  | _, _ => ⟨S4x33792x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]
-- ==== Proof.PI.State.lean ====
/-
  What one block of the attention kernel computes, as values: the state of the streamed softmax (the running maximum
  and the accumulator, the last sixteen rows of which are the running denominator) after each of the sixteen blocks of
  512 keys, the last update by the context's 256 keys, and the block written out.
-/
module

public import proofs.«01_k».proof.Proof.Gen.KernelIdeal.Frame
public import proofs.«01_k».proof.Proof.Gen.KernelIdeal.Skeleton
public import Idealize.ShloMosaic.Lib.Pipeline.Value

@[expose] public section

noncomputable section

namespace Cert.KernelIdeal.Att

open Cert.KernelIdeal Cert.KernelIdeal.Gen
open Idealize.ShloMosaic Idealize.ShloMosaic.TcCoe

variable {F : FTy → Type} [FloatOps F] [Named F]

theorem kb_inb (j : ℕ) : ∀ a, (![0, 512 * min j 15, 0] : Fin 3 → ℕ) a + S1x512x128.size a ≤ S1x8192x128.size a := by
  intro a
  have h : min j 15 ≤ 15 := min_le_right _ _
  fin_cases a
  · show 0 + 1 ≤ 1; omega
  · show 512 * min j 15 + 512 ≤ 8192; omega
  · show 0 + 128 ≤ 128; omega

theorem vb_inb (j : ℕ) : ∀ a, (![0, 0, 512 * min j 15] : Fin 3 → ℕ) a + S1x128x512.size a ≤ S1x128x8192.size a := by
  intro a
  have h : min j 15 ≤ 15 := min_le_right _ _
  fin_cases a
  · show 0 + 1 ≤ 1; omega
  · show 0 + 128 ≤ 128; omega
  · show 512 * min j 15 + 512 ≤ 8192; omega

/-- The `j`-th block of 512 keys. -/
def kb (xk : Vec F S1x8192x128 .bf16) (j : ℕ) : Vec F S1x512x128 .bf16 :=
  View.ld (Val := Elt F) xk (Rect.unit (s := S1x8192x128) ![0, 512 * min j 15, 0] S1x512x128.size (kb_inb j))

/-- The `j`-th block of 512 values, transposed. -/
def vb (xv : Vec F S1x128x8192 .bf16) (j : ℕ) : Vec F S1x128x512 .bf16 :=
  View.ld (Val := Elt F) xv (Rect.unit (s := S1x128x8192) ![0, 0, 512 * min j 15] S1x128x512.size (vb_inb j))

/-- The scores of the `j`-th block of keys against the two stacked query blocks. -/
def sAt (xk : Vec F S1x8192x128 .bf16) (q : Vec F S128x4096 .bf16) (j : ℕ) : Vec F S1x512x4096 .f32 := k0_pay3 (kb xk j) q

/-- The running maximum after `j` blocks of keys. -/
def mAt (xk : Vec F S1x8192x128 .bf16) (q : Vec F S128x4096 .bf16) : ℕ → Vec F S1x4096 .f32
  | 0 => k0_pay15
  | j + 1 => k0_pay10 (k0_pay6 (sAt xk q j) (mAt xk q j))

/-- The accumulator after `j` blocks of keys. -/
def aAt (xk : Vec F S1x8192x128 .bf16) (xv : Vec F S1x128x8192 .bf16) (q : Vec F S128x4096 .bf16) : ℕ → Vec F S144x4096 .f32
  | 0 => k0_pay16
  | j + 1 => k0_pay9 (k0_pay5 (vb xv j)) (k0_pay7 (sAt xk q j) (mAt xk q j)) (k0_pay8 (sAt xk q j) (mAt xk q j) (aAt xk xv q j))
      (constant S144x4096 .f32 0x00000000#32)

/-- The accumulator after the context's keys. -/
def aEnd (xq : Vec F S1x2048x128 .bf16) (xk : Vec F S1x8192x128 .bf16) (xv : Vec F S1x128x8192 .bf16)
    (xkc : Vec F S1x256x128 .bf16) (xvc : Vec F S1x128x256 .bf16) : Vec F S144x4096 .f32 :=
  k0_pay24 xkc (k0_pay14 xq) xvc (mAt xk (k0_pay14 xq) 16) (aAt xk xv (k0_pay14 xq) 16)

/-- The only index of the one-element array. -/
def i0 : S1.Idx := fun a => ⟨0, by fin_cases a; show 0 < 1; omega⟩

/-- The block the kernel writes. -/
def out (lam : Vec F S1 .f32) (xq : Vec F S1x2048x128 .bf16) (xk : Vec F S1x8192x128 .bf16) (xv : Vec F S1x128x8192 .bf16)
    (xkc : Vec F S1x256x128 .bf16) (xvc : Vec F S1x128x256 .bf16) (wn : Vec F S1x128 .f32) : Vec F S1x2048x128 .bf16 :=
  k0_pay2 (aEnd xq xk xv xkc xvc) (lam i0) wn

end Cert.KernelIdeal.Att

end
-- ==== Proof.PI.Trip.lean ====
/-
  The loop over the blocks of keys, two blocks a trip: what the scratch buffers hold after `k` trips is the streamed
  softmax's state after `2 k` blocks (`Att.mAt`, `Att.aAt`) and the scores of the next block.
-/
module

public import proofs.«01_k».proof.Proof.PI.State
public import proofs.«01_k».proof.Proof.Gen.KernelIdeal.Loops
public import Idealize.ShloMosaic.Lib.Tactic

@[expose] public section

noncomputable section

namespace Cert.KernelIdeal.Att

open Cert.KernelIdeal Cert.KernelIdeal.Gen
open Idealize.ShloMosaic
open Idealize.ShloMosaic.TcCoe Idealize.ShloMosaic.Tactic
open Idealize.SL.Sem

variable {F : FTy → Type} [FloatOps F] [Named F]

theorem hz2 : (![0, 0] : Fin 2 → ℕ) = fun _ => 0 := funext fun a => by fin_cases a <;> rfl
theorem hz3 : (![0, 0, 0] : Fin 3 → ℕ) = fun _ => 0 := funext fun a => by fin_cases a <;> rfl

abbrev R11 : Rect S128x4096 := Rect.unit (s := S128x4096) ![0, 0] S128x4096.size inb_S128x4096_S128x4096_0_0
abbrev R12 : Rect S1x4096 := Rect.unit (s := S1x4096) ![0, 0] S1x4096.size inb_S1x4096_S1x4096_0_0
abbrev R13 : Rect S144x4096 := Rect.unit (s := S144x4096) ![0, 0] S144x4096.size inb_S144x4096_S144x4096_0_0
/-- The two slots of the scores' scratch. -/
abbrev R14a : Rect S2x512x4096 := Rect.unit (s := S2x512x4096) ![0, 0, 0] S1x512x4096.size inb_S2x512x4096_S1x512x4096_0_0_0
abbrev R14b : Rect S2x512x4096 := Rect.unit (s := S2x512x4096) ![1, 0, 0] S1x512x4096.size inb_S2x512x4096_S1x512x4096_1_0_0

theorem slots_disjoint : Disjoint (R14a.set) (R14b.toLoadRect.set) := by
  rw [Finset.disjoint_left]
  intro x hx hy
  rw [Rect.mem_set_unit] at hx
  have hy' : x ∈ R14b.set := hy
  rw [Rect.mem_set_unit] at hy'
  have h1 := (hx 0).2
  have h2 := (hy' 0).1
  change (x 0).val < 0 + 1 at h1
  change 1 ≤ (x 0).val at h2
  omega

theorem readCov_slot {sp : Space} (v : View sig .tc sp S2x512x4096 .f32) (w₀ : R14a.shape.Idx → Elt F .f32) (w₁ : R14b.shape.Idx → Elt F .f32) :
    v.readCov (Val := Elt F) [⟨R14a, w₀⟩, ⟨R14b, w₁⟩] R14b.toLoadRect = w₁ :=
  (View.readCov_cons_of_disjoint v ⟨R14a, w₀⟩ [⟨R14b, w₁⟩] R14b.toLoadRect slots_disjoint).trans
    (View.readCov_cons_toLoadRect v R14b w₁ [])

theorem ld_congr {s : Shape} {Val : EltTy → Type} {e : EltTy} (X : s.Idx → Val e) {off off' : Fin s.rank → ℕ} {size : Fin s.rank → ℕ}
    (h : off = off') (i : ∀ a, off a + size a ≤ s.size a) (i' : ∀ a, off' a + size a ≤ s.size a) :
    View.ld X (Rect.unit off size i) = View.ld X (Rect.unit off' size i') := by subst h; rfl

theorem cov12 (w : R12.shape.Idx → Elt F .f32) (L : List (View.Piece (Elt F) S1x4096 .f32)) :
    ∀ y, ∃ p ∈ (⟨R12, w⟩ :: L : List (View.Piece (Elt F) S1x4096 .f32)), y ∈ p.1.set := fun y =>
  ⟨_, List.mem_cons_self, by
    rw [Rect.mem_set_unit]
    intro a
    have h := (y a).isLt
    fin_cases a
    · exact ⟨Nat.zero_le _, lt_of_lt_of_eq h (Nat.zero_add _).symm⟩
    · exact ⟨Nat.zero_le _, lt_of_lt_of_eq h (Nat.zero_add _).symm⟩⟩

theorem cov13 (w : R13.shape.Idx → Elt F .f32) (L : List (View.Piece (Elt F) S144x4096 .f32)) :
    ∀ y, ∃ p ∈ (⟨R13, w⟩ :: L : List (View.Piece (Elt F) S144x4096 .f32)), y ∈ p.1.set := fun y =>
  ⟨_, List.mem_cons_self, by
    rw [Rect.mem_set_unit]
    intro a
    have h := (y a).isLt
    fin_cases a
    · exact ⟨Nat.zero_le _, lt_of_lt_of_eq h (Nat.zero_add _).symm⟩
    · exact ⟨Nat.zero_le _, lt_of_lt_of_eq h (Nat.zero_add _).symm⟩⟩

set_option maxHeartbeats 4000000 in
/-- The pieces one trip writes, over what it loads. -/
theorem trip_pieces (𝒱 : Variants) (c : Dev nD) (bd : Option 𝒱.V) (i : grid0.Coords) (arg3 : Memref sig .tc .smem S1 .f32) (harg3 : arg3.IsWhole) (arg4 : Memref sig .tc .vmem S1x2048x128 .bf16) (harg4 : arg4.IsWhole) (arg5 : Memref sig .tc .vmem S1x8192x128 .bf16) (harg5 : arg5.IsWhole) (arg6 : Memref sig .tc .vmem S1x128x8192 .bf16) (harg6 : arg6.IsWhole) (arg7 : Memref sig .tc .vmem S1x256x128 .bf16) (harg7 : arg7.IsWhole) (arg8 : Memref sig .tc .vmem S1x128x256 .bf16) (harg8 : arg8.IsWhole) (arg9 : Memref sig .tc .vmem S1x128 .f32) (harg9 : arg9.IsWhole) (arg10 : Memref sig .tc .vmem S1x2048x128 .bf16) (harg10 : arg10.IsWhole) (arg11 : Memref sig .tc .vmem S128x4096 .bf16) (harg11 : arg11.IsWhole) (arg12 : Memref sig .tc .vmem S1x4096 .f32) (harg12 : arg12.IsWhole) (arg13 : Memref sig .tc .vmem S144x4096 .f32) (harg13 : arg13.IsWhole) (arg14 : Memref sig .tc .vmem S2x512x4096 .f32) (harg14 : arg14.IsWhole) (v31 : FVec F S512x128 .bf16) (v32 : Vec F S128x4096 .bf16) (X_arg5 : BufTy.Contents (Elt F) arg5.view.ty) (X_arg6 : BufTy.Contents (Elt F) arg6.view.ty) (X_arg11 : BufTy.Contents (Elt F) arg11.view.ty) (k : Fin k0_t1_loop.trips) (f12 : BufTy.Contents (Elt F) arg12.view.ty) (f13 : BufTy.Contents (Elt F) arg13.view.ty) (f14 : BufTy.Contents (Elt F) arg14.view.ty)
    (K1 K2 : Vec F S1x512x128 .bf16) (V1 V2 : Vec F S1x128x512 .bf16) (Q : Vec F S128x4096 .bf16)
    (hK1 : arg5.view.readAt (Elt F) (Rect.unit (s := S1x8192x128) (k0_off1 k) S1x512x128.size (k0_off1_inb k)).toLoadRect X_arg5 = K1)
    (hK2 : arg5.view.readAt (Elt F) (Rect.unit (s := S1x8192x128) (k0_off3 k) S1x512x128.size (k0_off3_inb k)).toLoadRect X_arg5 = K2)
    (hV1 : arg6.view.readAt (Elt F) (Rect.unit (s := S1x128x8192) (k0_off2 k) S1x128x512.size (k0_off2_inb k)).toLoadRect X_arg6 = V1)
    (hV2 : arg6.view.readAt (Elt F) (Rect.unit (s := S1x128x8192) (k0_off4 k) S1x128x512.size (k0_off4_inb k)).toLoadRect X_arg6 = V2)
    (hQ : arg11.view.readAt (Elt F) R11.toLoadRect X_arg11 = Q)
    (S0 : Vec F S1x512x4096 .f32) (hS0 : arg14.view.readAt (Elt F) R14a.toLoadRect f14 = S0)
    (M0 : Vec F S1x4096 .f32) (hM0 : arg12.view.readAt (Elt F) R12.toLoadRect f12 = M0)
    (A0 : Vec F S144x4096 .f32) (hA0 : arg13.view.readAt (Elt F) R13.toLoadRect f13 = A0) :
    (trip_k0_t1 𝒱 c bd i arg3 harg3 arg4 harg4 arg5 harg5 arg6 harg6 arg7 harg7 arg8 harg8 arg9 harg9 arg10 harg10 arg11 harg11 arg12 harg12 arg13 harg13 arg14 harg14 v31 v32 X_arg5 X_arg6 X_arg11 k).1 f12 f13 f14
      = [⟨R12, k0_pay21 (k0_pay12 (arg14.view.readCov [⟨R14a, k0_pay11 K2 Q⟩, ⟨R14b, k0_pay3 K1 Q⟩] R14b.toLoadRect))
            (arg12.view.readCov [⟨R12, k0_pay10 (k0_pay6 S0 M0)⟩] R12.toLoadRect)⟩,
          ⟨R12, k0_pay10 (k0_pay6 S0 M0)⟩]
    ∧ (trip_k0_t1 𝒱 c bd i arg3 harg3 arg4 harg4 arg5 harg5 arg6 harg6 arg7 harg7 arg8 harg8 arg9 harg9 arg10 harg10 arg11 harg11 arg12 harg12 arg13 harg13 arg14 harg14 v31 v32 X_arg5 X_arg6 X_arg11 k).2.1 f12 f13 f14
      = [⟨R13, k0_pay20 (k0_pay12 (arg14.view.readCov [⟨R14a, k0_pay11 K2 Q⟩, ⟨R14b, k0_pay3 K1 Q⟩] R14b.toLoadRect)) (k0_pay13 V2)
            (arg12.view.readCov [⟨R12, k0_pay10 (k0_pay6 S0 M0)⟩] R12.toLoadRect)
            (arg13.view.readCov [⟨R13, k0_pay9 (k0_pay5 V1) (k0_pay7 S0 M0) (k0_pay8 S0 M0 A0) (constant S144x4096 .f32 0x00000000#32)⟩] R13.toLoadRect)⟩,
          ⟨R13, k0_pay9 (k0_pay5 V1) (k0_pay7 S0 M0) (k0_pay8 S0 M0 A0) (constant S144x4096 .f32 0x00000000#32)⟩]
    ∧ (trip_k0_t1 𝒱 c bd i arg3 harg3 arg4 harg4 arg5 harg5 arg6 harg6 arg7 harg7 arg8 harg8 arg9 harg9 arg10 harg10 arg11 harg11 arg12 harg12 arg13 harg13 arg14 harg14 v31 v32 X_arg5 X_arg6 X_arg11 k).2.2.1 f12 f13 f14
      = [⟨R14a, k0_pay11 K2 Q⟩, ⟨R14b, k0_pay3 K1 Q⟩] := by
  subst hK1 hK2 hV1 hV2 hQ hS0 hM0 hA0
  unfold trip_k0_t1
  exact ⟨rfl, rfl, rfl⟩

/-- What one trip leaves, from the state after `j` blocks. -/
theorem trip_spec (𝒱 : Variants) (c : Dev nD) (bd : Option 𝒱.V) (i : grid0.Coords) (arg3 : Memref sig .tc .smem S1 .f32) (harg3 : arg3.IsWhole) (arg4 : Memref sig .tc .vmem S1x2048x128 .bf16) (harg4 : arg4.IsWhole) (arg5 : Memref sig .tc .vmem S1x8192x128 .bf16) (harg5 : arg5.IsWhole) (arg6 : Memref sig .tc .vmem S1x128x8192 .bf16) (harg6 : arg6.IsWhole) (arg7 : Memref sig .tc .vmem S1x256x128 .bf16) (harg7 : arg7.IsWhole) (arg8 : Memref sig .tc .vmem S1x128x256 .bf16) (harg8 : arg8.IsWhole) (arg9 : Memref sig .tc .vmem S1x128 .f32) (harg9 : arg9.IsWhole) (arg10 : Memref sig .tc .vmem S1x2048x128 .bf16) (harg10 : arg10.IsWhole) (arg11 : Memref sig .tc .vmem S128x4096 .bf16) (harg11 : arg11.IsWhole) (arg12 : Memref sig .tc .vmem S1x4096 .f32) (harg12 : arg12.IsWhole) (arg13 : Memref sig .tc .vmem S144x4096 .f32) (harg13 : arg13.IsWhole) (arg14 : Memref sig .tc .vmem S2x512x4096 .f32) (harg14 : arg14.IsWhole) (v31 : FVec F S512x128 .bf16) (v32 : Vec F S128x4096 .bf16) (X_arg5 : BufTy.Contents (Elt F) arg5.view.ty) (X_arg6 : BufTy.Contents (Elt F) arg6.view.ty) (X_arg11 : BufTy.Contents (Elt F) arg11.view.ty) (k : Fin k0_t1_loop.trips) (f12 : BufTy.Contents (Elt F) arg12.view.ty) (f13 : BufTy.Contents (Elt F) arg13.view.ty) (f14 : BufTy.Contents (Elt F) arg14.view.ty)
    (x5 : Vec F S1x8192x128 .bf16) (x6 : Vec F S1x128x8192 .bf16) (q : Vec F S128x4096 .bf16)
    (hx5 : arg5.view.read (Elt F) X_arg5 = x5) (hx6 : arg6.view.read (Elt F) X_arg6 = x6) (hq : arg11.view.read (Elt F) X_arg11 = q)
    (h12 : arg12.view.read (Elt F) f12 = mAt x5 q (2 * k.val)) (h13 : arg13.view.read (Elt F) f13 = aAt x5 x6 q (2 * k.val))
    (h14 : View.ld (Val := Elt F) (arg14.view.read (Elt F) f14) R14a = sAt x5 q (2 * k.val)) :
    arg12.view.read (Elt F) (arg12.view.writes (Elt F) f12 ((trip_k0_t1 𝒱 c bd i arg3 harg3 arg4 harg4 arg5 harg5 arg6 harg6 arg7 harg7 arg8 harg8 arg9 harg9 arg10 harg10 arg11 harg11 arg12 harg12 arg13 harg13 arg14 harg14 v31 v32 X_arg5 X_arg6 X_arg11 k).1 f12 f13 f14)) = mAt x5 q (2 * (k.val + 1))
    ∧ arg13.view.read (Elt F) (arg13.view.writes (Elt F) f13 ((trip_k0_t1 𝒱 c bd i arg3 harg3 arg4 harg4 arg5 harg5 arg6 harg6 arg7 harg7 arg8 harg8 arg9 harg9 arg10 harg10 arg11 harg11 arg12 harg12 arg13 harg13 arg14 harg14 v31 v32 X_arg5 X_arg6 X_arg11 k).2.1 f12 f13 f14)) = aAt x5 x6 q (2 * (k.val + 1))
    ∧ View.ld (Val := Elt F) (arg14.view.read (Elt F) (arg14.view.writes (Elt F) f14 ((trip_k0_t1 𝒱 c bd i arg3 harg3 arg4 harg4 arg5 harg5 arg6 harg6 arg7 harg7 arg8 harg8 arg9 harg9 arg10 harg10 arg11 harg11 arg12 harg12 arg13 harg13 arg14 harg14 v31 v32 X_arg5 X_arg6 X_arg11 k).2.2.1 f12 f13 f14))) R14a
      = sAt x5 q (2 * (k.val + 1)) := by
  have hk : k.val < 8 := Nat.lt_of_lt_of_le k.isLt k0_t1_abs.2.1
  have hK1 : arg5.view.readAt (Elt F) (Rect.unit (s := S1x8192x128) (k0_off1 k) S1x512x128.size (k0_off1_inb k)).toLoadRect X_arg5 = kb x5 (2 * k.val + 1) := by
    rw [View.readAt_eq_ld, hx5]
    exact ld_congr _ (by rw [k0_off1_eq, show 512 * min (2 * k.val + 1) 15 = 1024 * k.val + 512 by omega]) _ _
  have hK2 : arg5.view.readAt (Elt F) (Rect.unit (s := S1x8192x128) (k0_off3 k) S1x512x128.size (k0_off3_inb k)).toLoadRect X_arg5 = kb x5 (2 * (k.val + 1)) := by
    rw [View.readAt_eq_ld, hx5]
    exact ld_congr _ (by rw [k0_off3_eq]; rfl) _ _
  have hV1 : arg6.view.readAt (Elt F) (Rect.unit (s := S1x128x8192) (k0_off2 k) S1x128x512.size (k0_off2_inb k)).toLoadRect X_arg6 = vb x6 (2 * k.val) := by
    rw [View.readAt_eq_ld, hx6]
    exact ld_congr _ (by rw [k0_off2_eq, show 512 * min (2 * k.val) 15 = 1024 * k.val by omega]) _ _
  have hV2 : arg6.view.readAt (Elt F) (Rect.unit (s := S1x128x8192) (k0_off4 k) S1x128x512.size (k0_off4_inb k)).toLoadRect X_arg6 = vb x6 (2 * k.val + 1) := by
    rw [View.readAt_eq_ld, hx6]
    exact ld_congr _ (by rw [k0_off4_eq, show 512 * min (2 * k.val + 1) 15 = 1024 * k.val + 512 by omega]) _ _
  have hQ : arg11.view.readAt (Elt F) R11.toLoadRect X_arg11 = q := by
    rw [View.readAt_eq_ld, hq]; exact View.ld_unit_zero (S := S128x4096) hz2 _ _
  have hM0 : arg12.view.readAt (Elt F) R12.toLoadRect f12 = mAt x5 q (2 * k.val) := by
    rw [View.readAt_eq_ld, h12]; exact View.ld_unit_zero (S := S1x4096) hz2 _ _
  have hA0 : arg13.view.readAt (Elt F) R13.toLoadRect f13 = aAt x5 x6 q (2 * k.val) := by
    rw [View.readAt_eq_ld, h13]; exact View.ld_unit_zero (S := S144x4096) hz2 _ _
  obtain ⟨e12, e13, e14⟩ := trip_pieces 𝒱 c bd i arg3 harg3 arg4 harg4 arg5 harg5 arg6 harg6 arg7 harg7 arg8 harg8 arg9 harg9 arg10 harg10 arg11 harg11 arg12 harg12 arg13 harg13 arg14 harg14 v31 v32 X_arg5 X_arg6 X_arg11 k f12 f13 f14 _ _ _ _ _ hK1 hK2 hV1 hV2 hQ _ h14 _ hM0 _ hA0
  rw [e12, e13, e14]
  have hS1 : arg14.view.readCov [⟨R14a, k0_pay11 (kb x5 (2 * (k.val + 1))) q⟩, ⟨R14b, k0_pay3 (kb x5 (2 * k.val + 1)) q⟩] R14b.toLoadRect
      = sAt x5 q (2 * k.val + 1) := by
    exact readCov_slot _ _ _
  rw [hS1, View.readCov_cons_toLoadRect, View.readCov_cons_toLoadRect]
  refine ⟨?_, ?_, ?_⟩
  · rw [View.read_writes_eq_canon _ _ _ (cov12 _ _), View.canon_cons_unit_zero (S := S1x4096) hz2]
    rfl
  · rw [View.read_writes_eq_canon _ _ _ (cov13 _ _), View.canon_cons_unit_zero (S := S144x4096) hz2]
    rfl
  · funext y
    exact View.read_writes_cons_emb _ _ _ _ _ _

/-- What the scratch buffers hold after `k` trips. -/
theorem loop_spec (𝒱 : Variants) (c : Dev nD) (bd : Option 𝒱.V) (i : grid0.Coords) (arg3 : Memref sig .tc .smem S1 .f32) (harg3 : arg3.IsWhole) (arg4 : Memref sig .tc .vmem S1x2048x128 .bf16) (harg4 : arg4.IsWhole) (arg5 : Memref sig .tc .vmem S1x8192x128 .bf16) (harg5 : arg5.IsWhole) (arg6 : Memref sig .tc .vmem S1x128x8192 .bf16) (harg6 : arg6.IsWhole) (arg7 : Memref sig .tc .vmem S1x256x128 .bf16) (harg7 : arg7.IsWhole) (arg8 : Memref sig .tc .vmem S1x128x256 .bf16) (harg8 : arg8.IsWhole) (arg9 : Memref sig .tc .vmem S1x128 .f32) (harg9 : arg9.IsWhole) (arg10 : Memref sig .tc .vmem S1x2048x128 .bf16) (harg10 : arg10.IsWhole) (arg11 : Memref sig .tc .vmem S128x4096 .bf16) (harg11 : arg11.IsWhole) (arg12 : Memref sig .tc .vmem S1x4096 .f32) (harg12 : arg12.IsWhole) (arg13 : Memref sig .tc .vmem S144x4096 .f32) (harg13 : arg13.IsWhole) (arg14 : Memref sig .tc .vmem S2x512x4096 .f32) (harg14 : arg14.IsWhole) (v31 : FVec F S512x128 .bf16) (v32 : Vec F S128x4096 .bf16) (X_arg5 : BufTy.Contents (Elt F) arg5.view.ty) (X_arg6 : BufTy.Contents (Elt F) arg6.view.ty) (X_arg11 : BufTy.Contents (Elt F) arg11.view.ty)  (G12 : BufTy.Contents (Elt F) arg12.view.ty) (G13 : BufTy.Contents (Elt F) arg13.view.ty) (G14 : BufTy.Contents (Elt F) arg14.view.ty)
    (x5 : Vec F S1x8192x128 .bf16) (x6 : Vec F S1x128x8192 .bf16) (q : Vec F S128x4096 .bf16)
    (hx5 : arg5.view.read (Elt F) X_arg5 = x5) (hx6 : arg6.view.read (Elt F) X_arg6 = x6) (hq : arg11.view.read (Elt F) X_arg11 = q)
    (h12 : arg12.view.read (Elt F) G12 = k0_pay15) (h13 : arg13.view.read (Elt F) G13 = k0_pay16)
    (h14 : View.ld (Val := Elt F) (arg14.view.read (Elt F) G14) R14a = sAt x5 q 0) : ∀ k : ℕ, k ≤ 8 →
    arg12.view.read (Elt F) (arg12.view.writes (Elt F) G12 (pb_k0_t1 𝒱 c bd i arg3 harg3 arg4 harg4 arg5 harg5 arg6 harg6 arg7 harg7 arg8 harg8 arg9 harg9 arg10 harg10 arg11 harg11 arg12 harg12 arg13 harg13 arg14 harg14 v31 v32 X_arg5 X_arg6 X_arg11 G12 G13 G14 k).1) = mAt x5 q (2 * k)
    ∧ arg13.view.read (Elt F) (arg13.view.writes (Elt F) G13 (pb_k0_t1 𝒱 c bd i arg3 harg3 arg4 harg4 arg5 harg5 arg6 harg6 arg7 harg7 arg8 harg8 arg9 harg9 arg10 harg10 arg11 harg11 arg12 harg12 arg13 harg13 arg14 harg14 v31 v32 X_arg5 X_arg6 X_arg11 G12 G13 G14 k).2.1) = aAt x5 x6 q (2 * k)
    ∧ View.ld (Val := Elt F) (arg14.view.read (Elt F) (arg14.view.writes (Elt F) G14 (pb_k0_t1 𝒱 c bd i arg3 harg3 arg4 harg4 arg5 harg5 arg6 harg6 arg7 harg7 arg8 harg8 arg9 harg9 arg10 harg10 arg11 harg11 arg12 harg12 arg13 harg13 arg14 harg14 v31 v32 X_arg5 X_arg6 X_arg11 G12 G13 G14 k).2.2)) R14a
      = sAt x5 q (2 * k)
  | 0, _ => ⟨h12, h13, h14⟩
  | k + 1, hk => by
    have ht : k < k0_t1_loop.trips := Nat.lt_of_lt_of_le (show k < 8 by omega) (by decide)
    obtain ⟨i12, i13, i14⟩ := loop_spec 𝒱 c bd i arg3 harg3 arg4 harg4 arg5 harg5 arg6 harg6 arg7 harg7 arg8 harg8 arg9 harg9 arg10 harg10 arg11 harg11 arg12 harg12 arg13 harg13 arg14 harg14 v31 v32 X_arg5 X_arg6 X_arg11 G12 G13 G14 x5 x6 q hx5 hx6 hq h12 h13 h14 k (by omega)
    rw [pb_k0_t1_succ 𝒱 c bd i arg3 harg3 arg4 harg4 arg5 harg5 arg6 harg6 arg7 harg7 arg8 harg8 arg9 harg9 arg10 harg10 arg11 harg11 arg12 harg12 arg13 harg13 arg14 harg14 v31 v32 X_arg5 X_arg6 X_arg11 G12 G13 G14 ⟨k, ht⟩]
    dsimp only
    rw [View.writes_append, View.writes_append, View.writes_append]
    exact trip_spec 𝒱 c bd i arg3 harg3 arg4 harg4 arg5 harg5 arg6 harg6 arg7 harg7 arg8 harg8 arg9 harg9 arg10 harg10 arg11 harg11 arg12 harg12 arg13 harg13 arg14 harg14 v31 v32 X_arg5 X_arg6 X_arg11 ⟨k, ht⟩ _ _ _ x5 x6 q hx5 hx6 hq i12 i13 i14

end Cert.KernelIdeal.Att

end
-- ==== Proof.PI.Reads.lean ====
/-
  What the loads of the kernel's body read back of what it stored.
-/
module

public import proofs.«01_k».proof.Proof.PI.Trip
public import Idealize.ShloMosaic.Lib.Tactic

@[expose] public section

noncomputable section

namespace Cert.KernelIdeal.Att

open Cert.KernelIdeal Cert.KernelIdeal.Gen
open Idealize.ShloMosaic
open Idealize.ShloMosaic.TcCoe Idealize.ShloMosaic.Tactic
open Idealize.SL.Sem

variable {F : FTy → Type} [FloatOps F] [Named F]

theorem trips_eq : Scf.trips k0_t1_loop.lb k0_t1_loop.ub k0_t1_loop.st = 8 := by decide

theorem read_m {sp : Space} (v : View sig .tc sp S1x4096 .f32) (L L' : List (View.Piece (Elt F) S1x4096 .f32)) :
    v.readCov (Val := Elt F) (L ++ L') R12.toLoadRect = v.read (Elt F) (v.writes (Elt F) (v.writes (Elt F) v.junk L') L) := by
  unfold View.readCov
  rw [View.writes_append, View.readAt_eq_ld]; exact View.ld_unit_zero (S := S1x4096) hz2 _ _

theorem read_a {sp : Space} (v : View sig .tc sp S144x4096 .f32) (L L' : List (View.Piece (Elt F) S144x4096 .f32)) :
    v.readCov (Val := Elt F) (L ++ L') R13.toLoadRect = v.read (Elt F) (v.writes (Elt F) (v.writes (Elt F) v.junk L') L) := by
  unfold View.readCov
  rw [View.writes_append, View.readAt_eq_ld]; exact View.ld_unit_zero (S := S144x4096) hz2 _ _

theorem m_buf {sp : Space} (v : View sig .tc sp S1x4096 .f32) (w : R12.shape.Idx → Elt F .f32) :
    v.read (Elt F) (v.writes (Elt F) v.junk [⟨R12, w⟩]) = w := by
  rw [View.read_writes_junk_eq_canon, View.canon_unit_zero (S := S1x4096) hz2]

theorem a_buf {sp : Space} (v : View sig .tc sp S144x4096 .f32) (w : R13.shape.Idx → Elt F .f32) :
    v.read (Elt F) (v.writes (Elt F) v.junk [⟨R13, w⟩]) = w := by
  rw [View.read_writes_junk_eq_canon, View.canon_unit_zero (S := S144x4096) hz2]

abbrev R4 : Rect S1x2048x128 := Rect.unit (s := S1x2048x128) ![0, 0, 0] S1x2048x128.size inb_S1x2048x128_S1x2048x128_0_0_0

theorem q_buf {sp sp' : Space} (v : View sig .tc sp S128x4096 .bf16) (v4 : View sig .tc sp' S1x2048x128 .bf16) {f : v4.ty.Contents (Elt F)}
    {x4 : Vec F S1x2048x128 .bf16} (h : v4.read (Elt F) f = x4) :
    v.read (Elt F) (v.writes (Elt F) v.junk [⟨R11, k0_pay14 (v4.readAt (Elt F) R4.toLoadRect f)⟩]) = k0_pay14 x4 := by
  rw [View.read_writes_junk_eq_canon, View.canon_unit_zero (S := S128x4096) hz2, View.readAt_eq_ld, h]
  exact congrArg k0_pay14 (View.ld_unit_zero (S := S1x2048x128) hz3 _ _)

theorem q_read {sp sp' : Space} (v : View sig .tc sp S128x4096 .bf16) (v4 : View sig .tc sp' S1x2048x128 .bf16) {f : v4.ty.Contents (Elt F)}
    {x4 : Vec F S1x2048x128 .bf16} (h : v4.read (Elt F) f = x4) :
    v.readCov (Val := Elt F) [⟨R11, k0_pay14 (v4.readAt (Elt F) R4.toLoadRect f)⟩] R11.toLoadRect = k0_pay14 x4 := by
  rw [View.readCov_cons_toLoadRect, View.readAt_eq_ld, h]
  exact congrArg k0_pay14 (View.ld_unit_zero (S := S1x2048x128) hz3 _ _)

theorem s_buf {sp sp' sp4 sp5 : Space} (v : View sig .tc sp S2x512x4096 .f32) (fv : v.ty.Contents (Elt F)) (v11 : View sig .tc sp' S128x4096 .bf16)
    (v4 : View sig .tc sp4 S1x2048x128 .bf16) (v5 : View sig .tc sp5 S1x8192x128 .bf16)
    {f4 : v4.ty.Contents (Elt F)} {x4 : Vec F S1x2048x128 .bf16} (h4 : v4.read (Elt F) f4 = x4)
    {f5 : v5.ty.Contents (Elt F)} {x5 : Vec F S1x8192x128 .bf16} (h5 : v5.read (Elt F) f5 = x5) :
    View.ld (Val := Elt F) (v.read (Elt F) (v.writes (Elt F) fv [⟨R14a, k0_pay18 (k0_pay17 (v5.readAt (Elt F)
        (Rect.unit (s := S1x8192x128) ![0, 0, 0] S1x512x128.size inb_S1x8192x128_S1x512x128_0_0_0).toLoadRect f5))
        (v11.readCov (Val := Elt F) [⟨R11, k0_pay14 (v4.readAt (Elt F) R4.toLoadRect f4)⟩] R11.toLoadRect)⟩])) R14a
      = sAt x5 (k0_pay14 x4) 0 := by
  rw [q_read _ _ h4, View.readAt_eq_ld, h5]
  funext y
  exact View.read_writes_cons_emb _ _ _ _ _ _

instance : Subsingleton S1.Idx := ⟨fun x y => funext fun a => Fin.ext (by
  have h := (x a).isLt; have h' := (y a).isLt
  fin_cases a
  change (x 0).val < 1 at h
  change (y 0).val < 1 at h'
  show (x 0).val = (y 0).val
  omega)⟩

end Cert.KernelIdeal.Att

end
-- ==== Proof.PI.Body.lean ====
/-
  The kernel's body on any staging memrefs: from the seven input blocks and any contents of the result's block and of
  the four scratch buffers it runs to the end, leaving the inputs as they were and the result's block at `Att.out` of them.
-/
module

public import proofs.«01_k».proof.Proof.PI.State
public import proofs.«01_k».proof.Proof.PI.Reads
public import Idealize.ShloMosaic.Lib.Tactic

@[expose] public section

noncomputable section

namespace Cert.KernelIdeal.Att

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

abbrev 𝒱₀ : Variants := Variants.none

theorem cov10 (w : S1x2048x128.Idx → Elt F .bf16) (L : List (View.Piece (Elt F) S1x2048x128 .bf16)) :
    ∀ y, ∃ p ∈ (⟨Rect.unit (s := S1x2048x128) ![0, 0, 0] S1x2048x128.size inb_S1x2048x128_S1x2048x128_0_0_0, w⟩ :: L : List (View.Piece (Elt F) S1x2048x128 .bf16)), y ∈ p.1.set := fun y =>
  ⟨_, List.mem_cons_self, by
    rw [Rect.mem_set_unit]
    intro a
    have h := (y a).isLt
    fin_cases a
    · exact ⟨Nat.zero_le _, lt_of_lt_of_eq h (Nat.zero_add _).symm⟩
    · exact ⟨Nat.zero_le _, lt_of_lt_of_eq h (Nat.zero_add _).symm⟩
    · exact ⟨Nat.zero_le _, lt_of_lt_of_eq h (Nat.zero_add _).symm⟩⟩

set_option maxHeartbeats 8000000 in
theorem kernelRun (c : Dev nD) (i : grid0.Coords) (arg3 : Memref sig .tc .smem S1 .f32) (h3 : arg3.IsWhole)
    (arg4 : Memref sig .tc .vmem S1x2048x128 .bf16) (h4 : arg4.IsWhole) (arg5 : Memref sig .tc .vmem S1x8192x128 .bf16) (h5 : arg5.IsWhole)
    (arg6 : Memref sig .tc .vmem S1x128x8192 .bf16) (h6 : arg6.IsWhole) (arg7 : Memref sig .tc .vmem S1x256x128 .bf16) (h7 : arg7.IsWhole)
    (arg8 : Memref sig .tc .vmem S1x128x256 .bf16) (h8 : arg8.IsWhole) (arg9 : Memref sig .tc .vmem S1x128 .f32) (h9 : arg9.IsWhole)
    (arg10 : Memref sig .tc .vmem S1x2048x128 .bf16) (h10 : arg10.IsWhole) (arg11 : Memref sig .tc .vmem S128x4096 .bf16) (h11 : arg11.IsWhole)
    (arg12 : Memref sig .tc .vmem S1x4096 .f32) (h12 : arg12.IsWhole) (arg13 : Memref sig .tc .vmem S144x4096 .f32) (h13 : arg13.IsWhole)
    (arg14 : Memref sig .tc .vmem S2x512x4096 .f32) (h14 : arg14.IsWhole)
    (x3 : Vec F S1 .f32) (x4 : Vec F S1x2048x128 .bf16) (x5 : Vec F S1x8192x128 .bf16) (x6 : Vec F S1x128x8192 .bf16)
    (x7 : Vec F S1x256x128 .bf16) (x8 : Vec F S1x128x256 .bf16) (x9 : Vec F S1x128 .f32) (E : Set ℕ) (K : PUnit → sProp 𝕄) :
    iprop(owns (c : Thread nD τ) arg3 fullShare x3 ∗ owns (c : Thread nD τ) arg4 fullShare x4 ∗ owns (c : Thread nD τ) arg5 fullShare x5
        ∗ owns (c : Thread nD τ) arg6 fullShare x6 ∗ owns (c : Thread nD τ) arg7 fullShare x7 ∗ owns (c : Thread nD τ) arg8 fullShare x8
        ∗ owns (c : Thread nD τ) arg9 fullShare x9 ∗ (∃ d, owns (c : Thread nD τ) arg10 fullShare d)
        ∗ (∃ d, owns (c : Thread nD τ) arg11 fullShare d) ∗ (∃ d, owns (c : Thread nD τ) arg12 fullShare d)
        ∗ (∃ d, owns (c : Thread nD τ) arg13 fullShare d) ∗ (∃ d, owns (c : Thread nD τ) arg14 fullShare d)
        ∗ (iprop(owns (c : Thread nD τ) arg3 fullShare x3 ∗ owns (c : Thread nD τ) arg4 fullShare x4 ∗ owns (c : Thread nD τ) arg5 fullShare x5
        ∗ owns (c : Thread nD τ) arg6 fullShare x6 ∗ owns (c : Thread nD τ) arg7 fullShare x7 ∗ owns (c : Thread nD τ) arg8 fullShare x8
        ∗ owns (c : Thread nD τ) arg9 fullShare x9 ∗ owns (c : Thread nD τ) arg10 fullShare (out x3 x4 x5 x6 x7 x8 x9)
        ∗ (∃ d, owns (c : Thread nD τ) arg11 fullShare d) ∗ (∃ d, owns (c : Thread nD τ) arg12 fullShare d)
        ∗ (∃ d, owns (c : Thread nD τ) arg13 fullShare d) ∗ (∃ d, owns (c : Thread nD τ) arg14 fullShare d)) -∗ K ⟨⟩))
      ⊢ wp frame (wpE (defs₀ (F := F)) 𝒱₀ c none) E
          (cc0__attn_lat_kernel i arg3 h3 arg4 h4 arg5 h5 arg6 h6 arg7 h7 arg8 h8 arg9 h9 arg10 h10 arg11 h11 arg12 h12 arg13 h13 arg14 h14) K := by
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, Hk⟩
  obtain rfl := h3.eq_unread hf3; obtain rfl := h4.eq_unread hf4; obtain rfl := h5.eq_unread hf5; obtain rfl := h6.eq_unread hf6
  obtain rfl := h7.eq_unread hf7; obtain rfl := h8.eq_unread hf8; obtain rfl := h9.eq_unread hf9
  simp only [cc0__attn_lat_kernel_eq_skeleton]
  unfold cc0__attn_lat_kernel_skel
  simp only [k0_part3_eq_skeleton, k0_part4_eq_skeleton]
  sl_exec
  sl_step
  iapply Hk
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr; · ipureintro; exact h6.read_unread _
    iexact H6
  isplitl [H7]
  · iexists _; isplitr; · ipureintro; exact h7.read_unread _
    iexact H7
  isplitl [H8]
  · iexists _; isplitr; · ipureintro; exact h8.read_unread _
    iexact H8
  isplitl [H9]
  · iexists _; isplitr; · ipureintro; exact h9.read_unread _
    iexact H9
  isplitl [H10]
  · iexists _; isplitr; swap; · iexact H10
    ipureintro
    rw [View.read_writes_eq_canon _ _ _ (cov10 _ _), View.canon_cons_unit_zero (S := S1x2048x128) hz3]
    unfold out
    congr 1
    · sl_unfold_words
      rw [View.readCov_cons_toLoadRect]
      unfold aEnd
      congr 1
      · rw [View.readAt_eq_ld, hf7]; exact View.ld_unit_zero (S := S1x256x128) hz3 _ _
      · exact q_read _ _ hf4
      · rw [View.readAt_eq_ld, hf8]; exact View.ld_unit_zero (S := S1x128x256) hz3 _ _
      · rw [read_m, trips_eq]
        refine And.left (loop_spec _ _ _ _ _ _ _ _ _ _ _ _ _ _ _ _ _ _ _ _ _ _ _ _ _ _ _ _ _ _ _ _ _ _ _ _ x5 x6 (k0_pay14 x4) hf5 hf6 ?_ ?_ ?_ ?_ 8 le_rfl)
        · exact q_buf arg11.view arg4.view hf4
        · exact m_buf arg12.view _
        · exact a_buf arg13.view _
        · exact s_buf arg14.view f14 arg11.view arg4.view arg5.view hf4 hf5
      · rw [read_a, trips_eq]
        refine And.left (And.right (loop_spec _ _ _ _ _ _ _ _ _ _ _ _ _ _ _ _ _ _ _ _ _ _ _ _ _ _ _ _ _ _ _ _ _ _ _ _ x5 x6 (k0_pay14 x4) hf5 hf6 ?_ ?_ ?_ ?_ 8 le_rfl))
        · exact q_buf arg11.view arg4.view hf4
        · exact m_buf arg12.view _
        · exact a_buf arg13.view _
        · exact s_buf arg14.view f14 arg11.view arg4.view arg5.view hf4 hf5
    · sl_unfold_words
      rw [View.readAt_eq_ld, hf3]
      exact congrArg x3 (Subsingleton.elim _ _)
    · rw [View.readAt_eq_ld, hf9]; exact View.ld_unit_zero (S := S1x128) hz2 _ _
  isplitl [H11]
  · iexists _; iexists _; isplitr; swap; · iexact H11
    ipureintro; rfl
  isplitl [H12]
  · iexists _; iexists _; isplitr; swap; · iexact H12
    ipureintro; rfl
  isplitl [H13]
  · iexists _; iexists _; isplitr; swap; · iexact H13
    ipureintro; rfl
  iexists _; iexists _; isplitr; swap; · iexact H14
  ipureintro; rfl

end Cert.KernelIdeal.Att

end
-- ==== Proof.PI.Frame.lean ====
/-
  The program's run: the pipeline's proof data (each input's staging buffer at its block, the result's at `Att.out` of the
  blocks, the scratch at any contents), the body's obligation at every grid point, the run and the arguments unchanged.
-/
module

public import proofs.«01_k».proof.Proof.PI.Body
public import Idealize.ShloMosaic.PureOps.BitExact

@[expose] public section

noncomputable section

namespace Cert.KernelIdeal.Att

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The block the body leaves at grid point `t`: `Att.out` of the point's input blocks. -/
def outsAt (c : Dev nD) (t : Fin cfg0.N) : Vec F S1x2048x128 .bf16 :=
  out (iblk m c 0 t) (iblk m c 1 t) (iblk m c 2 t) (iblk m c 3 t) (iblk m c 4 t) (iblk m c 5 t) (iblk m c 6 t)

/-- The pipeline's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outsAt m c t
  Φ _ := Pipeline.ΦA spec0 c
  q _ := fullShare
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = outsAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- The scratch buffers at any contents, as whole memrefs, beside the generator register. -/
theorem phi_eq (c : Dev nD) : (ΦA spec0 c : sProp 𝕄)
    = iprop(((∃ d, owns (c : Thread nD τ) (Memref.whole cc0_scratch0) fullShare d) ∗ (∃ d, owns (c : Thread nD τ) (Memref.whole cc0_scratch1) fullShare d)
        ∗ (∃ d, owns (c : Thread nD τ) (Memref.whole cc0_scratch2) fullShare d) ∗ (∃ d, owns (c : Thread nD τ) (Memref.whole cc0_scratch3) fullShare d))
      ∗ ∃ r, prngReg c r) := by
  unfold ΦA
  rw [scopedRest0_eq]
  simp only [owns_whole]

/-- At every grid point the body takes the staging buffers from the blocks fetched to the blocks to be written back. -/
theorem body_obligation (c : Dev nD) : BodyObligation (dats (F := F) m 0 c) (defs₀ (F := F)) 𝒱₀ () Set.univ := fun t => by
  rw [bigSep_W0, bigSep_W0]
  sl_whnfR [defs₀, Defs.onTc]
  simp only [before0_0, before0_1, before0_2, before0_3, before0_4, before0_5, before0_6]
  rw [show (dats m 0 c).Φ t.succ = (ΦA spec0 c : sProp 𝕄) from rfl, show (dats m 0 c).Φ t.castSucc = (ΦA spec0 c : sProp 𝕄) from rfl,
    show (dats m 0 c).owesAt () t.succ = (dats m 0 c).owesAt () t.castSucc from rfl, after0_0, after0_1, after0_2, after0_3, after0_4,
    after0_5, after0_6, after0_7, phi_eq]
  unfold outsAt
  iintro ⟨⟨⟨HS0, HS1, HS2, HS3⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (kernelRun c _ _ _ _ _ _ _ _ _ _ _ _ _ _ _ _ _ _ _ _ _ _ _ _ _ (iblk m c 0 t) (iblk m c 1 t) (iblk m c 2 t) (iblk m c 3 t)
    (iblk m c 4 t) (iblk m c 5 t) (iblk m c 6 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HS0]; · iexact HS0
  isplitl [HS1]; · iexact HS1
  isplitl [HS2]; · iexact HS2
  isplitl [HS3]; · iexact HS3
  iintro ⟨H0, H1, H2, H3, H4, H5, H6, H7, HS0, HS1, HS2, HS3⟩
  isplitl [HS0 HS1 HS2 HS3 HR]
  · isplitl [HS0 HS1 HS2 HS3]
    · isplitl [HS0]; · iexact HS0
      isplitl [HS1]; · iexact HS1
      isplitl [HS2]; · iexact HS2
      iexact HS3
    iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

-- the library lemma's implicit arguments are found by unifying its conclusion with this one, which takes unfolding plain
-- definitions in a metavariable's type
set_option backward.isDefEq.respectTransparency.types false in
/-- Every run ends, with every array of the pipeline at what the proof data says and every semaphore at zero. -/
theorem run_main : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ 𝒱₀ m ρ main
    (hbody := fun c => (body_obligation m c).loose) (hshare := fun c => (dats m 0 c).share_full fun _ => rfl)
    (howed := fun _ _ => rfl) (V := V m) (hmain := hmain m 𝒱₀) (hA := fun _ _ => rfl) (hΦ := fun _ _ => rfl)

/-- Every run ends with the arguments unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_with_sems (frame_of m ρ (dats m) fun _ _ => rfl) (run_main m ρ)

end Cert.KernelIdeal.Att

end
-- ==== Proof.RI.Run.lean ====
/-
  The reference's run: it ends with the arguments unchanged and every semaphore at zero.
-/
module

public import proofs.«01_k».proof.Proof.Gen.ReferenceIdeal.Run
public import Idealize.ShloMosaic.Lib.Quiescent

@[expose] public section

noncomputable section

namespace Cert.ReferenceIdeal.Ref

open Cert.ReferenceIdeal Cert.ReferenceIdeal.Gen
open Idealize.ShloMosaic Idealize.ShloMosaic.TcCoe Idealize.SL.Sem

variable {F : FTy → Type} [FloatOps F]

/-- Every run of the reference ends with the arguments unchanged and every semaphore at zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => (h c).2, Idealize.ShloMosaic.sem_eq_zero_of_no_sems (by decide) r.2⟩) (Value.run m ρ)

end Cert.ReferenceIdeal.Ref

end
-- ==== Proof.Math.Soft.lean ====
/-
  The mathematics of the streamed softmax, over the reals inside the extended reals: one step of the running maximum and of the
  rescaled sums, and the quotient that no longer depends on the maximum.
-/
module

public import Idealize.ShloMosaic.PureOps.Ideal
public import Idealize.ShloMosaic.Lib.Pointwise

@[expose] public section

noncomputable section

namespace Cert.Soft

open Idealize.ShloMosaic

/-- A finite sum of reals is the same sum taken in the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum of products of reals. -/
theorem coe_sum_mul {ι : Type*} (s : Finset ι) (f g : ι → ℝ) :
    (∑ i ∈ s, (f i : EReal) * (g i : EReal)) = ((∑ i ∈ s, f i * g i : ℝ) : EReal) := by
  rw [coe_sum]; exact Finset.sum_congr rfl fun i _ => (EReal.coe_mul _ _).symm

theorem ofBits_neg_inf : Ideal.ofBits .f32 0xFF800000#32 = ⊥ := by simp [Ideal.ofBits, Ideal.ieee]

/-- The running maximum's first value is a real. -/
theorem ofBits_first : ∃ M : ℝ, Ideal.ofBits .f32 0xF149F2CA#32 = (M : EReal) :=
  ⟨_, by simp [Ideal.ofBits, Ideal.ieee, -EReal.coe_mul]; rfl⟩

theorem exp2_coe (r : ℝ) : Ideal.exp2 (r : EReal) = (((2 : ℝ) ^ r : ℝ) : EReal) := rfl

theorem exp_coe (r : ℝ) : Ideal.exp (r : EReal) = ((Real.exp r : ℝ) : EReal) := rfl

/-- The quotient of two reals, the divisor not zero. -/
theorem div_coe_coe (x y : ℝ) (h : y ≠ 0) : Ideal.div (x : EReal) (y : EReal) = ((x / y : ℝ) : EReal) := by
  rw [Ideal.div_coe h, ← EReal.coe_mul, mul_one_div]

/-- The maximum of finitely many reals, at least one, is a real. -/
theorem fold_max_real {n : ℕ} (hn : 0 < n) (f : Fin n → ℝ) :
    ∃ M : ℝ, Finset.univ.fold max (⊥ : EReal) (fun k => (f k : EReal)) = (M : EReal) := by
  haveI : Nonempty (Fin n) := ⟨⟨0, hn⟩⟩
  obtain ⟨k, -, hk⟩ := Finset.exists_mem_eq_sup (Finset.univ : Finset (Fin n)) Finset.univ_nonempty (fun k => (f k : EReal))
  exact ⟨f k, hk⟩

/-- The maximum of a real and of finitely many reals is a real. -/
theorem max_fold_real {n : ℕ} (hn : 0 < n) (m : ℝ) (f : Fin n → ℝ) :
    ∃ M : ℝ, max (m : EReal) (Finset.univ.fold max (⊥ : EReal) (fun k => (f k : EReal))) = (M : EReal) := by
  obtain ⟨M, h⟩ := fold_max_real hn f
  rw [h]
  exact ⟨max m M, by rcases le_total m M with h | h <;> simp [h]⟩

/-- One step: the sum `W · 2^(-M)` of the keys seen, rescaled to the new maximum, plus the new keys' terms. -/
theorem step {n : ℕ} (M M' W : ℝ) (s v : Fin n → ℝ) :
    Ideal.exp2 ((M : EReal) - (M' : EReal)) * ((W * (2 : ℝ) ^ (-M) : ℝ) : EReal)
        + ∑ k, (v k : EReal) * Ideal.exp2 ((s k : EReal) - (M' : EReal))
      = (((W + ∑ k, v k * (2 : ℝ) ^ s k) * (2 : ℝ) ^ (-M') : ℝ) : EReal) := by
  simp only [← EReal.coe_sub, exp2_coe, ← EReal.coe_mul, ← coe_sum, ← EReal.coe_add]
  congr 1
  have h2 : (0 : ℝ) < 2 := by norm_num
  rw [add_mul, Finset.sum_mul]
  congr 1
  · rw [mul_left_comm, ← Real.rpow_add h2]; congr 2; ring
  · refine Finset.sum_congr rfl fun k _ => ?_
    rw [mul_assoc, ← Real.rpow_add h2]; rfl

/-- The quotient of two rescaled sums is the quotient of the sums. -/
theorem quot (M W Z : ℝ) (hZ : Z ≠ 0) :
    Ideal.div ((W * (2 : ℝ) ^ (-M) : ℝ) : EReal) ((Z * (2 : ℝ) ^ (-M) : ℝ) : EReal) = ((W / Z : ℝ) : EReal) := by
  have h : (2 : ℝ) ^ (-M) ≠ 0 := (Real.rpow_pos_of_pos (by norm_num) _).ne'
  rw [div_coe_coe _ _ (mul_ne_zero hZ h), mul_div_mul_right _ _ h]

/-- A power of two at a multiple of `1 / log 2` is an exponential. -/
theorem two_rpow (x : ℝ) : (2 : ℝ) ^ (x * (1 / 8 * (Real.log 2)⁻¹)) = Real.exp (x * (1 / 8)) := by
  rw [Real.rpow_def_of_pos (by norm_num)]
  congr 1
  have h : Real.log 2 ≠ 0 := (Real.log_pos (by norm_num)).ne'
  field_simp

/-! ## What one query's head is -/

/-- The score of a query and a key in map `m` of a head: the product over the map's 64 coordinates, over eight. -/
def scr (Q K : Fin 128 → ℝ) (m : Fin 2) : ℝ :=
  (∑ d : Fin 64, Q ⟨64 * m.val + d.val, by omega⟩ * K ⟨64 * m.val + d.val, by omega⟩) * (1 / 8)

/-- The weighted sum of the values `v` (latent) and `vc` (context), each weighted by the exponential of its key's score. -/
def wsum (Q : Fin 128 → ℝ) (K : Fin 8192 → Fin 128 → ℝ) (KC : Fin 256 → Fin 128 → ℝ) (v : Fin 8192 → ℝ) (vc : Fin 256 → ℝ) (m : Fin 2) : ℝ :=
  (∑ k, v k * Real.exp (scr Q (K k) m)) + ∑ k, vc k * Real.exp (scr Q (KC k) m)

/-- The softmax's denominator. -/
def den (Q : Fin 128 → ℝ) (K : Fin 8192 → Fin 128 → ℝ) (KC : Fin 256 → Fin 128 → ℝ) (m : Fin 2) : ℝ :=
  wsum Q K KC (fun _ => 1) (fun _ => 1) m

theorem den_pos (Q : Fin 128 → ℝ) (K : Fin 8192 → Fin 128 → ℝ) (KC : Fin 256 → Fin 128 → ℝ) (m : Fin 2) : 0 < den Q K KC m := by
  unfold den wsum
  simp only [one_mul]
  exact add_pos (Finset.sum_pos (fun _ _ => Real.exp_pos _) ⟨⟨0, by norm_num⟩, Finset.mem_univ _⟩)
    (Finset.sum_pos (fun _ _ => Real.exp_pos _) ⟨⟨0, by norm_num⟩, Finset.mem_univ _⟩)

/-- The differential attention of one query at one value coordinate. -/
def att (L : ℝ) (Q : Fin 128 → ℝ) (K : Fin 8192 → Fin 128 → ℝ) (KC : Fin 256 → Fin 128 → ℝ) (v : Fin 8192 → ℝ) (vc : Fin 256 → ℝ) : ℝ :=
  wsum Q K KC v vc 0 / den Q K KC 0 - L * (wsum Q K KC v vc 1 / den Q K KC 1)

/-- The head's RMS norm at coordinate `e`, before the weights. -/
def nrm (o : Fin 128 → EReal) (e : Fin 128) : EReal :=
  o e * Ideal.rsqrt (Ideal.div (∑ x, o x * o x) (Ideal.ofBits .f32 0x43000000#32) + Ideal.ofBits .f32 0x358637BD#32)

end Cert.Soft

end
-- ==== Proof.Finite.lean ====
/-
  What the precondition says of the arguments: every element of each array it names is a real number.
-/
module

public import proofs.«01_k».proof.Defs
public import proofs.«01_k».proof.Proof.Gen.Pre_finite
public import proofs.«01_k».proof.Proof.Math.Soft

@[expose] public section

noncomputable section

namespace Cert.Finite

open Idealize.ShloMosaic Idealize.ShloMosaic.TcCoe Cert.Pre_finite

/-- An extended real whose absolute value is below infinity is a real. -/
theorem real_of (x : EReal) (h : Ideal.cmp .olt (max x (-x)) (Ideal.ofBits .f32 0x7F800000#32) = 1#1) : x = ((x.toReal : ℝ) : EReal) := by
  have ht : Ideal.ofBits .f32 0x7F800000#32 = ⊤ := by simp [Ideal.ofBits, Ideal.ieee]
  rw [ht] at h
  induction x using EReal.rec with
  | bot => simp [Ideal.cmp] at h
  | coe r => rw [EReal.toReal_coe]
  | top => simp [Ideal.cmp] at h

variable (x0 x1 : FVec Ideal S4x8192x1024 .bf16) (x2 : FVec Ideal S4x1024x8192 .bf16) (x3 : FVec Ideal S4x256x10240 .bf16) (x4 : FVec Ideal S4x64 .f32) (x5 : FVec Ideal S128 .f32) (x6 : FVec Ideal S1 .f32)

theorem fin0 (h : (fn (F := Ideal) x0 x1 x2 x3 x4 x5 x6).1 = fun _ => 1#1) (i : S4x8192x1024.Idx) : x0 i = (((x0 i).toReal : ℝ) : EReal) :=
  real_of (x0 i) (congrFun h i)
theorem fin1 (h : (fn (F := Ideal) x0 x1 x2 x3 x4 x5 x6).2.1 = fun _ => 1#1) (i : S4x8192x1024.Idx) : x1 i = (((x1 i).toReal : ℝ) : EReal) :=
  real_of (x1 i) (congrFun h i)
theorem fin2 (h : (fn (F := Ideal) x0 x1 x2 x3 x4 x5 x6).2.2.1 = fun _ => 1#1) (i : S4x1024x8192.Idx) : x2 i = (((x2 i).toReal : ℝ) : EReal) :=
  real_of (x2 i) (congrFun h i)
theorem fin3 (h : (fn (F := Ideal) x0 x1 x2 x3 x4 x5 x6).2.2.2.1 = fun _ => 1#1) (i : S4x256x10240.Idx) : x3 i = (((x3 i).toReal : ℝ) : EReal) :=
  real_of (x3 i) (congrFun h i)
theorem fin4 (h : (fn (F := Ideal) x0 x1 x2 x3 x4 x5 x6).2.2.2.2.1 = fun _ => 1#1) (i : S4x64.Idx) : x4 i = (((x4 i).toReal : ℝ) : EReal) :=
  real_of (x4 i) (congrFun h i)
theorem fin6 (h : (fn (F := Ideal) x0 x1 x2 x3 x4 x5 x6).2.2.2.2.2 = fun _ => 1#1) (i : S1.Idx) : x6 i = (((x6 i).toReal : ℝ) : EReal) :=
  real_of (x6 i) (congrFun h i)

end Cert.Finite

end
-- ==== Proof.PI.Cells.lean ====
/-
  What each value of the body holds at an index, over the extended reals.
-/
module

public import proofs.«01_k».proof.Proof.PI.State
public import proofs.«01_k».proof.Proof.Math.Soft
public import Idealize.ShloMosaic.Lib.Pointwise

@[expose] public section

noncomputable section

namespace Cert.KernelIdeal.Att

open Cert.KernelIdeal Cert.KernelIdeal.Gen
open Idealize.ShloMosaic Idealize.ShloMosaic.TcCoe
open Idealize.ShloMosaic.Pointwise

/-- The scores of a block of 512 latent keys. -/
theorem pay3_cell (kk : Vec Ideal S1x512x128 .bf16) (q : Vec Ideal S128x4096 .bf16) (k : Fin 512) (c : Fin 4096) :
    k0_pay3 kk q (ix3 0 k c) = ∑ d : Fin 128, kk (ix3 0 k d) * q (ix2 d c) := by
  pointwise [k0_pay3]

/-- The scores of the context's keys. -/
theorem pay22_cell (kk : Vec Ideal S1x256x128 .bf16) (q : Vec Ideal S128x4096 .bf16) (k : Fin 256) (c : Fin 4096) :
    k0_pay22 kk q (ix2 k c) = ∑ d : Fin 128, kk (ix3 0 k d) * q (ix2 d c) := by
  pointwise [k0_pay22]

/-- The new maximum of a column. -/
theorem pay6_cell (s : Vec Ideal S1x512x4096 .f32) (m : Vec Ideal S1x4096 .f32) (c : Fin 4096) :
    k0_pay6 s m (ix2 0 c) = max (m (ix2 0 c)) (Finset.univ.fold max ⊥ fun k : Fin 512 => s (ix3 0 k c)) := by
  pointwise [k0_pay6, k0_pay4]
  rw [Soft.ofBits_neg_inf]

/-- The new maximum is stored as it is. -/
theorem pay10_cell (m : FVec Ideal S1x4096 .f32) (c : Fin 4096) : k0_pay10 m (ix2 0 c) = m (ix2 0 c) := by
  pointwise [k0_pay10]

/-- The exponentials of a block's scores. -/
theorem pay7_cell (s : Vec Ideal S1x512x4096 .f32) (m : Vec Ideal S1x4096 .f32) (k : Fin 512) (c : Fin 4096) :
    k0_pay7 s m (ix2 k c) = Ideal.exp2 (s (ix3 0 k c) - k0_pay6 s m (ix2 0 c)) := by
  pointwise [k0_pay7, k0_pay4]
  rfl

/-- The accumulator rescaled to the new maximum. -/
theorem pay8_cell (s : Vec Ideal S1x512x4096 .f32) (m : Vec Ideal S1x4096 .f32) (a : Vec Ideal S144x4096 .f32) (e : Fin 144) (c : Fin 4096) :
    k0_pay8 s m a (ix2 e c) = Ideal.exp2 (m (ix2 0 c) - k0_pay6 s m (ix2 0 c)) * a (ix2 e c) := by
  pointwise [k0_pay8]
  rfl

/-- The accumulator with a block's weighted values added. -/
theorem pay9_cell (v : FVec Ideal S144x512 .bf16) (p : FVec Ideal S512x4096 .bf16) (a : FVec Ideal S144x4096 .f32) (e : Fin 144) (c : Fin 4096) :
    k0_pay9 v p a (constant S144x4096 .f32 0x00000000#32) (ix2 e c) = a (ix2 e c) + ∑ k : Fin 512, v (ix2 e k) * p (ix2 k c) := by
  pointwise [k0_pay9]

/-- A block of values with sixteen rows of ones below it. -/
theorem pay5_cell (v : Vec Ideal S1x128x512 .bf16) (e : Fin 144) (k : Fin 512) :
    k0_pay5 v (ix2 e k) = if h : e.val < 128 then v (ix3 0 ⟨e.val, h⟩ k) else 1 := by
  pointwise [k0_pay5]

end Cert.KernelIdeal.Att

end
-- ==== Proof.PI.Context.lean ====
/-
  The context keys' update at an index, over the extended reals.
-/
module

public import proofs.«01_k».proof.Proof.PI.State
public import proofs.«01_k».proof.Proof.Math.Soft
public import Idealize.ShloMosaic.Lib.Pointwise

@[expose] public section

noncomputable section

namespace Cert.KernelIdeal.Att

open Cert.KernelIdeal Cert.KernelIdeal.Gen
open Idealize.ShloMosaic Idealize.ShloMosaic.TcCoe
open Idealize.ShloMosaic.Pointwise

/-- The maximum after the context's keys. -/
theorem pay23_cell (kc : Vec Ideal S1x256x128 .bf16) (q : Vec Ideal S128x4096 .bf16) (m : Vec Ideal S1x4096 .f32)
    (c : Fin 4096) :
    k0_pay23 kc q m (ix2 0 c) = max (m (ix2 0 c)) (Finset.univ.fold max ⊥ fun k : Fin 256 => k0_pay22 kc q (ix2 k c)) := by
  pointwise [k0_pay23]
  rw [Soft.ofBits_neg_inf]

/-- The accumulator after the context's keys. -/
theorem pay24_cell (kc : Vec Ideal S1x256x128 .bf16) (q : Vec Ideal S128x4096 .bf16) (vc : Vec Ideal S1x128x256 .bf16) (m : Vec Ideal S1x4096 .f32)
    (a : Vec Ideal S144x4096 .f32) (e : Fin 144) (c : Fin 4096) :
    k0_pay24 kc q vc m a (ix2 e c) = Ideal.exp2 (m (ix2 0 c) - k0_pay23 kc q m (ix2 0 c)) * a (ix2 e c)
      + ∑ k : Fin 256, (if h : e.val < 128 then vc (ix3 0 ⟨e.val, h⟩ k) else 1)
          * Ideal.exp2 (k0_pay22 kc q (ix2 k c) - k0_pay23 kc q m (ix2 0 c)) := by
  pointwise [k0_pay24]
  rfl

end Cert.KernelIdeal.Att

end
-- ==== Proof.PI.Fold.lean ====
/-
  The streamed softmax of one column (a query and one of its two maps), block by block, when queries, keys and values are reals:
  the running maximum is a real `M`, and the accumulator's row `e` is the sum of `v e k · 2^(score k)` over the keys seen, times
  `2^(-M)`. Row 128 is a row of ones, so it is the denominator.
-/
module

public import proofs.«01_k».proof.Proof.PI.Cells
public import proofs.«01_k».proof.Proof.PI.Context

@[expose] public section

noncomputable section

namespace Cert.KernelIdeal.Att

open Cert.KernelIdeal Cert.KernelIdeal.Gen
open Idealize.ShloMosaic Idealize.ShloMosaic.TcCoe
open Idealize.ShloMosaic.Pointwise

/-- The score of key coordinates `K` against the stacked query column `q`. -/
def colScr (K q : Fin 128 → ℝ) : ℝ := ∑ d, K d * q d

/-- The value row `e` with ones from row 128 on. -/
def ext {n : ℕ} (V : Fin 128 → Fin n → ℝ) (e : Fin 144) (k : Fin n) : ℝ := if h : e.val < 128 then V ⟨e.val, h⟩ k else 1

/-- The `k`-th latent key's term in row `e` (zero past the last key). -/
def term (K : Fin 8192 → Fin 128 → ℝ) (V : Fin 128 → Fin 8192 → ℝ) (q : Fin 128 → ℝ) (e : Fin 144) (k : ℕ) : ℝ :=
  if h : k < 8192 then ext V e ⟨k, h⟩ * (2 : ℝ) ^ colScr (K ⟨k, h⟩) q else 0

/-- The terms of all sixteen blocks are the terms of all the latent keys. -/
theorem sum_term (K : Fin 8192 → Fin 128 → ℝ) (V : Fin 128 → Fin 8192 → ℝ) (q : Fin 128 → ℝ) (e : Fin 144) :
    ∑ k ∈ Finset.range (512 * 16), term K V q e k = ∑ k, ext V e k * (2 : ℝ) ^ colScr (K k) q := by
  have h : 512 * 16 = 8192 := by norm_num
  rw [h, Finset.sum_range]
  refine Finset.sum_congr rfl fun k _ => ?_
  unfold term
  rw [dif_pos k.isLt]

variable (xk : Vec Ideal S1x8192x128 .bf16) (xv : Vec Ideal S1x128x8192 .bf16) (q : Vec Ideal S128x4096 .bf16)
  (K : Fin 8192 → Fin 128 → ℝ) (V : Fin 128 → Fin 8192 → ℝ) (qc : Fin 128 → ℝ) (c : Fin 4096)

theorem kb_cell (j : ℕ) (hj : j < 16) (k : Fin 512) (d : Fin 128) :
    kb xk j (ix3 0 k d) = xk (ix3 0 ⟨512 * j + k.val, by omega⟩ d) := by
  unfold kb
  refine congrArg xk (funext fun a => Fin.ext ?_)
  have h : min j 15 = j := by omega
  match a with
  | ⟨0, _⟩ => show 0 + 1 * 0 = 0; rfl
  | ⟨1, _⟩ => show 512 * min j 15 + 1 * k.val = 512 * j + k.val; omega
  | ⟨2, _⟩ => show 0 + 1 * d.val = d.val; omega

theorem vb_cell (j : ℕ) (hj : j < 16) (e : Fin 128) (k : Fin 512) :
    vb xv j (ix3 0 e k) = xv (ix3 0 e ⟨512 * j + k.val, by omega⟩) := by
  unfold vb
  refine congrArg xv (funext fun a => Fin.ext ?_)
  have h : min j 15 = j := by omega
  match a with
  | ⟨0, _⟩ => show 0 + 1 * 0 = 0; rfl
  | ⟨1, _⟩ => show 0 + 1 * e.val = e.val; omega
  | ⟨2, _⟩ => show 512 * min j 15 + 1 * k.val = 512 * j + k.val; omega

variable (hK : ∀ k d, xk (ix3 0 k d) = (K k d : EReal)) (hV : ∀ e k, xv (ix3 0 e k) = (V e k : EReal))
  (hq : ∀ d, q (ix2 d c) = (qc d : EReal))

include hK hq in
/-- A block's scores are reals. -/
theorem sAt_cell (j : ℕ) (hj : j < 16) (k : Fin 512) :
    sAt xk q j (ix3 0 k c) = ((colScr (K ⟨512 * j + k.val, by omega⟩) qc : ℝ) : EReal) := by
  unfold sAt
  rw [pay3_cell]
  simp only [kb_cell xk j hj, hK, hq]
  exact Soft.coe_sum_mul _ _ _

include hV in
/-- A block's values, with the rows of ones, are reals. -/
theorem ext_cell (j : ℕ) (hj : j < 16) (e : Fin 144) (k : Fin 512) :
    k0_pay5 (vb xv j) (ix2 e k) = ((ext V e ⟨512 * j + k.val, by omega⟩ : ℝ) : EReal) := by
  rw [pay5_cell]
  unfold ext
  split
  · rw [vb_cell xv j hj, hV]
  · rfl

include hK hV hq in
/-- The state after `j` blocks. -/
theorem state_cell (j : ℕ) (hj : j ≤ 16) : ∃ M : ℝ, mAt xk q j (ix2 0 c) = (M : EReal) ∧
    ∀ e, aAt xk xv q j (ix2 e c) = (((∑ k ∈ Finset.range (512 * j), term K V qc e k) * (2 : ℝ) ^ (-M) : ℝ) : EReal) := by
  induction j with
  | zero =>
    obtain ⟨M, hM⟩ := Soft.ofBits_first
    refine ⟨M, ?_, fun e => ?_⟩
    · unfold mAt; pointwise [k0_pay15]; exact hM
    · unfold aAt; pointwise [k0_pay16]; simp
  | succ j ih =>
    obtain ⟨M, hm, ha⟩ := ih (by omega)
    have hs := sAt_cell xk q K qc c hK hq j (by omega)
    obtain ⟨M', hM'⟩ := Soft.max_fold_real (by norm_num : 0 < 512) M (fun k : Fin 512 => colScr (K ⟨512 * j + k.val, by omega⟩) qc)
    have h6 : k0_pay6 (sAt xk q j) (mAt xk q j) (ix2 0 c) = (M' : EReal) := by
      rw [pay6_cell, hm, ← hM']
      simp only [hs]
    refine ⟨M', ?_, fun e => ?_⟩
    · unfold mAt; rw [pay10_cell, h6]
    · unfold aAt
      rw [pay9_cell, pay8_cell, h6, hm, ha e]
      simp only [pay7_cell, h6, hs, ext_cell xv V hV j (by omega)]
      rw [Soft.step]
      congr 2
      rw [Nat.mul_succ, Finset.sum_range_add]
      congr 1
      rw [Finset.sum_range]
      refine Finset.sum_congr rfl fun k _ => ?_
      unfold term
      rw [dif_pos (by omega)]

variable (xkc : Vec Ideal S1x256x128 .bf16) (xvc : Vec Ideal S1x128x256 .bf16)
  (KC : Fin 256 → Fin 128 → ℝ) (VC : Fin 128 → Fin 256 → ℝ)
  (hKC : ∀ k d, xkc (ix3 0 k d) = (KC k d : EReal)) (hVC : ∀ e k, xvc (ix3 0 e k) = (VC e k : EReal))

include hK hV hq hKC hVC in
/-- The accumulator after the context's keys: the sum over all keys, times a power of two common to the column. -/
theorem end_cell : ∃ M : ℝ, ∀ e, k0_pay24 xkc q xvc (mAt xk q 16) (aAt xk xv q 16) (ix2 e c)
    = ((((∑ k, ext V e k * (2 : ℝ) ^ colScr (K k) qc) + ∑ k, ext VC e k * (2 : ℝ) ^ colScr (KC k) qc) * (2 : ℝ) ^ (-M) : ℝ) : EReal) := by
  obtain ⟨M, hm, ha⟩ := state_cell xk xv q K V qc c hK hV hq 16 le_rfl
  have hs : ∀ k : Fin 256, k0_pay22 xkc q (ix2 k c) = ((colScr (KC k) qc : ℝ) : EReal) := fun k => by
    rw [pay22_cell]
    simp only [hKC, hq]
    exact Soft.coe_sum_mul _ _ _
  obtain ⟨M', hM'⟩ := Soft.max_fold_real (by norm_num : 0 < 256) M (fun k : Fin 256 => colScr (KC k) qc)
  have h23 : k0_pay23 xkc q (mAt xk q 16) (ix2 0 c) = (M' : EReal) := by
    rw [pay23_cell, hm, ← hM']
    simp only [hs]
  have hv : ∀ (e : Fin 144) (k : Fin 256), (if h : e.val < 128 then xvc (ix3 0 ⟨e.val, h⟩ k) else 1) = ((ext VC e k : ℝ) : EReal) := fun e k => by
    unfold ext
    split
    · rw [hVC]
    · rfl
  refine ⟨M', fun e => ?_⟩
  rw [pay24_cell, h23, hm, ha e]
  simp only [hs, hv]
  rw [Soft.step, sum_term]

end Cert.KernelIdeal.Att

end
-- ==== Proof.PI.Queries.lean ====
/-
  The stacked, scaled queries at an index, over the extended reals.
-/
module

public import proofs.«01_k».proof.Proof.PI.State
public import proofs.«01_k».proof.Proof.Math.Soft
public import Idealize.ShloMosaic.Lib.Pointwise

@[expose] public section

noncomputable section

namespace Cert.KernelIdeal.Att

open Cert.KernelIdeal Cert.KernelIdeal.Gen
open Idealize.ShloMosaic Idealize.ShloMosaic.TcCoe
open Idealize.ShloMosaic.Pointwise

/-- The named scale's value. -/
def sc : ℝ := 1 / 8 * (Real.log 2)⁻¹

theorem named_scale : (Named.named (F := Ideal) (φ := .f32) κ "scale" 0x3E38AA3B#32 : EReal) = ((sc : ℝ) : EReal) :=
  IdealRules.named_const.ideal_named_scalar _ _ _ _ rfl

theorem lt64 (d : Fin 128) : IntOp.cmpi CmpIPredicate.slt (BitVec.ofNat 32 d.val) 64#32 = if d.val < 64 then 1#1 else 0#1 := by
  revert d; decide +kernel

theorem ge64 (d : Fin 128) : IntOp.cmpi CmpIPredicate.sge (BitVec.ofNat 32 d.val) 64#32 = if d.val < 64 then 0#1 else 1#1 := by
  revert d; decide +kernel

/-- The stacked queries, the first map's half: the first 64 coordinates, scaled, the rest zero. -/
theorem pay14_lo (q : Vec Ideal S1x2048x128 .bf16) (d : Fin 128) (r : Fin 2048) :
    k0_pay14 q (ix2 d ⟨r.val, by omega⟩) = if d.val < 64 then q (ix3 0 r d) * (sc : EReal) else 0 := by
  pointwise [k0_pay14]
  rw [lt64, named_scale]
  split <;> rfl

/-- The stacked queries, the second map's half: the last 64 coordinates, scaled, the rest zero. -/
theorem pay14_hi (q : Vec Ideal S1x2048x128 .bf16) (d : Fin 128) (r : Fin 2048) :
    k0_pay14 q (ix2 d ⟨2048 + r.val, by omega⟩) = if d.val < 64 then 0 else q (ix3 0 r d) * (sc : EReal) := by
  pointwise [k0_pay14]
  rw [ge64, named_scale]
  split <;> rfl

end Cert.KernelIdeal.Att

end
-- ==== Proof.PI.Norm.lean ====
/-
  The block written, at an index, over the extended reals.
-/
module

public import proofs.«01_k».proof.Proof.PI.State
public import proofs.«01_k».proof.Proof.Math.Soft
public import Idealize.ShloMosaic.Lib.Pointwise

@[expose] public section

noncomputable section

namespace Cert.KernelIdeal.Att

open Cert.KernelIdeal Cert.KernelIdeal.Gen
open Idealize.ShloMosaic Idealize.ShloMosaic.TcCoe
open Idealize.ShloMosaic.Pointwise

/-- The difference of the two maps' quotients, for a query row and a value coordinate. -/
def diff (a : Vec Ideal S144x4096 .f32) (lam : EReal) (r : Fin 2048) (e : Fin 128) : EReal :=
  Ideal.div (a (ix2 ⟨e.val, by omega⟩ ⟨r.val, by omega⟩)) (a (ix2 128 ⟨r.val, by omega⟩))
    - lam * Ideal.div (a (ix2 ⟨e.val, by omega⟩ ⟨2048 + r.val, by omega⟩)) (a (ix2 128 ⟨2048 + r.val, by omega⟩))

/-- The block written: the difference's RMS norm times the weights. -/
theorem pay2_cell (a : Vec Ideal S144x4096 .f32) (lam : EReal) (wn : Vec Ideal S1x128 .f32) (r : Fin 2048) (e : Fin 128) :
    k0_pay2 a lam wn (ix3 0 r e) = Soft.nrm (diff a lam r) e * wn (ix2 0 e) := by
  pointwise [k0_pay2]
  rfl

end Cert.KernelIdeal.Att

end
-- ==== Proof.PI.Out.lean ====
/-
  What one block of the kernel's result holds: at query row `r` and value coordinate `e`, the RMS norm of the differential
  attention of that query over all latent and context keys, times the weights.
-/
module

public import proofs.«01_k».proof.Proof.PI.Fold
public import proofs.«01_k».proof.Proof.PI.Queries
public import proofs.«01_k».proof.Proof.PI.Norm

@[expose] public section

noncomputable section

namespace Cert.KernelIdeal.Att

open Cert.KernelIdeal Cert.KernelIdeal.Gen
open Idealize.ShloMosaic Idealize.ShloMosaic.TcCoe
open Idealize.ShloMosaic.Pointwise

/-- The stacked query column of map `m`: the map's 64 coordinates scaled, the other map's zero. -/
def qcol (Q : Fin 128 → ℝ) (m : Fin 2) (d : Fin 128) : ℝ :=
  if d.val < 64 then (if m = 0 then Q d * sc else 0) else (if m = 0 then 0 else Q d * sc)

/-- The stacked column's power of two is the exponential of the map's score. -/
theorem two_colScr (K Q : Fin 128 → ℝ) (m : Fin 2) : (2 : ℝ) ^ colScr K (qcol Q m) = Real.exp (Soft.scr Q K m) := by
  have h : colScr K (qcol Q m) = (∑ d : Fin 64, Q ⟨64 * m.val + d.val, by omega⟩ * K ⟨64 * m.val + d.val, by omega⟩) * sc := by
    unfold colScr
    rw [show (∑ d : Fin 128, K d * qcol Q m d) = ∑ d : Fin (64 + 64), K d * qcol Q m d from rfl, Fin.sum_univ_add, Finset.sum_mul]
    have h1 : ∀ d : Fin 64, (Fin.castAdd 64 d : Fin (64 + 64)).val = d.val := fun d => rfl
    have h2 : ∀ d : Fin 64, (Fin.natAdd 64 d : Fin (64 + 64)).val = 64 + d.val := fun d => rfl
    match m with
    | 0 =>
      have e2 : ∑ d : Fin 64, K (Fin.natAdd 64 d) * qcol Q 0 (Fin.natAdd 64 d) = 0 := Finset.sum_eq_zero fun d _ => by
        unfold qcol; rw [if_neg (by rw [h2]; omega), if_pos rfl, mul_zero]
      rw [e2, add_zero]
      refine Finset.sum_congr rfl fun d _ => ?_
      have ed : (⟨64 * (0 : Fin 2).val + d.val, by omega⟩ : Fin 128) = Fin.castAdd 64 d := Fin.ext (by rw [h1]; simp)
      unfold qcol
      rw [if_pos (by rw [h1]; omega), if_pos rfl, ed]
      ring
    | 1 =>
      have e2 : ∑ d : Fin 64, K (Fin.castAdd 64 d) * qcol Q 1 (Fin.castAdd 64 d) = 0 := Finset.sum_eq_zero fun d _ => by
        unfold qcol; rw [if_pos (by rw [h1]; omega), if_neg (by decide), mul_zero]
      rw [e2, zero_add]
      refine Finset.sum_congr rfl fun d _ => ?_
      have ed : (⟨64 * (1 : Fin 2).val + d.val, by omega⟩ : Fin 128) = Fin.natAdd 64 d := Fin.ext (by rw [h2]; simp)
      unfold qcol
      rw [if_neg (by rw [h2]; omega), if_neg (by decide), ed]
      ring
  rw [h]
  exact Soft.two_rpow _

variable (L : ℝ) (xq : Vec Ideal S1x2048x128 .bf16) (xk : Vec Ideal S1x8192x128 .bf16) (xv : Vec Ideal S1x128x8192 .bf16)
  (xkc : Vec Ideal S1x256x128 .bf16) (xvc : Vec Ideal S1x128x256 .bf16)
  (Q : Fin 2048 → Fin 128 → ℝ) (K : Fin 8192 → Fin 128 → ℝ) (V : Fin 128 → Fin 8192 → ℝ)
  (KC : Fin 256 → Fin 128 → ℝ) (VC : Fin 128 → Fin 256 → ℝ)
  (hQ : ∀ r d, xq (ix3 0 r d) = (Q r d : EReal))
  (hK : ∀ k d, xk (ix3 0 k d) = (K k d : EReal)) (hV : ∀ e k, xv (ix3 0 e k) = (V e k : EReal))
  (hKC : ∀ k d, xkc (ix3 0 k d) = (KC k d : EReal)) (hVC : ∀ e k, xvc (ix3 0 e k) = (VC e k : EReal))

include hQ in
theorem qcol_lo (r : Fin 2048) (d : Fin 128) :
    k0_pay14 xq (ix2 d ⟨r.val, by omega⟩) = ((qcol (Q r) 0 d : ℝ) : EReal) := by
  rw [pay14_lo, hQ]
  unfold qcol
  split
  · rw [if_pos rfl, EReal.coe_mul]
  · rw [if_pos rfl]; rfl

include hQ in
theorem qcol_hi (r : Fin 2048) (d : Fin 128) :
    k0_pay14 xq (ix2 d ⟨2048 + r.val, by omega⟩) = ((qcol (Q r) 1 d : ℝ) : EReal) := by
  rw [pay14_hi, hQ]
  unfold qcol
  split
  · rw [if_neg (by decide)]; rfl
  · rw [if_neg (by decide), EReal.coe_mul]

include hK hV hKC hVC in
/-- A column's quotient: the weighted sum over the denominator, whatever the running maximum ended at. -/
theorem col_quot (q : Vec Ideal S128x4096 .bf16) (c : Fin 4096) (Qr : Fin 128 → ℝ) (m : Fin 2) (hq : ∀ d, q (ix2 d c) = ((qcol Qr m d : ℝ) : EReal)) (e : Fin 128) :
    Ideal.div (k0_pay24 xkc q xvc (mAt xk q 16) (aAt xk xv q 16) (ix2 ⟨e.val, by omega⟩ c))
        (k0_pay24 xkc q xvc (mAt xk q 16) (aAt xk xv q 16) (ix2 128 c))
      = ((Soft.wsum Qr K KC (V e) (VC e) m / Soft.den Qr K KC m : ℝ) : EReal) := by
  obtain ⟨M, h⟩ := end_cell xk xv q K V (qcol Qr m) c hK hV hq xkc xvc KC VC hKC hVC
  have hn : (∑ k, ext V ⟨e.val, by omega⟩ k * (2 : ℝ) ^ colScr (K k) (qcol Qr m)) + ∑ k, ext VC ⟨e.val, by omega⟩ k * (2 : ℝ) ^ colScr (KC k) (qcol Qr m)
      = Soft.wsum Qr K KC (V e) (VC e) m := by
    unfold Soft.wsum ext
    simp only [two_colScr, dif_pos e.isLt]
  have hd : (∑ k, ext V 128 k * (2 : ℝ) ^ colScr (K k) (qcol Qr m)) + ∑ k, ext VC 128 k * (2 : ℝ) ^ colScr (KC k) (qcol Qr m)
      = Soft.den Qr K KC m := by
    unfold Soft.den Soft.wsum ext
    simp only [two_colScr, dif_neg (show ¬ (128 : Fin 144).val < 128 by decide)]
  rw [h, h, hn, hd]
  exact Soft.quot _ _ _ (Soft.den_pos _ _ _ _).ne'

include hQ hK hV hKC hVC in
/-- The block at row `r`, coordinate `e`. -/
theorem out_cell (lam : Vec Ideal S1 .f32) (hlam : lam i0 = (L : EReal)) (wn : Vec Ideal S1x128 .f32) (r : Fin 2048) (e : Fin 128) :
    out lam xq xk xv xkc xvc wn (ix3 0 r e)
      = Soft.nrm (fun x => ((Soft.att L (Q r) K KC (V x) (VC x) : ℝ) : EReal)) e * wn (ix2 0 e) := by
  have h : diff (aEnd xq xk xv xkc xvc) (lam i0) r = fun x => ((Soft.att L (Q r) K KC (V x) (VC x) : ℝ) : EReal) := funext fun x => by
    unfold diff aEnd
    rw [col_quot xk xv xkc xvc K V KC VC hK hV hKC hVC _ _ (Q r) 0 (qcol_lo xq Q hQ r), col_quot xk xv xkc xvc K V KC VC hK hV hKC hVC _ _ (Q r) 1 (qcol_hi xq Q hQ r),
      hlam, ← EReal.coe_mul, ← EReal.coe_sub]
    rfl
  unfold out
  rw [pay2_cell, h]

end Cert.KernelIdeal.Att

end
-- ==== Proof.PI.Blocks.lean ====
/-
  Which elements of the arrays each grid point's blocks are: point `t` takes batch `t / 32`, head `t / 4 % 8` and the query
  rows from `2048 · (t % 4)`.
-/
module

public import proofs.«01_k».proof.Proof.Gen.KernelIdeal.Frame
public import Idealize.ShloMosaic.Lib.Pointwise

@[expose] public section

noncomputable section

namespace Cert.KernelIdeal.Att

open Cert.KernelIdeal Cert.KernelIdeal.Gen
open Idealize.ShloMosaic Idealize.ShloMosaic.TcCoe
open Idealize.ShloMosaic.Pointwise

theorem N_eq : cfg0.N = 128 := by decide +kernel

theorem t_lt (t : Fin cfg0.N) : t.val < 128 := lt_of_lt_of_eq t.isLt N_eq

/-- The batch of a grid point. -/
def bOf (t : Fin cfg0.N) : Fin 4 := ⟨t.val / 32, by have := t_lt t; omega⟩
/-- The head of a grid point. -/
def hOf (t : Fin cfg0.N) : Fin 8 := ⟨t.val / 4 % 8, by omega⟩
/-- A row of a grid point's query block, in the array. -/
def rOf (t : Fin cfg0.N) (r : Fin 2048) : Fin 8192 := ⟨2048 * (t.val % 4) + r.val, by omega⟩

theorem idx0 : ∀ t : Fin cfg0.N, win0_0.index t (0 : Fin 1) = 0 := (by decide +kernel : ∀ t : Fin grid0.N, _)
theorem idx1 : ∀ t : Fin cfg0.N, win0_1.index t (0 : Fin 3) = t.val / 32 ∧ win0_1.index t (1 : Fin 3) = t.val % 4 ∧ win0_1.index t (2 : Fin 3) = t.val / 4 % 8 :=
  (by decide +kernel : ∀ t : Fin grid0.N, _)
theorem idx2 : ∀ t : Fin cfg0.N, win0_2.index t (0 : Fin 3) = t.val / 32 ∧ win0_2.index t (1 : Fin 3) = 0 ∧ win0_2.index t (2 : Fin 3) = t.val / 4 % 8 :=
  (by decide +kernel : ∀ t : Fin grid0.N, _)
theorem idx3 : ∀ t : Fin cfg0.N, win0_3.index t (0 : Fin 3) = t.val / 32 ∧ win0_3.index t (1 : Fin 3) = t.val / 4 % 8 ∧ win0_3.index t (2 : Fin 3) = 0 :=
  (by decide +kernel : ∀ t : Fin grid0.N, _)
theorem idx4 : ∀ t : Fin cfg0.N, win0_4.index t (0 : Fin 3) = t.val / 32 ∧ win0_4.index t (1 : Fin 3) = 0 ∧ win0_4.index t (2 : Fin 3) = 16 + t.val / 4 % 8 :=
  (by decide +kernel : ∀ t : Fin grid0.N, _)
theorem idx5 : ∀ t : Fin cfg0.N, win0_5.index t (0 : Fin 3) = t.val / 32 ∧ win0_5.index t (1 : Fin 3) = t.val / 4 % 8 ∧ win0_5.index t (2 : Fin 3) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 3) = t.val / 32 ∧ win0_7.index t (1 : Fin 3) = t.val % 4 ∧ win0_7.index t (2 : Fin 3) = t.val / 4 % 8 :=
  (by decide +kernel : ∀ t : Fin grid0.N, _)

theorem emb0 (t : Fin cfg0.N) (j : S1.Idx) : ((cfg0.win 0).blk t).view.emb j = j := by
  have e0 := idx0 t
  funext a; apply Fin.ext
  match a with
  | ⟨0, _⟩ => show win0_0.index t (0 : Fin 1) * 1 + 1 * (j 0).val = (j 0).val; omega

theorem emb1 (t : Fin cfg0.N) (r : Fin 2048) (d : Fin 128) :
    ((cfg0.win 1).blk t).view.emb (ix3 (0 : Fin 1) r d) = ix3 (bOf t) (rOf t r) (⟨128 * (hOf t).val + d.val, by omega⟩ : Fin 1024) := by
  obtain ⟨e0, e1, e2⟩ := idx1 t
  funext a; apply Fin.ext
  match a with
  | ⟨0, _⟩ => show win0_1.index t (0 : Fin 3) * 1 + 1 * 0 = t.val / 32; omega
  | ⟨1, _⟩ => show win0_1.index t (1 : Fin 3) * 2048 + 1 * r.val = 2048 * (t.val % 4) + r.val; omega
  | ⟨2, _⟩ => show win0_1.index t (2 : Fin 3) * 128 + 1 * d.val = 128 * (t.val / 4 % 8) + d.val; omega

theorem emb2 (t : Fin cfg0.N) (k : Fin 8192) (d : Fin 128) :
    ((cfg0.win 2).blk t).view.emb (ix3 (0 : Fin 1) k d) = ix3 (bOf t) k (⟨128 * (hOf t).val + d.val, by omega⟩ : Fin 1024) := by
  obtain ⟨e0, e1, e2⟩ := idx2 t
  funext a; apply Fin.ext
  match a with
  | ⟨0, _⟩ => show win0_2.index t (0 : Fin 3) * 1 + 1 * 0 = t.val / 32; omega
  | ⟨1, _⟩ => show win0_2.index t (1 : Fin 3) * 8192 + 1 * k.val = k.val; omega
  | ⟨2, _⟩ => show win0_2.index t (2 : Fin 3) * 128 + 1 * d.val = 128 * (t.val / 4 % 8) + d.val; omega

theorem emb3 (t : Fin cfg0.N) (e : Fin 128) (k : Fin 8192) :
    ((cfg0.win 3).blk t).view.emb (ix3 (0 : Fin 1) e k) = ix3 (bOf t) (⟨128 * (hOf t).val + e.val, by omega⟩ : Fin 1024) k := by
  obtain ⟨e0, e1, e2⟩ := idx3 t
  funext a; apply Fin.ext
  match a with
  | ⟨0, _⟩ => show win0_3.index t (0 : Fin 3) * 1 + 1 * 0 = t.val / 32; omega
  | ⟨1, _⟩ => show win0_3.index t (1 : Fin 3) * 128 + 1 * e.val = 128 * (t.val / 4 % 8) + e.val; omega
  | ⟨2, _⟩ => show win0_3.index t (2 : Fin 3) * 8192 + 1 * k.val = k.val; omega

theorem emb4 (t : Fin cfg0.N) (k : Fin 256) (d : Fin 128) :
    ((cfg0.win 4).blk t).view.emb (ix3 (0 : Fin 1) k d) = ix3 (bOf t) k (⟨2048 + (128 * (hOf t).val + d.val), by omega⟩ : Fin 10240) := by
  obtain ⟨e0, e1, e2⟩ := idx4 t
  funext a; apply Fin.ext
  match a with
  | ⟨0, _⟩ => show win0_4.index t (0 : Fin 3) * 1 + 1 * 0 = t.val / 32; omega
  | ⟨1, _⟩ => show win0_4.index t (1 : Fin 3) * 256 + 1 * k.val = k.val; omega
  | ⟨2, _⟩ => show win0_4.index t (2 : Fin 3) * 128 + 1 * d.val = 2048 + (128 * (t.val / 4 % 8) + d.val); omega

theorem emb5 (t : Fin cfg0.N) (e : Fin 128) (k : Fin 256) :
    ((cfg0.win 5).blk t).view.emb (ix3 (0 : Fin 1) e k) = ix3 (bOf t) (⟨128 * (hOf t).val + e.val, by omega⟩ : Fin 1024) k := by
  obtain ⟨e0, e1, e2⟩ := idx5 t
  funext a; apply Fin.ext
  match a with
  | ⟨0, _⟩ => show win0_5.index t (0 : Fin 3) * 1 + 1 * 0 = t.val / 32; omega
  | ⟨1, _⟩ => show win0_5.index t (1 : Fin 3) * 128 + 1 * e.val = 128 * (t.val / 4 % 8) + e.val; omega
  | ⟨2, _⟩ => show win0_5.index t (2 : Fin 3) * 256 + 1 * k.val = k.val; omega

theorem emb6 (t : Fin cfg0.N) (j : S1x128.Idx) : ((cfg0.win 6).blk t).view.emb j = j := by
  obtain ⟨e0, e1⟩ := idx6 t
  funext a; apply Fin.ext
  match a with
  | ⟨0, _⟩ => show win0_6.index t (0 : Fin 2) * 1 + 1 * (j 0).val = (j 0).val; omega
  | ⟨1, _⟩ => show win0_6.index t (1 : Fin 2) * 128 + 1 * (j 1).val = (j 1).val; omega

theorem emb7 (t : Fin cfg0.N) (r : Fin 2048) (e : Fin 128) :
    ((cfg0.win 7).blk t).view.emb (ix3 (0 : Fin 1) r e) = ix3 (bOf t) (rOf t r) (⟨128 * (hOf t).val + e.val, by omega⟩ : Fin 1024) := by
  obtain ⟨e0, e1, e2⟩ := idx7 t
  funext a; apply Fin.ext
  match a with
  | ⟨0, _⟩ => show win0_7.index t (0 : Fin 3) * 1 + 1 * 0 = t.val / 32; omega
  | ⟨1, _⟩ => show win0_7.index t (1 : Fin 3) * 2048 + 1 * r.val = 2048 * (t.val % 4) + r.val; omega
  | ⟨2, _⟩ => show win0_7.index t (2 : Fin 3) * 128 + 1 * e.val = 128 * (t.val / 4 % 8) + e.val; omega

/-- Every element of the result is in some point's block. -/
theorem covered (b : Fin 4) (t : Fin 8192) (c : Fin 1024) :
    ∃ (p : Fin cfg0.N) (r : Fin 2048) (e : Fin 128), ((cfg0.win 7).blk p).view.emb (ix3 (0 : Fin 1) r e) = ix3 b t c := by
  refine ⟨⟨(b.val * 8 + c.val / 128) * 4 + t.val / 2048, by rw [N_eq]; omega⟩, ⟨t.val % 2048, by omega⟩, ⟨c.val % 128, by omega⟩, ?_⟩
  rw [emb7]
  funext a; apply Fin.ext
  match a with
  | ⟨0, _⟩ => show ((b.val * 8 + c.val / 128) * 4 + t.val / 2048) / 32 = b.val; omega
  | ⟨1, _⟩ => show 2048 * (((b.val * 8 + c.val / 128) * 4 + t.val / 2048) % 4) + t.val % 2048 = t.val; omega
  | ⟨2, _⟩ => show 128 * (((b.val * 8 + c.val / 128) * 4 + t.val / 2048) / 4 % 8) + c.val % 128 = c.val; omega

end Cert.KernelIdeal.Att

end
-- ==== Proof.PI.Host.lean ====
/-
  What the operations before the kernel leave in the three arrays they make: λ, the transposed context values, and the
  norm's weights times `1 - λ_init`.
-/
module

public import proofs.«01_k».proof.Proof.Gen.KernelIdeal.Frame
public import Idealize.ShloMosaic.Lib.StableHlo.Run
public import Idealize.ShloMosaic.Lib.Pointwise

@[expose] public section

noncomputable section

namespace Cert.KernelIdeal.Att

open Cert.KernelIdeal Cert.KernelIdeal.Gen
open Idealize.ShloMosaic Idealize.ShloMosaic.TcCoe
open Idealize.ShloMosaic.Pointwise

/-- The context values, transposed. -/
def hostVC {F : FTy → Type} [FloatOps F] (x3 : Vec F S4x256x10240 .bf16) : Vec F S4x1024x256 .bf16 :=
  transpose S4x1024x256 [0, 2, 1] (extractStridedSlice S4x256x1024 ![0, 0, 3072] x3 slices_S4x256x10240_S4x256x1024_0_0_3072) transposes_S4x256x1024_S4x1024x256_0_2_1

/-- The weights. -/
def hostWn {F : FTy → Type} [FloatOps F] (x5 : Vec F S128 .f32) (x6 : Vec F S1 .f32) : Vec F S1x128 .f32 :=
  broadcastInDim S1x128 ![1] bcast_S128_S1x128_1 (mulf x5 (broadcastInDim S128 ![] bcast_S_S128 (subf (constant S_ .f32 0x3F800000#32) (shapeCast S_ x6 shapeCasts_S1_S_))))

/-- A row of the λ vectors. -/
def hostRow {F : FTy → Type} [FloatOps F] (x4 : Vec F S4x64 .f32) (i : Fin 2 → ℕ) (h : S4x64.Slices i S1x64) : Vec F S64 .f32 :=
  shapeCast S64 (extractStridedSlice S1x64 i x4 h) shapeCasts_S1x64_S64

/-- λ. -/
def hostLam {F : FTy → Type} [FloatOps F] (x4 : Vec F S4x64 .f32) (x6 : Vec F S1 .f32) : Vec F S1 .f32 :=
  shapeCast S1 (addf (subf (Host.exp (Host.reduceAdd (mulf (hostRow x4 ![0, 0] slices_S4x64_S1x64_0_0) (hostRow x4 ![1, 0] slices_S4x64_S1x64_1_0)) (constant S_ .f32 0x00000000#32) reducesTo_S64_S_d0 h_S_))
    (Host.exp (Host.reduceAdd (mulf (hostRow x4 ![2, 0] slices_S4x64_S1x64_2_0) (hostRow x4 ![3, 0] slices_S4x64_S1x64_3_0)) (constant S_ .f32 0x00000000#32) reducesTo_S64_S_d0 h_S_)))
    (shapeCast S_ x6 shapeCasts_S1_S_)) shapeCasts_S_S1

variable {F : FTy → Type} [FloatOps F] (m : (ℓ : Loc nD τ sig) → Buf (Elt F) ℓ)

theorem V_v24 (c : Dev nD) : V m c main_v24 = hostVC (m ((c : Thread nD τ).loc main_arg3)) := by
  show StableHlo.after hostOps0 (fun b => m (c, b)) (Proc.devRef .tc main_v24) = _
  unfold hostOps0
  after_results_simp <;> rfl

theorem V_v22 (c : Dev nD) : V m c main_v22 = hostWn (m ((c : Thread nD τ).loc main_arg5)) (m ((c : Thread nD τ).loc main_arg6)) := by
  show StableHlo.after hostOps0 (fun b => m (c, b)) (Proc.devRef .tc main_v22) = _
  unfold hostOps0
  after_results_simp <;> rfl

theorem V_v17 (c : Dev nD) : V m c main_v17 = hostLam (m ((c : Thread nD τ).loc main_arg4)) (m ((c : Thread nD τ).loc main_arg6)) := by
  show StableHlo.after hostOps0 (fun b => m (c, b)) (Proc.devRef .tc main_v17) = _
  unfold hostOps0
  after_results_simp <;> rfl

theorem hostVC_cell (x3 : Vec Ideal S4x256x10240 .bf16) (b : Fin 4) (c : Fin 1024) (k : Fin 256) :
    hostVC x3 (ix3 b c k) = x3 (ix3 b k ⟨3072 + c.val, by omega⟩) := by
  pointwise [hostVC]

theorem hostWn_cell (x5 : Vec Ideal S128 .f32) (x6 : Vec Ideal S1 .f32) (e : Fin 128) :
    hostWn x5 x6 (ix2 0 e) = x5 (ix1 e) * (1 - x6 (ix1 0)) := by
  pointwise [hostWn]

theorem hostLam_cell (x4 : Vec Ideal S4x64 .f32) (x6 : Vec Ideal S1 .f32) :
    hostLam x4 x6 (ix1 0) = Ideal.exp (∑ d : Fin 64, x4 (ix2 0 d) * x4 (ix2 1 d)) - Ideal.exp (∑ d : Fin 64, x4 (ix2 2 d) * x4 (ix2 3 d)) + x6 (ix1 0) := by
  pointwise [hostLam, hostRow]

end Cert.KernelIdeal.Att

end
-- ==== Proof.Math.Heads.lean ====
/-
  The heads of the attention: which columns of the arrays each head reads, and the latent and context keys as one run of
  8448 keys.
-/
module

public import proofs.«01_k».proof.Proof.Math.Soft

@[expose] public section

noncomputable section

namespace Cert.Soft

open Idealize.ShloMosaic

/-- Head `h` of a row of queries or of keys. -/
def headQ (q : Fin 4 → Fin 8192 → Fin 1024 → ℝ) (b : Fin 4) (h : Fin 8) (t : Fin 8192) (d : Fin 128) : ℝ := q b t ⟨128 * h.val + d.val, by omega⟩

/-- Head `h` of the transposed values. -/
def headV (v : Fin 4 → Fin 1024 → Fin 8192 → ℝ) (b : Fin 4) (h : Fin 8) (e : Fin 128) (k : Fin 8192) : ℝ := v b ⟨128 * h.val + e.val, by omega⟩ k

/-- Head `h` of the context keys, in the projection's columns from 2048. -/
def headKC (pc : Fin 4 → Fin 256 → Fin 10240 → ℝ) (b : Fin 4) (h : Fin 8) (k : Fin 256) (d : Fin 128) : ℝ := pc b k ⟨2048 + (128 * h.val + d.val), by omega⟩

/-- Head `h` of the context values, in the projection's columns from 3072. -/
def headVC (pc : Fin 4 → Fin 256 → Fin 10240 → ℝ) (b : Fin 4) (h : Fin 8) (e : Fin 128) (k : Fin 256) : ℝ := pc b k ⟨3072 + (128 * h.val + e.val), by omega⟩

/-- What the attention's result holds at batch `b`, row `t`, head `h`, coordinate `e`, before the weights. -/
def value (q k : Fin 4 → Fin 8192 → Fin 1024 → ℝ) (v : Fin 4 → Fin 1024 → Fin 8192 → ℝ) (pc : Fin 4 → Fin 256 → Fin 10240 → ℝ) (L : ℝ)
    (b : Fin 4) (t : Fin 8192) (h : Fin 8) (e : Fin 128) : EReal :=
  nrm (fun x => ((att L (headQ q b h t) (headQ k b h) (headKC pc b h) (headV v b h x) (headVC pc b h x) : ℝ) : EReal)) e

/-- A latent run and a context run as one. -/
def cat (f : Fin 8192 → ℝ) (g : Fin 256 → ℝ) (k : Fin 8448) : ℝ :=
  if h : k.val < 8192 then f ⟨k.val, h⟩ else g ⟨k.val - 8192, by omega⟩

theorem cat_lat (f : Fin 8192 → ℝ) (g : Fin 256 → ℝ) (k : Fin 8192) : cat f g ⟨k.val, by omega⟩ = f k := dif_pos k.isLt

theorem cat_ctx (f : Fin 8192 → ℝ) (g : Fin 256 → ℝ) (k : Fin 256) : cat f g ⟨8192 + k.val, by omega⟩ = g k := by
  unfold cat
  rw [dif_neg (by simp)]
  exact congrArg g (Fin.ext (by simp))

/-- A key of the joined run is a latent one or a context one. -/
theorem cat_cases {P : Fin 8448 → Prop} (hl : ∀ k : Fin 8192, P ⟨k.val, by omega⟩) (hc : ∀ k : Fin 256, P ⟨8192 + k.val, by omega⟩) (k : Fin 8448) : P k := by
  by_cases h : k.val < 8192
  · exact hl ⟨k.val, h⟩
  · have e : (⟨8192 + (k.val - 8192), by omega⟩ : Fin 8448) = k := Fin.ext (by simp only; omega)
    exact e ▸ hc ⟨k.val - 8192, by omega⟩

/-- A sum over the joined run. -/
theorem sum_cat {M : Type*} [AddCommMonoid M] (F : Fin 8448 → M) :
    ∑ k, F k = (∑ k : Fin 8192, F ⟨k.val, by omega⟩) + ∑ k : Fin 256, F ⟨8192 + k.val, by omega⟩ :=
  Fin.sum_univ_add (a := 8192) (b := 256) F

/-- The softmax does not change when every score is lowered by the same amount. -/
theorem soft_shift {n : ℕ} (hn : 0 < n) (s : Fin n → ℝ) (M : ℝ) (k : Fin n) :
    Ideal.div (Ideal.exp ((s k : EReal) - (M : EReal))) (∑ k, Ideal.exp ((s k : EReal) - (M : EReal)))
      = ((Real.exp (s k) / ∑ k, Real.exp (s k) : ℝ) : EReal) := by
  simp only [← EReal.coe_sub, exp_coe, ← coe_sum]
  have hp : 0 < ∑ k, Real.exp (s k - M) := Finset.sum_pos (fun _ _ => Real.exp_pos _) ⟨⟨0, hn⟩, Finset.mem_univ _⟩
  rw [div_coe_coe _ _ hp.ne']
  congr 1
  simp only [Real.exp_sub]
  rw [← Finset.sum_div, div_div_div_cancel_right₀ (Real.exp_pos M).ne']

/-- The scores of one query, one map, over all keys. -/
def score (q k : Fin 4 → Fin 8192 → Fin 1024 → ℝ) (pc : Fin 4 → Fin 256 → Fin 10240 → ℝ) (b : Fin 4) (h : Fin 8) (m : Fin 2) (t : Fin 8192) : Fin 8448 → ℝ :=
  cat (fun j => scr (headQ q b h t) (headQ k b h j) m) (fun j => scr (headQ q b h t) (headKC pc b h j) m)

theorem sum_exp_score (q k : Fin 4 → Fin 8192 → Fin 1024 → ℝ) (pc : Fin 4 → Fin 256 → Fin 10240 → ℝ) (b : Fin 4) (h : Fin 8) (m : Fin 2) (t : Fin 8192) :
    ∑ j, Real.exp (score q k pc b h m t j) = den (headQ q b h t) (headQ k b h) (headKC pc b h) m := by
  rw [sum_cat]
  unfold score den wsum
  simp only [cat_lat, cat_ctx, one_mul]

/-- The two maps' difference, applied to the values. -/
theorem sum_diff (q k : Fin 4 → Fin 8192 → Fin 1024 → ℝ) (pc : Fin 4 → Fin 256 → Fin 10240 → ℝ) (L : ℝ) (b : Fin 4) (h : Fin 8) (t : Fin 8192) (v : Fin 8192 → ℝ) (vc : Fin 256 → ℝ) :
    ∑ j, cat v vc j * (Real.exp (score q k pc b h 0 t j) / den (headQ q b h t) (headQ k b h) (headKC pc b h) 0
        - L * (Real.exp (score q k pc b h 1 t j) / den (headQ q b h t) (headQ k b h) (headKC pc b h) 1))
      = att L (headQ q b h t) (headQ k b h) (headKC pc b h) v vc := by
  have hw : ∀ m, ∑ j, cat v vc j * Real.exp (score q k pc b h m t j) = wsum (headQ q b h t) (headQ k b h) (headKC pc b h) v vc m := fun m => by
    rw [sum_cat]
    unfold score wsum
    simp only [cat_lat, cat_ctx]
  unfold att
  rw [← hw 0, ← hw 1, Finset.sum_div, Finset.sum_div, Finset.mul_sum, ← Finset.sum_sub_distrib]
  exact Finset.sum_congr rfl fun j _ => by ring

end Cert.Soft

end
-- ==== Proof.PI.Array.lean ====
/-
  What the kernel's result array holds: the attention of the arguments, element by element.
-/
module

public import proofs.«01_k».proof.Proof.PI.Out
public import proofs.«01_k».proof.Proof.PI.Blocks
public import proofs.«01_k».proof.Proof.PI.Host
public import proofs.«01_k».proof.Proof.PI.Frame
public import proofs.«01_k».proof.Proof.Math.Heads

@[expose] public section

noncomputable section

namespace Cert.KernelIdeal.Att

open Cert.KernelIdeal Cert.KernelIdeal.Gen
open Idealize.ShloMosaic Idealize.ShloMosaic.TcCoe Idealize.ShloMosaic.Pipeline
open Idealize.ShloMosaic.Pointwise

variable (m : (ℓ : Loc nD τ sig) → Buf (Elt Ideal) ℓ) (c : Dev nD)
  (q k : Fin 4 → Fin 8192 → Fin 1024 → ℝ) (v : Fin 4 → Fin 1024 → Fin 8192 → ℝ) (pc : Fin 4 → Fin 256 → Fin 10240 → ℝ) (L : ℝ)

/-- The result as one function of the arguments: the attention's value times the weights. -/
def result (x5 : Vec Ideal S128 .f32) (x6 : Vec Ideal S1 .f32) : Vec Ideal S4x8192x1024 .bf16 := fun i =>
  Soft.value q k v pc L ⟨(i 0).val, (i 0).isLt⟩ ⟨(i 1).val, (i 1).isLt⟩ ⟨(i 2).val / 128, by have : (i 2).val < 1024 := (i 2).isLt; omega⟩ ⟨(i 2).val % 128, by omega⟩
    * hostWn x5 x6 (ix2 0 ⟨(i 2).val % 128, by omega⟩)

theorem result_at (x5 : Vec Ideal S128 .f32) (x6 : Vec Ideal S1 .f32) (b : Fin 4) (t : Fin 8192) (h : Fin 8) (e : Fin 128) :
    result q k v pc L x5 x6 (ix3 b t ⟨128 * h.val + e.val, by omega⟩) = Soft.value q k v pc L b t h e * hostWn x5 x6 (ix2 0 e) := by
  have e1 : (⟨(128 * h.val + e.val) / 128, by omega⟩ : Fin 8) = h := Fin.ext (by show (128 * h.val + e.val) / 128 = h.val; omega)
  have e2 : (⟨(128 * h.val + e.val) % 128, by omega⟩ : Fin 128) = e := Fin.ext (by show (128 * h.val + e.val) % 128 = e.val; omega)
  show Soft.value q k v pc L b t ⟨(128 * h.val + e.val) / 128, _⟩ ⟨(128 * h.val + e.val) % 128, _⟩ * hostWn x5 x6 (ix2 0 ⟨(128 * h.val + e.val) % 128, _⟩) = _
  rw [e1, e2]

variable
  (h0 : ∀ b t d, m ((c : Thread nD τ).loc main_arg0) (ix3 b t d) = (q b t d : EReal))
  (h1 : ∀ b t d, m ((c : Thread nD τ).loc main_arg1) (ix3 b t d) = (k b t d : EReal))
  (h2 : ∀ b e t, m ((c : Thread nD τ).loc main_arg2) (ix3 b e t) = (v b e t : EReal))
  (h3 : ∀ b t d, m ((c : Thread nD τ).loc main_arg3) (ix3 b t d) = (pc b t d : EReal))
  (hL : hostLam (F := Ideal) (m ((c : Thread nD τ).loc main_arg4)) (m ((c : Thread nD τ).loc main_arg6)) (ix1 0) = (L : EReal))

include h0 in
theorem blk1 (t : Fin cfg0.N) (r : Fin 2048) (d : Fin 128) : iblk m c 1 t (ix3 (0 : Fin 1) r d) = (Soft.headQ q (bOf t) (hOf t) (rOf t r) d : EReal) := by
  show V m c main_arg0 (((cfg0.win 1).blk t).view.emb (ix3 (0 : Fin 1) r d)) = _
  rw [emb1, V_main_arg0]
  exact h0 _ _ _

include h1 in
theorem blk2 (t : Fin cfg0.N) (j : Fin 8192) (d : Fin 128) : iblk m c 2 t (ix3 (0 : Fin 1) j d) = (Soft.headQ k (bOf t) (hOf t) j d : EReal) := by
  show V m c main_arg1 (((cfg0.win 2).blk t).view.emb (ix3 (0 : Fin 1) j d)) = _
  rw [emb2, V_main_arg1]
  exact h1 _ _ _

include h2 in
theorem blk3 (t : Fin cfg0.N) (e : Fin 128) (j : Fin 8192) : iblk m c 3 t (ix3 (0 : Fin 1) e j) = (Soft.headV v (bOf t) (hOf t) e j : EReal) := by
  show V m c main_arg2 (((cfg0.win 3).blk t).view.emb (ix3 (0 : Fin 1) e j)) = _
  rw [emb3, V_main_arg2]
  exact h2 _ _ _

include h3 in
theorem blk4 (t : Fin cfg0.N) (j : Fin 256) (d : Fin 128) : iblk m c 4 t (ix3 (0 : Fin 1) j d) = (Soft.headKC pc (bOf t) (hOf t) j d : EReal) := by
  show V m c main_arg3 (((cfg0.win 4).blk t).view.emb (ix3 (0 : Fin 1) j d)) = _
  rw [emb4, V_main_arg3]
  exact h3 _ _ _

include h3 in
theorem blk5 (t : Fin cfg0.N) (e : Fin 128) (j : Fin 256) : iblk m c 5 t (ix3 (0 : Fin 1) e j) = (Soft.headVC pc (bOf t) (hOf t) e j : EReal) := by
  show V m c main_v24 (((cfg0.win 5).blk t).view.emb (ix3 (0 : Fin 1) e j)) = _
  rw [emb5, V_v24, hostVC_cell]
  exact h3 _ _ _

theorem blk6 (t : Fin cfg0.N) (j : S1x128.Idx) :
    iblk m c 6 t j = hostWn (F := Ideal) (m ((c : Thread nD τ).loc main_arg5)) (m ((c : Thread nD τ).loc main_arg6)) j := by
  show V m c main_v22 (((cfg0.win 6).blk t).view.emb j) = _
  rw [emb6, V_v22]

include hL in
theorem blk0 (t : Fin cfg0.N) : iblk m c 0 t i0 = (L : EReal) := by
  show V m c main_v17 (((cfg0.win 0).blk t).view.emb i0) = _
  rw [emb0, V_v17, ← hL]
  exact congrArg _ (funext fun a => by match a with | ⟨0, _⟩ => rfl)

include h0 h1 h2 h3 hL in
/-- A grid point's result block. -/
theorem outsAt_cell (t : Fin cfg0.N) (r : Fin 2048) (e : Fin 128) :
    outsAt m c t (ix3 0 r e)
      = Soft.value q k v pc L (bOf t) (rOf t r) (hOf t) e * hostWn (F := Ideal) (m ((c : Thread nD τ).loc main_arg5)) (m ((c : Thread nD τ).loc main_arg6)) (ix2 0 e) := by
  unfold outsAt
  rw [out_cell L (iblk m c 1 t) (iblk m c 2 t) (iblk m c 3 t) (iblk m c 4 t) (iblk m c 5 t)
    (fun r => Soft.headQ q (bOf t) (hOf t) (rOf t r)) (Soft.headQ k (bOf t) (hOf t)) (Soft.headV v (bOf t) (hOf t)) (Soft.headKC pc (bOf t) (hOf t)) (Soft.headVC pc (bOf t) (hOf t))
    (blk1 m c q h0 t) (blk2 m c k h1 t) (blk3 m c v h2 t) (blk4 m c pc h3 t) (blk5 m c pc h3 t) (iblk m c 0 t) (blk0 m c L hL t) (iblk m c 6 t) r e, blk6]
  rfl

include h0 h1 h2 h3 hL in
/-- The result array after the run. -/
theorem arr_eq : (dats m 0 c).arrAt 7 cfg0.N = result q k v pc L (m ((c : Thread nD τ).loc main_arg5)) (m ((c : Thread nD τ).loc main_arg6)) := by
  refine (dats m 0 c).arrAt_eq_of_cover 7 (result q k v pc L (m ((c : Thread nD τ).loc main_arg5)) (m ((c : Thread nD τ).loc main_arg6))) (fun t _ => ?_) fun i => ?_
  · show (cfg0.win 7).cut (grid0.coords t) ((dats m 0 c).after 7 t) = _
    rw [after0_7]
    refine funext fun (j : S1x2048x128.Idx) => ?_
    obtain ⟨r, e, rfl⟩ : ∃ (r : Fin 2048) (e : Fin 128), j = ix3 (0 : Fin 1) r e := ⟨j 1, j 2, funext fun a => by match a with | ⟨0, _⟩ => exact Subsingleton.elim (α := Fin 1) _ _ | ⟨1, _⟩ => rfl | ⟨2, _⟩ => rfl⟩
    show outsAt m c t (ix3 0 r e) = result q k v pc L _ _ (((cfg0.win 7).blk t).view.emb (ix3 (0 : Fin 1) r e))
    rw [emb7, outsAt_cell m c q k v pc L h0 h1 h2 h3 hL t r e]
    exact (result_at q k v pc L _ _ (bOf t) (rOf t r) (hOf t) e).symm
  · obtain ⟨p, r, e, h⟩ := covered ⟨(i 0).val, (i 0).isLt⟩ ⟨(i 1).val, (i 1).isLt⟩ ⟨(i 2).val, (i 2).isLt⟩
    refine ⟨p, flush0_7 p, ?_⟩
    have hi : ((cfg0.win 7).blk p).view.emb (ix3 (0 : Fin 1) r e) = i := h.trans (funext fun a => by match a with | ⟨0, _⟩ => rfl | ⟨1, _⟩ => rfl | ⟨2, _⟩ => rfl)
    exact hi ▸ ((cfg0.win 7).blk p).view.emb_mem_set (ix3 (0 : Fin 1) r e)

end Cert.KernelIdeal.Att

end
-- ==== Proof.RI.Reads.lean ====
/-
  What the reference's queries, keys and values hold, element by element, of the arguments.
-/
module

public import proofs.«01_k».proof.Proof.Gen.ReferenceIdeal.Read
public import Idealize.ShloMosaic.Lib.Pointwise

@[expose] public section

noncomputable section

namespace Cert.ReferenceIdeal.Ref

open Cert.ReferenceIdeal Cert.ReferenceIdeal.Gen Cert.ReferenceIdeal.Read
open Idealize.ShloMosaic Idealize.ShloMosaic.TcCoe
open Idealize.ShloMosaic.Pointwise

/-- The query of head `h`, map `m`. -/
theorem v18_cell (x0 : Vec Ideal S4x8192x1024 .bf16) (b : Fin 4) (t : Fin 8192) (h : Fin 8) (m : Fin 2) (d : Fin 64) :
    val_main_v18 (F := Ideal) x0 (ix5 b t h m d) = x0 (ix3 b t ⟨128 * h.val + (64 * m.val + d.val), by omega⟩) := by
  pointwise [val_main_v18, val_main_v17]
  exact congrArg (fun c => x0 (ix3 b t c)) (Fin.ext (by show h.val * 128 + m.val * 64 + d.val = 128 * h.val + (64 * m.val + d.val); omega))

/-- The latent keys come first. -/
theorem v30_lat (x1 : Vec Ideal S4x8192x1024 .bf16) (x3 : Vec Ideal S4x256x10240 .bf16) (b : Fin 4) (t : Fin 8192) (h : Fin 8) (m : Fin 2) (d : Fin 64) :
    val_main_v30 (F := Ideal) x1 x3 (ix5 b ⟨t.val, by omega⟩ h m d) = x1 (ix3 b t ⟨128 * h.val + (64 * m.val + d.val), by omega⟩) := by
  pointwise [val_main_v30, val_main_v20, val_main_v19, val_main_v26, val_main_v25, val_main_v24]
  exact congrArg (fun c => x1 (ix3 b t c)) (Fin.ext (by show h.val * 128 + m.val * 64 + d.val = 128 * h.val + (64 * m.val + d.val); omega))

/-- The context keys follow. -/
theorem v30_ctx (x1 : Vec Ideal S4x8192x1024 .bf16) (x3 : Vec Ideal S4x256x10240 .bf16) (b : Fin 4) (t : Fin 256) (h : Fin 8) (m : Fin 2) (d : Fin 64) :
    val_main_v30 (F := Ideal) x1 x3 (ix5 b ⟨8192 + t.val, by omega⟩ h m d) = x3 (ix3 b t ⟨2048 + (128 * h.val + (64 * m.val + d.val)), by omega⟩) := by
  pointwise [val_main_v30, val_main_v20, val_main_v19, val_main_v26, val_main_v25, val_main_v24]
  exact congrArg (fun c => x3 (ix3 b t c)) (Fin.ext (by show 2048 + (h.val * 128 + m.val * 64 + d.val) = 2048 + (128 * h.val + (64 * m.val + d.val)); omega))

/-- The latent values come first. -/
theorem v31_lat (x2 : Vec Ideal S4x1024x8192 .bf16) (x3 : Vec Ideal S4x256x10240 .bf16) (b : Fin 4) (t : Fin 8192) (h : Fin 8) (e : Fin 128) :
    val_main_v31 (F := Ideal) x2 x3 (ix4 b ⟨t.val, by omega⟩ h e) = x2 (ix3 b ⟨128 * h.val + e.val, by omega⟩ t) := by
  pointwise [val_main_v31, val_main_v23, val_main_v22, val_main_v21, val_main_v29, val_main_v28, val_main_v27]
  exact congrArg (fun c => x2 (ix3 b c t)) (Fin.ext (by show h.val * 128 + e.val = 128 * h.val + e.val; omega))

/-- The context values follow. -/
theorem v31_ctx (x2 : Vec Ideal S4x1024x8192 .bf16) (x3 : Vec Ideal S4x256x10240 .bf16) (b : Fin 4) (t : Fin 256) (h : Fin 8) (e : Fin 128) :
    val_main_v31 (F := Ideal) x2 x3 (ix4 b ⟨8192 + t.val, by omega⟩ h e) = x3 (ix3 b t ⟨3072 + (128 * h.val + e.val), by omega⟩) := by
  pointwise [val_main_v31, val_main_v23, val_main_v22, val_main_v21, val_main_v29, val_main_v28, val_main_v27]
  exact congrArg (fun c => x3 (ix3 b t c)) (Fin.ext (by show 3072 + (h.val * 128 + e.val) = 3072 + (128 * h.val + e.val); omega))

/-- λ: two exponentials' difference plus its initial value. -/
theorem lam_cell (x4 : Vec Ideal S4x64 .f32) (x6 : Vec Ideal S1 .f32) (i : S_.Idx) :
    val_main_v16 (F := Ideal) x4 x6 i = Ideal.exp (∑ d : Fin 64, x4 (ix2 0 d) * x4 (ix2 1 d)) - Ideal.exp (∑ d : Fin 64, x4 (ix2 2 d) * x4 (ix2 3 d)) + x6 (ix1 0) := by
  pointwise [val_main_v16, val_main_v15, val_main_v14, val_main_v13, val_main_v12, val_main_v6, val_main_v5, val_main_v4, val_main_v11, val_main_v1, val_main_v0, val_main_v3, val_main_v2, val_main_v8, val_main_v7, val_main_v10, val_main_v9, val_main_cst, val_main_cst_0]

end Cert.ReferenceIdeal.Ref

end
-- ==== Proof.RI.Stages.lean ====
/-
  The reference's operations read at an index: each stage of the softmax, of the difference and of the norm from the stage
  before it.
-/
module

public import proofs.«01_k».proof.Proof.Gen.ReferenceIdeal.Read
public import Idealize.ShloMosaic.Lib.Pointwise

@[expose] public section

noncomputable section

namespace Cert.ReferenceIdeal.Ref

open Cert.ReferenceIdeal Cert.ReferenceIdeal.Gen Cert.ReferenceIdeal.Read
open Idealize.ShloMosaic Idealize.ShloMosaic.TcCoe
open Idealize.ShloMosaic.Pointwise

variable (x0 x1 : Vec Ideal S4x8192x1024 .bf16) (x2 : Vec Ideal S4x1024x8192 .bf16) (x3 : Vec Ideal S4x256x10240 .bf16) (x4 : Vec Ideal S4x64 .f32) (x6 : Vec Ideal S1 .f32)

/-- A score: the sum over the map's 64 coordinates, scaled. -/
theorem v34_at (b : Fin 4) (h : Fin 8) (m : Fin 2) (t : Fin 8192) (j : Fin 8448) :
    val_main_v34 (F := Ideal) x0 x1 x3 (ix5 b h m t j)
      = (∑ d : Fin 64, val_main_v18 (F := Ideal) x0 (ix5 b t h m d) * val_main_v30 (F := Ideal) x1 x3 (ix5 b j h m d)) * Ideal.ofBits .f32 0x3E000000#32 := by
  pointwise [val_main_v34, val_main_v33, val_main_cst_1, val_main_v32]

/-- The maximum over the keys. -/
theorem v37_at (b : Fin 4) (h : Fin 8) (m : Fin 2) (t : Fin 8192) :
    val_main_v37 (F := Ideal) x0 x1 x3 (ix4 b h m t)
      = max (Ideal.ofBits .f32 0xFF800000#32) (Finset.univ.fold max (Ideal.ofBits .f32 0xFF800000#32) fun j : Fin 8448 => val_main_v34 (F := Ideal) x0 x1 x3 (ix5 b h m t j)) := by
  rw [val_main_v37_apply, val_main_v36_apply, val_main_cst_3_apply]
  unfold val_main_v35
  generalize val_main_v34 (F := Ideal) x0 x1 x3 = y
  rw [Host.reduce_eq_fold, Shape.ReducesTo.fold_fiber_r5_a4]
  simp only [pointwise, val_main_cst_2_apply]

/-- The softmax: the exponential of the score less the maximum, over the sum of them all. -/
theorem v45_at (b : Fin 4) (h : Fin 8) (m : Fin 2) (t : Fin 8192) (j : Fin 8448) :
    val_main_v45 (F := Ideal) x0 x1 x3 (ix5 b h m t j)
      = Ideal.div (Ideal.exp (val_main_v34 (F := Ideal) x0 x1 x3 (ix5 b h m t j) - val_main_v37 (F := Ideal) x0 x1 x3 (ix4 b h m t)))
          (∑ j : Fin 8448, Ideal.exp (val_main_v34 (F := Ideal) x0 x1 x3 (ix5 b h m t j) - val_main_v37 (F := Ideal) x0 x1 x3 (ix4 b h m t))) := by
  pointwise [val_main_v45, val_main_v44, val_main_v43, val_main_v42, val_main_cst_4, val_main_v41, val_main_v40, val_main_v39, val_main_v38]

/-- The first map less λ times the second. -/
theorem v52_at (b : Fin 4) (h : Fin 8) (t : Fin 8192) (j : Fin 8448) (i : S_.Idx) :
    val_main_v52 (F := Ideal) x0 x1 x3 x4 x6 (ix4 b h t j)
      = val_main_v45 (F := Ideal) x0 x1 x3 (ix5 b h 0 t j) - val_main_v16 (F := Ideal) x4 x6 i * val_main_v45 (F := Ideal) x0 x1 x3 (ix5 b h 1 t j) := by
  have e0 : idx_main_v46 (idx_main_v47 (ix4 b h t j)) = ix5 b h 0 t j := funext fun a => match a with
    | ⟨0, _⟩ => Fin.ext (by show (((b.val * 8 + h.val) * 8192 + t.val) * 8448 + j.val) / 553648128 = b.val; omega)
    | ⟨1, _⟩ => Fin.ext (by show (((b.val * 8 + h.val) * 8192 + t.val) * 8448 + j.val) / 69206016 % 8 = h.val; omega)
    | ⟨2, _⟩ => rfl
    | ⟨3, _⟩ => Fin.ext (by show (((b.val * 8 + h.val) * 8192 + t.val) * 8448 + j.val) / 8448 % 8192 = t.val; omega)
    | ⟨4, _⟩ => Fin.ext (by show (((b.val * 8 + h.val) * 8192 + t.val) * 8448 + j.val) % 8448 = j.val; omega)
  have e1 : idx_main_v48 (idx_main_v49 (ix4 b h t j)) = ix5 b h 1 t j := funext fun a => match a with
    | ⟨0, _⟩ => Fin.ext (by show (((b.val * 8 + h.val) * 8192 + t.val) * 8448 + j.val) / 553648128 = b.val; omega)
    | ⟨1, _⟩ => Fin.ext (by show (((b.val * 8 + h.val) * 8192 + t.val) * 8448 + j.val) / 69206016 % 8 = h.val; omega)
    | ⟨2, _⟩ => rfl
    | ⟨3, _⟩ => Fin.ext (by show (((b.val * 8 + h.val) * 8192 + t.val) * 8448 + j.val) / 8448 % 8192 = t.val; omega)
    | ⟨4, _⟩ => Fin.ext (by show (((b.val * 8 + h.val) * 8192 + t.val) * 8448 + j.val) % 8448 = j.val; omega)
  rw [val_main_v52_apply, val_main_v51_apply, val_main_v50_apply, val_main_v49_apply, val_main_v48_apply, val_main_v47_apply, val_main_v46_apply, e0, e1,
    show idx_main_v50 (ix4 b h t j) = i from funext fun a => a.elim0]
  rfl

/-- The weighted sum of the values. -/
theorem v53_at (b : Fin 4) (h : Fin 8) (e : Fin 128) (t : Fin 8192) :
    val_main_v53 (F := Ideal) x0 x1 x2 x3 x4 x6 (ix4 b h e t)
      = ∑ j : Fin 8448, val_main_v31 (F := Ideal) x2 x3 (ix4 b j h e) * val_main_v52 (F := Ideal) x0 x1 x3 x4 x6 (ix4 b h t j) := by
  pointwise [val_main_v53]

/-- The RMS norm of a head's vector, the weights and the factor `1 - λ_init`. -/
theorem v73_at (x5 : Vec Ideal S128 .f32) (b : Fin 4) (t : Fin 8192) (c : Fin 1024) :
    val_main_v73 (F := Ideal) x0 x1 x2 x3 x4 x5 x6 (ix3 b t c)
      = val_main_v53 (F := Ideal) x0 x1 x2 x3 x4 x6 (ix4 b ⟨c.val / 128, by omega⟩ ⟨c.val % 128, by omega⟩ t)
          * Ideal.rsqrt (Ideal.div (∑ x : Fin 128, val_main_v53 (F := Ideal) x0 x1 x2 x3 x4 x6 (ix4 b ⟨c.val / 128, by omega⟩ x t) * val_main_v53 (F := Ideal) x0 x1 x2 x3 x4 x6 (ix4 b ⟨c.val / 128, by omega⟩ x t)) (Ideal.ofBits .f32 0x43000000#32) + Ideal.ofBits .f32 0x358637BD#32)
          * x5 (ix1 ⟨c.val % 128, by omega⟩) * (1 - x6 (ix1 0)) := by
  pointwise [val_main_v73, val_main_v72, val_main_v71, val_main_v70, val_main_v69, val_main_v68, val_main_cst_8, val_main_v67, val_main_v66, val_main_v65, val_main_v64, val_main_v63, val_main_v62, val_main_v61, val_main_v60, val_main_cst_7, val_main_v59, val_main_v58, val_main_cst_6, val_main_v57, val_main_v56, val_main_cst_5, val_main_v55, val_main_v54]

end Cert.ReferenceIdeal.Ref

end
-- ==== Proof.RI.Softmax.lean ====
/-
  The reference's two softmax maps and their difference, element by element, of real arguments.
-/
module

public import proofs.«01_k».proof.Proof.RI.Reads
public import proofs.«01_k».proof.Proof.RI.Stages
public import proofs.«01_k».proof.Proof.Math.Heads

@[expose] public section

noncomputable section

namespace Cert.ReferenceIdeal.Ref

open Cert.ReferenceIdeal Cert.ReferenceIdeal.Gen Cert.ReferenceIdeal.Read
open Idealize.ShloMosaic Idealize.ShloMosaic.TcCoe
open Idealize.ShloMosaic.Pointwise

theorem ofBits_eighth : Ideal.ofBits .f32 0x3E000000#32 = ((1 / 8 : ℝ) : EReal) := by
  simp [Ideal.ofBits, Ideal.ieee, -EReal.coe_mul]; norm_num

variable (x0 x1 : Vec Ideal S4x8192x1024 .bf16) (x2 : Vec Ideal S4x1024x8192 .bf16) (x3 : Vec Ideal S4x256x10240 .bf16) (x4 : Vec Ideal S4x64 .f32) (x6 : Vec Ideal S1 .f32)
  (q k : Fin 4 → Fin 8192 → Fin 1024 → ℝ) (v : Fin 4 → Fin 1024 → Fin 8192 → ℝ) (pc : Fin 4 → Fin 256 → Fin 10240 → ℝ) (L : ℝ)
  (h0 : ∀ b t c, x0 (ix3 b t c) = (q b t c : EReal)) (h1 : ∀ b t c, x1 (ix3 b t c) = (k b t c : EReal))
  (h2 : ∀ b c t, x2 (ix3 b c t) = (v b c t : EReal)) (h3 : ∀ b t c, x3 (ix3 b t c) = (pc b t c : EReal))
  (hL : ∀ i, val_main_v16 (F := Ideal) x4 x6 i = (L : EReal))

include h0 h1 h3 in
/-- The scaled scores, latent keys then context keys. -/
theorem v34_cell (b : Fin 4) (h : Fin 8) (m : Fin 2) (t : Fin 8192) (j : Fin 8448) :
    val_main_v34 (F := Ideal) x0 x1 x3 (ix5 b h m t j) = (Soft.score q k pc b h m t j : EReal) := by
  revert j
  refine Soft.cat_cases (fun j => ?_) fun j => ?_
  · rw [v34_at]
    unfold Soft.score
    rw [Soft.cat_lat]
    simp only [v18_cell, v30_lat, h0, h1, Soft.coe_sum_mul, ofBits_eighth, ← EReal.coe_mul]
    rfl
  · rw [v34_at]
    unfold Soft.score
    rw [Soft.cat_ctx]
    simp only [v18_cell, v30_ctx, h0, h3, Soft.coe_sum_mul, ofBits_eighth, ← EReal.coe_mul]
    rfl

include h0 h1 h3 in
/-- The maximum subtracted is a real. -/
theorem v37_cell (b : Fin 4) (h : Fin 8) (m : Fin 2) (t : Fin 8192) : ∃ M : ℝ, val_main_v37 (F := Ideal) x0 x1 x3 (ix4 b h m t) = (M : EReal) := by
  obtain ⟨M, hM⟩ := Soft.fold_max_real (by norm_num : 0 < 8448) (Soft.score q k pc b h m t)
  refine ⟨M, ?_⟩
  rw [v37_at]
  simp only [v34_cell x0 x1 x3 q k pc h0 h1 h3, Soft.ofBits_neg_inf]
  rw [hM]
  exact max_bot_left _

include h0 h1 h3 in
/-- The softmax. -/
theorem v45_cell (b : Fin 4) (h : Fin 8) (m : Fin 2) (t : Fin 8192) (j : Fin 8448) :
    val_main_v45 (F := Ideal) x0 x1 x3 (ix5 b h m t j)
      = ((Real.exp (Soft.score q k pc b h m t j) / Soft.den (Soft.headQ q b h t) (Soft.headQ k b h) (Soft.headKC pc b h) m : ℝ) : EReal) := by
  obtain ⟨M, hM⟩ := v37_cell x0 x1 x3 q k pc h0 h1 h3 b h m t
  rw [v45_at]
  simp only [v34_cell x0 x1 x3 q k pc h0 h1 h3, hM]
  rw [← Soft.sum_exp_score]
  exact Soft.soft_shift (by norm_num) _ M j

include h0 h1 h3 hL in
/-- The difference of the maps. -/
theorem v52_cell (b : Fin 4) (h : Fin 8) (t : Fin 8192) (j : Fin 8448) :
    val_main_v52 (F := Ideal) x0 x1 x3 x4 x6 (ix4 b h t j)
      = ((Real.exp (Soft.score q k pc b h 0 t j) / Soft.den (Soft.headQ q b h t) (Soft.headQ k b h) (Soft.headKC pc b h) 0
          - L * (Real.exp (Soft.score q k pc b h 1 t j) / Soft.den (Soft.headQ q b h t) (Soft.headQ k b h) (Soft.headKC pc b h) 1) : ℝ) : EReal) := by
  rw [v52_at _ _ _ _ _ _ _ _ _ (fun a => a.elim0)]
  simp only [v45_cell x0 x1 x3 q k pc h0 h1 h3, hL, ← EReal.coe_mul, ← EReal.coe_sub]

include h2 h3 in
/-- The values, latent then context. -/
theorem v31_cell (b : Fin 4) (h : Fin 8) (e : Fin 128) (j : Fin 8448) :
    val_main_v31 (F := Ideal) x2 x3 (ix4 b j h e) = (Soft.cat (Soft.headV v b h e) (Soft.headVC pc b h e) j : EReal) := by
  revert j
  refine Soft.cat_cases (fun j => ?_) fun j => ?_
  · rw [Soft.cat_lat, v31_lat, h2]; rfl
  · rw [Soft.cat_ctx, v31_ctx, h3]; rfl

include h0 h1 h2 h3 hL in
/-- The attention. -/
theorem v53_cell (b : Fin 4) (h : Fin 8) (e : Fin 128) (t : Fin 8192) :
    val_main_v53 (F := Ideal) x0 x1 x2 x3 x4 x6 (ix4 b h e t)
      = ((Soft.att L (Soft.headQ q b h t) (Soft.headQ k b h) (Soft.headKC pc b h) (Soft.headV v b h e) (Soft.headVC pc b h e) : ℝ) : EReal) := by
  rw [v53_at]
  simp only [v31_cell x2 x3 v pc h2 h3, v52_cell x0 x1 x3 x4 x6 q k pc L h0 h1 h3 hL, Soft.coe_sum_mul]
  rw [Soft.sum_diff]

include h0 h1 h2 h3 hL in
/-- The reference's result. -/
theorem v73_cell (x5 : Vec Ideal S128 .f32) (b : Fin 4) (t : Fin 8192) (c : Fin 1024) :
    val_main_v73 (F := Ideal) x0 x1 x2 x3 x4 x5 x6 (ix3 b t c)
      = Soft.value q k v pc L b t ⟨c.val / 128, by omega⟩ ⟨c.val % 128, by omega⟩ * x5 (ix1 ⟨c.val % 128, by omega⟩) * (1 - x6 (ix1 0)) := by
  rw [v73_at]
  simp only [v53_cell x0 x1 x2 x3 x4 x6 q k v pc L h0 h1 h2 h3 hL]
  rfl

end Cert.ReferenceIdeal.Ref

end
-- ==== Proof.Equation.lean ====
/-
  The equation: on finite arguments the kernel's result array and the reference's are the same function of the arguments.
-/
module

public import proofs.«01_k».proof.Defs
public import proofs.«01_k».proof.Proof.Finite
public import proofs.«01_k».proof.Proof.PI.Array
public import proofs.«01_k».proof.Proof.RI.Softmax
public import proofs.«01_k».proof.Proof.RI.Run

@[expose] public section

noncomputable section

namespace Cert.Equation

open Idealize.ShloMosaic Idealize.ShloMosaic.TcCoe Idealize.SL.Sem
open Idealize.ShloMosaic.Pointwise

section Result
open Cert.KernelIdeal Cert.KernelIdeal.Att

/-- The element of an array at coordinates, as a real. -/
def at3 {a b c : ℕ} (x : (⟨3, ![a, b, c]⟩ : Shape).Idx → EReal) (i : Fin a) (j : Fin b) (l : Fin c) : ℝ := (x (ix3 i j l)).toReal

/-- λ of real vectors is a real. -/
theorem lam_real (x4 : Vec Ideal S4x64 .f32) (x6 : Vec Ideal S1 .f32) (h4 : ∀ i, x4 i = (((x4 i).toReal : ℝ) : EReal)) (h6 : ∀ i, x6 i = (((x6 i).toReal : ℝ) : EReal)) :
    hostLam x4 x6 (ix1 0) = (((hostLam x4 x6 (ix1 0)).toReal : ℝ) : EReal) := by
  suffices h : ∃ r : ℝ, hostLam x4 x6 (ix1 0) = (r : EReal) by
    obtain ⟨r, h⟩ := h
    rw [h, EReal.toReal_coe]
  rw [hostLam_cell, h6 (ix1 0)]
  have hs : ∀ i j : Fin 4, (∑ d : Fin 64, x4 (ix2 i d) * x4 (ix2 j d)) = ((∑ d : Fin 64, (x4 (ix2 i d)).toReal * (x4 (ix2 j d)).toReal : ℝ) : EReal) := fun i j => by
    rw [← Soft.coe_sum_mul]
    exact Finset.sum_congr rfl fun d _ => congrArg₂ (· * ·) (h4 _) (h4 _)
  rw [hs, hs, Soft.exp_coe, Soft.exp_coe, ← EReal.coe_sub, ← EReal.coe_add]
  exact ⟨_, rfl⟩

/-- The common value: what both programs leave in their result. -/
def common (x0 x1 : Vec Ideal S4x8192x1024 .bf16) (x2 : Vec Ideal S4x1024x8192 .bf16) (x3 : Vec Ideal S4x256x10240 .bf16) (x4 : Vec Ideal S4x64 .f32)
    (x5 : Vec Ideal S128 .f32) (x6 : Vec Ideal S1 .f32) : Vec Ideal S4x8192x1024 .bf16 :=
  result (at3 x0) (at3 x1) (at3 x2) (at3 x3) (hostLam x4 x6 (ix1 0)).toReal x5 x6

/-- The reference's result is the common value. -/
theorem ref_eq (x0 x1 : Vec Ideal S4x8192x1024 .bf16) (x2 : Vec Ideal S4x1024x8192 .bf16) (x3 : Vec Ideal S4x256x10240 .bf16) (x4 : Vec Ideal S4x64 .f32)
    (x5 : Vec Ideal S128 .f32) (x6 : Vec Ideal S1 .f32)
    (h0 : ∀ i, x0 i = (((x0 i).toReal : ℝ) : EReal)) (h1 : ∀ i, x1 i = (((x1 i).toReal : ℝ) : EReal)) (h2 : ∀ i, x2 i = (((x2 i).toReal : ℝ) : EReal))
    (h3 : ∀ i, x3 i = (((x3 i).toReal : ℝ) : EReal)) (h4 : ∀ i, x4 i = (((x4 i).toReal : ℝ) : EReal)) (h6 : ∀ i, x6 i = (((x6 i).toReal : ℝ) : EReal)) :
    Cert.ReferenceIdeal.Read.val_main_v73 (F := Ideal) x0 x1 x2 x3 x4 x5 x6 = common x0 x1 x2 x3 x4 x5 x6 := by
  refine funext fun (i : S4x8192x1024.Idx) => ?_
  obtain ⟨b, t, c, rfl⟩ : ∃ (b : Fin 4) (t : Fin 8192) (c : Fin 1024), i = ix3 b t c :=
    ⟨i 0, i 1, i 2, funext fun a => by match a with | ⟨0, _⟩ => rfl | ⟨1, _⟩ => rfl | ⟨2, _⟩ => rfl⟩
  have hL : ∀ i, Cert.ReferenceIdeal.Read.val_main_v16 (F := Ideal) x4 x6 i = (((hostLam x4 x6 (ix1 0)).toReal : ℝ) : EReal) := fun i => by
    rw [← lam_real x4 x6 h4 h6, hostLam_cell, Cert.ReferenceIdeal.Ref.lam_cell]
  rw [Cert.ReferenceIdeal.Ref.v73_cell x0 x1 x2 x3 x4 x6 (at3 x0) (at3 x1) (at3 x2) (at3 x3) (hostLam x4 x6 (ix1 0)).toReal
    (fun _ _ _ => h0 _) (fun _ _ _ => h1 _) (fun _ _ _ => h2 _) (fun _ _ _ => h3 _) hL x5 b t c]
  show _ = Soft.value (at3 x0) (at3 x1) (at3 x2) (at3 x3) (hostLam x4 x6 (ix1 0)).toReal b t ⟨c.val / 128, _⟩ ⟨c.val % 128, _⟩ * hostWn x5 x6 (ix2 0 ⟨c.val % 128, _⟩)
  rw [hostWn_cell, mul_assoc]

end Result

/-- What a run satisfies by two accounts it satisfies together. -/
theorem both {nD : ℕ} {τ : Topo} {sig : RefSig} {Val : EltTy → Type} {Λ : Labels} {defs : Defs nD τ sig Val Λ} {p : (c : Thread nD τ) → Prog (TpuEff nD τ sig Val Λ c.2) PUnit}
    {s : MemSt nD τ sig Val} {Q Q' : PUnit × MemSt nD τ sig Val → Prop} (h : θ_run defs p s Q) (h' : θ_run defs p s Q') :
    θ_run defs p s fun r => Q r ∧ Q' r :=
  ⟨fun t ht hf => ⟨h.post t ht hf, h'.post t ht hf⟩, h.progress, h.fair⟩

/-- On finite arguments the two programs end with equal results, and with their arguments unchanged. -/
theorem algebraic : Cert.algebraic_KernelIdeal_ReferenceIdeal_pre_finite := by
  intro m g m' g' hpre harg
  refine ⟨fun c => common (m ((c.tc : Thread Cert.KernelIdeal.nD Cert.KernelIdeal.τ).loc Cert.KernelIdeal.main_arg0)) (m ((c.tc : Thread Cert.KernelIdeal.nD Cert.KernelIdeal.τ).loc Cert.KernelIdeal.main_arg1))
    (m ((c.tc : Thread Cert.KernelIdeal.nD Cert.KernelIdeal.τ).loc Cert.KernelIdeal.main_arg2)) (m ((c.tc : Thread Cert.KernelIdeal.nD Cert.KernelIdeal.τ).loc Cert.KernelIdeal.main_arg3))
    (m ((c.tc : Thread Cert.KernelIdeal.nD Cert.KernelIdeal.τ).loc Cert.KernelIdeal.main_arg4)) (m ((c.tc : Thread Cert.KernelIdeal.nD Cert.KernelIdeal.τ).loc Cert.KernelIdeal.main_arg5))
    (m ((c.tc : Thread Cert.KernelIdeal.nD Cert.KernelIdeal.τ).loc Cert.KernelIdeal.main_arg6)), ?_, ?_⟩
  · have hrun := Cert.KernelIdeal.Att.run_main m g
    have hargs := Cert.KernelIdeal.Gen.frame_of m g (Cert.KernelIdeal.Att.dats m) (fun _ _ => rfl) ((θ_run _ _ _).mono (fun _ h => h.1) hrun)
    refine (θ_run _ _ _).mono (fun r h c => ⟨?_, h.2 c⟩) (both hrun hargs)
    obtain ⟨p0, p1, p2, p3, p4, p6⟩ := hpre c
    exact ((h.1.1 c).1 7).trans (Cert.KernelIdeal.Att.arr_eq m c _ _ _ _ _
      (fun _ _ _ => Finite.fin0 _ _ _ _ _ _ _ p0 _) (fun _ _ _ => Finite.fin1 _ _ _ _ _ _ _ p1 _) (fun _ _ _ => Finite.fin2 _ _ _ _ _ _ _ p2 _)
      (fun _ _ _ => Finite.fin3 _ _ _ _ _ _ _ p3 _) (lam_real _ _ (Finite.fin4 _ _ _ _ _ _ _ p4) (Finite.fin6 _ _ _ _ _ _ _ p6)))
  · refine (θ_run _ _ _).mono (fun r h c => ⟨(h c).1.trans ?_, (h c).2⟩) (Cert.ReferenceIdeal.Value.run m' g')
    obtain ⟨a0, a1, a2, a3, a4, a5, a6⟩ := harg c
    obtain ⟨p0, p1, p2, p3, p4, p6⟩ := hpre c
    rw [Cert.ReferenceIdeal.Read.val_main_v73_eq, a0, a1, a2, a3, a4, a5, a6]
    exact ref_eq _ _ _ _ _ _ _ (Finite.fin0 _ _ _ _ _ _ _ p0) (Finite.fin1 _ _ _ _ _ _ _ p1) (Finite.fin2 _ _ _ _ _ _ _ p2)
      (Finite.fin3 _ _ _ _ _ _ _ p3) (Finite.fin4 _ _ _ _ _ _ _ p4) (Finite.fin6 _ _ _ _ _ _ _ p6)

end Cert.Equation

end
-- ==== Proof.PI2.Body.lean ====
/-
  The projection's body on any staging memrefs, at the first column block of a row block and at a later one.
-/
module

public import proofs.«01_k».proof.Proof.Gen.Kernel2Ideal.Frame
public import proofs.«01_k».proof.Proof.Gen.Kernel2Ideal.Skeleton
public import Idealize.ShloMosaic.Lib.Tactic
public import Idealize.ShloMosaic.Lib.Pipeline.Value

@[expose] public section

noncomputable section

namespace Cert.Kernel2Ideal.Proj

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

abbrev 𝒱₀ : Variants := Variants.none

theorem hz2 : (![0, 0] : Fin 2 → ℕ) = fun _ => 0 := by decide
theorem hz3 : (![0, 0, 0] : Fin 3 → ℕ) = fun _ => 0 := by decide

/-- One piece over the whole of a shape covers it. -/
theorem cov {S : Shape} {n : EltTy} {z : Fin S.rank → ℕ} (hz : z = fun _ => 0) (h : ∀ a, z a + S.size a ≤ S.size a) (w : S.Idx → Elt F n) (L : List (View.Piece (Elt F) S n)) :
    ∀ y, ∃ p ∈ (⟨Rect.unit (s := S) z S.size h, w⟩ :: L : List (View.Piece (Elt F) S n)), y ∈ p.1.set := fun y =>
  ⟨_, List.mem_cons_self, by
    subst hz
    rw [Rect.mem_set_unit]
    exact fun a => ⟨Nat.zero_le _, lt_of_lt_of_eq (y a).isLt (Nat.zero_add _).symm⟩⟩

set_option maxHeartbeats 4000000 in
/-- At the first column block: the normalised rows go to the scratch, their products to both results' blocks. -/
theorem run_first (c : Dev nD) (i : grid0.Coords) (hi : k0_cond1 i = 1#1) (arg3 : Memref sig .tc .vmem S1x2048x1024 .f32) (h3 : arg3.IsWhole)
    (arg4 : Memref sig .tc .vmem S1x1x1024 .f32) (h4 : arg4.IsWhole) (arg5 : Memref sig .tc .vmem S1x1x1024 .f32) (h5 : arg5.IsWhole)
    (arg6 : Memref sig .tc .vmem S1024x1024 .bf16) (h6 : arg6.IsWhole) (arg7 : Memref sig .tc .vmem S1024x128 .bf16) (h7 : arg7.IsWhole)
    (arg8 : Memref sig .tc .vmem S1x2048x1024 .bf16) (h8 : arg8.IsWhole) (arg9 : Memref sig .tc .vmem S1x2048x128 .f32) (h9 : arg9.IsWhole)
    (arg10 : Memref sig .tc .vmem S2048x1024 .bf16) (h10 : arg10.IsWhole)
    (x3 : Vec F S1x2048x1024 .f32) (x4 x5 : Vec F S1x1x1024 .f32) (x6 : Vec F S1024x1024 .bf16) (x7 : Vec F S1024x128 .bf16) (E : Set ℕ) (K : PUnit → sProp 𝕄) :
    iprop(owns (c : Thread nD τ) arg3 fullShare x3 ∗ owns (c : Thread nD τ) arg4 fullShare x4 ∗ owns (c : Thread nD τ) arg5 fullShare x5
        ∗ owns (c : Thread nD τ) arg6 fullShare x6 ∗ owns (c : Thread nD τ) arg7 fullShare x7
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg3 fullShare x3 ∗ owns (c : Thread nD τ) arg4 fullShare x4 ∗ owns (c : Thread nD τ) arg5 fullShare x5
        ∗ owns (c : Thread nD τ) arg6 fullShare x6 ∗ owns (c : Thread nD τ) arg7 fullShare x7
        ∗ owns (c : Thread nD τ) arg8 fullShare (k0_pay4 (k0_pay2 x3 x4 x5) x6) ∗ owns (c : Thread nD τ) arg9 fullShare (k0_pay3 x3 x4 x5 x7)
        ∗ owns (c : Thread nD τ) arg10 fullShare (k0_pay2 x3 x4 x5)) -∗ K ⟨⟩))
      ⊢ wp frame (wpE (defs₀ (F := F)) 𝒱₀ c none) E
          (cc0__proj_kernel i arg3 h3 arg4 h4 arg5 h5 arg6 h6 arg7 h7 arg8 h8 arg9 h9 arg10 h10) K := by
  unfold owns
  iintro ⟨⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
  obtain rfl := h3.eq_unread hf3; obtain rfl := h4.eq_unread hf4; obtain rfl := h5.eq_unread hf5; obtain rfl := h6.eq_unread hf6
  obtain rfl := h7.eq_unread hf7
  simp only [cc0__proj_kernel_eq_skeleton]
  unfold cc0__proj_kernel_skel
  rw [dif_pos hi]
  sl_exec
  sl_step
  iapply Hk
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr; · ipureintro; exact h6.read_unread _
    iexact H6
  isplitl [H7]
  · iexists _; isplitr; · ipureintro; exact h7.read_unread _
    iexact H7
  isplitl [H8]
  · iexists _; isplitr; swap; · iexact H8
    ipureintro
    rw [View.read_writes_eq_canon _ _ _ (cov hz3 _ _ _), View.canon_cons_unit_zero (S := S1x2048x1024) hz3]
    sl_unfold_words
    rw [View.readCov_cons_toLoadRect]
    congr 1
    · congr 1
      · rw [View.readAt_eq_ld, hf3]; exact View.ld_unit_zero (S := S1x2048x1024) hz3 _ _
      · rw [View.readAt_eq_ld, hf4]; exact View.ld_unit_zero (S := S1x1x1024) hz3 _ _
      · rw [View.readAt_eq_ld, hf5]; exact View.ld_unit_zero (S := S1x1x1024) hz3 _ _
    · rw [View.readAt_eq_ld, hf6]; exact View.ld_unit_zero (S := S1024x1024) hz2 _ _
  isplitl [H9]
  · iexists _; isplitr; swap; · iexact H9
    ipureintro
    rw [View.read_writes_eq_canon _ _ _ (cov hz3 _ _ _), View.canon_cons_unit_zero (S := S1x2048x128) hz3]
    congr 1
    · rw [View.readAt_eq_ld, hf3]; exact View.ld_unit_zero (S := S1x2048x1024) hz3 _ _
    · rw [View.readAt_eq_ld, hf4]; exact View.ld_unit_zero (S := S1x1x1024) hz3 _ _
    · rw [View.readAt_eq_ld, hf5]; exact View.ld_unit_zero (S := S1x1x1024) hz3 _ _
    · rw [View.readAt_eq_ld, hf7]; exact View.ld_unit_zero (S := S1024x128) hz2 _ _
  iexists _; isplitr; swap; · iexact H10
  ipureintro
  sl_unfold_words
  rw [View.read_writes_eq_canon _ _ _ (cov hz2 _ _ _), View.canon_cons_unit_zero (S := S2048x1024) hz2]
  congr 1
  · rw [View.readAt_eq_ld, hf3]; exact View.ld_unit_zero (S := S1x2048x1024) hz3 _ _
  · rw [View.readAt_eq_ld, hf4]; exact View.ld_unit_zero (S := S1x1x1024) hz3 _ _
  · rw [View.readAt_eq_ld, hf5]; exact View.ld_unit_zero (S := S1x1x1024) hz3 _ _

set_option maxHeartbeats 4000000 in
/-- At a later column block: the scratch still holds the rows `s`, whose products with the weights go to the first result's block. -/
theorem run_later (c : Dev nD) (i : grid0.Coords) (hi : ¬ k0_cond1 i = 1#1) (arg3 : Memref sig .tc .vmem S1x2048x1024 .f32) (h3 : arg3.IsWhole)
    (arg4 : Memref sig .tc .vmem S1x1x1024 .f32) (h4 : arg4.IsWhole) (arg5 : Memref sig .tc .vmem S1x1x1024 .f32) (h5 : arg5.IsWhole)
    (arg6 : Memref sig .tc .vmem S1024x1024 .bf16) (h6 : arg6.IsWhole) (arg7 : Memref sig .tc .vmem S1024x128 .bf16) (h7 : arg7.IsWhole)
    (arg8 : Memref sig .tc .vmem S1x2048x1024 .bf16) (h8 : arg8.IsWhole) (arg9 : Memref sig .tc .vmem S1x2048x128 .f32) (h9 : arg9.IsWhole)
    (arg10 : Memref sig .tc .vmem S2048x1024 .bf16) (h10 : arg10.IsWhole)
    (x6 : Vec F S1024x1024 .bf16) (s : Vec F S2048x1024 .bf16) (E : Set ℕ) (K : PUnit → sProp 𝕄) :
    iprop(owns (c : Thread nD τ) arg6 fullShare x6
        ∗ (∃ d, owns (c : Thread nD τ) arg8 fullShare d) ∗ owns (c : Thread nD τ) arg10 fullShare s
        ∗ (iprop(owns (c : Thread nD τ) arg6 fullShare x6
        ∗ owns (c : Thread nD τ) arg8 fullShare (k0_pay4 s x6) ∗ owns (c : Thread nD τ) arg10 fullShare s) -∗ K ⟨⟩))
      ⊢ wp frame (wpE (defs₀ (F := F)) 𝒱₀ c none) E
          (cc0__proj_kernel i arg3 h3 arg4 h4 arg5 h5 arg6 h6 arg7 h7 arg8 h8 arg9 h9 arg10 h10) K := by
  unfold owns
  iintro ⟨⟨%f6, %hf6, H6⟩, ⟨%d8, %f8, -, H8⟩, ⟨%f10, %hf10, H10⟩, Hk⟩
  obtain rfl := h6.eq_unread hf6; obtain rfl := h10.eq_unread hf10
  simp only [cc0__proj_kernel_eq_skeleton]
  unfold cc0__proj_kernel_skel
  rw [dif_neg hi]
  sl_exec
  sl_step
  iapply Hk
  isplitl [H6]
  · iexists _; isplitr; · ipureintro; exact h6.read_unread _
    iexact H6
  isplitl [H8]
  · iexists _; isplitr; swap; · iexact H8
    ipureintro
    rw [View.read_writes_eq_canon _ _ _ (cov hz3 _ _ _), View.canon_cons_unit_zero (S := S1x2048x1024) hz3]
    congr 1
    · rw [View.readAt_eq_ld, hf10]; exact View.ld_unit_zero (S := S2048x1024) hz2 _ _
    · rw [View.readAt_eq_ld, hf6]; exact View.ld_unit_zero (S := S1024x1024) hz2 _ _
  iexists _; isplitr; · ipureintro; exact h10.read_unread _
  iexact H10

end Cert.Kernel2Ideal.Proj

end
-- ==== Proof.PI2.Frame.lean ====
/-
  The projection's run: the pipeline's proof data, the body's obligation at every grid point, the run and the arguments
  unchanged. The ten points of a row block share the scratch: its first point fills it, the nine later ones read it.
-/
module

public import proofs.«01_k».proof.Proof.PI2.Body
public import proofs.«01_k».proof.Proof.Gen.Kernel2Ideal.Points
public import Idealize.ShloMosaic.PureOps.BitExact
public import Idealize.ShloMosaic.Lib.Pipeline.TableIdle

@[expose] public section

noncomputable section

namespace Cert.Kernel2Ideal.Proj

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first point of the row block that point `t` lies in. -/
def base (t : Fin cfg0.N) : Fin cfg0.N := ⟨t.val - t.val % 10, Nat.lt_of_le_of_lt (Nat.sub_le _ _) t.isLt⟩

theorem base_self (t : Fin cfg0.N) (h : t.val % 10 = 0) : base t = t := Fin.ext (by simp only [base]; omega)

/-- The normalised rows that point `b` puts in the scratch. -/
def rowsOf (c : Dev nD) (b : Fin cfg0.N) : Vec F S2048x1024 .bf16 := k0_pay2 (iblk m c 0 b) (iblk m c 1 b) (iblk m c 2 b)

/-- The first result's block at point `t`: the row block's rows by the point's column block of the weights. -/
def mainAt (c : Dev nD) (t : Fin cfg0.N) : Vec F S1x2048x1024 .bf16 := k0_pay4 (rowsOf m c (base t)) (iblk m c 3 t)

/-- The second result's block at the point `b` that first opens a row block. -/
def dtOf (c : Dev nD) (b : Fin cfg0.N) : Vec F S1x2048x128 .f32 := k0_pay3 (iblk m c 0 b) (iblk m c 1 b) (iblk m c 2 b) (iblk m c 4 b)

/-- What the scratch holds before point `n`: inside a row block, the rows of the block's first point. -/
def scr (c : Dev nD) (n : ℕ) : sProp 𝕄 :=
  iprop((∃ s, ⌜n % 10 ≠ 0 → ∀ b : Fin cfg0.N, b.val = n - n % 10 → s = rowsOf m c b⌝ ∗ owns (c : Thread nD τ) (Memref.whole cc0_scratch0) fullShare s)
    ∗ ∃ r, prngReg c r)

/-- The pipeline's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => mainAt m c t
    | ⟨6, _⟩ => dtOf m c (base t)
  Φ n := scr m c n.val
  q _ := fullShare
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = mainAt m c t := by dsimp only [dats]
theorem after0_6 (c : Dev nD) (t : Fin cfg0.N) : (dats m 0 c).after 6 t = dtOf m c (base t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- The body's test holds exactly at the first point of each row block. -/
theorem cond_iff : ∀ t : Fin cfg0.N, k0_cond1 (cfg0.grid.coords t) = 1#1 ↔ t.val % 10 = 0 := by decide +kernel

theorem idle_eq (t : Fin cfg0.N) : cfg0.idle 6 (cfg0.grid.coords t) = decide (t.val % 10 ≠ 0) := by
  show (!(k0_cond1 (cfg0.grid.coords t) == 1#1)) = _
  by_cases h : t.val % 10 = 0
  · rw [(cond_iff t).2 h]; simp [h]
  · rw [beq_false_of_ne (mt (cond_iff t).1 h)]; simp [h]

theorem fresh_eq : ∀ n, n ≤ cfg0.N → cfg0.fresh 6 n = decide (n % 10 = 0) :=
  cfg0.fresh_tab 6 (fun n => decide (n % 10 = 0)) rfl fun t => by
    rw [idle_eq, Bool.eq_iff_iff, Bool.or_eq_true, flush0_6, Bool.and_eq_true, decide_eq_true_iff, decide_eq_true_iff, decide_eq_true_iff]
    omega

/-- Past a row block's first point the second result's buffer holds what that point stored. -/
theorem before0_6 (c : Dev nD) (t : Fin cfg0.N) (h : t.val % 10 ≠ 0) (d) : (dats m 0 c).before 6 t d = dtOf m c (base t) := by
  have hs : ∀ u : Fin cfg0.N, u.val % 10 ≠ 0 → ∀ hu, base u = base ⟨u.val - 1, hu⟩ := fun u hu _ => Fin.ext (by simp only [base]; omega)
  have hc : ∀ (u : Fin cfg0.N) (_ : u.val ≠ 0), cfg0.idle 6 (cfg0.grid.coords u) = true → cfg0.fresh 6 u.val = false →
      (dats m 0 c).after 6 u = (dats m 0 c).after 6 ⟨u.val - 1, by omega⟩ := fun u _ hi _ => by
    rw [idle_eq, decide_eq_true_iff] at hi
    rw [after0_6, after0_6, hs u hi]
  rw [(dats m 0 c).before_out_traj 6 rfl (fun _ _ => rfl) hc t.val t rfl d, fresh_eq _ t.isLt.le, if_neg (by simpa using h), after0_6,
    hs t h]

theorem phiA_eq (c : Dev nD) : (ΦA spec0 c : sProp 𝕄)
    = iprop((∃ d, owns (c : Thread nD τ) (Memref.whole cc0_scratch0) fullShare d) ∗ ∃ r, prngReg c r) := by
  unfold ΦA
  rw [scopedRest0_eq]
  simp only [owns_whole]

/-- At every grid point the body takes the staging buffers from the blocks fetched to the blocks to be written back. -/
theorem body_obligation (c : Dev nD) : BodyObligation (dats (F := F) m 0 c) (defs₀ (F := F)) 𝒱₀ () Set.univ := fun t => by
  rw [bigSep_W0, bigSep_W0]
  sl_whnfR [defs₀, Defs.onTc]
  simp only [before0_0, before0_1, before0_2, before0_3, before0_4]
  rw [show (dats m 0 c).Φ t.succ = scr m c (t.val + 1) from rfl, show (dats m 0 c).Φ t.castSucc = scr m c t.val from rfl,
    show (dats m 0 c).owesAt () t.succ = (dats m 0 c).owesAt () t.castSucc from rfl, after0_0, after0_1, after0_2, after0_3, after0_4,
    after0_5, after0_6]
  unfold scr
  by_cases h : t.val % 10 = 0
  · rw [show idle0 6 (grid0.coords t) = false from (idle_eq t).trans (by simp [h])]
    unfold mainAt
    rw [base_self t h]
    iintro ⟨⟨⟨%s, -, HS⟩, HR⟩, Ho, ⟨%d0, H0⟩, ⟨%d1, H1⟩, ⟨%d2, H2⟩, ⟨%d3, H3⟩, ⟨%d4, H4⟩, ⟨%d5, H5⟩, ⟨%d6, H6⟩⟩
    iapply (run_first c _ ((cond_iff t).2 h) _ _ _ _ _ _ _ _ _ _ _ _ _ _ _ _ (iblk m c 0 t) (iblk m c 1 t) (iblk m c 2 t) (iblk m c 3 t)
      (iblk m c 4 t) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS]; · iexists _; iexact HS
    iintro ⟨H0, H1, H2, H3, H4, H5, H6, HS⟩
    isplitl [HS HR]
    · isplitl [HS]
      · iexists _
        isplitr; swap; · iexact HS
        ipureintro
        intro _ b hb
        rw [show b = t from Fin.ext (by omega)]
        rfl
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [show idle0 6 (grid0.coords t) = true from (idle_eq t).trans (by simp [h])]
    simp only [before0_6 m c t h]
    unfold mainAt
    iintro ⟨⟨⟨%s, %hs, HS⟩, HR⟩, Ho, ⟨%d0, H0⟩, ⟨%d1, H1⟩, ⟨%d2, H2⟩, ⟨%d3, H3⟩, ⟨%d4, H4⟩, ⟨%d5, H5⟩, ⟨%d6, H6⟩⟩
    obtain rfl := hs h (base t) rfl
    iapply (run_later c _ (mt (cond_iff t).1 h) _ _ _ _ _ _ _ _ _ _ _ _ _ _ _ _ (iblk m c 3 t) (rowsOf m c (base t)) Set.univ _)
    isplitl [H3]; · iexact H3
    isplitl [H5]; · iexists _; iexact H5
    isplitl [HS]; · iexact HS
    iintro ⟨H3, H5, HS⟩
    isplitl [HS HR]
    · isplitl [HS]
      · iexists _
        isplitr; swap; · iexact HS
        ipureintro
        intro hn b hb
        rw [show base t = b from Fin.ext (by simp only [base]; omega)]
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    cases (win0 6).flush t
    · iexists d6; iexact H6
    · iexact H6

-- the library lemma's implicit arguments are found by unifying its conclusion with this one, which takes unfolding plain
-- definitions in a metavariable's type
set_option backward.isDefEq.respectTransparency.types false in
/-- Every run ends, with every array of the pipeline at what the proof data says and every semaphore at zero. -/
theorem run_main : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ 𝒱₀ m ρ main
    (hbody := fun c => (body_obligation m c).loose) (hshare := fun c => (dats m 0 c).share_full fun _ => rfl)
    (howed := fun _ _ => rfl) (V := V m) (hmain := hmain m 𝒱₀) (hA := fun _ _ => rfl)
    (hin := fun c => by
      rw [phiA_eq, show (dats m 0 c).Φ 0 = scr m c 0 from rfl]
      unfold scr
      iintro ⟨⟨%d, HS⟩, HR⟩
      isplitl [HS]
      · iexists d
        isplitr; · ipureintro; exact fun hn => absurd rfl hn
        iexact HS
      iexact HR)
    (hout := fun c => by
      rw [phiA_eq, show (dats m 0 c).Φ (Fin.last cfg0.N) = scr m c cfg0.N from rfl]
      unfold scr
      iintro ⟨⟨%d, -, HS⟩, HR⟩
      isplitl [HS]
      · iexists d; iexact HS
      iexact HR)

/-- Every run ends with the arguments unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_with_sems (frame_of m ρ (dats m) fun _ _ => rfl) (run_main m ρ)

end Cert.Kernel2Ideal.Proj

end
-- ==== Proof.RI2.Run.lean ====
/-
  The projection's reference's run: it ends with the arguments unchanged and every semaphore at zero.
-/
module

public import proofs.«01_k».proof.Proof.Gen.Reference2Ideal.Run
public import Idealize.ShloMosaic.Lib.Quiescent

@[expose] public section

noncomputable section

namespace Cert.Reference2Ideal.Ref

open Cert.Reference2Ideal Cert.Reference2Ideal.Gen
open Idealize.ShloMosaic Idealize.ShloMosaic.TcCoe Idealize.SL.Sem

variable {F : FTy → Type} [FloatOps F]

/-- Every run of the reference ends with the arguments unchanged and every semaphore at zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => (h c).2.2, Idealize.ShloMosaic.sem_eq_zero_of_no_sems (by decide) r.2⟩) (Value.run m ρ)

end Cert.Reference2Ideal.Ref

end
-- ==== Proof.PI2.Blocks.lean ====
/-
  Which elements of the arrays each grid point's blocks are: point `t` takes batch `t / 40`, the rows from
  `2048 · (t / 10 % 4)` and the columns from `1024 · (t % 10)`.
-/
module

public import proofs.«01_k».proof.Proof.Gen.Kernel2Ideal.Frame
public import Idealize.ShloMosaic.Lib.Pointwise

@[expose] public section

noncomputable section

namespace Cert.Kernel2Ideal.Proj

open Cert.Kernel2Ideal Cert.Kernel2Ideal.Gen
open Idealize.ShloMosaic Idealize.ShloMosaic.TcCoe
open Idealize.ShloMosaic.Pointwise

theorem N_eq : cfg0.N = 160 := by decide +kernel

theorem t_lt (t : Fin cfg0.N) : t.val < 160 := lt_of_lt_of_eq t.isLt N_eq

/-- The batch of a grid point. -/
def bOf (t : Fin cfg0.N) : Fin 4 := ⟨t.val / 40, by have := t_lt t; omega⟩
/-- A row of a grid point's row block, in the array. -/
def rOf (t : Fin cfg0.N) (r : Fin 2048) : Fin 8192 := ⟨2048 * (t.val / 10 % 4) + r.val, by omega⟩
/-- A column of a grid point's column block, in the array. -/
def cOf (t : Fin cfg0.N) (e : Fin 1024) : Fin 10240 := ⟨1024 * (t.val % 10) + e.val, by omega⟩

theorem idx0 : ∀ t : Fin cfg0.N, win0_0.index t (0 : Fin 3) = t.val / 40 ∧ win0_0.index t (1 : Fin 3) = t.val / 10 % 4 ∧ win0_0.index t (2 : Fin 3) = 0 :=
  (by decide +kernel : ∀ t : Fin grid0.N, _)
theorem idx1 : ∀ t : Fin cfg0.N, win0_1.index t (0 : Fin 3) = t.val / 40 ∧ win0_1.index t (1 : Fin 3) = 0 ∧ win0_1.index t (2 : Fin 3) = 0 :=
  (by decide +kernel : ∀ t : Fin grid0.N, _)
theorem idx2 : ∀ t : Fin cfg0.N, win0_2.index t (0 : Fin 3) = t.val / 40 ∧ win0_2.index t (1 : Fin 3) = 0 ∧ win0_2.index t (2 : Fin 3) = 0 :=
  (by decide +kernel : ∀ t : Fin grid0.N, _)
theorem idx3 : ∀ t : Fin cfg0.N, win0_3.index t (0 : Fin 2) = 0 ∧ win0_3.index t (1 : Fin 2) = t.val % 10 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 3) = t.val / 40 ∧ win0_5.index t (1 : Fin 3) = t.val / 10 % 4 ∧ win0_5.index t (2 : Fin 3) = t.val % 10 :=
  (by decide +kernel : ∀ t : Fin grid0.N, _)
theorem idx6 : ∀ t : Fin cfg0.N, win0_6.index t (0 : Fin 3) = t.val / 40 ∧ win0_6.index t (1 : Fin 3) = t.val / 10 % 4 ∧ win0_6.index t (2 : Fin 3) = 0 :=
  (by decide +kernel : ∀ t : Fin grid0.N, _)

theorem emb0 (t : Fin cfg0.N) (r : Fin 2048) (d : Fin 1024) :
    ((cfg0.win 0).blk t).view.emb (ix3 (0 : Fin 1) r d) = ix3 (bOf t) (rOf t r) d := by
  obtain ⟨e0, e1, e2⟩ := idx0 t
  funext a; apply Fin.ext
  match a with
  | ⟨0, _⟩ => show win0_0.index t (0 : Fin 3) * 1 + 1 * 0 = t.val / 40; omega
  | ⟨1, _⟩ => show win0_0.index t (1 : Fin 3) * 2048 + 1 * r.val = 2048 * (t.val / 10 % 4) + r.val; omega
  | ⟨2, _⟩ => show win0_0.index t (2 : Fin 3) * 1024 + 1 * d.val = d.val; omega

theorem emb1 (t : Fin cfg0.N) (d : Fin 1024) :
    ((cfg0.win 1).blk t).view.emb (ix3 (0 : Fin 1) (0 : Fin 1) d) = ix3 (bOf t) (0 : Fin 1) d := by
  obtain ⟨e0, e1, e2⟩ := idx1 t
  funext a; apply Fin.ext
  match a with
  | ⟨0, _⟩ => show win0_1.index t (0 : Fin 3) * 1 + 1 * 0 = t.val / 40; omega
  | ⟨1, _⟩ => show win0_1.index t (1 : Fin 3) * 1 + 1 * 0 = 0; omega
  | ⟨2, _⟩ => show win0_1.index t (2 : Fin 3) * 1024 + 1 * d.val = d.val; omega

theorem emb2 (t : Fin cfg0.N) (d : Fin 1024) :
    ((cfg0.win 2).blk t).view.emb (ix3 (0 : Fin 1) (0 : Fin 1) d) = ix3 (bOf t) (0 : Fin 1) d := by
  obtain ⟨e0, e1, e2⟩ := idx2 t
  funext a; apply Fin.ext
  match a with
  | ⟨0, _⟩ => show win0_2.index t (0 : Fin 3) * 1 + 1 * 0 = t.val / 40; omega
  | ⟨1, _⟩ => show win0_2.index t (1 : Fin 3) * 1 + 1 * 0 = 0; omega
  | ⟨2, _⟩ => show win0_2.index t (2 : Fin 3) * 1024 + 1 * d.val = d.val; omega

theorem emb3 (t : Fin cfg0.N) (d e : Fin 1024) :
    ((cfg0.win 3).blk t).view.emb (ix2 d e) = ix2 d (cOf t e) := by
  obtain ⟨e0, e1⟩ := idx3 t
  funext a; apply Fin.ext
  match a with
  | ⟨0, _⟩ => show win0_3.index t (0 : Fin 2) * 1024 + 1 * d.val = d.val; omega
  | ⟨1, _⟩ => show win0_3.index t (1 : Fin 2) * 1024 + 1 * e.val = 1024 * (t.val % 10) + e.val; omega

theorem emb4 (t : Fin cfg0.N) (d : Fin 1024) (e : Fin 128) :
    ((cfg0.win 4).blk t).view.emb (ix2 d e) = ix2 d e := by
  obtain ⟨e0, e1⟩ := idx4 t
  funext a; apply Fin.ext
  match a with
  | ⟨0, _⟩ => show win0_4.index t (0 : Fin 2) * 1024 + 1 * d.val = d.val; omega
  | ⟨1, _⟩ => show win0_4.index t (1 : Fin 2) * 128 + 1 * e.val = e.val; omega

theorem emb5 (t : Fin cfg0.N) (r : Fin 2048) (e : Fin 1024) :
    ((cfg0.win 5).blk t).view.emb (ix3 (0 : Fin 1) r e) = ix3 (bOf t) (rOf t r) (cOf t e) := by
  obtain ⟨e0, e1, e2⟩ := idx5 t
  funext a; apply Fin.ext
  match a with
  | ⟨0, _⟩ => show win0_5.index t (0 : Fin 3) * 1 + 1 * 0 = t.val / 40; omega
  | ⟨1, _⟩ => show win0_5.index t (1 : Fin 3) * 2048 + 1 * r.val = 2048 * (t.val / 10 % 4) + r.val; omega
  | ⟨2, _⟩ => show win0_5.index t (2 : Fin 3) * 1024 + 1 * e.val = 1024 * (t.val % 10) + e.val; omega

theorem emb6 (t : Fin cfg0.N) (r : Fin 2048) (e : Fin 128) :
    ((cfg0.win 6).blk t).view.emb (ix3 (0 : Fin 1) r e) = ix3 (bOf t) (rOf t r) e := by
  obtain ⟨e0, e1, e2⟩ := idx6 t
  funext a; apply Fin.ext
  match a with
  | ⟨0, _⟩ => show win0_6.index t (0 : Fin 3) * 1 + 1 * 0 = t.val / 40; omega
  | ⟨1, _⟩ => show win0_6.index t (1 : Fin 3) * 2048 + 1 * r.val = 2048 * (t.val / 10 % 4) + r.val; omega
  | ⟨2, _⟩ => show win0_6.index t (2 : Fin 3) * 128 + 1 * e.val = e.val; omega

/-- The points' blocks of the first result cover its array. -/
theorem covered5 (b : Fin 4) (q : Fin 8192) (c : Fin 10240) :
    ∃ (p : Fin cfg0.N) (r : Fin 2048) (e : Fin 1024), ((cfg0.win 5).blk p).view.emb (ix3 (0 : Fin 1) r e) = ix3 b q c := by
  refine ⟨⟨40 * b.val + 10 * (q.val / 2048) + c.val / 1024, by rw [N_eq]; omega⟩, ⟨q.val % 2048, by omega⟩, ⟨c.val % 1024, by omega⟩, ?_⟩
  rw [emb5]
  congr 1
  · exact Fin.ext (by simp only [bOf]; omega)
  · exact Fin.ext (by simp only [rOf]; omega)
  · exact Fin.ext (by simp only [cOf]; omega)

/-- The blocks of the second result that the row blocks' last points write cover its array. -/
theorem covered6 (b : Fin 4) (q : Fin 8192) (e : Fin 128) :
    ∃ (p : Fin cfg0.N) (r : Fin 2048), p.val % 10 = 9 ∧ ((cfg0.win 6).blk p).view.emb (ix3 (0 : Fin 1) r e) = ix3 b q e := by
  refine ⟨⟨40 * b.val + 10 * (q.val / 2048) + 9, by rw [N_eq]; omega⟩, ⟨q.val % 2048, by omega⟩, by show (40 * b.val + 10 * (q.val / 2048) + 9) % 10 = 9; omega, ?_⟩
  rw [emb6]
  congr 1
  · exact Fin.ext (by simp only [bOf]; omega)
  · exact Fin.ext (by simp only [rOf]; omega)

end Cert.Kernel2Ideal.Proj

end
-- ==== Proof.Math.Rms.lean ====
/-
  The RMS norm of a row of 1024 values, and the integer zero as a value.
-/
module

public import Idealize.ShloMosaic.PureOps.Ideal.Laws

@[expose] public section

noncomputable section

namespace Cert.Rms

open Idealize.ShloMosaic

/-- The row over its root mean square. -/
def nrm (x : Fin 1024 → EReal) (d : Fin 1024) : EReal :=
  x d * Ideal.rsqrt (Ideal.div (∑ k : Fin 1024, x k * x k) (Ideal.ofBits .f32 0x44800000#32) + Ideal.ofBits .f32 0x358637BD#32)

/-- The integer zero, as a value, is zero. -/
theorem sitofp_zero : (FloatOps.sitofp .f32 (0#32) : Ideal .f32) = (0 : EReal) := by
  show (((0#32).toInt : ℝ) : EReal) = 0
  simp

end Cert.Rms

end
-- ==== Proof.PI2.Cells.lean ====
/-
  What each value of the projection's body holds at an index, over the extended reals.
-/
module

public import proofs.«01_k».proof.Proof.Gen.Kernel2Ideal.Skeleton
public import proofs.«01_k».proof.Proof.Math.Rms
public import Idealize.ShloMosaic.Lib.Pointwise

@[expose] public section

noncomputable section

namespace Cert.Kernel2Ideal.Proj

open Cert.Kernel2Ideal Cert.Kernel2Ideal.Gen
open Idealize.ShloMosaic Idealize.ShloMosaic.TcCoe
open Idealize.ShloMosaic.Pointwise

/-- A row of the scratch: the normalised row, scaled and shifted. -/
theorem pay1_cell (x : Vec Ideal S1x2048x1024 .f32) (mu ad : Vec Ideal S1x1x1024 .f32) (r : Fin 2048) (d : Fin 1024) :
    k0_pay1 x mu ad (ix2 r d) = Rms.nrm (fun d => x (ix3 0 r d)) d * mu (ix3 0 0 d) + ad (ix3 0 0 d) := by
  pointwise [k0_pay1]
  rfl

/-- It is stored as it is. -/
theorem pay2_cell (x : Vec Ideal S1x2048x1024 .f32) (mu ad : Vec Ideal S1x1x1024 .f32) (r : Fin 2048) (d : Fin 1024) :
    k0_pay2 x mu ad (ix2 r d) = k0_pay1 x mu ad (ix2 r d) := by
  unfold k0_pay2
  generalize k0_pay1 x mu ad = y
  pointwise []

/-- The second result's block. -/
theorem pay3_cell (x : Vec Ideal S1x2048x1024 .f32) (mu ad : Vec Ideal S1x1x1024 .f32) (w : Vec Ideal S1024x128 .bf16) (r : Fin 2048) (e : Fin 128) :
    k0_pay3 x mu ad w (ix3 0 r e) = ∑ d : Fin 1024, k0_pay1 x mu ad (ix2 r d) * w (ix2 d e) := by
  unfold k0_pay3
  generalize k0_pay1 x mu ad = y
  pointwise []

/-- The first result's block. -/
theorem pay4_cell (s : Vec Ideal S2048x1024 .bf16) (w : Vec Ideal S1024x1024 .bf16) (r : Fin 2048) (e : Fin 1024) :
    k0_pay4 s w (ix3 0 r e) = ∑ d : Fin 1024, s (ix2 r d) * w (ix2 d e) := by
  pointwise [k0_pay4]

end Cert.Kernel2Ideal.Proj

end
-- ==== Proof.PI2.Host.lean ====
/-
  What the operations before the projection leave in the three arrays they make: the main columns of the weights, the dt
  columns with zero columns beside them, and the norm's weights times the modulation.
-/
module

public import proofs.«01_k».proof.Proof.Gen.Kernel2Ideal.Frame
public import proofs.«01_k».proof.Proof.Math.Rms
public import Idealize.ShloMosaic.Lib.StableHlo.Run
public import Idealize.ShloMosaic.Lib.Pointwise
public import Idealize.ShloMosaic.PureOps.Ideal.Laws

@[expose] public section

noncomputable section

namespace Cert.Kernel2Ideal.Proj

open Cert.Kernel2Ideal Cert.Kernel2Ideal.Gen
open Idealize.ShloMosaic Idealize.ShloMosaic.TcCoe
open Idealize.ShloMosaic.Pointwise

/-- The main columns: those before the dt columns and those after. -/
def hostW {F : FTy → Type} [FloatOps F] (x4 : Vec F S1024x10272 .f32) : Vec F S1024x10240 .bf16 :=
  truncf .bf16 (concatenate S1024x10240 1 [⟨S1024x2048, extractStridedSlice S1024x2048 ![0, 0] x4 slices_S1024x10272_S1024x2048_0_0⟩,
    ⟨S1024x8192, extractStridedSlice S1024x8192 ![0, 2080] x4 slices_S1024x10272_S1024x8192_0_2080⟩] concatenates_S1024x2048_S1024x8192_S1024x10240_d1) bitsLt_bf16_f32

/-- The dt columns, padded. -/
def hostDt {F : FTy → Type} [FloatOps F] (x4 : Vec F S1024x10272 .f32) : Vec F S1024x128 .bf16 :=
  truncf .bf16 (pad S1024x128 ![0, 0] ![0, 96] ![0, 0] (extractStridedSlice S1024x32 ![0, 2048] x4 slices_S1024x10272_S1024x32_0_2048)
    (sitofp .f32 (constantI S_ 32 0#32) : Vec F S_ .f32) pads_S1024x32_S1024x128_000_0960 h_S_) bitsLt_bf16_f32

/-- The norm's weights times one plus the scale. -/
def hostMul {F : FTy → Type} [FloatOps F] (x1 : Vec F S1024 .f32) (x2 : Vec F S4x1x1024 .f32) : Vec F S4x1x1024 .f32 :=
  mulf (broadcastInDim S4x1x1024 ![0, 1, 2] bcast_S1x1x1024_S4x1x1024_0_1_2 (broadcastInDim S1x1x1024 ![2] bcast_S1024_S1x1x1024_2 x1))
    (addf (broadcastInDim S4x1x1024 ![] bcast_S_S4x1x1024 (constant S_ .f32 0x3F800000#32)) x2)

section Runs

variable {F : FTy → Type} [FloatOps F] (m : (ℓ : Loc nD τ sig) → Buf (Elt F) ℓ)

theorem V_v3 (c : Dev nD) : V m c main_v3 = hostW (m ((c : Thread nD τ).loc main_arg4)) := by
  show StableHlo.after (List.flatten [hostOps0, hostOps0_1, hostOps0_2]) (fun b => m (c, b)) (Proc.devRef .tc main_v3) = _
  unfold hostOps0 hostOps0_1 hostOps0_2
  simp only [List.flatten_cons, List.flatten_nil, List.append_nil, List.cons_append, List.nil_append]
  after_results_simp <;> rfl

theorem V_v6 (c : Dev nD) : V m c main_v6 = hostDt (m ((c : Thread nD τ).loc main_arg4)) := by
  show StableHlo.after (List.flatten [hostOps0, hostOps0_1, hostOps0_2]) (fun b => m (c, b)) (Proc.devRef .tc main_v6) = _
  unfold hostOps0 hostOps0_1 hostOps0_2
  simp only [List.flatten_cons, List.flatten_nil, List.append_nil, List.cons_append, List.nil_append]
  after_results_simp <;> rfl

theorem V_v11 (c : Dev nD) : V m c main_v11 = hostMul (m ((c : Thread nD τ).loc main_arg1)) (m ((c : Thread nD τ).loc main_arg2)) := by
  show StableHlo.after (List.flatten [hostOps0, hostOps0_1, hostOps0_2]) (fun b => m (c, b)) (Proc.devRef .tc main_v11) = _
  unfold hostOps0 hostOps0_1 hostOps0_2
  simp only [List.flatten_cons, List.flatten_nil, List.append_nil, List.cons_append, List.nil_append]
  after_results_simp <;> rfl

end Runs

theorem hostW_low (x4 : Vec Ideal S1024x10272 .f32) (d : Fin 1024) (c : Fin 2048) :
    hostW x4 (ix2 d ⟨c.val, by omega⟩) = x4 (ix2 d ⟨c.val, by omega⟩) := by
  pointwise [hostW]

theorem hostW_high (x4 : Vec Ideal S1024x10272 .f32) (d : Fin 1024) (c : Fin 8192) :
    hostW x4 (ix2 d ⟨2048 + c.val, by omega⟩) = x4 (ix2 d ⟨2080 + c.val, by omega⟩) := by
  pointwise [hostW]

theorem hostDt_low (x4 : Vec Ideal S1024x10272 .f32) (d : Fin 1024) (e : Fin 32) :
    hostDt x4 (ix2 d ⟨e.val, by omega⟩) = x4 (ix2 d ⟨2048 + e.val, by omega⟩) := by
  pointwise [hostDt]

theorem hostDt_high (x4 : Vec Ideal S1024x10272 .f32) (d : Fin 1024) (e : Fin 96) :
    hostDt x4 (ix2 d ⟨32 + e.val, by omega⟩) = 0 := by
  pointwise [hostDt]
  exact Rms.sitofp_zero

theorem hostMul_cell (x1 : Vec Ideal S1024 .f32) (x2 : Vec Ideal S4x1x1024 .f32) (b : Fin 4) (d : Fin 1024) :
    hostMul x1 x2 (ix3 b 0 d) = x1 (ix1 d) * (1 + x2 (ix3 b 0 d)) := by
  pointwise [hostMul]

end Cert.Kernel2Ideal.Proj

end
-- ==== Proof.PI2.Array.lean ====
/-
  What the projection's two result arrays hold, element by element: the normalised, scaled and shifted rows by the weights.
-/
module

public import proofs.«01_k».proof.Proof.PI2.Blocks
public import proofs.«01_k».proof.Proof.PI2.Cells
public import proofs.«01_k».proof.Proof.PI2.Host
public import proofs.«01_k».proof.Proof.PI2.Frame

@[expose] public section

noncomputable section

namespace Cert.Kernel2Ideal.Proj

open Cert.Kernel2Ideal Cert.Kernel2Ideal.Gen
open Idealize.ShloMosaic Idealize.ShloMosaic.TcCoe Idealize.ShloMosaic.Pipeline
open Idealize.ShloMosaic.Pointwise

/-- The rows that the weights multiply. -/
def hid (x0 : Vec Ideal S4x8192x1024 .f32) (x1 : Vec Ideal S1024 .f32) (x2 x3 : Vec Ideal S4x1x1024 .f32) (b : Fin 4) (q : Fin 8192) (d : Fin 1024) : EReal :=
  Rms.nrm (fun d => x0 (ix3 b q d)) d * hostMul x1 x2 (ix3 b 0 d) + x3 (ix3 b 0 d)

/-- The first result as one function of the arguments. -/
def resMain (x0 : Vec Ideal S4x8192x1024 .f32) (x1 : Vec Ideal S1024 .f32) (x2 x3 : Vec Ideal S4x1x1024 .f32) (x4 : Vec Ideal S1024x10272 .f32) :
    Vec Ideal S4x8192x10240 .bf16 := fun i =>
  ∑ d : Fin 1024, hid x0 x1 x2 x3 ⟨(i 0).val, (i 0).isLt⟩ ⟨(i 1).val, (i 1).isLt⟩ d * hostW x4 (ix2 d ⟨(i 2).val, (i 2).isLt⟩)

/-- The second result as one function of the arguments. -/
def resDt (x0 : Vec Ideal S4x8192x1024 .f32) (x1 : Vec Ideal S1024 .f32) (x2 x3 : Vec Ideal S4x1x1024 .f32) (x4 : Vec Ideal S1024x10272 .f32) :
    Vec Ideal S4x8192x128 .f32 := fun i =>
  ∑ d : Fin 1024, hid x0 x1 x2 x3 ⟨(i 0).val, (i 0).isLt⟩ ⟨(i 1).val, (i 1).isLt⟩ d * hostDt x4 (ix2 d ⟨(i 2).val, (i 2).isLt⟩)

variable (m : (ℓ : Loc nD τ sig) → Buf (Elt Ideal) ℓ) (c : Dev nD)

theorem blk0 (t : Fin cfg0.N) (r : Fin 2048) (d : Fin 1024) : iblk m c 0 t (ix3 (0 : Fin 1) r d) = m ((c : Thread nD τ).loc main_arg0) (ix3 (bOf t) (rOf t r) d) := by
  show V m c main_arg0 (((cfg0.win 0).blk t).view.emb (ix3 (0 : Fin 1) r d)) = _
  rw [emb0, V_main_arg0]

theorem blk1 (t : Fin cfg0.N) (d : Fin 1024) :
    iblk m c 1 t (ix3 (0 : Fin 1) (0 : Fin 1) d) = hostMul (F := Ideal) (m ((c : Thread nD τ).loc main_arg1)) (m ((c : Thread nD τ).loc main_arg2)) (ix3 (bOf t) (0 : Fin 1) d) := by
  show V m c main_v11 (((cfg0.win 1).blk t).view.emb (ix3 (0 : Fin 1) (0 : Fin 1) d)) = _
  rw [emb1, V_v11]

theorem blk2 (t : Fin cfg0.N) (d : Fin 1024) : iblk m c 2 t (ix3 (0 : Fin 1) (0 : Fin 1) d) = m ((c : Thread nD τ).loc main_arg3) (ix3 (bOf t) (0 : Fin 1) d) := by
  show V m c main_arg3 (((cfg0.win 2).blk t).view.emb (ix3 (0 : Fin 1) (0 : Fin 1) d)) = _
  rw [emb2, V_main_arg3]

theorem blk3 (t : Fin cfg0.N) (d e : Fin 1024) : iblk m c 3 t (ix2 d e) = hostW (F := Ideal) (m ((c : Thread nD τ).loc main_arg4)) (ix2 d (cOf t e)) := by
  show V m c main_v3 (((cfg0.win 3).blk t).view.emb (ix2 d e)) = _
  rw [emb3, V_v3]

theorem blk4 (t : Fin cfg0.N) (d : Fin 1024) (e : Fin 128) : iblk m c 4 t (ix2 d e) = hostDt (F := Ideal) (m ((c : Thread nD τ).loc main_arg4)) (ix2 d e) := by
  show V m c main_v6 (((cfg0.win 4).blk t).view.emb (ix2 d e)) = _
  rw [emb4, V_v6]

/-- The first point of a row block has the batch of every point of it, -/
theorem bOf_base (t : Fin cfg0.N) : bOf (base t) = bOf t := Fin.ext (by simp only [bOf, base]; omega)
/-- and the rows. -/
theorem rOf_base (t : Fin cfg0.N) (r : Fin 2048) : rOf (base t) r = rOf t r := Fin.ext (by simp only [rOf, base]; omega)

/-- A row that a row block's first point makes. -/
theorem row_cell (b : Fin cfg0.N) (r : Fin 2048) (d : Fin 1024) :
    k0_pay1 (iblk m c 0 b) (iblk m c 1 b) (iblk m c 2 b) (ix2 r d)
      = hid (m ((c : Thread nD τ).loc main_arg0)) (m ((c : Thread nD τ).loc main_arg1)) (m ((c : Thread nD τ).loc main_arg2)) (m ((c : Thread nD τ).loc main_arg3)) (bOf b) (rOf b r) d := by
  rw [pay1_cell (iblk m c 0 b) (iblk m c 1 b) (iblk m c 2 b) r d, blk1 m c b d, blk2 m c b d]
  unfold hid
  exact congrArg (fun f => Rms.nrm f d * _ + _) (funext fun d => blk0 m c b r d)

/-- A grid point's block of the first result. -/
theorem mainAt_cell (t : Fin cfg0.N) (r : Fin 2048) (e : Fin 1024) :
    mainAt m c t (ix3 0 r e)
      = ∑ d : Fin 1024, hid (m ((c : Thread nD τ).loc main_arg0)) (m ((c : Thread nD τ).loc main_arg1)) (m ((c : Thread nD τ).loc main_arg2)) (m ((c : Thread nD τ).loc main_arg3)) (bOf t) (rOf t r) d
          * hostW (F := Ideal) (m ((c : Thread nD τ).loc main_arg4)) (ix2 d (cOf t e)) := by
  unfold mainAt
  rw [pay4_cell (rowsOf m c (base t)) (iblk m c 3 t) r e]
  refine Finset.sum_congr rfl fun d _ => ?_
  unfold rowsOf
  rw [pay2_cell (iblk m c 0 (base t)) (iblk m c 1 (base t)) (iblk m c 2 (base t)) r d, row_cell, blk3 m c t d e, bOf_base, rOf_base]

/-- A row block's block of the second result. -/
theorem dtOf_cell (t : Fin cfg0.N) (r : Fin 2048) (e : Fin 128) :
    dtOf m c (base t) (ix3 0 r e)
      = ∑ d : Fin 1024, hid (m ((c : Thread nD τ).loc main_arg0)) (m ((c : Thread nD τ).loc main_arg1)) (m ((c : Thread nD τ).loc main_arg2)) (m ((c : Thread nD τ).loc main_arg3)) (bOf t) (rOf t r) d
          * hostDt (F := Ideal) (m ((c : Thread nD τ).loc main_arg4)) (ix2 d e) := by
  unfold dtOf
  rw [pay3_cell (iblk m c 0 (base t)) (iblk m c 1 (base t)) (iblk m c 2 (base t)) (iblk m c 4 (base t)) r e]
  refine Finset.sum_congr rfl fun d _ => ?_
  rw [row_cell, blk4 m c (base t) d e, bOf_base, rOf_base]

/-- The first result array after the run. -/
theorem arr5 : (dats m 0 c).arrAt 5 cfg0.N = resMain (m ((c : Thread nD τ).loc main_arg0)) (m ((c : Thread nD τ).loc main_arg1)) (m ((c : Thread nD τ).loc main_arg2))
    (m ((c : Thread nD τ).loc main_arg3)) (m ((c : Thread nD τ).loc main_arg4)) := by
  refine (dats m 0 c).arrAt_eq_of_cover 5 (resMain _ _ _ _ _) (fun t _ => ?_) fun i => ?_
  · show (cfg0.win 5).cut (grid0.coords t) ((dats m 0 c).after 5 t) = _
    rw [after0_5]
    refine funext fun (j : S1x2048x1024.Idx) => ?_
    obtain ⟨r, e, rfl⟩ : ∃ (r : Fin 2048) (e : Fin 1024), j = ix3 (0 : Fin 1) r e := ⟨j 1, j 2, funext fun a => by match a with | ⟨0, _⟩ => exact Subsingleton.elim (α := Fin 1) _ _ | ⟨1, _⟩ => rfl | ⟨2, _⟩ => rfl⟩
    show mainAt m c t (ix3 0 r e) = resMain _ _ _ _ _ (((cfg0.win 5).blk t).view.emb (ix3 (0 : Fin 1) r e))
    rw [emb5, mainAt_cell m c t r e]
    rfl
  · obtain ⟨p, r, e, h⟩ := covered5 ⟨(i 0).val, (i 0).isLt⟩ ⟨(i 1).val, (i 1).isLt⟩ ⟨(i 2).val, (i 2).isLt⟩
    refine ⟨p, flush0_5 p, ?_⟩
    have hi : ((cfg0.win 5).blk p).view.emb (ix3 (0 : Fin 1) r e) = i := h.trans (funext fun a => by match a with | ⟨0, _⟩ => rfl | ⟨1, _⟩ => rfl | ⟨2, _⟩ => rfl)
    exact hi ▸ ((cfg0.win 5).blk p).view.emb_mem_set (ix3 (0 : Fin 1) r e)

/-- The second result array after the run. -/
theorem arr6 : (dats m 0 c).arrAt 6 cfg0.N = resDt (m ((c : Thread nD τ).loc main_arg0)) (m ((c : Thread nD τ).loc main_arg1)) (m ((c : Thread nD τ).loc main_arg2))
    (m ((c : Thread nD τ).loc main_arg3)) (m ((c : Thread nD τ).loc main_arg4)) := by
  refine (dats m 0 c).arrAt_eq_of_cover 6 (resDt _ _ _ _ _) (fun t _ => ?_) fun i => ?_
  · show (cfg0.win 6).cut (grid0.coords t) ((dats m 0 c).after 6 t) = _
    rw [after0_6]
    refine funext fun (j : S1x2048x128.Idx) => ?_
    obtain ⟨r, e, rfl⟩ : ∃ (r : Fin 2048) (e : Fin 128), j = ix3 (0 : Fin 1) r e := ⟨j 1, j 2, funext fun a => by match a with | ⟨0, _⟩ => exact Subsingleton.elim (α := Fin 1) _ _ | ⟨1, _⟩ => rfl | ⟨2, _⟩ => rfl⟩
    show dtOf m c (base t) (ix3 0 r e) = resDt _ _ _ _ _ (((cfg0.win 6).blk t).view.emb (ix3 (0 : Fin 1) r e))
    rw [emb6, dtOf_cell m c t r e]
    rfl
  · obtain ⟨p, r, hp, h⟩ := covered6 ⟨(i 0).val, (i 0).isLt⟩ ⟨(i 1).val, (i 1).isLt⟩ ⟨(i 2).val, (i 2).isLt⟩
    refine ⟨p, (flush0_6 p).2 hp, ?_⟩
    have hi : ((cfg0.win 6).blk p).view.emb (ix3 (0 : Fin 1) r ⟨(i 2).val, (i 2).isLt⟩) = i := h.trans (funext fun a => by match a with | ⟨0, _⟩ => rfl | ⟨1, _⟩ => rfl | ⟨2, _⟩ => rfl)
    exact hi ▸ ((cfg0.win 6).blk p).view.emb_mem_set (ix3 (0 : Fin 1) r ⟨(i 2).val, (i 2).isLt⟩)

end Cert.Kernel2Ideal.Proj

end
-- ==== Proof.RI2.Reads.lean ====
/-
  What the projection's reference holds, element by element, of the arguments.
-/
module

public import proofs.«01_k».proof.Proof.Gen.Reference2Ideal.Read
public import proofs.«01_k».proof.Proof.Math.Rms
public import Idealize.ShloMosaic.Lib.Pointwise

@[expose] public section

noncomputable section

namespace Cert.Reference2Ideal.Ref

open Cert.Reference2Ideal Cert.Reference2Ideal.Gen Cert.Reference2Ideal.Read
open Idealize.ShloMosaic Idealize.ShloMosaic.TcCoe
open Idealize.ShloMosaic.Pointwise

/-- The normalised rows. -/
theorem v9_cell (x0 : Vec Ideal S4x8192x1024 .f32) (b : Fin 4) (t : Fin 8192) (d : Fin 1024) :
    val_main_v9 (F := Ideal) x0 (ix3 b t d) = Rms.nrm (fun d => x0 (ix3 b t d)) d := by
  pointwise [val_main_v9, val_main_v8, val_main_v7, val_main_v6, val_main_v5, val_main_v4, val_main_v3, val_main_v2, val_main_v1, val_main_v0, val_main_cst, val_main_cst_0, val_main_cst_1]
  rfl

/-- The rows the weights multiply. -/
theorem v18_cell (x0 : Vec Ideal S4x8192x1024 .f32) (x1 : Vec Ideal S1024 .f32) (x2 x3 : Vec Ideal S4x1x1024 .f32) (b : Fin 4) (t : Fin 8192) (d : Fin 1024) :
    val_main_v18 (F := Ideal) x0 x1 x2 x3 (ix3 b t d)
      = Rms.nrm (fun d => x0 (ix3 b t d)) d * x1 (ix1 d) * (1 + x2 (ix3 b 0 d)) + x3 (ix3 b 0 d) := by
  rw [← v9_cell]
  unfold val_main_v18 val_main_v16 val_main_v12
  generalize val_main_v9 (F := Ideal) x0 = y
  pointwise [val_main_v17, val_main_v15, val_main_v14, val_main_v13, val_main_v11, val_main_v10, val_main_cst_2]

/-- All columns of the products. -/
theorem v19_cell (x0 : Vec Ideal S4x8192x1024 .f32) (x1 : Vec Ideal S1024 .f32) (x2 x3 : Vec Ideal S4x1x1024 .f32) (x4 : Vec Ideal S1024x10272 .f32) (b : Fin 4) (t : Fin 8192) (c : Fin 10272) :
    val_main_v19 (F := Ideal) x0 x1 x2 x3 x4 (ix3 b t c) = ∑ d : Fin 1024, val_main_v18 (F := Ideal) x0 x1 x2 x3 (ix3 b t d) * x4 (ix2 d c) := by
  unfold val_main_v19
  generalize val_main_v18 (F := Ideal) x0 x1 x2 x3 = y
  pointwise []

/-- The first result's columns before the dt columns, -/
theorem v25_low (x0 : Vec Ideal S4x8192x1024 .f32) (x1 : Vec Ideal S1024 .f32) (x2 x3 : Vec Ideal S4x1x1024 .f32) (x4 : Vec Ideal S1024x10272 .f32) (b : Fin 4) (t : Fin 8192) (c : Fin 2048) :
    val_main_v25 (F := Ideal) x0 x1 x2 x3 x4 (ix3 b t ⟨c.val, by omega⟩) = val_main_v19 (F := Ideal) x0 x1 x2 x3 x4 (ix3 b t ⟨c.val, by omega⟩) := by
  unfold val_main_v25 val_main_v22 val_main_v21 val_main_v20
  generalize val_main_v19 (F := Ideal) x0 x1 x2 x3 x4 = y
  pointwise []

/-- and after them. -/
theorem v25_high (x0 : Vec Ideal S4x8192x1024 .f32) (x1 : Vec Ideal S1024 .f32) (x2 x3 : Vec Ideal S4x1x1024 .f32) (x4 : Vec Ideal S1024x10272 .f32) (b : Fin 4) (t : Fin 8192) (c : Fin 8192) :
    val_main_v25 (F := Ideal) x0 x1 x2 x3 x4 (ix3 b t ⟨2048 + c.val, by omega⟩) = val_main_v19 (F := Ideal) x0 x1 x2 x3 x4 (ix3 b t ⟨2080 + c.val, by omega⟩) := by
  unfold val_main_v25 val_main_v22 val_main_v21 val_main_v20
  generalize val_main_v19 (F := Ideal) x0 x1 x2 x3 x4 = y
  pointwise []

/-- The second result: the dt columns, -/
theorem v24_low (x0 : Vec Ideal S4x8192x1024 .f32) (x1 : Vec Ideal S1024 .f32) (x2 x3 : Vec Ideal S4x1x1024 .f32) (x4 : Vec Ideal S1024x10272 .f32) (b : Fin 4) (t : Fin 8192) (e : Fin 32) :
    val_main_v24 (F := Ideal) x0 x1 x2 x3 x4 (ix3 b t ⟨e.val, by omega⟩) = val_main_v19 (F := Ideal) x0 x1 x2 x3 x4 (ix3 b t ⟨2048 + e.val, by omega⟩) := by
  unfold val_main_v24 val_main_v23
  generalize val_main_v19 (F := Ideal) x0 x1 x2 x3 x4 = y
  pointwise [val_main_call0_v0, val_main_c]

/-- then zeros. -/
theorem v24_high (x0 : Vec Ideal S4x8192x1024 .f32) (x1 : Vec Ideal S1024 .f32) (x2 x3 : Vec Ideal S4x1x1024 .f32) (x4 : Vec Ideal S1024x10272 .f32) (b : Fin 4) (t : Fin 8192) (e : Fin 96) :
    val_main_v24 (F := Ideal) x0 x1 x2 x3 x4 (ix3 b t ⟨32 + e.val, by omega⟩) = 0 := by
  unfold val_main_v24 val_main_v23
  generalize val_main_v19 (F := Ideal) x0 x1 x2 x3 x4 = y
  pointwise [val_main_call0_v0, val_main_c]
  exact Rms.sitofp_zero

end Cert.Reference2Ideal.Ref

end
-- ==== Proof.Equation2.lean ====
/-
  The projection's equation: the kernel's two result arrays and the reference's are the same functions of the arguments.
-/
module

public import proofs.«01_k».proof.Defs
public import proofs.«01_k».proof.Proof.Equation
public import proofs.«01_k».proof.Proof.PI2.Array
public import proofs.«01_k».proof.Proof.RI2.Reads
public import proofs.«01_k».proof.Proof.RI2.Run

@[expose] public section

noncomputable section

namespace Cert.Equation2

open Idealize.ShloMosaic Idealize.ShloMosaic.TcCoe Idealize.SL.Sem
open Idealize.ShloMosaic.Pointwise

section Result
open Cert.Kernel2Ideal Cert.Kernel2Ideal.Proj

variable (x0 : Vec Ideal S4x8192x1024 .f32) (x1 : Vec Ideal S1024 .f32) (x2 x3 : Vec Ideal S4x1x1024 .f32) (x4 : Vec Ideal S1024x10272 .f32)

/-- The rows that the weights multiply are the same: the norm's weights and the scale multiply in either order of brackets. -/
theorem rows_eq (b : Fin 4) (t : Fin 8192) (d : Fin 1024) :
    Cert.Reference2Ideal.Read.val_main_v18 (F := Ideal) x0 x1 x2 x3 (ix3 b t d) = hid x0 x1 x2 x3 b t d := by
  rw [Cert.Reference2Ideal.Ref.v18_cell]
  unfold hid
  rw [hostMul_cell, mul_assoc]

/-- The first result. -/
theorem main_eq : Cert.Reference2Ideal.Read.val_main_v25 (F := Ideal) x0 x1 x2 x3 x4 = resMain x0 x1 x2 x3 x4 := by
  refine funext fun (i : S4x8192x10240.Idx) => ?_
  obtain ⟨b, t, c, rfl⟩ : ∃ (b : Fin 4) (t : Fin 8192) (c : Fin 10240), i = ix3 b t c :=
    ⟨i 0, i 1, i 2, funext fun a => by match a with | ⟨0, _⟩ => rfl | ⟨1, _⟩ => rfl | ⟨2, _⟩ => rfl⟩
  show _ = ∑ d : Fin 1024, hid x0 x1 x2 x3 b t d * hostW x4 (ix2 d c)
  by_cases h : c.val < 2048
  · refine (Cert.Reference2Ideal.Ref.v25_low x0 x1 x2 x3 x4 b t ⟨c.val, h⟩).trans ?_
    rw [Cert.Reference2Ideal.Ref.v19_cell]
    exact Finset.sum_congr rfl fun d _ => congrArg₂ (· * ·) (rows_eq x0 x1 x2 x3 b t d) (hostW_low x4 d ⟨c.val, h⟩).symm
  · obtain ⟨e, rfl⟩ : ∃ e : Fin 8192, c = ⟨2048 + e.val, Nat.lt_of_lt_of_le (Nat.add_lt_add_left e.isLt 2048) (by decide)⟩ := ⟨⟨c.val - 2048, by omega⟩, Fin.ext (by show c.val = 2048 + (c.val - 2048); omega)⟩
    rw [Cert.Reference2Ideal.Ref.v25_high, Cert.Reference2Ideal.Ref.v19_cell]
    exact Finset.sum_congr rfl fun d _ => congrArg₂ (· * ·) (rows_eq x0 x1 x2 x3 b t d) (hostW_high x4 d e).symm

/-- The second result: past the dt columns the rows meet zero columns, and the sums are zero. -/
theorem dt_eq : Cert.Reference2Ideal.Read.val_main_v24 (F := Ideal) x0 x1 x2 x3 x4 = resDt x0 x1 x2 x3 x4 := by
  refine funext fun (i : S4x8192x128.Idx) => ?_
  obtain ⟨b, t, c, rfl⟩ : ∃ (b : Fin 4) (t : Fin 8192) (c : Fin 128), i = ix3 b t c :=
    ⟨i 0, i 1, i 2, funext fun a => by match a with | ⟨0, _⟩ => rfl | ⟨1, _⟩ => rfl | ⟨2, _⟩ => rfl⟩
  show _ = ∑ d : Fin 1024, hid x0 x1 x2 x3 b t d * hostDt x4 (ix2 d c)
  by_cases h : c.val < 32
  · refine (Cert.Reference2Ideal.Ref.v24_low x0 x1 x2 x3 x4 b t ⟨c.val, h⟩).trans ?_
    rw [Cert.Reference2Ideal.Ref.v19_cell]
    exact Finset.sum_congr rfl fun d _ => congrArg₂ (· * ·) (rows_eq x0 x1 x2 x3 b t d) (hostDt_low x4 d ⟨c.val, h⟩).symm
  · obtain ⟨e, rfl⟩ : ∃ e : Fin 96, c = ⟨32 + e.val, Nat.lt_of_lt_of_le (Nat.add_lt_add_left e.isLt 32) (by decide)⟩ := ⟨⟨c.val - 32, by omega⟩, Fin.ext (by show c.val = 32 + (c.val - 32); omega)⟩
    rw [Cert.Reference2Ideal.Ref.v24_high]
    exact (Finset.sum_eq_zero fun d _ => by rw [hostDt_high x4 d e]; exact mul_zero (M₀ := EReal) _).symm

end Result

/-- The two programs end with equal results, and with their arguments unchanged. -/
theorem algebraic : Cert.algebraic_Kernel2Ideal_Reference2Ideal := by
  intro m g m' g' hpre harg
  refine ⟨fun c => Cert.Kernel2Ideal.Proj.resMain (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1))
      (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))
      (m ((c.tc : Thread Cert.Kernel2Ideal.nD Cert.Kernel2Ideal.τ).loc Cert.Kernel2Ideal.main_arg4)),
    fun c => Cert.Kernel2Ideal.Proj.resDt (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1))
      (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))
      (m ((c.tc : Thread Cert.Kernel2Ideal.nD Cert.Kernel2Ideal.τ).loc Cert.Kernel2Ideal.main_arg4)), ?_, ?_⟩
  · have hrun := Cert.Kernel2Ideal.Proj.run_main m g
    have hargs := Cert.Kernel2Ideal.Gen.frame_of m g (Cert.Kernel2Ideal.Proj.dats m) (fun _ _ => rfl) ((θ_run _ _ _).mono (fun _ h => h.1) hrun)
    exact (θ_run _ _ _).mono (fun r h c => ⟨((h.1.1 c).1 5).trans (Cert.Kernel2Ideal.Proj.arr5 m c), ((h.1.1 c).1 6).trans (Cert.Kernel2Ideal.Proj.arr6 m c), h.2 c⟩)
      (Cert.Equation.both hrun hargs)
  · refine (θ_run _ _ _).mono (fun r h c => ⟨(h c).1.trans ?_, (h c).2.1.trans ?_, (h c).2.2⟩) (Cert.Reference2Ideal.Value.run m' g')
    · obtain ⟨a0, a1, a2, a3, a4⟩ := harg c
      rw [Cert.Reference2Ideal.Read.val_main_v25_eq, a0, a1, a2, a3, a4]
      exact main_eq _ _ _ _ _
    · obtain ⟨a0, a1, a2, a3, a4⟩ := harg c
      rw [Cert.Reference2Ideal.Read.val_main_v24_eq, a0, a1, a2, a3, a4]
      exact dt_eq _ _ _ _ _

end Cert.Equation2

end
-- ==== Proof.RI3.Run.lean ====
/-
  The merge's reference's run: it ends with the arguments unchanged and every semaphore at zero.
-/
module

public import proofs.«01_k».proof.Proof.Gen.Reference3Ideal.Run
public import Idealize.ShloMosaic.Lib.Quiescent

@[expose] public section

noncomputable section

namespace Cert.Reference3Ideal.Ref

open Cert.Reference3Ideal Cert.Reference3Ideal.Gen
open Idealize.ShloMosaic Idealize.ShloMosaic.TcCoe Idealize.SL.Sem

variable {F : FTy → Type} [FloatOps F]

/-- Every run of the reference ends with the arguments unchanged and every semaphore at zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16))
      ∧ r.2.sem = fun _ => 0) :=
  (θ_run defs _ _).mono (fun r h => ⟨fun c => (h c).2.2.2, Idealize.ShloMosaic.sem_eq_zero_of_no_sems (by decide) r.2⟩) (Value.run m ρ)

end Cert.Reference3Ideal.Ref

end
-- ==== Proof.PI3.Blocks.lean ====
/-
  Which elements of the arrays each grid point's blocks are: point `t` takes batch `t / 16` and the rows from
  `512 · (t % 16)`.
-/
module

public import proofs.«01_k».proof.Proof.Gen.Kernel3Ideal.Frame
public import Idealize.ShloMosaic.Lib.Pointwise

@[expose] public section

noncomputable section

namespace Cert.Kernel3Ideal.Mrg

open Cert.Kernel3Ideal Cert.Kernel3Ideal.Gen
open Idealize.ShloMosaic Idealize.ShloMosaic.TcCoe
open Idealize.ShloMosaic.Pointwise

theorem N_eq : cfg0.N = 64 := by decide +kernel

theorem t_lt (t : Fin cfg0.N) : t.val < 64 := lt_of_lt_of_eq t.isLt N_eq

/-- The batch of a grid point. -/
def bOf (t : Fin cfg0.N) : Fin 4 := ⟨t.val / 16, by have := t_lt t; omega⟩
/-- A row of a grid point's row block, in the array. -/
def rOf (t : Fin cfg0.N) (r : Fin 512) : Fin 8192 := ⟨512 * (t.val % 16) + r.val, by omega⟩

theorem idx0 : ∀ t : Fin cfg0.N, win0_0.index t (0 : Fin 3) = t.val / 16 ∧ win0_0.index t (1 : Fin 3) = t.val % 16 ∧ win0_0.index t (2 : Fin 3) = 0 :=
  (by decide +kernel : ∀ t : Fin grid0.N, _)

theorem emb0 (t : Fin cfg0.N) (r : Fin 512) (d : Fin 1024)
    (h : ∀ a, ((ix3 (0 : Fin 1) r d : S1x512x1024.Idx) a).val < (cfg0.win 0).xsize (cfg0.grid.coords t) a) :
    ((cfg0.win 0).blk t).view.emb (fun a => ⟨((ix3 (0 : Fin 1) r d : S1x512x1024.Idx) a).val, h a⟩) = ix3 (bOf t) ⟨(rOf t r).val, Nat.lt_of_lt_of_le (rOf t r).isLt (by decide)⟩ d := by
  obtain ⟨e0, e1, e2⟩ := idx0 t
  funext a; apply Fin.ext
  match a with
  | ⟨0, _⟩ => show win0_0.index t (0 : Fin 3) * 1 + 1 * 0 = t.val / 16; omega
  | ⟨1, _⟩ => show win0_0.index t (1 : Fin 3) * 512 + 1 * r.val = 512 * (t.val % 16) + r.val; omega
  | ⟨2, _⟩ => show win0_0.index t (2 : Fin 3) * 1024 + 1 * d.val = d.val; omega

theorem idx1 : ∀ t : Fin cfg0.N, win0_1.index t (0 : Fin 3) = t.val / 16 ∧ win0_1.index t (1 : Fin 3) = t.val % 16 ∧ win0_1.index t (2 : Fin 3) = 0 :=
  (by decide +kernel : ∀ t : Fin grid0.N, _)

theorem emb1 (t : Fin cfg0.N) (r : Fin 512) (d : Fin 1024)
    (h : ∀ a, ((ix3 (0 : Fin 1) r d : S1x512x1024.Idx) a).val < (cfg0.win 1).xsize (cfg0.grid.coords t) a) :
    ((cfg0.win 1).blk t).view.emb (fun a => ⟨((ix3 (0 : Fin 1) r d : S1x512x1024.Idx) a).val, h a⟩) = ix3 (bOf t) ⟨(rOf t r).val, Nat.lt_of_lt_of_le (rOf t r).isLt (by decide)⟩ d := by
  obtain ⟨e0, e1, e2⟩ := idx1 t
  funext a; apply Fin.ext
  match a with
  | ⟨0, _⟩ => show win0_1.index t (0 : Fin 3) * 1 + 1 * 0 = t.val / 16; omega
  | ⟨1, _⟩ => show win0_1.index t (1 : Fin 3) * 512 + 1 * r.val = 512 * (t.val % 16) + r.val; omega
  | ⟨2, _⟩ => show win0_1.index t (2 : Fin 3) * 1024 + 1 * d.val = d.val; omega

theorem idx2 : ∀ t : Fin cfg0.N, win0_2.index t (0 : Fin 3) = t.val / 16 ∧ win0_2.index t (1 : Fin 3) = t.val % 16 ∧ win0_2.index t (2 : Fin 3) = 0 :=
  (by decide +kernel : ∀ t : Fin grid0.N, _)

theorem emb2 (t : Fin cfg0.N) (r : Fin 512) (d : Fin 1024)
    (h : ∀ a, ((ix3 (0 : Fin 1) r d : S1x512x1024.Idx) a).val < (cfg0.win 2).xsize (cfg0.grid.coords t) a) :
    ((cfg0.win 2).blk t).view.emb (fun a => ⟨((ix3 (0 : Fin 1) r d : S1x512x1024.Idx) a).val, h a⟩) = ix3 (bOf t) ⟨(rOf t r).val, Nat.lt_of_lt_of_le (rOf t r).isLt (by decide)⟩ ⟨d.val, Nat.lt_of_lt_of_le d.isLt (by decide)⟩ := by
  obtain ⟨e0, e1, e2⟩ := idx2 t
  funext a; apply Fin.ext
  match a with
  | ⟨0, _⟩ => show win0_2.index t (0 : Fin 3) * 1 + 1 * 0 = t.val / 16; omega
  | ⟨1, _⟩ => show win0_2.index t (1 : Fin 3) * 512 + 1 * r.val = 512 * (t.val % 16) + r.val; omega
  | ⟨2, _⟩ => show win0_2.index t (2 : Fin 3) * 1024 + 1 * d.val = d.val; omega

theorem idx3 : ∀ t : Fin cfg0.N, win0_3.index t (0 : Fin 3) = t.val / 16 ∧ win0_3.index t (1 : Fin 3) = t.val % 16 ∧ win0_3.index t (2 : Fin 3) = 4 :=
  (by decide +kernel : ∀ t : Fin grid0.N, _)

theorem emb3 (t : Fin cfg0.N) (r : Fin 512) (d : Fin 1024) :
    ((cfg0.win 3).blk t).view.emb (ix3 (0 : Fin 1) r d) = ix3 (bOf t) (rOf t r) ⟨4096 + d.val, Nat.lt_of_lt_of_le (Nat.add_lt_add_left d.isLt 4096) (by decide)⟩ := by
  obtain ⟨e0, e1, e2⟩ := idx3 t
  funext a; apply Fin.ext
  match a with
  | ⟨0, _⟩ => show win0_3.index t (0 : Fin 3) * 1 + 1 * 0 = t.val / 16; omega
  | ⟨1, _⟩ => show win0_3.index t (1 : Fin 3) * 512 + 1 * r.val = 512 * (t.val % 16) + r.val; omega
  | ⟨2, _⟩ => show win0_3.index t (2 : Fin 3) * 1024 + 1 * d.val = 4096 + d.val; omega

theorem idx4 : ∀ t : Fin cfg0.N, win0_4.index t (0 : Fin 3) = t.val / 16 ∧ win0_4.index t (1 : Fin 3) = t.val % 16 ∧ win0_4.index t (2 : Fin 3) = 0 :=
  (by decide +kernel : ∀ t : Fin grid0.N, _)

theorem emb4 (t : Fin cfg0.N) (r : Fin 512) (d : Fin 1024) :
    ((cfg0.win 4).blk t).view.emb (ix3 (0 : Fin 1) r d) = ix3 (bOf t) (rOf t r) d := by
  obtain ⟨e0, e1, e2⟩ := idx4 t
  funext a; apply Fin.ext
  match a with
  | ⟨0, _⟩ => show win0_4.index t (0 : Fin 3) * 1 + 1 * 0 = t.val / 16; omega
  | ⟨1, _⟩ => show win0_4.index t (1 : Fin 3) * 512 + 1 * r.val = 512 * (t.val % 16) + r.val; omega
  | ⟨2, _⟩ => show win0_4.index t (2 : Fin 3) * 1024 + 1 * d.val = d.val; omega

theorem idx5 : ∀ t : Fin cfg0.N, win0_5.index t (0 : Fin 3) = t.val / 16 ∧ win0_5.index t (1 : Fin 3) = t.val % 16 ∧ win0_5.index t (2 : Fin 3) = 0 :=
  (by decide +kernel : ∀ t : Fin grid0.N, _)

theorem emb5 (t : Fin cfg0.N) (r : Fin 512) (d : Fin 1024) :
    ((cfg0.win 5).blk t).view.emb (ix3 (0 : Fin 1) r d) = ix3 (bOf t) (rOf t r) d := by
  obtain ⟨e0, e1, e2⟩ := idx5 t
  funext a; apply Fin.ext
  match a with
  | ⟨0, _⟩ => show win0_5.index t (0 : Fin 3) * 1 + 1 * 0 = t.val / 16; omega
  | ⟨1, _⟩ => show win0_5.index t (1 : Fin 3) * 512 + 1 * r.val = 512 * (t.val % 16) + r.val; omega
  | ⟨2, _⟩ => show win0_5.index t (2 : Fin 3) * 1024 + 1 * d.val = d.val; omega

theorem idx6 : ∀ t : Fin cfg0.N, win0_6.index t (0 : Fin 3) = t.val / 16 ∧ win0_6.index t (1 : Fin 3) = t.val % 16 ∧ win0_6.index t (2 : Fin 3) = 7 :=
  (by decide +kernel : ∀ t : Fin grid0.N, _)

theorem emb6 (t : Fin cfg0.N) (r : Fin 512) (d : Fin 1024) :
    ((cfg0.win 6).blk t).view.emb (ix3 (0 : Fin 1) r d) = ix3 (bOf t) (rOf t r) ⟨7168 + d.val, Nat.lt_of_lt_of_le (Nat.add_lt_add_left d.isLt 7168) (by decide)⟩ := by
  obtain ⟨e0, e1, e2⟩ := idx6 t
  funext a; apply Fin.ext
  match a with
  | ⟨0, _⟩ => show win0_6.index t (0 : Fin 3) * 1 + 1 * 0 = t.val / 16; omega
  | ⟨1, _⟩ => show win0_6.index t (1 : Fin 3) * 512 + 1 * r.val = 512 * (t.val % 16) + r.val; omega
  | ⟨2, _⟩ => show win0_6.index t (2 : Fin 3) * 1024 + 1 * d.val = 7168 + d.val; omega

theorem idx7 : ∀ t : Fin cfg0.N, win0_7.index t (0 : Fin 3) = t.val / 16 ∧ win0_7.index t (1 : Fin 3) = t.val % 16 ∧ win0_7.index t (2 : Fin 3) = 8 :=
  (by decide +kernel : ∀ t : Fin grid0.N, _)

theorem emb7 (t : Fin cfg0.N) (r : Fin 512) (d : Fin 1024) :
    ((cfg0.win 7).blk t).view.emb (ix3 (0 : Fin 1) r d) = ix3 (bOf t) (rOf t r) ⟨8192 + d.val, Nat.lt_of_lt_of_le (Nat.add_lt_add_left d.isLt 8192) (by decide)⟩ := by
  obtain ⟨e0, e1, e2⟩ := idx7 t
  funext a; apply Fin.ext
  match a with
  | ⟨0, _⟩ => show win0_7.index t (0 : Fin 3) * 1 + 1 * 0 = t.val / 16; omega
  | ⟨1, _⟩ => show win0_7.index t (1 : Fin 3) * 512 + 1 * r.val = 512 * (t.val % 16) + r.val; omega
  | ⟨2, _⟩ => show win0_7.index t (2 : Fin 3) * 1024 + 1 * d.val = 8192 + d.val; omega

theorem idx8 : ∀ t : Fin cfg0.N, win0_8.index t (0 : Fin 3) = t.val / 16 ∧ win0_8.index t (1 : Fin 3) = t.val % 16 ∧ win0_8.index t (2 : Fin 3) = 9 :=
  (by decide +kernel : ∀ t : Fin grid0.N, _)

theorem emb8 (t : Fin cfg0.N) (r : Fin 512) (d : Fin 1024) :
    ((cfg0.win 8).blk t).view.emb (ix3 (0 : Fin 1) r d) = ix3 (bOf t) (rOf t r) ⟨9216 + d.val, Nat.lt_of_lt_of_le (Nat.add_lt_add_left d.isLt 9216) (by decide)⟩ := by
  obtain ⟨e0, e1, e2⟩ := idx8 t
  funext a; apply Fin.ext
  match a with
  | ⟨0, _⟩ => show win0_8.index t (0 : Fin 3) * 1 + 1 * 0 = t.val / 16; omega
  | ⟨1, _⟩ => show win0_8.index t (1 : Fin 3) * 512 + 1 * r.val = 512 * (t.val % 16) + r.val; omega
  | ⟨2, _⟩ => show win0_8.index t (2 : Fin 3) * 1024 + 1 * d.val = 9216 + d.val; omega

theorem idx9 : ∀ t : Fin cfg0.N, win0_9.index t (0 : Fin 3) = t.val / 16 ∧ win0_9.index t (1 : Fin 3) = t.val % 16 ∧ win0_9.index t (2 : Fin 3) = 0 :=
  (by decide +kernel : ∀ t : Fin grid0.N, _)

theorem emb9 (t : Fin cfg0.N) (r : Fin 512) (d : Fin 1024) :
    ((cfg0.win 9).blk t).view.emb (ix3 (0 : Fin 1) r d) = ix3 (bOf t) (rOf t r) d := by
  obtain ⟨e0, e1, e2⟩ := idx9 t
  funext a; apply Fin.ext
  match a with
  | ⟨0, _⟩ => show win0_9.index t (0 : Fin 3) * 1 + 1 * 0 = t.val / 16; omega
  | ⟨1, _⟩ => show win0_9.index t (1 : Fin 3) * 512 + 1 * r.val = 512 * (t.val % 16) + r.val; omega
  | ⟨2, _⟩ => show win0_9.index t (2 : Fin 3) * 1024 + 1 * d.val = d.val; omega

theorem idx10 : ∀ t : Fin cfg0.N, win0_10.index t (0 : Fin 2) = 0 ∧ win0_10.index t (1 : Fin 2) = 0 :=
  (by decide +kernel : ∀ t : Fin grid0.N, _)

theorem emb10 (t : Fin cfg0.N) (k : Fin 1) (d : Fin 1024) : ((cfg0.win 10).blk t).view.emb (ix2 k d) = ix2 k d := by
  obtain ⟨e0, e1⟩ := idx10 t
  funext a; apply Fin.ext
  match a with
  | ⟨0, _⟩ => show win0_10.index t (0 : Fin 2) * 1 + 1 * k.val = k.val; omega
  | ⟨1, _⟩ => show win0_10.index t (1 : Fin 2) * 1024 + 1 * d.val = d.val; omega

theorem idx11 : ∀ t : Fin cfg0.N, win0_11.index t (0 : Fin 2) = 0 ∧ win0_11.index t (1 : Fin 2) = 0 :=
  (by decide +kernel : ∀ t : Fin grid0.N, _)

theorem emb11 (t : Fin cfg0.N) (k : Fin 1) (d : Fin 1024) : ((cfg0.win 11).blk t).view.emb (ix2 k d) = ix2 k d := by
  obtain ⟨e0, e1⟩ := idx11 t
  funext a; apply Fin.ext
  match a with
  | ⟨0, _⟩ => show win0_11.index t (0 : Fin 2) * 1 + 1 * k.val = k.val; omega
  | ⟨1, _⟩ => show win0_11.index t (1 : Fin 2) * 1024 + 1 * d.val = d.val; omega

theorem idx12 : ∀ t : Fin cfg0.N, win0_12.index t (0 : Fin 3) = 0 ∧ win0_12.index t (1 : Fin 3) = 0 ∧ win0_12.index t (2 : Fin 3) = 0 :=
  (by decide +kernel : ∀ t : Fin grid0.N, _)

theorem emb12 (t : Fin cfg0.N) (i : Fin 3) (k d : Fin 1024) : ((cfg0.win 12).blk t).view.emb (ix3 i k d) = ix3 i k d := by
  obtain ⟨e0, e1, e2⟩ := idx12 t
  funext a; apply Fin.ext
  match a with
  | ⟨0, _⟩ => show win0_12.index t (0 : Fin 3) * 3 + 1 * i.val = i.val; omega
  | ⟨1, _⟩ => show win0_12.index t (1 : Fin 3) * 1024 + 1 * k.val = k.val; omega
  | ⟨2, _⟩ => show win0_12.index t (2 : Fin 3) * 1024 + 1 * d.val = d.val; omega

theorem idx13 : ∀ t : Fin cfg0.N, win0_13.index t (0 : Fin 2) = 0 ∧ win0_13.index t (1 : Fin 2) = 0 :=
  (by decide +kernel : ∀ t : Fin grid0.N, _)

theorem emb13 (t : Fin cfg0.N) (k : Fin 1024) (d : Fin 1024) : ((cfg0.win 13).blk t).view.emb (ix2 k d) = ix2 k d := by
  obtain ⟨e0, e1⟩ := idx13 t
  funext a; apply Fin.ext
  match a with
  | ⟨0, _⟩ => show win0_13.index t (0 : Fin 2) * 1024 + 1 * k.val = k.val; omega
  | ⟨1, _⟩ => show win0_13.index t (1 : Fin 2) * 1024 + 1 * d.val = d.val; omega

theorem idx14 : ∀ t : Fin cfg0.N, win0_14.index t (0 : Fin 2) = 0 ∧ win0_14.index t (1 : Fin 2) = 0 :=
  (by decide +kernel : ∀ t : Fin grid0.N, _)

theorem emb14 (t : Fin cfg0.N) (k : Fin 1) (d : Fin 1024) : ((cfg0.win 14).blk t).view.emb (ix2 k d) = ix2 k d := by
  obtain ⟨e0, e1⟩ := idx14 t
  funext a; apply Fin.ext
  match a with
  | ⟨0, _⟩ => show win0_14.index t (0 : Fin 2) * 1 + 1 * k.val = k.val; omega
  | ⟨1, _⟩ => show win0_14.index t (1 : Fin 2) * 1024 + 1 * d.val = d.val; omega

theorem idx15 : ∀ t : Fin cfg0.N, win0_15.index t (0 : Fin 3) = t.val / 16 ∧ win0_15.index t (1 : Fin 3) = 0 ∧ win0_15.index t (2 : Fin 3) = 0 :=
  (by decide +kernel : ∀ t : Fin grid0.N, _)

theorem emb15 (t : Fin cfg0.N) (d : Fin 1024) :
    ((cfg0.win 15).blk t).view.emb (ix3 (0 : Fin 1) (0 : Fin 1) d) = ix3 (bOf t) (0 : Fin 1) d := by
  obtain ⟨e0, e1, e2⟩ := idx15 t
  funext a; apply Fin.ext
  match a with
  | ⟨0, _⟩ => show win0_15.index t (0 : Fin 3) * 1 + 1 * 0 = t.val / 16; omega
  | ⟨1, _⟩ => show win0_15.index t (1 : Fin 3) * 1 + 1 * 0 = 0; omega
  | ⟨2, _⟩ => show win0_15.index t (2 : Fin 3) * 1024 + 1 * d.val = d.val; omega

theorem idx16 : ∀ t : Fin cfg0.N, win0_16.index t (0 : Fin 3) = t.val / 16 ∧ win0_16.index t (1 : Fin 3) = 0 ∧ win0_16.index t (2 : Fin 3) = 0 :=
  (by decide +kernel : ∀ t : Fin grid0.N, _)

theorem emb16 (t : Fin cfg0.N) (d : Fin 1024) :
    ((cfg0.win 16).blk t).view.emb (ix3 (0 : Fin 1) (0 : Fin 1) d) = ix3 (bOf t) (0 : Fin 1) d := by
  obtain ⟨e0, e1, e2⟩ := idx16 t
  funext a; apply Fin.ext
  match a with
  | ⟨0, _⟩ => show win0_16.index t (0 : Fin 3) * 1 + 1 * 0 = t.val / 16; omega
  | ⟨1, _⟩ => show win0_16.index t (1 : Fin 3) * 1 + 1 * 0 = 0; omega
  | ⟨2, _⟩ => show win0_16.index t (2 : Fin 3) * 1024 + 1 * d.val = d.val; omega

theorem idx17 : ∀ t : Fin cfg0.N, win0_17.index t (0 : Fin 3) = t.val / 16 ∧ win0_17.index t (1 : Fin 3) = 0 ∧ win0_17.index t (2 : Fin 3) = 0 :=
  (by decide +kernel : ∀ t : Fin grid0.N, _)

theorem emb17 (t : Fin cfg0.N) (d : Fin 1024) :
    ((cfg0.win 17).blk t).view.emb (ix3 (0 : Fin 1) (0 : Fin 1) d) = ix3 (bOf t) (0 : Fin 1) d := by
  obtain ⟨e0, e1, e2⟩ := idx17 t
  funext a; apply Fin.ext
  match a with
  | ⟨0, _⟩ => show win0_17.index t (0 : Fin 3) * 1 + 1 * 0 = t.val / 16; omega
  | ⟨1, _⟩ => show win0_17.index t (1 : Fin 3) * 1 + 1 * 0 = 0; omega
  | ⟨2, _⟩ => show win0_17.index t (2 : Fin 3) * 1024 + 1 * d.val = d.val; omega

theorem idx18 : ∀ t : Fin cfg0.N, win0_18.index t (0 : Fin 2) = 0 ∧ win0_18.index t (1 : Fin 2) = 0 :=
  (by decide +kernel : ∀ t : Fin grid0.N, _)

theorem emb18 (t : Fin cfg0.N) (k : Fin 32) (d : Fin 1024) : ((cfg0.win 18).blk t).view.emb (ix2 k d) = ix2 k d := by
  obtain ⟨e0, e1⟩ := idx18 t
  funext a; apply Fin.ext
  match a with
  | ⟨0, _⟩ => show win0_18.index t (0 : Fin 2) * 32 + 1 * k.val = k.val; omega
  | ⟨1, _⟩ => show win0_18.index t (1 : Fin 2) * 1024 + 1 * d.val = d.val; omega

theorem idx19 : ∀ t : Fin cfg0.N, win0_19.index t (0 : Fin 3) = t.val / 16 ∧ win0_19.index t (1 : Fin 3) = t.val % 16 ∧ win0_19.index t (2 : Fin 3) = 0 :=
  (by decide +kernel : ∀ t : Fin grid0.N, _)

theorem emb19 (t : Fin cfg0.N) (r : Fin 512) (d : Fin 1024) :
    ((cfg0.win 19).blk t).view.emb (ix3 (0 : Fin 1) r d) = ix3 (bOf t) (rOf t r) d := by
  obtain ⟨e0, e1, e2⟩ := idx19 t
  funext a; apply Fin.ext
  match a with
  | ⟨0, _⟩ => show win0_19.index t (0 : Fin 3) * 1 + 1 * 0 = t.val / 16; omega
  | ⟨1, _⟩ => show win0_19.index t (1 : Fin 3) * 512 + 1 * r.val = 512 * (t.val % 16) + r.val; omega
  | ⟨2, _⟩ => show win0_19.index t (2 : Fin 3) * 1024 + 1 * d.val = d.val; omega

theorem idx20 : ∀ t : Fin cfg0.N, win0_20.index t (0 : Fin 3) = t.val / 16 ∧ win0_20.index t (1 : Fin 3) = t.val % 16 ∧ win0_20.index t (2 : Fin 3) = 0 :=
  (by decide +kernel : ∀ t : Fin grid0.N, _)

theorem emb20 (t : Fin cfg0.N) (r : Fin 512) (d : Fin 1024) :
    ((cfg0.win 20).blk t).view.emb (ix3 (0 : Fin 1) r d) = ix3 (bOf t) (rOf t r) d := by
  obtain ⟨e0, e1, e2⟩ := idx20 t
  funext a; apply Fin.ext
  match a with
  | ⟨0, _⟩ => show win0_20.index t (0 : Fin 3) * 1 + 1 * 0 = t.val / 16; omega
  | ⟨1, _⟩ => show win0_20.index t (1 : Fin 3) * 512 + 1 * r.val = 512 * (t.val % 16) + r.val; omega
  | ⟨2, _⟩ => show win0_20.index t (2 : Fin 3) * 1024 + 1 * d.val = d.val; omega

theorem idx21 : ∀ t : Fin cfg0.N, win0_21.index t (0 : Fin 3) = t.val / 16 ∧ win0_21.index t (1 : Fin 3) = 0 ∧ win0_21.index t (2 : Fin 3) = t.val % 16 :=
  (by decide +kernel : ∀ t : Fin grid0.N, _)

theorem emb21 (t : Fin cfg0.N) (e : Fin 32) (r : Fin 512) :
    ((cfg0.win 21).blk t).view.emb (ix3 (0 : Fin 1) e r) = ix3 (bOf t) e (rOf t r) := by
  obtain ⟨e0, e1, e2⟩ := idx21 t
  funext a; apply Fin.ext
  match a with
  | ⟨0, _⟩ => show win0_21.index t (0 : Fin 3) * 1 + 1 * 0 = t.val / 16; omega
  | ⟨1, _⟩ => show win0_21.index t (1 : Fin 3) * 32 + 1 * e.val = e.val; omega
  | ⟨2, _⟩ => show win0_21.index t (2 : Fin 3) * 512 + 1 * r.val = 512 * (t.val % 16) + r.val; omega

/-- Every token is a row of some point's block. -/
theorem tok (b : Fin 4) (q : Fin 8192) : ∃ (p : Fin cfg0.N) (r : Fin 512), bOf p = b ∧ rOf p r = q := by
  refine ⟨⟨16 * b.val + q.val / 512, by rw [N_eq]; omega⟩, ⟨q.val % 512, by omega⟩, Fin.ext ?_, Fin.ext ?_⟩
  · simp only [bOf]; omega
  · simp only [rOf]; omega

end Cert.Kernel3Ideal.Mrg

end
-- ==== Proof.PI3.Body.lean ====
/-
  What a grid point leaves in its three output blocks, of the blocks it reads: the body's values, composed.
-/
module

public import proofs.«01_k».proof.Proof.Gen.Kernel3Ideal.Frame
public import Idealize.ShloMosaic.Lib.Pipeline.Value

@[expose] public section

noncomputable section

namespace Cert.Kernel3Ideal.Mrg

open Cert.Kernel3Ideal Cert.Kernel3Ideal.Gen
open Idealize.ShloMosaic Idealize.ShloMosaic.TcCoe

variable {F : FTy → Type} [FloatOps F]

theorem hz3 : (![0, 0, 0] : Fin 3 → Nat) = fun _ => 0 := funext fun a => by match a with | ⟨0, _⟩ => rfl | ⟨1, _⟩ => rfl | ⟨2, _⟩ => rfl
theorem hz2 : (![0, 0] : Fin 2 → Nat) = fun _ => 0 := funext fun a => by match a with | ⟨0, _⟩ => rfl | ⟨1, _⟩ => rfl

/-- One branch's weights. -/
def wb0 (w : Vec F S3x1024x1024 .bf16) : Vec F S1x1024x1024 .bf16 := View.ld w (Rect.unit (s := S3x1024x1024) ![0, 0, 0] S1x1024x1024.size inb_S3x1024x1024_S1x1024x1024_0_0_0)
def wb1 (w : Vec F S3x1024x1024 .bf16) : Vec F S1x1024x1024 .bf16 := View.ld w (Rect.unit (s := S3x1024x1024) ![1, 0, 0] S1x1024x1024.size inb_S3x1024x1024_S1x1024x1024_1_0_0)
def wb2 (w : Vec F S3x1024x1024 .bf16) : Vec F S1x1024x1024 .bf16 := View.ld w (Rect.unit (s := S3x1024x1024) ![2, 0, 0] S1x1024x1024.size inb_S3x1024x1024_S1x1024x1024_2_0_0)

/-- The normalised product of the mix with the last weights. -/
def mixOf (x0 x1 x2 x3 x4 x5 x6 x7 x8 : Vec F S1x512x1024 .bf16) (x10 x11 : Vec F S1x1024 .f32) (x12 : Vec F S3x1024x1024 .bf16) (x13 : Vec F S1024x1024 .bf16) :
    FVec F S512x1024 .f32 :=
  k0_pay6 (k0_pay3 (k0_pay2 x2 x3 x0 x1 x10) x11 x6 (wb0 x12) x7 x4 (wb1 x12)) x8 x5 (wb2 x12) x13

variable (m : (ℓ : Loc nD τ sig) → Buf (Elt F) ℓ) (c : Dev nD) (t : Fin cfg0.N)

/-- A point's normalised product. -/
def mixAt : FVec F S512x1024 .f32 :=
  mixOf (X0_0 m c t) (X0_1 m c t) (X0_2 m c t) (iblk m c 3 t) (iblk m c 4 t) (iblk m c 5 t) (iblk m c 6 t) (iblk m c 7 t) (iblk m c 8 t)
    (iblk m c 10 t) (iblk m c 11 t) (iblk m c 12 t) (iblk m c 13 t)

/-- The first output block. -/
theorem out19 : (outsAt0 m c t).1 = k0_pay9 (k0_pay4 (iblk m c 9 t)) (k0_pay5 (iblk m c 15 t)) (mixAt m c t) (iblk m c 14 t) := by
  unfold outsAt0 out0_A_19
  dsimp only
  rw [View.read_writes_junk_eq_canon]
  unfold kernelRun0_A
  dsimp only
  sl_unfold_words
  rw [View.canon_unit_zero (S := S1x512x1024) hz3]
  simp only [View.readAt_eq_ld, (hs0_0 t).read_unread, (hs0_1 t).read_unread, (hs0_2 t).read_unread, (hs0_3 t).read_unread, (hs0_4 t).read_unread,
    (hs0_5 t).read_unread, (hs0_6 t).read_unread, (hs0_7 t).read_unread, (hs0_8 t).read_unread, (hs0_9 t).read_unread, (hs0_10 t).read_unread,
    (hs0_11 t).read_unread, (hs0_12 t).read_unread, (hs0_13 t).read_unread, (hs0_14 t).read_unread, (hs0_15 t).read_unread, (hs0_16 t).read_unread,
    (hs0_17 t).read_unread, (hs0_18 t).read_unread, View.ld_unit_zero (S := S1x512x1024) hz3, View.ld_unit_zero (S := S1x1x1024) hz3,
    View.ld_unit_zero (S := S1x1024) hz2, View.ld_unit_zero (S := S1024x1024) hz2, View.ld_unit_zero (S := S32x1024) hz2]
  rfl

/-- The second output block. -/
theorem out20 : (outsAt0 m c t).2.1 = k0_pay10 (k0_pay4 (iblk m c 9 t)) (k0_pay5 (iblk m c 15 t)) (mixAt m c t) (iblk m c 14 t) (iblk m c 16 t) (iblk m c 17 t) := by
  unfold outsAt0 out0_A_20
  dsimp only
  rw [View.read_writes_junk_eq_canon]
  unfold kernelRun0_A
  dsimp only
  sl_unfold_words
  rw [View.canon_unit_zero (S := S1x512x1024) hz3]
  simp only [View.readAt_eq_ld, (hs0_0 t).read_unread, (hs0_1 t).read_unread, (hs0_2 t).read_unread, (hs0_3 t).read_unread, (hs0_4 t).read_unread,
    (hs0_5 t).read_unread, (hs0_6 t).read_unread, (hs0_7 t).read_unread, (hs0_8 t).read_unread, (hs0_9 t).read_unread, (hs0_10 t).read_unread,
    (hs0_11 t).read_unread, (hs0_12 t).read_unread, (hs0_13 t).read_unread, (hs0_14 t).read_unread, (hs0_15 t).read_unread, (hs0_16 t).read_unread,
    (hs0_17 t).read_unread, (hs0_18 t).read_unread, View.ld_unit_zero (S := S1x512x1024) hz3, View.ld_unit_zero (S := S1x1x1024) hz3,
    View.ld_unit_zero (S := S1x1024) hz2, View.ld_unit_zero (S := S1024x1024) hz2, View.ld_unit_zero (S := S32x1024) hz2]
  rfl

/-- The third output block. -/
theorem out21 : (outsAt0 m c t).2.2 = k0_pay1 (k0_pay11 (k0_pay4 (iblk m c 9 t)) (k0_pay5 (iblk m c 15 t)) (mixAt m c t) (iblk m c 14 t) (iblk m c 16 t) (iblk m c 17 t) (iblk m c 18 t)) := by
  unfold outsAt0 out0_A_21
  dsimp only
  rw [View.read_writes_junk_eq_canon]
  unfold kernelRun0_A
  dsimp only
  sl_unfold_words
  rw [View.canon_unit_zero (S := S1x32x512) hz3]
  simp only [View.readAt_eq_ld, (hs0_0 t).read_unread, (hs0_1 t).read_unread, (hs0_2 t).read_unread, (hs0_3 t).read_unread, (hs0_4 t).read_unread,
    (hs0_5 t).read_unread, (hs0_6 t).read_unread, (hs0_7 t).read_unread, (hs0_8 t).read_unread, (hs0_9 t).read_unread, (hs0_10 t).read_unread,
    (hs0_11 t).read_unread, (hs0_12 t).read_unread, (hs0_13 t).read_unread, (hs0_14 t).read_unread, (hs0_15 t).read_unread, (hs0_16 t).read_unread,
    (hs0_17 t).read_unread, (hs0_18 t).read_unread, View.ld_unit_zero (S := S1x512x1024) hz3, View.ld_unit_zero (S := S1x1x1024) hz3,
    View.ld_unit_zero (S := S1x1024) hz2, View.ld_unit_zero (S := S1024x1024) hz2, View.ld_unit_zero (S := S32x1024) hz2]
  rfl

end Cert.Kernel3Ideal.Mrg

end
-- ==== Proof.Math.Merge.lean ====
/-
  One token's merge of the three branches, as functions of the values it reads: the gated state-space row, the mix of the
  branches, and the token's three results. And the sigmoid as a hyperbolic tangent.
-/
module

public import proofs.«01_k».proof.Proof.Math.Rms

@[expose] public section

noncomputable section

namespace Cert.Merge

open Idealize.ShloMosaic

/-- One half. -/
def half : EReal := Ideal.ofBits .f32 0x3F000000#32

theorem half_eq : half = ((1 / 2 : ℝ) : EReal) := by
  unfold half
  simp [Ideal.ofBits, Ideal.ieee, -EReal.coe_mul]; norm_num

/-- The sigmoid by the hyperbolic tangent of half the argument. -/
def sg (x : EReal) : EReal := half * Ideal.tanh (half * x) + half

theorem real_sg (r : ℝ) : 1 / 2 * Real.tanh (1 / 2 * r) + 1 / 2 = (1 + Real.exp (-r))⁻¹ := by
  have h1 : Real.exp r = Real.exp (1 / 2 * r) * Real.exp (1 / 2 * r) := by rw [← Real.exp_add]; congr 1; ring
  have hp : 0 < Real.exp (1 / 2 * r) := Real.exp_pos _
  rw [Real.tanh_eq_sinh_div_cosh, Real.sinh_eq, Real.cosh_eq, Real.exp_neg, Real.exp_neg, h1]
  field_simp
  ring

/-- It is the logistic function, at the infinities too. -/
theorem sg_eq (x : EReal) : sg x = Ideal.logistic x := by
  unfold sg
  rw [half_eq]
  induction x using EReal.rec with
  | bot =>
    rw [EReal.coe_mul_bot_of_pos (by norm_num), Ideal.tanh_bot, Ideal.logistic_bot]
    show ((1 / 2 : ℝ) : EReal) * ((-1 : ℝ) : EReal) + ((1 / 2 : ℝ) : EReal) = ((0 : ℝ) : EReal)
    rw [← EReal.coe_mul, ← EReal.coe_add]
    norm_num
  | coe r =>
    rw [← EReal.coe_mul, Ideal.tanh_coe, Ideal.logistic_coe, ← EReal.coe_mul, ← EReal.coe_add, real_sg]
  | top =>
    rw [EReal.coe_mul_top_of_pos (by norm_num), Ideal.tanh_top, Ideal.logistic_top, mul_one, ← EReal.coe_add]
    norm_num

/-- What one token's merge reads. -/
structure Row where
  yf : Fin 1024 → EReal
  yb : Fin 1024 → EReal
  xs : Fin 1024 → EReal
  z : Fin 1024 → EReal
  at' : Fin 1024 → EReal
  fo : Fin 1024 → EReal
  g0 : Fin 1024 → EReal
  g1 : Fin 1024 → EReal
  g2 : Fin 1024 → EReal
  x : Fin 1024 → EReal
  skip : Fin 1024 → EReal
  nsw : Fin 1024 → EReal
  wb : Fin 3 → Fin 1024 → Fin 1024 → EReal
  wo : Fin 1024 → Fin 1024 → EReal
  nw1 : Fin 1024 → EReal
  gate : Fin 1024 → EReal
  mul : Fin 1024 → EReal
  add : Fin 1024 → EReal
  rw : Fin 1024 → Fin 32 → EReal

namespace Row

variable (R : Row)

/-- The two scans' sum and the skip, by the gate. -/
def gated (d : Fin 1024) : EReal := (R.yf d + R.yb d + R.skip d * R.xs d) * (R.z d * Ideal.logistic (R.z d))

/-- The state-space branch. -/
def ssm (d : Fin 1024) : EReal := Rms.nrm R.gated d * R.nsw d

/-- The three branches, each by its gate. -/
def mixed (e : Fin 1024) : EReal :=
  Ideal.logistic (R.g0 e) * (∑ k : Fin 1024, R.ssm k * R.wb 0 k e) + Ideal.logistic (R.g1 e) * (∑ k : Fin 1024, R.at' k * R.wb 1 k e)
    + Ideal.logistic (R.g2 e) * (∑ k : Fin 1024, R.fo k * R.wb 2 k e)

/-- Their product with the last weights. -/
def proj (e : Fin 1024) : EReal := ∑ k : Fin 1024, R.mixed k * R.wo k e

/-- The first result's row: the stream with the normalised product added. -/
def x1 (d : Fin 1024) : EReal := R.x d + R.gate d * (Rms.nrm R.proj d * R.nw1 d)

/-- The second result's row: the first, normalised, scaled and shifted. -/
def h2 (d : Fin 1024) : EReal := Rms.nrm R.x1 d * R.mul d + R.add d

/-- The third result's column: the router's logits. -/
def logit (e : Fin 32) : EReal := ∑ d : Fin 1024, R.h2 d * R.rw d e

end Row

end Cert.Merge

end
-- ==== Proof.PI3.Cells.lean ====
/-
  What each value of the merge's body holds at an index, over the extended reals.
-/
module

public import proofs.«01_k».proof.Proof.Gen.Kernel3Ideal.Skeleton
public import proofs.«01_k».proof.Proof.Math.Merge
public import Idealize.ShloMosaic.Lib.Pointwise

@[expose] public section

noncomputable section

namespace Cert.Kernel3Ideal.Mrg

open Cert.Kernel3Ideal Cert.Kernel3Ideal.Gen
open Idealize.ShloMosaic Idealize.ShloMosaic.TcCoe
open Idealize.ShloMosaic.Pointwise
open Cert.Merge (sg)

/-- The normalised gated rows. -/
theorem pay2_cell (xs z yf yb : Vec Ideal S1x512x1024 .bf16) (dsk : Vec Ideal S1x1024 .f32) (r : Fin 512) (d : Fin 1024) :
    k0_pay2 xs z yf yb dsk (ix2 r d)
      = Rms.nrm (fun d => (yf (ix3 0 r d) + yb (ix3 0 r d) + dsk (ix2 0 d) * xs (ix3 0 r d)) * (z (ix3 0 r d) * sg (z (ix3 0 r d)))) d := by
  pointwise [k0_pay2]
  rfl

/-- The first two branches, gated. -/
theorem pay3_cell (s : FVec Ideal S512x1024 .f32) (nsw : Vec Ideal S1x1024 .f32) (g0 : Vec Ideal S1x512x1024 .bf16) (w0 : Vec Ideal S1x1024x1024 .bf16)
    (g1 a : Vec Ideal S1x512x1024 .bf16) (w1 : Vec Ideal S1x1024x1024 .bf16) (r : Fin 512) (e : Fin 1024) :
    k0_pay3 s nsw g0 w0 g1 a w1 (ix2 r e)
      = sg (g0 (ix3 0 r e)) * (∑ k : Fin 1024, s (ix2 r k) * nsw (ix2 0 k) * w0 (ix3 0 k e))
        + sg (g1 (ix3 0 r e)) * (∑ k : Fin 1024, a (ix3 0 r k) * w1 (ix3 0 k e)) := by
  pointwise [k0_pay3]
  rfl

/-- The product of the three branches' sum with the last weights, normalised. -/
theorem pay6_cell (s : FVec Ideal S512x1024 .f32) (g2 f : Vec Ideal S1x512x1024 .bf16) (w2 : Vec Ideal S1x1024x1024 .bf16) (wo : Vec Ideal S1024x1024 .bf16)
    (r : Fin 512) (d : Fin 1024) :
    k0_pay6 s g2 f w2 wo (ix2 r d)
      = Rms.nrm (fun d => ∑ k : Fin 1024, (s (ix2 r k) + sg (g2 (ix3 0 r k)) * (∑ l : Fin 1024, f (ix3 0 r l) * w2 (ix3 0 l k))) * wo (ix2 k d)) d := by
  pointwise [k0_pay6]
  rfl

/-- The stream with the gated, normalised product added. -/
theorem pay7_cell (x : Vec Ideal S1x512x1024 .f32) (g : Vec Ideal S1x1x1024 .f32) (s : FVec Ideal S512x1024 .f32) (w : Vec Ideal S1x1024 .f32)
    (r : Fin 512) (d : Fin 1024) :
    k0_pay7 (k0_pay4 x) (k0_pay5 g) s w (ix2 r d) = x (ix3 0 r d) + g (ix3 0 0 d) * (s (ix2 r d) * w (ix2 0 d)) := by
  pointwise [k0_pay7, k0_pay4, k0_pay5]

/-- The normalised, scaled and shifted rows. -/
theorem pay8_cell (x : FVec Ideal S512x1024 .f32) (g : FVec Ideal S1x1024 .f32) (s : FVec Ideal S512x1024 .f32) (w : Vec Ideal S1x1024 .f32)
    (mu ad : Vec Ideal S1x1x1024 .f32) (r : Fin 512) (d : Fin 1024) :
    k0_pay8 x g s w mu ad (ix2 r d) = Rms.nrm (fun d => k0_pay7 x g s w (ix2 r d)) d * mu (ix3 0 0 d) + ad (ix3 0 0 d) := by
  unfold k0_pay8
  generalize k0_pay7 x g s w = y
  pointwise []
  rfl

/-- The first result's block. -/
theorem pay9_cell (x : FVec Ideal S512x1024 .f32) (g : FVec Ideal S1x1024 .f32) (s : FVec Ideal S512x1024 .f32) (w : Vec Ideal S1x1024 .f32)
    (r : Fin 512) (d : Fin 1024) :
    k0_pay9 x g s w (ix3 0 r d) = k0_pay7 x g s w (ix2 r d) := by
  unfold k0_pay9
  generalize k0_pay7 x g s w = y
  pointwise []

/-- The second result's block. -/
theorem pay10_cell (x : FVec Ideal S512x1024 .f32) (g : FVec Ideal S1x1024 .f32) (s : FVec Ideal S512x1024 .f32) (w : Vec Ideal S1x1024 .f32)
    (mu ad : Vec Ideal S1x1x1024 .f32) (r : Fin 512) (d : Fin 1024) :
    k0_pay10 x g s w mu ad (ix3 0 r d) = k0_pay8 x g s w mu ad (ix2 r d) := by
  unfold k0_pay10
  generalize k0_pay8 x g s w mu ad = y
  pointwise []

/-- The third result's block. -/
theorem pay11_cell (x : FVec Ideal S512x1024 .f32) (g : FVec Ideal S1x1024 .f32) (s : FVec Ideal S512x1024 .f32) (w : Vec Ideal S1x1024 .f32)
    (mu ad : Vec Ideal S1x1x1024 .f32) (rw : Vec Ideal S32x1024 .f32) (e : Fin 32) (r : Fin 512) :
    k0_pay1 (k0_pay11 x g s w mu ad rw) (ix3 0 e r) = ∑ d : Fin 1024, rw (ix2 e d) * k0_pay8 x g s w mu ad (ix2 r d) := by
  unfold k0_pay11
  generalize k0_pay8 x g s w mu ad = y
  pointwise [k0_pay1]

end Cert.Kernel3Ideal.Mrg

end
-- ==== Proof.PI3.Host.lean ====
/-
  What the operations before the merge leave in the arrays they make: the weights' rows, the casts and the transpose,
  and the norm's weights times the modulation.
-/
module

public import proofs.«01_k».proof.Proof.Gen.Kernel3Ideal.Frame
public import Idealize.ShloMosaic.Lib.StableHlo.Run
public import Idealize.ShloMosaic.Lib.Pointwise
public import Idealize.ShloMosaic.PureOps.Ideal.Laws

@[expose] public section

noncomputable section

namespace Cert.Kernel3Ideal.Mrg

open Cert.Kernel3Ideal Cert.Kernel3Ideal.Gen
open Idealize.ShloMosaic Idealize.ShloMosaic.TcCoe
open Idealize.ShloMosaic.Pointwise

/-- The skip weights, each repeated over its head's columns, as a row. -/
def hostSkip {F : FTy → Type} [FloatOps F] (x7 : Vec F S16 .f32) : Vec F S1x1024 .f32 :=
  broadcastInDim S1x1024 ![1] bcast_S1024_S1x1024_1 (shapeCast S1024 (broadcastInDim S16x64 ![0] bcast_S16_S16x64_0 x7) shapeCasts_S16x64_S1024)

/-- Weights as a row. -/
def hostRow {F : FTy → Type} [FloatOps F] (x : Vec F S1024 .f32) : Vec F S1x1024 .f32 :=
  broadcastInDim S1x1024 ![1] bcast_S1024_S1x1024_1 x

/-- The branches' weights. -/
def hostWb {F : FTy → Type} [FloatOps F] (x9 : Vec F S3x1024x1024 .f32) : Vec F S3x1024x1024 .bf16 := truncf .bf16 x9 bitsLt_bf16_f32

/-- The last weights. -/
def hostWo {F : FTy → Type} [FloatOps F] (x10 : Vec F S1024x1024 .f32) : Vec F S1024x1024 .bf16 := truncf .bf16 x10 bitsLt_bf16_f32

/-- The router's weights, transposed. -/
def hostRw {F : FTy → Type} [FloatOps F] (x13 : Vec F S1024x32 .f32) : Vec F S32x1024 .f32 := transpose S32x1024 [1, 0] x13 transposes_S1024x32_S32x1024_1_0

/-- The norm's weights times one plus the scale. -/
def hostMul {F : FTy → Type} [FloatOps F] (x12 : Vec F S1024 .f32) (x15 : Vec F S4x1x1024 .f32) : Vec F S4x1x1024 .f32 :=
  mulf (broadcastInDim S4x1x1024 ![0, 1, 2] bcast_S1x1x1024_S4x1x1024_0_1_2 (broadcastInDim S1x1x1024 ![2] bcast_S1024_S1x1x1024_2 x12))
    (addf (broadcastInDim S4x1x1024 ![] bcast_S_S4x1x1024 (constant S_ .f32 0x3F800000#32)) x15)

section Runs

variable {F : FTy → Type} [FloatOps F] (m : (ℓ : Loc nD τ sig) → Buf (Elt F) ℓ)

theorem V_v2 (c : Dev nD) : V m c main_v2 = hostSkip (m ((c : Thread nD τ).loc main_arg7)) := by
  show StableHlo.after hostOps0 (fun b => m (c, b)) (Proc.devRef .tc main_v2) = _
  unfold hostOps0
  after_results_simp <;> rfl

theorem V_v3 (c : Dev nD) : V m c main_v3 = hostRow (m ((c : Thread nD τ).loc main_arg8)) := by
  show StableHlo.after hostOps0 (fun b => m (c, b)) (Proc.devRef .tc main_v3) = _
  unfold hostOps0
  after_results_simp <;> rfl

theorem V_v4 (c : Dev nD) : V m c main_v4 = hostWb (m ((c : Thread nD τ).loc main_arg9)) := by
  show StableHlo.after hostOps0 (fun b => m (c, b)) (Proc.devRef .tc main_v4) = _
  unfold hostOps0
  after_results_simp <;> rfl

theorem V_v5 (c : Dev nD) : V m c main_v5 = hostWo (m ((c : Thread nD τ).loc main_arg10)) := by
  show StableHlo.after hostOps0 (fun b => m (c, b)) (Proc.devRef .tc main_v5) = _
  unfold hostOps0
  after_results_simp <;> rfl

theorem V_v6 (c : Dev nD) : V m c main_v6 = hostRw (m ((c : Thread nD τ).loc main_arg13)) := by
  show StableHlo.after hostOps0 (fun b => m (c, b)) (Proc.devRef .tc main_v6) = _
  unfold hostOps0
  after_results_simp <;> rfl

theorem V_v7 (c : Dev nD) : V m c main_v7 = hostRow (m ((c : Thread nD τ).loc main_arg11)) := by
  show StableHlo.after hostOps0 (fun b => m (c, b)) (Proc.devRef .tc main_v7) = _
  unfold hostOps0
  after_results_simp <;> rfl

theorem V_v12 (c : Dev nD) : V m c main_v12 = hostMul (m ((c : Thread nD τ).loc main_arg12)) (m ((c : Thread nD τ).loc main_arg15)) := by
  show StableHlo.after hostOps0 (fun b => m (c, b)) (Proc.devRef .tc main_v12) = _
  unfold hostOps0
  after_results_simp <;> rfl

end Runs

theorem hostSkip_cell (x7 : Vec Ideal S16 .f32) (d : Fin 1024) : hostSkip x7 (ix2 0 d) = x7 (ix1 ⟨d.val / 64, Nat.div_lt_of_lt_mul d.isLt⟩) := by
  pointwise [hostSkip]

theorem hostRow_cell (x : Vec Ideal S1024 .f32) (d : Fin 1024) : hostRow x (ix2 0 d) = x (ix1 d) := by
  pointwise [hostRow]

theorem hostRw_cell (x13 : Vec Ideal S1024x32 .f32) (e : Fin 32) (d : Fin 1024) : hostRw x13 (ix2 e d) = x13 (ix2 d e) := by
  pointwise [hostRw]

theorem hostMul_cell (x12 : Vec Ideal S1024 .f32) (x15 : Vec Ideal S4x1x1024 .f32) (b : Fin 4) (d : Fin 1024) :
    hostMul x12 x15 (ix3 b 0 d) = x12 (ix1 d) * (1 + x15 (ix3 b 0 d)) := by
  pointwise [hostMul]

end Cert.Kernel3Ideal.Mrg

end
-- ==== Proof.RI3.Reads.lean ====
/-
  What the merge's reference holds, element by element: each token's row of the merge of the values it reads.
-/
module

public import proofs.«01_k».proof.Proof.Gen.Reference3Ideal.Read
public import proofs.«01_k».proof.Proof.Math.Merge
public import Idealize.ShloMosaic.Lib.Pointwise

@[expose] public section

noncomputable section

namespace Cert.Reference3Ideal.Ref

open Cert.Reference3Ideal Cert.Reference3Ideal.Gen Cert.Reference3Ideal.Read
open Idealize.ShloMosaic Idealize.ShloMosaic.TcCoe
open Idealize.ShloMosaic.Pointwise

variable (x0 : Vec Ideal S4x8448x1024 .bf16) (x1 : Vec Ideal S4x8448x1024 .bf16) (x2 : Vec Ideal S4x8448x2048 .bf16) (x3 : Vec Ideal S4x8192x10240 .bf16) (x4 : Vec Ideal S4x8192x1024 .bf16) (x5 : Vec Ideal S4x8192x1024 .bf16) (x6 : Vec Ideal S4x8192x1024 .f32) (x7 : Vec Ideal S16 .f32) (x8 : Vec Ideal S1024 .f32) (x9 : Vec Ideal S3x1024x1024 .f32) (x10 : Vec Ideal S1024x1024 .f32) (x11 : Vec Ideal S1024 .f32) (x12 : Vec Ideal S1024 .f32) (x13 : Vec Ideal S1024x32 .f32) (x14 : Vec Ideal S4x1x1024 .f32) (x15 : Vec Ideal S4x1x1024 .f32) (x16 : Vec Ideal S4x1x1024 .f32)

/-- What the merge of one token reads, of the arguments. -/
def rowOf (b : Fin 4) (t : Fin 8192) : Merge.Row where
  yf d := x0 (ix3 b ⟨t.val, Nat.lt_of_lt_of_le t.isLt (by decide)⟩ d)
  yb d := x1 (ix3 b ⟨t.val, Nat.lt_of_lt_of_le t.isLt (by decide)⟩ d)
  xs d := x2 (ix3 b ⟨t.val, Nat.lt_of_lt_of_le t.isLt (by decide)⟩ ⟨d.val, Nat.lt_of_lt_of_le d.isLt (by decide)⟩)
  z d := x3 (ix3 b t ⟨4096 + d.val, Nat.lt_of_lt_of_le (Nat.add_lt_add_left d.isLt 4096) (by decide)⟩)
  at' d := x4 (ix3 b t d)
  fo d := x5 (ix3 b t d)
  g0 d := x3 (ix3 b t ⟨7168 + d.val, Nat.lt_of_lt_of_le (Nat.add_lt_add_left d.isLt 7168) (by decide)⟩)
  g1 d := x3 (ix3 b t ⟨8192 + d.val, Nat.lt_of_lt_of_le (Nat.add_lt_add_left d.isLt 8192) (by decide)⟩)
  g2 d := x3 (ix3 b t ⟨9216 + d.val, Nat.lt_of_lt_of_le (Nat.add_lt_add_left d.isLt 9216) (by decide)⟩)
  x d := x6 (ix3 b t d)
  skip d := x7 (ix1 ⟨d.val / 64, Nat.div_lt_of_lt_mul d.isLt⟩)
  nsw d := x8 (ix1 d)
  wb i k d := x9 (ix3 i k d)
  wo k d := x10 (ix2 k d)
  nw1 d := x11 (ix1 d)
  gate d := x14 (ix3 b 0 d)
  mul d := x12 (ix1 d) * (1 + x15 (ix3 b 0 d))
  add d := x16 (ix3 b 0 d)
  rw d e := x13 (ix2 d e)

/-- The row of the repeated skip weights. -/
theorem v12_cell (b : Fin 4) (t : Fin 8192) (d : Fin 1024) :
    val_main_v12 (F := Ideal) x7 (ix3 b t d) = x7 (ix1 ⟨d.val / 64, Nat.div_lt_of_lt_mul d.isLt⟩) := by
  pointwise [val_main_v12, val_main_v11, val_main_v10, val_main_v9]

/-- The gated rows. -/
theorem v16_cell (b : Fin 4) (t : Fin 8192) (d : Fin 1024) :
    val_main_v16 (F := Ideal) x0 x1 x2 x3 x7 (ix3 b t d) = (rowOf x0 x1 x2 x3 x4 x5 x6 x7 x8 x9 x10 x11 x12 x13 x14 x15 x16 b t).gated d := by
  unfold val_main_v16 val_main_v14 val_main_v13
  have h := v12_cell x7 b t d
  generalize val_main_v12 (F := Ideal) x7 = y at h ⊢
  pointwise [val_main_v8, val_main_v7, val_main_v6, val_main_v5, val_main_v4, val_main_v1, val_main_v0, val_main_v15, val_main_v3, val_main_v2, val_main_call0_v5, val_main_call0_v4, val_main_call0_v3, val_main_call0_v2, val_main_call0_v1, val_main_call0_v0, val_main_call0_cst, val_main_call0_cst_0]
  rw [h]
  rfl

/-- The state-space branch. -/
theorem v29_cell (b : Fin 4) (t : Fin 8192) (d : Fin 1024) :
    val_main_v29 (F := Ideal) x0 x1 x2 x3 x7 x8 (ix3 b t d) = (rowOf x0 x1 x2 x3 x4 x5 x6 x7 x8 x9 x10 x11 x12 x13 x14 x15 x16 b t).ssm d := by
  have h := fun d => v16_cell x0 x1 x2 x3 x4 x5 x6 x7 x8 x9 x10 x11 x12 x13 x14 x15 x16 b t d
  unfold val_main_v29 val_main_v26 val_main_v25 val_main_v24 val_main_v23 val_main_v21 val_main_v19 val_main_v18 val_main_v17
  generalize val_main_v16 (F := Ideal) x0 x1 x2 x3 x7 = y at h ⊢
  pointwise [val_main_v28, val_main_v27, val_main_v22, val_main_v20, val_main_cst, val_main_cst_0, val_main_cst_1]
  simp only [h]
  rfl

/-- The gates' columns. -/
theorem v37_cell (b : Fin 4) (t : Fin 8192) (d : Fin 3072) :
    val_main_v37 (F := Ideal) x3 (ix3 b t d) = Ideal.logistic (x3 (ix3 b t ⟨7168 + d.val, Nat.lt_of_lt_of_le (Nat.add_lt_add_left d.isLt 7168) (by decide)⟩)) := by
  pointwise [val_main_v37, val_main_v36, val_main_v35, val_main_v34, val_main_v33, val_main_v32, val_main_v31, val_main_v30, val_main_cst_2, val_main_cst_3]
  rfl

theorem v38_cell (b : Fin 4) (t : Fin 8192) (d : Fin 1024) : val_main_v38 (F := Ideal) x3 (ix3 b t d) = Ideal.logistic ((rowOf x0 x1 x2 x3 x4 x5 x6 x7 x8 x9 x10 x11 x12 x13 x14 x15 x16 b t).g0 d) := by
  have h := v37_cell x3 b t ⟨d.val, by omega⟩
  unfold val_main_v38
  generalize val_main_v37 (F := Ideal) x3 = y at h ⊢
  pointwise []
  exact h

theorem v43_cell (b : Fin 4) (t : Fin 8192) (d : Fin 1024) : val_main_v43 (F := Ideal) x3 (ix3 b t d) = Ideal.logistic ((rowOf x0 x1 x2 x3 x4 x5 x6 x7 x8 x9 x10 x11 x12 x13 x14 x15 x16 b t).g1 d) := by
  have h := v37_cell x3 b t ⟨1024 + d.val, by omega⟩
  unfold val_main_v43
  generalize val_main_v37 (F := Ideal) x3 = y at h ⊢
  pointwise []
  refine h.trans ?_
  exact congrArg (fun c => Ideal.logistic (x3 (ix3 b t c))) (Fin.ext (by show 7168 + (1024 + d.val) = 8192 + d.val; omega))

theorem v50_cell (b : Fin 4) (t : Fin 8192) (d : Fin 1024) : val_main_v50 (F := Ideal) x3 (ix3 b t d) = Ideal.logistic ((rowOf x0 x1 x2 x3 x4 x5 x6 x7 x8 x9 x10 x11 x12 x13 x14 x15 x16 b t).g2 d) := by
  have h := v37_cell x3 b t ⟨2048 + d.val, by omega⟩
  unfold val_main_v50
  generalize val_main_v37 (F := Ideal) x3 = y at h ⊢
  pointwise []
  refine h.trans ?_
  exact congrArg (fun c => Ideal.logistic (x3 (ix3 b t c))) (Fin.ext (by show 7168 + (2048 + d.val) = 9216 + d.val; omega))

/-- The branches' products. -/
theorem v41_cell (b : Fin 4) (t : Fin 8192) (e : Fin 1024) :
    val_main_v41 (F := Ideal) x0 x1 x2 x3 x7 x8 x9 (ix3 b t e) = ∑ k : Fin 1024, (rowOf x0 x1 x2 x3 x4 x5 x6 x7 x8 x9 x10 x11 x12 x13 x14 x15 x16 b t).ssm k * (rowOf x0 x1 x2 x3 x4 x5 x6 x7 x8 x9 x10 x11 x12 x13 x14 x15 x16 b t).wb 0 k e := by
  have h := fun d => v29_cell x0 x1 x2 x3 x4 x5 x6 x7 x8 x9 x10 x11 x12 x13 x14 x15 x16 b t d
  unfold val_main_v41
  generalize val_main_v29 (F := Ideal) x0 x1 x2 x3 x7 x8 = y at h ⊢
  pointwise [val_main_v40, val_main_v39]
  simp only [h]
  rfl

theorem v47_cell (b : Fin 4) (t : Fin 8192) (e : Fin 1024) :
    val_main_v47 (F := Ideal) x4 x9 (ix3 b t e) = ∑ k : Fin 1024, (rowOf x0 x1 x2 x3 x4 x5 x6 x7 x8 x9 x10 x11 x12 x13 x14 x15 x16 b t).at' k * (rowOf x0 x1 x2 x3 x4 x5 x6 x7 x8 x9 x10 x11 x12 x13 x14 x15 x16 b t).wb 1 k e := by
  pointwise [val_main_v47, val_main_v46, val_main_v45, val_main_v44]
  rfl

theorem v54_cell (b : Fin 4) (t : Fin 8192) (e : Fin 1024) :
    val_main_v54 (F := Ideal) x5 x9 (ix3 b t e) = ∑ k : Fin 1024, (rowOf x0 x1 x2 x3 x4 x5 x6 x7 x8 x9 x10 x11 x12 x13 x14 x15 x16 b t).fo k * (rowOf x0 x1 x2 x3 x4 x5 x6 x7 x8 x9 x10 x11 x12 x13 x14 x15 x16 b t).wb 2 k e := by
  pointwise [val_main_v54, val_main_v53, val_main_v52, val_main_v51]
  rfl

/-- The gated branches' sum. -/
theorem v56_cell (b : Fin 4) (t : Fin 8192) (e : Fin 1024) : val_main_v56 (F := Ideal) x0 x1 x2 x3 x4 x5 x7 x8 x9 (ix3 b t e) = (rowOf x0 x1 x2 x3 x4 x5 x6 x7 x8 x9 x10 x11 x12 x13 x14 x15 x16 b t).mixed e := by
  rw [val_main_v56_apply, val_main_v49_apply, val_main_v42_apply, val_main_v48_apply, val_main_v55_apply,
    v38_cell x0 x1 x2 x3 x4 x5 x6 x7 x8 x9 x10 x11 x12 x13 x14 x15 x16, v43_cell x0 x1 x2 x3 x4 x5 x6 x7 x8 x9 x10 x11 x12 x13 x14 x15 x16, v50_cell x0 x1 x2 x3 x4 x5 x6 x7 x8 x9 x10 x11 x12 x13 x14 x15 x16, v41_cell x0 x1 x2 x3 x4 x5 x6 x7 x8 x9 x10 x11 x12 x13 x14 x15 x16, v47_cell x0 x1 x2 x3 x4 x5 x6 x7 x8 x9 x10 x11 x12 x13 x14 x15 x16, v54_cell x0 x1 x2 x3 x4 x5 x6 x7 x8 x9 x10 x11 x12 x13 x14 x15 x16]
  rfl

/-- Its product with the last weights. -/
theorem v57_cell (b : Fin 4) (t : Fin 8192) (e : Fin 1024) : val_main_v57 (F := Ideal) x0 x1 x2 x3 x4 x5 x7 x8 x9 x10 (ix3 b t e) = (rowOf x0 x1 x2 x3 x4 x5 x6 x7 x8 x9 x10 x11 x12 x13 x14 x15 x16 b t).proj e := by
  have h := fun d => v56_cell x0 x1 x2 x3 x4 x5 x6 x7 x8 x9 x10 x11 x12 x13 x14 x15 x16 b t d
  unfold val_main_v57
  generalize val_main_v56 (F := Ideal) x0 x1 x2 x3 x4 x5 x7 x8 x9 = y at h ⊢
  pointwise []
  simp only [h]
  rfl

/-- The first result. -/
theorem v73_cell (b : Fin 4) (t : Fin 8192) (d : Fin 1024) : val_main_v73 (F := Ideal) x0 x1 x2 x3 x4 x5 x6 x7 x8 x9 x10 x11 x14 (ix3 b t d) = (rowOf x0 x1 x2 x3 x4 x5 x6 x7 x8 x9 x10 x11 x12 x13 x14 x15 x16 b t).x1 d := by
  have h := fun d => v57_cell x0 x1 x2 x3 x4 x5 x6 x7 x8 x9 x10 x11 x12 x13 x14 x15 x16 b t d
  unfold val_main_v73 val_main_v72 val_main_v70 val_main_v67 val_main_v66 val_main_v65 val_main_v64 val_main_v62 val_main_v60 val_main_v59 val_main_v58
  generalize val_main_v57 (F := Ideal) x0 x1 x2 x3 x4 x5 x7 x8 x9 x10 = y at h ⊢
  pointwise [val_main_v71, val_main_v69, val_main_v68, val_main_v63, val_main_v61, val_main_cst_4, val_main_cst_5, val_main_cst_6]
  simp only [h]
  rfl

/-- The normalised, scaled and shifted rows. -/
theorem v92_cell (b : Fin 4) (t : Fin 8192) (d : Fin 1024) : val_main_v92 (F := Ideal) x0 x1 x2 x3 x4 x5 x6 x7 x8 x9 x10 x11 x12 x14 x15 x16 (ix3 b t d) = (rowOf x0 x1 x2 x3 x4 x5 x6 x7 x8 x9 x10 x11 x12 x13 x14 x15 x16 b t).h2 d := by
  have h := fun d => v73_cell x0 x1 x2 x3 x4 x5 x6 x7 x8 x9 x10 x11 x12 x13 x14 x15 x16 b t d
  unfold val_main_v92 val_main_v90 val_main_v86 val_main_v83 val_main_v82 val_main_v81 val_main_v80 val_main_v78 val_main_v76 val_main_v75 val_main_v74
  generalize val_main_v73 (F := Ideal) x0 x1 x2 x3 x4 x5 x6 x7 x8 x9 x10 x11 x14 = y at h ⊢
  pointwise [val_main_v91, val_main_v89, val_main_v88, val_main_v87, val_main_v85, val_main_v84, val_main_v79, val_main_v77, val_main_cst_7, val_main_cst_8, val_main_cst_9, val_main_cst_10]
  simp only [h]
  rw [mul_assoc (G := EReal) _ (x12 (ix1 d))]
  rfl

/-- The second result. -/
theorem v93_cell (b : Fin 4) (t : Fin 8192) (d : Fin 1024) : val_main_v93 (F := Ideal) x0 x1 x2 x3 x4 x5 x6 x7 x8 x9 x10 x11 x12 x14 x15 x16 (ix3 b t d) = (rowOf x0 x1 x2 x3 x4 x5 x6 x7 x8 x9 x10 x11 x12 x13 x14 x15 x16 b t).h2 d := by
  have h := v92_cell x0 x1 x2 x3 x4 x5 x6 x7 x8 x9 x10 x11 x12 x13 x14 x15 x16 b t d
  unfold val_main_v93
  generalize val_main_v92 (F := Ideal) x0 x1 x2 x3 x4 x5 x6 x7 x8 x9 x10 x11 x12 x14 x15 x16 = y at h ⊢
  pointwise []
  exact h

/-- The third result. -/
theorem v95_cell (b : Fin 4) (e : Fin 32) (t : Fin 8192) : val_main_v95 (F := Ideal) x0 x1 x2 x3 x4 x5 x6 x7 x8 x9 x10 x11 x12 x13 x14 x15 x16 (ix3 b e t) = (rowOf x0 x1 x2 x3 x4 x5 x6 x7 x8 x9 x10 x11 x12 x13 x14 x15 x16 b t).logit e := by
  have h := fun d => v92_cell x0 x1 x2 x3 x4 x5 x6 x7 x8 x9 x10 x11 x12 x13 x14 x15 x16 b t d
  unfold val_main_v95 val_main_v94
  generalize val_main_v92 (F := Ideal) x0 x1 x2 x3 x4 x5 x6 x7 x8 x9 x10 x11 x12 x14 x15 x16 = y at h ⊢
  pointwise []
  simp only [h]
  rfl

end Cert.Reference3Ideal.Ref

end
-- ==== Proof.PI3.Array.lean ====
/-
  What the merge's three result arrays hold, element by element: each token's row of the merge of the values it reads.
-/
module

public import proofs.«01_k».proof.Proof.PI3.Blocks
public import proofs.«01_k».proof.Proof.PI3.Body
public import proofs.«01_k».proof.Proof.PI3.Cells
public import proofs.«01_k».proof.Proof.PI3.Host
public import proofs.«01_k».proof.Proof.RI3.Reads

@[expose] public section

noncomputable section

namespace Cert.Kernel3Ideal.Mrg

open Cert.Kernel3Ideal Cert.Kernel3Ideal.Gen
open Idealize.ShloMosaic Idealize.ShloMosaic.TcCoe Idealize.ShloMosaic.Pipeline
open Idealize.ShloMosaic.Pointwise
open Cert.Reference3Ideal.Ref (rowOf)

variable (m : (ℓ : Loc nD τ sig) → Buf (Elt Ideal) ℓ) (c : Dev nD)

/-- What the merge of one token reads, of the arguments. -/
abbrev row (b : Fin 4) (q : Fin 8192) : Merge.Row :=
  rowOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) b q

section Blocks

variable (t : Fin cfg0.N)

/-- What the merge of a row of a point's block reads. -/
abbrev rowAt (r : Fin 512) : Merge.Row := row m c (bOf t) (rOf t r)

theorem blk0 (r : Fin 512) (d : Fin 1024) : X0_0 m c t (ix3 (0 : Fin 1) r d) = (rowAt m c t r).yf d := by
  unfold X0_0 Window.fill
  rw [dif_pos (moved0_0 t _)]
  show V m c main_arg0 (((cfg0.win 0).blk t).view.emb (fun a => ⟨((ix3 (0 : Fin 1) r d : S1x512x1024.Idx) a).val, _⟩)) = _
  rw [emb0, V_main_arg0]
  rfl

theorem blk1 (r : Fin 512) (d : Fin 1024) : X0_1 m c t (ix3 (0 : Fin 1) r d) = (rowAt m c t r).yb d := by
  unfold X0_1 Window.fill
  rw [dif_pos (moved0_1 t _)]
  show V m c main_arg1 (((cfg0.win 1).blk t).view.emb (fun a => ⟨((ix3 (0 : Fin 1) r d : S1x512x1024.Idx) a).val, _⟩)) = _
  rw [emb1, V_main_arg1]
  rfl

theorem blk2 (r : Fin 512) (d : Fin 1024) : X0_2 m c t (ix3 (0 : Fin 1) r d) = (rowAt m c t r).xs d := by
  unfold X0_2 Window.fill
  rw [dif_pos (moved0_2 t _)]
  show V m c main_arg2 (((cfg0.win 2).blk t).view.emb (fun a => ⟨((ix3 (0 : Fin 1) r d : S1x512x1024.Idx) a).val, _⟩)) = _
  rw [emb2, V_main_arg2]
  rfl

theorem blk3 (r : Fin 512) (d : Fin 1024) : iblk m c 3 t (ix3 (0 : Fin 1) r d) = (rowAt m c t r).z d := by
  show V m c main_arg3 (((cfg0.win 3).blk t).view.emb (ix3 (0 : Fin 1) r d)) = _
  rw [emb3, V_main_arg3]
  rfl

theorem blk4 (r : Fin 512) (d : Fin 1024) : iblk m c 4 t (ix3 (0 : Fin 1) r d) = (rowAt m c t r).at' d := by
  show V m c main_arg4 (((cfg0.win 4).blk t).view.emb (ix3 (0 : Fin 1) r d)) = _
  rw [emb4, V_main_arg4]
  rfl

theorem blk5 (r : Fin 512) (d : Fin 1024) : iblk m c 5 t (ix3 (0 : Fin 1) r d) = (rowAt m c t r).fo d := by
  show V m c main_arg5 (((cfg0.win 5).blk t).view.emb (ix3 (0 : Fin 1) r d)) = _
  rw [emb5, V_main_arg5]
  rfl

theorem blk6 (r : Fin 512) (d : Fin 1024) : iblk m c 6 t (ix3 (0 : Fin 1) r d) = (rowAt m c t r).g0 d := by
  show V m c main_arg3 (((cfg0.win 6).blk t).view.emb (ix3 (0 : Fin 1) r d)) = _
  rw [emb6, V_main_arg3]
  rfl

theorem blk7 (r : Fin 512) (d : Fin 1024) : iblk m c 7 t (ix3 (0 : Fin 1) r d) = (rowAt m c t r).g1 d := by
  show V m c main_arg3 (((cfg0.win 7).blk t).view.emb (ix3 (0 : Fin 1) r d)) = _
  rw [emb7, V_main_arg3]
  rfl

theorem blk8 (r : Fin 512) (d : Fin 1024) : iblk m c 8 t (ix3 (0 : Fin 1) r d) = (rowAt m c t r).g2 d := by
  show V m c main_arg3 (((cfg0.win 8).blk t).view.emb (ix3 (0 : Fin 1) r d)) = _
  rw [emb8, V_main_arg3]
  rfl

theorem blk9 (r : Fin 512) (d : Fin 1024) : iblk m c 9 t (ix3 (0 : Fin 1) r d) = (rowAt m c t r).x d := by
  show V m c main_arg6 (((cfg0.win 9).blk t).view.emb (ix3 (0 : Fin 1) r d)) = _
  rw [emb9, V_main_arg6]
  rfl

theorem blk10 (r : Fin 512) (d : Fin 1024) : iblk m c 10 t (ix2 (0 : Fin 1) d) = (rowAt m c t r).skip d := by
  show V m c main_v2 (((cfg0.win 10).blk t).view.emb (ix2 (0 : Fin 1) d)) = _
  rw [emb10, V_v2, hostSkip_cell]
  rfl

theorem blk11 (r : Fin 512) (d : Fin 1024) : iblk m c 11 t (ix2 (0 : Fin 1) d) = (rowAt m c t r).nsw d := by
  show V m c main_v3 (((cfg0.win 11).blk t).view.emb (ix2 (0 : Fin 1) d)) = _
  rw [emb11, V_v3, hostRow_cell]
  rfl

theorem blk14 (r : Fin 512) (d : Fin 1024) : iblk m c 14 t (ix2 (0 : Fin 1) d) = (rowAt m c t r).nw1 d := by
  show V m c main_v7 (((cfg0.win 14).blk t).view.emb (ix2 (0 : Fin 1) d)) = _
  rw [emb14, V_v7, hostRow_cell]
  rfl

theorem blk12 (r : Fin 512) (i : Fin 3) (k d : Fin 1024) : iblk m c 12 t (ix3 i k d) = (rowAt m c t r).wb i k d := by
  show V m c main_v4 (((cfg0.win 12).blk t).view.emb (ix3 i k d)) = _
  rw [emb12, V_v4]
  rfl

theorem blk13 (r : Fin 512) (k d : Fin 1024) : iblk m c 13 t (ix2 k d) = (rowAt m c t r).wo k d := by
  show V m c main_v5 (((cfg0.win 13).blk t).view.emb (ix2 k d)) = _
  rw [emb13, V_v5]
  rfl

theorem blk15 (r : Fin 512) (d : Fin 1024) : iblk m c 15 t (ix3 (0 : Fin 1) (0 : Fin 1) d) = (rowAt m c t r).gate d := by
  show V m c main_arg14 (((cfg0.win 15).blk t).view.emb (ix3 (0 : Fin 1) (0 : Fin 1) d)) = _
  rw [emb15, V_main_arg14]
  rfl

theorem blk16 (r : Fin 512) (d : Fin 1024) : iblk m c 16 t (ix3 (0 : Fin 1) (0 : Fin 1) d) = (rowAt m c t r).mul d := by
  show V m c main_v12 (((cfg0.win 16).blk t).view.emb (ix3 (0 : Fin 1) (0 : Fin 1) d)) = _
  rw [emb16, V_v12, hostMul_cell]
  rfl

theorem blk17 (r : Fin 512) (d : Fin 1024) : iblk m c 17 t (ix3 (0 : Fin 1) (0 : Fin 1) d) = (rowAt m c t r).add d := by
  show V m c main_arg16 (((cfg0.win 17).blk t).view.emb (ix3 (0 : Fin 1) (0 : Fin 1) d)) = _
  rw [emb17, V_main_arg16]
  rfl

theorem blk18 (r : Fin 512) (e : Fin 32) (d : Fin 1024) : iblk m c 18 t (ix2 e d) = (rowAt m c t r).rw d e := by
  show V m c main_v6 (((cfg0.win 18).blk t).view.emb (ix2 e d)) = _
  rw [emb18, V_v6, hostRw_cell]
  rfl

/-- One branch's weights, in the block of all three. -/
theorem wb0_cell (w : Vec Ideal S3x1024x1024 .bf16) (k d : Fin 1024) : wb0 w (ix3 (0 : Fin 1) k d) = w (ix3 (0 : Fin 3) k d) :=
  congrArg w (funext fun a => Fin.ext (by
    match a with
    | ⟨0, _⟩ => rfl
    | ⟨1, _⟩ => show 0 + 1 * k.val = k.val; omega
    | ⟨2, _⟩ => show 0 + 1 * d.val = d.val; omega))
theorem wb1_cell (w : Vec Ideal S3x1024x1024 .bf16) (k d : Fin 1024) : wb1 w (ix3 (0 : Fin 1) k d) = w (ix3 (1 : Fin 3) k d) :=
  congrArg w (funext fun a => Fin.ext (by
    match a with
    | ⟨0, _⟩ => rfl
    | ⟨1, _⟩ => show 0 + 1 * k.val = k.val; omega
    | ⟨2, _⟩ => show 0 + 1 * d.val = d.val; omega))
theorem wb2_cell (w : Vec Ideal S3x1024x1024 .bf16) (k d : Fin 1024) : wb2 w (ix3 (0 : Fin 1) k d) = w (ix3 (2 : Fin 3) k d) :=
  congrArg w (funext fun a => Fin.ext (by
    match a with
    | ⟨0, _⟩ => rfl
    | ⟨1, _⟩ => show 0 + 1 * k.val = k.val; omega
    | ⟨2, _⟩ => show 0 + 1 * d.val = d.val; omega))

/-- The normalised gated rows. -/
theorem gated_cell (r : Fin 512) (d : Fin 1024) :
    k0_pay2 (X0_2 m c t) (iblk m c 3 t) (X0_0 m c t) (X0_1 m c t) (iblk m c 10 t) (ix2 r d) = Rms.nrm (rowAt m c t r).gated d := by
  rw [pay2_cell (X0_2 m c t) (iblk m c 3 t) (X0_0 m c t) (X0_1 m c t) (iblk m c 10 t) r d]
  refine congrArg (fun f => Rms.nrm f d) (funext fun d => ?_)
  rw [blk0, blk1, blk2, blk3 m c t r d, blk10 m c t r d, Merge.sg_eq]
  rfl

/-- The mix's product with the last weights, normalised. -/
theorem mix_cell (r : Fin 512) (d : Fin 1024) : mixAt m c t (ix2 r d) = Rms.nrm (rowAt m c t r).proj d := by
  unfold mixAt mixOf
  rw [pay6_cell _ (iblk m c 8 t) (iblk m c 5 t) _ (iblk m c 13 t) r d]
  refine congrArg (fun f => Rms.nrm f d) (funext fun e => Finset.sum_congr rfl fun k _ => ?_)
  rw [pay3_cell _ (iblk m c 11 t) (iblk m c 6 t) _ (iblk m c 7 t) (iblk m c 4 t) _ r k, blk8 m c t r k, blk6 m c t r k, blk7 m c t r k,
    blk13 m c t r k e, Merge.sg_eq, Merge.sg_eq, Merge.sg_eq]
  refine congrArg (fun v => v * (rowAt m c t r).wo k e) (congrArg₂ (· + ·) (congrArg₂ (· + ·) (congrArg (fun v => Ideal.logistic ((rowAt m c t r).g0 k) * v) ?_) (congrArg (fun v => Ideal.logistic ((rowAt m c t r).g1 k) * v) ?_))
    (congrArg (fun v => Ideal.logistic ((rowAt m c t r).g2 k) * v) ?_))
  · exact Finset.sum_congr rfl fun l _ => congrArg₂ (· * ·) (congrArg₂ (· * ·) (gated_cell m c t r l) (blk11 m c t r l))
      ((wb0_cell _ l k).trans (blk12 m c t r 0 l k))
  · exact Finset.sum_congr rfl fun l _ => congrArg₂ (· * ·) (blk4 m c t r l) ((wb1_cell _ l k).trans (blk12 m c t r 1 l k))
  · exact Finset.sum_congr rfl fun l _ => congrArg₂ (· * ·) (blk5 m c t r l) ((wb2_cell _ l k).trans (blk12 m c t r 2 l k))

/-- The first result's rows. -/
theorem x1_cell (r : Fin 512) (d : Fin 1024) :
    k0_pay7 (k0_pay4 (iblk m c 9 t)) (k0_pay5 (iblk m c 15 t)) (mixAt m c t) (iblk m c 14 t) (ix2 r d) = (rowAt m c t r).x1 d := by
  rw [pay7_cell (iblk m c 9 t) (iblk m c 15 t) (mixAt m c t) (iblk m c 14 t) r d, mix_cell, blk9 m c t r d, blk15 m c t r d, blk14 m c t r d]
  rfl

/-- The second result's rows. -/
theorem h2_cell (r : Fin 512) (d : Fin 1024) :
    k0_pay8 (k0_pay4 (iblk m c 9 t)) (k0_pay5 (iblk m c 15 t)) (mixAt m c t) (iblk m c 14 t) (iblk m c 16 t) (iblk m c 17 t) (ix2 r d) = (rowAt m c t r).h2 d := by
  rw [pay8_cell (k0_pay4 (iblk m c 9 t)) (k0_pay5 (iblk m c 15 t)) (mixAt m c t) (iblk m c 14 t) (iblk m c 16 t) (iblk m c 17 t) r d,
    blk16 m c t r d, blk17 m c t r d]
  exact congrArg (fun f => Rms.nrm f d * _ + _) (funext fun d => x1_cell m c t r d)

/-- A grid point's three output blocks. -/
theorem out19_cell (r : Fin 512) (d : Fin 1024) : (outsAt0 m c t).1 (ix3 0 r d) = (rowAt m c t r).x1 d := by
  rw [out19, pay9_cell (k0_pay4 (iblk m c 9 t)) (k0_pay5 (iblk m c 15 t)) (mixAt m c t) (iblk m c 14 t) r d, x1_cell]

theorem out20_cell (r : Fin 512) (d : Fin 1024) : (outsAt0 m c t).2.1 (ix3 0 r d) = (rowAt m c t r).h2 d := by
  rw [out20, pay10_cell (k0_pay4 (iblk m c 9 t)) (k0_pay5 (iblk m c 15 t)) (mixAt m c t) (iblk m c 14 t) (iblk m c 16 t) (iblk m c 17 t) r d, h2_cell]

theorem out21_cell (e : Fin 32) (r : Fin 512) : (outsAt0 m c t).2.2 (ix3 0 e r) = (rowAt m c t r).logit e := by
  rw [out21, pay11_cell (k0_pay4 (iblk m c 9 t)) (k0_pay5 (iblk m c 15 t)) (mixAt m c t) (iblk m c 14 t) (iblk m c 16 t) (iblk m c 17 t) (iblk m c 18 t) e r]
  exact Finset.sum_congr rfl fun d _ => (congrArg₂ (fun a b : EReal => a * b) (blk18 m c t r e d) (h2_cell m c t r d)).trans (mul_comm (G := EReal) _ _)

end Blocks

/-- The three results as functions of the arguments. -/
def res19 : Vec Ideal S4x8192x1024 .f32 := fun i => (row m c ⟨(i 0).val, (i 0).isLt⟩ ⟨(i 1).val, (i 1).isLt⟩).x1 ⟨(i 2).val, (i 2).isLt⟩
def res20 : Vec Ideal S4x8192x1024 .bf16 := fun i => (row m c ⟨(i 0).val, (i 0).isLt⟩ ⟨(i 1).val, (i 1).isLt⟩).h2 ⟨(i 2).val, (i 2).isLt⟩
def res21 : Vec Ideal S4x32x8192 .f32 := fun i => (row m c ⟨(i 0).val, (i 0).isLt⟩ ⟨(i 2).val, (i 2).isLt⟩).logit ⟨(i 1).val, (i 1).isLt⟩

/-- The first result array after the run. -/
theorem arr19 : (dats m 0 c).arrAt 19 cfg0.N = res19 m c := by
  refine (dats m 0 c).arrAt_eq_of_cover 19 (res19 m c) (fun t _ => ?_) fun i => ?_
  · show (cfg0.win 19).cut (grid0.coords t) ((dats m 0 c).after 19 t) = _
    rw [after0_19]
    refine funext fun (j : S1x512x1024.Idx) => ?_
    obtain ⟨r, e, rfl⟩ : ∃ (r : Fin 512) (e : Fin 1024), j = ix3 (0 : Fin 1) r e := ⟨j 1, j 2, funext fun a => by match a with | ⟨0, _⟩ => exact Subsingleton.elim (α := Fin 1) _ _ | ⟨1, _⟩ => rfl | ⟨2, _⟩ => rfl⟩
    show (outsAt0 m c t).1 (ix3 0 r e) = res19 m c (((cfg0.win 19).blk t).view.emb (ix3 (0 : Fin 1) r e))
    rw [emb19, out19_cell m c t r e]
    rfl
  · obtain ⟨p, r, hb, hr⟩ := tok ⟨(i 0).val, (i 0).isLt⟩ ⟨(i 1).val, (i 1).isLt⟩
    refine ⟨p, flush0_19 p, ?_⟩
    have hi : ((cfg0.win 19).blk p).view.emb (ix3 (0 : Fin 1) r ⟨(i 2).val, (i 2).isLt⟩) = i := by
      rw [emb19, hb, hr]
      exact funext fun a => by match a with | ⟨0, _⟩ => rfl | ⟨1, _⟩ => rfl | ⟨2, _⟩ => rfl
    exact hi ▸ ((cfg0.win 19).blk p).view.emb_mem_set (ix3 (0 : Fin 1) r ⟨(i 2).val, (i 2).isLt⟩)

/-- The second result array after the run. -/
theorem arr20 : (dats m 0 c).arrAt 20 cfg0.N = res20 m c := by
  refine (dats m 0 c).arrAt_eq_of_cover 20 (res20 m c) (fun t _ => ?_) fun i => ?_
  · show (cfg0.win 20).cut (grid0.coords t) ((dats m 0 c).after 20 t) = _
    rw [after0_20]
    refine funext fun (j : S1x512x1024.Idx) => ?_
    obtain ⟨r, e, rfl⟩ : ∃ (r : Fin 512) (e : Fin 1024), j = ix3 (0 : Fin 1) r e := ⟨j 1, j 2, funext fun a => by match a with | ⟨0, _⟩ => exact Subsingleton.elim (α := Fin 1) _ _ | ⟨1, _⟩ => rfl | ⟨2, _⟩ => rfl⟩
    show (outsAt0 m c t).2.1 (ix3 0 r e) = res20 m c (((cfg0.win 20).blk t).view.emb (ix3 (0 : Fin 1) r e))
    rw [emb20, out20_cell m c t r e]
    rfl
  · obtain ⟨p, r, hb, hr⟩ := tok ⟨(i 0).val, (i 0).isLt⟩ ⟨(i 1).val, (i 1).isLt⟩
    refine ⟨p, flush0_20 p, ?_⟩
    have hi : ((cfg0.win 20).blk p).view.emb (ix3 (0 : Fin 1) r ⟨(i 2).val, (i 2).isLt⟩) = i := by
      rw [emb20, hb, hr]
      exact funext fun a => by match a with | ⟨0, _⟩ => rfl | ⟨1, _⟩ => rfl | ⟨2, _⟩ => rfl
    exact hi ▸ ((cfg0.win 20).blk p).view.emb_mem_set (ix3 (0 : Fin 1) r ⟨(i 2).val, (i 2).isLt⟩)

/-- The third result array after the run. -/
theorem arr21 : (dats m 0 c).arrAt 21 cfg0.N = res21 m c := by
  refine (dats m 0 c).arrAt_eq_of_cover 21 (res21 m c) (fun t _ => ?_) fun i => ?_
  · show (cfg0.win 21).cut (grid0.coords t) ((dats m 0 c).after 21 t) = _
    rw [after0_21]
    refine funext fun (j : S1x32x512.Idx) => ?_
    obtain ⟨e, r, rfl⟩ : ∃ (e : Fin 32) (r : Fin 512), j = ix3 (0 : Fin 1) e r := ⟨j 1, j 2, funext fun a => by match a with | ⟨0, _⟩ => exact Subsingleton.elim (α := Fin 1) _ _ | ⟨1, _⟩ => rfl | ⟨2, _⟩ => rfl⟩
    show (outsAt0 m c t).2.2 (ix3 0 e r) = res21 m c (((cfg0.win 21).blk t).view.emb (ix3 (0 : Fin 1) e r))
    rw [emb21, out21_cell m c t e r]
    rfl
  · obtain ⟨p, r, hb, hr⟩ := tok ⟨(i 0).val, (i 0).isLt⟩ ⟨(i 2).val, (i 2).isLt⟩
    refine ⟨p, flush0_21 p, ?_⟩
    have hi : ((cfg0.win 21).blk p).view.emb (ix3 (0 : Fin 1) ⟨(i 1).val, (i 1).isLt⟩ r) = i := by
      rw [emb21, hb, hr]
      exact funext fun a => by match a with | ⟨0, _⟩ => rfl | ⟨1, _⟩ => rfl | ⟨2, _⟩ => rfl
    exact hi ▸ ((cfg0.win 21).blk p).view.emb_mem_set (ix3 (0 : Fin 1) ⟨(i 1).val, (i 1).isLt⟩ r)

end Cert.Kernel3Ideal.Mrg

end
-- ==== Proof.Equation3.lean ====
/-
  The merge's equation: the kernel's three result arrays and the reference's are the same functions of the arguments.
-/
module

public import proofs.«01_k».proof.Defs
public import proofs.«01_k».proof.Proof.PI3.Array
public import proofs.«01_k».proof.Proof.RI3.Reads
public import proofs.«01_k».proof.Proof.RI3.Run
public import proofs.«01_k».proof.Proof.Gen.Kernel3Ideal.Value

@[expose] public section

noncomputable section

namespace Cert.Equation3

open Idealize.ShloMosaic Idealize.ShloMosaic.TcCoe Idealize.SL.Sem
open Idealize.ShloMosaic.Pointwise

section Result
open Cert.Kernel3Ideal Cert.Kernel3Ideal.Mrg

variable (m : (ℓ : Loc nD τ sig) → Buf (Elt Ideal) ℓ) (c : Dev nD)

/-- The first result. -/
theorem eq19 : Cert.Reference3Ideal.Read.val_main_v73 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg14)) = res19 m c := by
  refine funext fun (i : S4x8192x1024.Idx) => ?_
  obtain ⟨b, t, d, rfl⟩ : ∃ (b : Fin 4) (t : Fin 8192) (d : Fin 1024), i = ix3 b t d :=
    ⟨i 0, i 1, i 2, funext fun a => by match a with | ⟨0, _⟩ => rfl | ⟨1, _⟩ => rfl | ⟨2, _⟩ => rfl⟩
  exact Cert.Reference3Ideal.Ref.v73_cell (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) b t d

/-- The second result. -/
theorem eq20 : Cert.Reference3Ideal.Read.val_main_v93 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg14)) (m ((c.tc : Thread nD τ).loc main_arg15)) (m ((c.tc : Thread nD τ).loc main_arg16)) = res20 m c := by
  refine funext fun (i : S4x8192x1024.Idx) => ?_
  obtain ⟨b, t, d, rfl⟩ : ∃ (b : Fin 4) (t : Fin 8192) (d : Fin 1024), i = ix3 b t d :=
    ⟨i 0, i 1, i 2, funext fun a => by match a with | ⟨0, _⟩ => rfl | ⟨1, _⟩ => rfl | ⟨2, _⟩ => rfl⟩
  exact Cert.Reference3Ideal.Ref.v93_cell (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) b t d

/-- The third result. -/
theorem eq21 : Cert.Reference3Ideal.Read.val_main_v95 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) = res21 m c := by
  refine funext fun (i : S4x32x8192.Idx) => ?_
  obtain ⟨b, e, t, rfl⟩ : ∃ (b : Fin 4) (e : Fin 32) (t : Fin 8192), i = ix3 b e t :=
    ⟨i 0, i 1, i 2, funext fun a => by match a with | ⟨0, _⟩ => rfl | ⟨1, _⟩ => rfl | ⟨2, _⟩ => rfl⟩
  exact Cert.Reference3Ideal.Ref.v95_cell (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) b e t

end Result

/-- The two programs end with equal results, and with their arguments unchanged. -/
theorem algebraic : Cert.algebraic_Kernel3Ideal_Reference3Ideal := by
  intro m g m' g' hpre harg
  refine ⟨fun c => Cert.Kernel3Ideal.Mrg.res19 m c, fun c => Cert.Kernel3Ideal.Mrg.res20 m c, fun c => Cert.Kernel3Ideal.Mrg.res21 m c, ?_, ?_⟩
  · exact (θ_run _ _ _).mono (fun r h c => ⟨(h c).1.trans (Cert.Kernel3Ideal.Mrg.arr19 m c), (h c).2.1.trans (Cert.Kernel3Ideal.Mrg.arr20 m c),
      (h c).2.2.1.trans (Cert.Kernel3Ideal.Mrg.arr21 m c), (h c).2.2.2⟩) (Cert.Kernel3Ideal.Value.run_blocks m g)
  · refine (θ_run _ _ _).mono (fun r h c => ⟨(h c).1.trans ?_, (h c).2.1.trans ?_, (h c).2.2.1.trans ?_, (h c).2.2.2⟩) (Cert.Reference3Ideal.Value.run m' g')
    · obtain ⟨a0, a1, a2, a3, a4, a5, a6, a7, a8, a9, a10, a11, a12, a13, a14, a15, a16⟩ := harg c
      rw [Cert.Reference3Ideal.Read.val_main_v73_eq, a0, a1, a2, a3, a4, a5, a6, a7, a8, a9, a10, a11, a14]
      exact eq19 m c
    · obtain ⟨a0, a1, a2, a3, a4, a5, a6, a7, a8, a9, a10, a11, a12, a13, a14, a15, a16⟩ := harg c
      rw [Cert.Reference3Ideal.Read.val_main_v93_eq, a0, a1, a2, a3, a4, a5, a6, a7, a8, a9, a10, a11, a12, a14, a15, a16]
      exact eq20 m c
    · obtain ⟨a0, a1, a2, a3, a4, a5, a6, a7, a8, a9, a10, a11, a12, a13, a14, a15, a16⟩ := harg c
      rw [Cert.Reference3Ideal.Read.val_main_v95_eq, a0, a1, a2, a3, a4, a5, a6, a7, a8, a9, a10, a11, a12, a13, a14, a15, a16]
      exact eq21 m c

end Cert.Equation3

end
-- ==== Proof.PI4.Body.lean ====
/-
  The projection's body on any staging memrefs, at the first column block of a row block and at a later one.
-/
module

public import proofs.«01_k».proof.Proof.Gen.Kernel4Ideal.Frame
public import proofs.«01_k».proof.Proof.Gen.Kernel4Ideal.Skeleton
public import Idealize.ShloMosaic.Lib.Tactic
public import Idealize.ShloMosaic.Lib.Pipeline.Value

@[expose] public section

noncomputable section

namespace Cert.Kernel4Ideal.Proj

open Cert.Kernel4Ideal Cert.Kernel4Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

abbrev 𝒱₀ : Variants := Variants.none

theorem hz2 : (![0, 0] : Fin 2 → ℕ) = fun _ => 0 := by decide
theorem hz3 : (![0, 0, 0] : Fin 3 → ℕ) = fun _ => 0 := by decide

/-- One piece over the whole of a shape covers it. -/
theorem cov {S : Shape} {n : EltTy} {z : Fin S.rank → ℕ} (hz : z = fun _ => 0) (h : ∀ a, z a + S.size a ≤ S.size a) (w : S.Idx → Elt F n) (L : List (View.Piece (Elt F) S n)) :
    ∀ y, ∃ p ∈ (⟨Rect.unit (s := S) z S.size h, w⟩ :: L : List (View.Piece (Elt F) S n)), y ∈ p.1.set := fun y =>
  ⟨_, List.mem_cons_self, by
    subst hz
    rw [Rect.mem_set_unit]
    exact fun a => ⟨Nat.zero_le _, lt_of_lt_of_eq (y a).isLt (Nat.zero_add _).symm⟩⟩

set_option maxHeartbeats 4000000 in
/-- At the first column block: the normalised rows go to the scratch, their products to both results' blocks. -/
theorem run_first (c : Dev nD) (i : grid0.Coords) (hi : k0_cond1 i = 1#1) (arg3 : Memref sig .tc .vmem S1x256x1024 .f32) (h3 : arg3.IsWhole)
    (arg4 : Memref sig .tc .vmem S1x1x1024 .f32) (h4 : arg4.IsWhole) (arg5 : Memref sig .tc .vmem S1x1x1024 .f32) (h5 : arg5.IsWhole)
    (arg6 : Memref sig .tc .vmem S1024x1024 .bf16) (h6 : arg6.IsWhole) (arg7 : Memref sig .tc .vmem S1024x128 .bf16) (h7 : arg7.IsWhole)
    (arg8 : Memref sig .tc .vmem S1x256x1024 .bf16) (h8 : arg8.IsWhole) (arg9 : Memref sig .tc .vmem S1x256x128 .f32) (h9 : arg9.IsWhole)
    (arg10 : Memref sig .tc .vmem S256x1024 .bf16) (h10 : arg10.IsWhole)
    (x3 : Vec F S1x256x1024 .f32) (x4 x5 : Vec F S1x1x1024 .f32) (x6 : Vec F S1024x1024 .bf16) (x7 : Vec F S1024x128 .bf16) (E : Set ℕ) (K : PUnit → sProp 𝕄) :
    iprop(owns (c : Thread nD τ) arg3 fullShare x3 ∗ owns (c : Thread nD τ) arg4 fullShare x4 ∗ owns (c : Thread nD τ) arg5 fullShare x5
        ∗ owns (c : Thread nD τ) arg6 fullShare x6 ∗ owns (c : Thread nD τ) arg7 fullShare x7
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg3 fullShare x3 ∗ owns (c : Thread nD τ) arg4 fullShare x4 ∗ owns (c : Thread nD τ) arg5 fullShare x5
        ∗ owns (c : Thread nD τ) arg6 fullShare x6 ∗ owns (c : Thread nD τ) arg7 fullShare x7
        ∗ owns (c : Thread nD τ) arg8 fullShare (k0_pay4 (k0_pay2 x3 x4 x5) x6) ∗ owns (c : Thread nD τ) arg9 fullShare (k0_pay3 x3 x4 x5 x7)
        ∗ owns (c : Thread nD τ) arg10 fullShare (k0_pay2 x3 x4 x5)) -∗ K ⟨⟩))
      ⊢ wp frame (wpE (defs₀ (F := F)) 𝒱₀ c none) E
          (cc0__proj_kernel i arg3 h3 arg4 h4 arg5 h5 arg6 h6 arg7 h7 arg8 h8 arg9 h9 arg10 h10) K := by
  unfold owns
  iintro ⟨⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
  obtain rfl := h3.eq_unread hf3; obtain rfl := h4.eq_unread hf4; obtain rfl := h5.eq_unread hf5; obtain rfl := h6.eq_unread hf6
  obtain rfl := h7.eq_unread hf7
  simp only [cc0__proj_kernel_eq_skeleton]
  unfold cc0__proj_kernel_skel
  rw [dif_pos hi]
  sl_exec
  sl_step
  iapply Hk
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr; · ipureintro; exact h6.read_unread _
    iexact H6
  isplitl [H7]
  · iexists _; isplitr; · ipureintro; exact h7.read_unread _
    iexact H7
  isplitl [H8]
  · iexists _; isplitr; swap; · iexact H8
    ipureintro
    rw [View.read_writes_eq_canon _ _ _ (cov hz3 _ _ _), View.canon_cons_unit_zero (S := S1x256x1024) hz3]
    sl_unfold_words
    rw [View.readCov_cons_toLoadRect]
    congr 1
    · congr 1
      · rw [View.readAt_eq_ld, hf3]; exact View.ld_unit_zero (S := S1x256x1024) hz3 _ _
      · rw [View.readAt_eq_ld, hf4]; exact View.ld_unit_zero (S := S1x1x1024) hz3 _ _
      · rw [View.readAt_eq_ld, hf5]; exact View.ld_unit_zero (S := S1x1x1024) hz3 _ _
    · rw [View.readAt_eq_ld, hf6]; exact View.ld_unit_zero (S := S1024x1024) hz2 _ _
  isplitl [H9]
  · iexists _; isplitr; swap; · iexact H9
    ipureintro
    rw [View.read_writes_eq_canon _ _ _ (cov hz3 _ _ _), View.canon_cons_unit_zero (S := S1x256x128) hz3]
    congr 1
    · rw [View.readAt_eq_ld, hf3]; exact View.ld_unit_zero (S := S1x256x1024) hz3 _ _
    · rw [View.readAt_eq_ld, hf4]; exact View.ld_unit_zero (S := S1x1x1024) hz3 _ _
    · rw [View.readAt_eq_ld, hf5]; exact View.ld_unit_zero (S := S1x1x1024) hz3 _ _
    · rw [View.readAt_eq_ld, hf7]; exact View.ld_unit_zero (S := S1024x128) hz2 _ _
  iexists _; isplitr; swap; · iexact H10
  ipureintro
  sl_unfold_words
  rw [View.read_writes_eq_canon _ _ _ (cov hz2 _ _ _), View.canon_cons_unit_zero (S := S256x1024) hz2]
  congr 1
  · rw [View.readAt_eq_ld, hf3]; exact View.ld_unit_zero (S := S1x256x1024) hz3 _ _
  · rw [View.readAt_eq_ld, hf4]; exact View.ld_unit_zero (S := S1x1x1024) hz3 _ _
  · rw [View.readAt_eq_ld, hf5]; exact View.ld_unit_zero (S := S1x1x1024) hz3 _ _

set_option maxHeartbeats 4000000 in
/-- At a later column block: the scratch still holds the rows `s`, whose products with the weights go to the first result's block. -/
theorem run_later (c : Dev nD) (i : grid0.Coords) (hi : ¬ k0_cond1 i = 1#1) (arg3 : Memref sig .tc .vmem S1x256x1024 .f32) (h3 : arg3.IsWhole)
    (arg4 : Memref sig .tc .vmem S1x1x1024 .f32) (h4 : arg4.IsWhole) (arg5 : Memref sig .tc .vmem S1x1x1024 .f32) (h5 : arg5.IsWhole)
    (arg6 : Memref sig .tc .vmem S1024x1024 .bf16) (h6 : arg6.IsWhole) (arg7 : Memref sig .tc .vmem S1024x128 .bf16) (h7 : arg7.IsWhole)
    (arg8 : Memref sig .tc .vmem S1x256x1024 .bf16) (h8 : arg8.IsWhole) (arg9 : Memref sig .tc .vmem S1x256x128 .f32) (h9 : arg9.IsWhole)
    (arg10 : Memref sig .tc .vmem S256x1024 .bf16) (h10 : arg10.IsWhole)
    (x6 : Vec F S1024x1024 .bf16) (s : Vec F S256x1024 .bf16) (E : Set ℕ) (K : PUnit → sProp 𝕄) :
    iprop(owns (c : Thread nD τ) arg6 fullShare x6
        ∗ (∃ d, owns (c : Thread nD τ) arg8 fullShare d) ∗ owns (c : Thread nD τ) arg10 fullShare s
        ∗ (iprop(owns (c : Thread nD τ) arg6 fullShare x6
        ∗ owns (c : Thread nD τ) arg8 fullShare (k0_pay4 s x6) ∗ owns (c : Thread nD τ) arg10 fullShare s) -∗ K ⟨⟩))
      ⊢ wp frame (wpE (defs₀ (F := F)) 𝒱₀ c none) E
          (cc0__proj_kernel i arg3 h3 arg4 h4 arg5 h5 arg6 h6 arg7 h7 arg8 h8 arg9 h9 arg10 h10) K := by
  unfold owns
  iintro ⟨⟨%f6, %hf6, H6⟩, ⟨%d8, %f8, -, H8⟩, ⟨%f10, %hf10, H10⟩, Hk⟩
  obtain rfl := h6.eq_unread hf6; obtain rfl := h10.eq_unread hf10
  simp only [cc0__proj_kernel_eq_skeleton]
  unfold cc0__proj_kernel_skel
  rw [dif_neg hi]
  sl_exec
  sl_step
  iapply Hk
  isplitl [H6]
  · iexists _; isplitr; · ipureintro; exact h6.read_unread _
    iexact H6
  isplitl [H8]
  · iexists _; isplitr; swap; · iexact H8
    ipureintro
    rw [View.read_writes_eq_canon _ _ _ (cov hz3 _ _ _), View.canon_cons_unit_zero (S := S1x256x1024) hz3]
    congr 1
    · rw [View.readAt_eq_ld, hf10]; exact View.ld_unit_zero (S := S256x1024) hz2 _ _
    · rw [View.readAt_eq_ld, hf6]; exact View.ld_unit_zero (S := S1024x1024) hz2 _ _
  iexists _; isplitr; · ipureintro; exact h10.read_unread _
  iexact H10

end Cert.Kernel4Ideal.Proj

end
-- ==== Proof.PI4.Frame.lean ====
/-
  The projection's run: the pipeline's proof data, the body's obligation at every grid point, the run and the arguments
  unchanged. The ten points of a row block share the scratch: its first point fills it, the nine later ones read it.
-/
module

public import proofs.«01_k».proof.Proof.PI4.Body
public import proofs.«01_k».proof.Proof.Gen.Kernel4Ideal.Points
public import Idealize.ShloMosaic.PureOps.BitExact
public import Idealize.ShloMosaic.Lib.Pipeline.TableIdle

@[expose] public section

noncomputable section

namespace Cert.Kernel4Ideal.Proj

open Cert.Kernel4Ideal Cert.Kernel4Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first point of the row block that point `t` lies in. -/
def base (t : Fin cfg0.N) : Fin cfg0.N := ⟨t.val - t.val % 10, Nat.lt_of_le_of_lt (Nat.sub_le _ _) t.isLt⟩

theorem base_self (t : Fin cfg0.N) (h : t.val % 10 = 0) : base t = t := Fin.ext (by simp only [base]; omega)

/-- The normalised rows that point `b` puts in the scratch. -/
def rowsOf (c : Dev nD) (b : Fin cfg0.N) : Vec F S256x1024 .bf16 := k0_pay2 (iblk m c 0 b) (iblk m c 1 b) (iblk m c 2 b)

/-- The first result's block at point `t`: the row block's rows by the point's column block of the weights. -/
def mainAt (c : Dev nD) (t : Fin cfg0.N) : Vec F S1x256x1024 .bf16 := k0_pay4 (rowsOf m c (base t)) (iblk m c 3 t)

/-- The second result's block at the point `b` that first opens a row block. -/
def dtOf (c : Dev nD) (b : Fin cfg0.N) : Vec F S1x256x128 .f32 := k0_pay3 (iblk m c 0 b) (iblk m c 1 b) (iblk m c 2 b) (iblk m c 4 b)

/-- What the scratch holds before point `n`: inside a row block, the rows of the block's first point. -/
def scr (c : Dev nD) (n : ℕ) : sProp 𝕄 :=
  iprop((∃ s, ⌜n % 10 ≠ 0 → ∀ b : Fin cfg0.N, b.val = n - n % 10 → s = rowsOf m c b⌝ ∗ owns (c : Thread nD τ) (Memref.whole cc0_scratch0) fullShare s)
    ∗ ∃ r, prngReg c r)

/-- The pipeline's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => mainAt m c t
    | ⟨6, _⟩ => dtOf m c (base t)
  Φ n := scr m c n.val
  q _ := fullShare
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = mainAt m c t := by dsimp only [dats]
theorem after0_6 (c : Dev nD) (t : Fin cfg0.N) : (dats m 0 c).after 6 t = dtOf m c (base t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- The body's test holds exactly at the first point of each row block. -/
theorem cond_iff : ∀ t : Fin cfg0.N, k0_cond1 (cfg0.grid.coords t) = 1#1 ↔ t.val % 10 = 0 := by decide +kernel

theorem idle_eq (t : Fin cfg0.N) : cfg0.idle 6 (cfg0.grid.coords t) = decide (t.val % 10 ≠ 0) := by
  show (!(k0_cond1 (cfg0.grid.coords t) == 1#1)) = _
  by_cases h : t.val % 10 = 0
  · rw [(cond_iff t).2 h]; simp [h]
  · rw [beq_false_of_ne (mt (cond_iff t).1 h)]; simp [h]

theorem fresh_eq : ∀ n, n ≤ cfg0.N → cfg0.fresh 6 n = decide (n % 10 = 0) :=
  cfg0.fresh_tab 6 (fun n => decide (n % 10 = 0)) rfl fun t => by
    rw [idle_eq, Bool.eq_iff_iff, Bool.or_eq_true, flush0_6, Bool.and_eq_true, decide_eq_true_iff, decide_eq_true_iff, decide_eq_true_iff]
    omega

/-- Past a row block's first point the second result's buffer holds what that point stored. -/
theorem before0_6 (c : Dev nD) (t : Fin cfg0.N) (h : t.val % 10 ≠ 0) (d) : (dats m 0 c).before 6 t d = dtOf m c (base t) := by
  have hs : ∀ u : Fin cfg0.N, u.val % 10 ≠ 0 → ∀ hu, base u = base ⟨u.val - 1, hu⟩ := fun u hu _ => Fin.ext (by simp only [base]; omega)
  have hc : ∀ (u : Fin cfg0.N) (_ : u.val ≠ 0), cfg0.idle 6 (cfg0.grid.coords u) = true → cfg0.fresh 6 u.val = false →
      (dats m 0 c).after 6 u = (dats m 0 c).after 6 ⟨u.val - 1, by omega⟩ := fun u _ hi _ => by
    rw [idle_eq, decide_eq_true_iff] at hi
    rw [after0_6, after0_6, hs u hi]
  rw [(dats m 0 c).before_out_traj 6 rfl (fun _ _ => rfl) hc t.val t rfl d, fresh_eq _ t.isLt.le, if_neg (by simpa using h), after0_6,
    hs t h]

theorem phiA_eq (c : Dev nD) : (ΦA spec0 c : sProp 𝕄)
    = iprop((∃ d, owns (c : Thread nD τ) (Memref.whole cc0_scratch0) fullShare d) ∗ ∃ r, prngReg c r) := by
  unfold ΦA
  rw [scopedRest0_eq]
  simp only [owns_whole]

/-- At every grid point the body takes the staging buffers from the blocks fetched to the blocks to be written back. -/
theorem body_obligation (c : Dev nD) : BodyObligation (dats (F := F) m 0 c) (defs₀ (F := F)) 𝒱₀ () Set.univ := fun t => by
  rw [bigSep_W0, bigSep_W0]
  sl_whnfR [defs₀, Defs.onTc]
  simp only [before0_0, before0_1, before0_2, before0_3, before0_4]
  rw [show (dats m 0 c).Φ t.succ = scr m c (t.val + 1) from rfl, show (dats m 0 c).Φ t.castSucc = scr m c t.val from rfl,
    show (dats m 0 c).owesAt () t.succ = (dats m 0 c).owesAt () t.castSucc from rfl, after0_0, after0_1, after0_2, after0_3, after0_4,
    after0_5, after0_6]
  unfold scr
  by_cases h : t.val % 10 = 0
  · rw [show idle0 6 (grid0.coords t) = false from (idle_eq t).trans (by simp [h])]
    unfold mainAt
    rw [base_self t h]
    iintro ⟨⟨⟨%s, -, HS⟩, HR⟩, Ho, ⟨%d0, H0⟩, ⟨%d1, H1⟩, ⟨%d2, H2⟩, ⟨%d3, H3⟩, ⟨%d4, H4⟩, ⟨%d5, H5⟩, ⟨%d6, H6⟩⟩
    iapply (run_first c _ ((cond_iff t).2 h) _ _ _ _ _ _ _ _ _ _ _ _ _ _ _ _ (iblk m c 0 t) (iblk m c 1 t) (iblk m c 2 t) (iblk m c 3 t)
      (iblk m c 4 t) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS]; · iexists _; iexact HS
    iintro ⟨H0, H1, H2, H3, H4, H5, H6, HS⟩
    isplitl [HS HR]
    · isplitl [HS]
      · iexists _
        isplitr; swap; · iexact HS
        ipureintro
        intro _ b hb
        rw [show b = t from Fin.ext (by omega)]
        rfl
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [show idle0 6 (grid0.coords t) = true from (idle_eq t).trans (by simp [h])]
    simp only [before0_6 m c t h]
    unfold mainAt
    iintro ⟨⟨⟨%s, %hs, HS⟩, HR⟩, Ho, ⟨%d0, H0⟩, ⟨%d1, H1⟩, ⟨%d2, H2⟩, ⟨%d3, H3⟩, ⟨%d4, H4⟩, ⟨%d5, H5⟩, ⟨%d6, H6⟩⟩
    obtain rfl := hs h (base t) rfl
    iapply (run_later c _ (mt (cond_iff t).1 h) _ _ _ _ _ _ _ _ _ _ _ _ _ _ _ _ (iblk m c 3 t) (rowsOf m c (base t)) Set.univ _)
    isplitl [H3]; · iexact H3
    isplitl [H5]; · iexists _; iexact H5
    isplitl [HS]; · iexact HS
    iintro ⟨H3, H5, HS⟩
    isplitl [HS HR]
    · isplitl [HS]
      · iexists _
        isplitr; swap; · iexact HS
        ipureintro
        intro hn b hb
        rw [show base t = b from Fin.ext (by simp only [base]; omega)]
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    cases (win0 6).flush t
    · iexists d6; iexact H6
    · iexact H6

-- the library lemma's implicit arguments are found by unifying its conclusion with this one, which takes unfolding plain
-- definitions in a metavariable's type
set_option backward.isDefEq.respectTransparency.types false in
/-- Every run ends, with every array of the pipeline at what the proof data says and every semaphore at zero. -/
theorem run_main : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ 𝒱₀ m ρ main
    (hbody := fun c => (body_obligation m c).loose) (hshare := fun c => (dats m 0 c).share_full fun _ => rfl)
    (howed := fun _ _ => rfl) (V := V m) (hmain := hmain m 𝒱₀) (hA := fun _ _ => rfl)
    (hin := fun c => by
      rw [phiA_eq, show (dats m 0 c).Φ 0 = scr m c 0 from rfl]
      unfold scr
      iintro ⟨⟨%d, HS⟩, HR⟩
      isplitl [HS]
      · iexists d
        isplitr; · ipureintro; exact fun hn => absurd rfl hn
        iexact HS
      iexact HR)
    (hout := fun c => by
      rw [phiA_eq, show (dats m 0 c).Φ (Fin.last cfg0.N) = scr m c cfg0.N from rfl]
      unfold scr
      iintro ⟨⟨%d, -, HS⟩, HR⟩
      isplitl [HS]
      · iexists d; iexact HS
      iexact HR)

/-- Every run ends with the arguments unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_with_sems (frame_of m ρ (dats m) fun _ _ => rfl) (run_main m ρ)

end Cert.Kernel4Ideal.Proj

end
-- ==== Proof.RI4.Run.lean ====
/-
  The projection's reference's run: it ends with the arguments unchanged and every semaphore at zero.
-/
module

public import proofs.«01_k».proof.Proof.Gen.Reference4Ideal.Run
public import Idealize.ShloMosaic.Lib.Quiescent

@[expose] public section

noncomputable section

namespace Cert.Reference4Ideal.Ref

open Cert.Reference4Ideal Cert.Reference4Ideal.Gen
open Idealize.ShloMosaic Idealize.ShloMosaic.TcCoe Idealize.SL.Sem

variable {F : FTy → Type} [FloatOps F]

/-- Every run of the reference ends with the arguments unchanged and every semaphore at zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => (h c).2.2, Idealize.ShloMosaic.sem_eq_zero_of_no_sems (by decide) r.2⟩) (Value.run m ρ)

end Cert.Reference4Ideal.Ref

end
-- ==== Proof.PI4.Blocks.lean ====
/-
  Which elements of the arrays each grid point's blocks are: point `t` takes batch `t / 10`, all of its rows and
  the columns from `1024 · (t % 10)`.
-/
module

public import proofs.«01_k».proof.Proof.Gen.Kernel4Ideal.Frame
public import Idealize.ShloMosaic.Lib.Pointwise

@[expose] public section

noncomputable section

namespace Cert.Kernel4Ideal.Proj

open Cert.Kernel4Ideal Cert.Kernel4Ideal.Gen
open Idealize.ShloMosaic Idealize.ShloMosaic.TcCoe
open Idealize.ShloMosaic.Pointwise

theorem N_eq : cfg0.N = 40 := by decide +kernel

theorem t_lt (t : Fin cfg0.N) : t.val < 40 := lt_of_lt_of_eq t.isLt N_eq

/-- The batch of a grid point. -/
def bOf (t : Fin cfg0.N) : Fin 4 := ⟨t.val / 10, by have := t_lt t; omega⟩
/-- A row of a grid point's row block, in the array. -/
def rOf (t : Fin cfg0.N) (r : Fin 256) : Fin 256 := r
/-- A column of a grid point's column block, in the array. -/
def cOf (t : Fin cfg0.N) (e : Fin 1024) : Fin 10240 := ⟨1024 * (t.val % 10) + e.val, by omega⟩

theorem idx0 : ∀ t : Fin cfg0.N, win0_0.index t (0 : Fin 3) = t.val / 10 ∧ win0_0.index t (1 : Fin 3) = 0 ∧ win0_0.index t (2 : Fin 3) = 0 :=
  (by decide +kernel : ∀ t : Fin grid0.N, _)
theorem idx1 : ∀ t : Fin cfg0.N, win0_1.index t (0 : Fin 3) = t.val / 10 ∧ win0_1.index t (1 : Fin 3) = 0 ∧ win0_1.index t (2 : Fin 3) = 0 :=
  (by decide +kernel : ∀ t : Fin grid0.N, _)
theorem idx2 : ∀ t : Fin cfg0.N, win0_2.index t (0 : Fin 3) = t.val / 10 ∧ win0_2.index t (1 : Fin 3) = 0 ∧ win0_2.index t (2 : Fin 3) = 0 :=
  (by decide +kernel : ∀ t : Fin grid0.N, _)
theorem idx3 : ∀ t : Fin cfg0.N, win0_3.index t (0 : Fin 2) = 0 ∧ win0_3.index t (1 : Fin 2) = t.val % 10 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 3) = t.val / 10 ∧ win0_5.index t (1 : Fin 3) = 0 ∧ win0_5.index t (2 : Fin 3) = t.val % 10 :=
  (by decide +kernel : ∀ t : Fin grid0.N, _)
theorem idx6 : ∀ t : Fin cfg0.N, win0_6.index t (0 : Fin 3) = t.val / 10 ∧ win0_6.index t (1 : Fin 3) = 0 ∧ win0_6.index t (2 : Fin 3) = 0 :=
  (by decide +kernel : ∀ t : Fin grid0.N, _)

theorem emb0 (t : Fin cfg0.N) (r : Fin 256) (d : Fin 1024) :
    ((cfg0.win 0).blk t).view.emb (ix3 (0 : Fin 1) r d) = ix3 (bOf t) (rOf t r) d := by
  obtain ⟨e0, e1, e2⟩ := idx0 t
  funext a; apply Fin.ext
  match a with
  | ⟨0, _⟩ => show win0_0.index t (0 : Fin 3) * 1 + 1 * 0 = t.val / 10; omega
  | ⟨1, _⟩ => show win0_0.index t (1 : Fin 3) * 256 + 1 * r.val = r.val; omega
  | ⟨2, _⟩ => show win0_0.index t (2 : Fin 3) * 1024 + 1 * d.val = d.val; omega

theorem emb1 (t : Fin cfg0.N) (d : Fin 1024) :
    ((cfg0.win 1).blk t).view.emb (ix3 (0 : Fin 1) (0 : Fin 1) d) = ix3 (bOf t) (0 : Fin 1) d := by
  obtain ⟨e0, e1, e2⟩ := idx1 t
  funext a; apply Fin.ext
  match a with
  | ⟨0, _⟩ => show win0_1.index t (0 : Fin 3) * 1 + 1 * 0 = t.val / 10; omega
  | ⟨1, _⟩ => show win0_1.index t (1 : Fin 3) * 1 + 1 * 0 = 0; omega
  | ⟨2, _⟩ => show win0_1.index t (2 : Fin 3) * 1024 + 1 * d.val = d.val; omega

theorem emb2 (t : Fin cfg0.N) (d : Fin 1024) :
    ((cfg0.win 2).blk t).view.emb (ix3 (0 : Fin 1) (0 : Fin 1) d) = ix3 (bOf t) (0 : Fin 1) d := by
  obtain ⟨e0, e1, e2⟩ := idx2 t
  funext a; apply Fin.ext
  match a with
  | ⟨0, _⟩ => show win0_2.index t (0 : Fin 3) * 1 + 1 * 0 = t.val / 10; omega
  | ⟨1, _⟩ => show win0_2.index t (1 : Fin 3) * 1 + 1 * 0 = 0; omega
  | ⟨2, _⟩ => show win0_2.index t (2 : Fin 3) * 1024 + 1 * d.val = d.val; omega

theorem emb3 (t : Fin cfg0.N) (d e : Fin 1024) :
    ((cfg0.win 3).blk t).view.emb (ix2 d e) = ix2 d (cOf t e) := by
  obtain ⟨e0, e1⟩ := idx3 t
  funext a; apply Fin.ext
  match a with
  | ⟨0, _⟩ => show win0_3.index t (0 : Fin 2) * 1024 + 1 * d.val = d.val; omega
  | ⟨1, _⟩ => show win0_3.index t (1 : Fin 2) * 1024 + 1 * e.val = 1024 * (t.val % 10) + e.val; omega

theorem emb4 (t : Fin cfg0.N) (d : Fin 1024) (e : Fin 128) :
    ((cfg0.win 4).blk t).view.emb (ix2 d e) = ix2 d e := by
  obtain ⟨e0, e1⟩ := idx4 t
  funext a; apply Fin.ext
  match a with
  | ⟨0, _⟩ => show win0_4.index t (0 : Fin 2) * 1024 + 1 * d.val = d.val; omega
  | ⟨1, _⟩ => show win0_4.index t (1 : Fin 2) * 128 + 1 * e.val = e.val; omega

theorem emb5 (t : Fin cfg0.N) (r : Fin 256) (e : Fin 1024) :
    ((cfg0.win 5).blk t).view.emb (ix3 (0 : Fin 1) r e) = ix3 (bOf t) (rOf t r) (cOf t e) := by
  obtain ⟨e0, e1, e2⟩ := idx5 t
  funext a; apply Fin.ext
  match a with
  | ⟨0, _⟩ => show win0_5.index t (0 : Fin 3) * 1 + 1 * 0 = t.val / 10; omega
  | ⟨1, _⟩ => show win0_5.index t (1 : Fin 3) * 256 + 1 * r.val = r.val; omega
  | ⟨2, _⟩ => show win0_5.index t (2 : Fin 3) * 1024 + 1 * e.val = 1024 * (t.val % 10) + e.val; omega

theorem emb6 (t : Fin cfg0.N) (r : Fin 256) (e : Fin 128) :
    ((cfg0.win 6).blk t).view.emb (ix3 (0 : Fin 1) r e) = ix3 (bOf t) (rOf t r) e := by
  obtain ⟨e0, e1, e2⟩ := idx6 t
  funext a; apply Fin.ext
  match a with
  | ⟨0, _⟩ => show win0_6.index t (0 : Fin 3) * 1 + 1 * 0 = t.val / 10; omega
  | ⟨1, _⟩ => show win0_6.index t (1 : Fin 3) * 256 + 1 * r.val = r.val; omega
  | ⟨2, _⟩ => show win0_6.index t (2 : Fin 3) * 128 + 1 * e.val = e.val; omega

/-- The points' blocks of the first result cover its array. -/
theorem covered5 (b : Fin 4) (q : Fin 256) (c : Fin 10240) :
    ∃ (p : Fin cfg0.N) (r : Fin 256) (e : Fin 1024), ((cfg0.win 5).blk p).view.emb (ix3 (0 : Fin 1) r e) = ix3 b q c := by
  refine ⟨⟨10 * b.val + c.val / 1024, by rw [N_eq]; omega⟩, q, ⟨c.val % 1024, by omega⟩, ?_⟩
  rw [emb5]
  congr 1
  · exact Fin.ext (by simp only [bOf]; omega)
  · exact Fin.ext (by simp only [cOf]; omega)

/-- The blocks of the second result that the row blocks' last points write cover its array. -/
theorem covered6 (b : Fin 4) (q : Fin 256) (e : Fin 128) :
    ∃ (p : Fin cfg0.N) (r : Fin 256), p.val % 10 = 9 ∧ ((cfg0.win 6).blk p).view.emb (ix3 (0 : Fin 1) r e) = ix3 b q e := by
  refine ⟨⟨10 * b.val + 9, by rw [N_eq]; omega⟩, q, by show (10 * b.val + 9) % 10 = 9; omega, ?_⟩
  rw [emb6]
  congr 1
  · exact Fin.ext (by simp only [bOf]; omega)

end Cert.Kernel4Ideal.Proj

end
-- ==== Proof.PI4.Cells.lean ====
/-
  What each value of the projection's body holds at an index, over the extended reals.
-/
module

public import proofs.«01_k».proof.Proof.Gen.Kernel4Ideal.Skeleton
public import proofs.«01_k».proof.Proof.Math.Rms
public import Idealize.ShloMosaic.Lib.Pointwise

@[expose] public section

noncomputable section

namespace Cert.Kernel4Ideal.Proj

open Cert.Kernel4Ideal Cert.Kernel4Ideal.Gen
open Idealize.ShloMosaic Idealize.ShloMosaic.TcCoe
open Idealize.ShloMosaic.Pointwise

/-- A row of the scratch: the normalised row, scaled and shifted. -/
theorem pay1_cell (x : Vec Ideal S1x256x1024 .f32) (mu ad : Vec Ideal S1x1x1024 .f32) (r : Fin 256) (d : Fin 1024) :
    k0_pay1 x mu ad (ix2 r d) = Rms.nrm (fun d => x (ix3 0 r d)) d * mu (ix3 0 0 d) + ad (ix3 0 0 d) := by
  pointwise [k0_pay1]
  rfl

/-- It is stored as it is. -/
theorem pay2_cell (x : Vec Ideal S1x256x1024 .f32) (mu ad : Vec Ideal S1x1x1024 .f32) (r : Fin 256) (d : Fin 1024) :
    k0_pay2 x mu ad (ix2 r d) = k0_pay1 x mu ad (ix2 r d) := by
  unfold k0_pay2
  generalize k0_pay1 x mu ad = y
  pointwise []

/-- The second result's block. -/
theorem pay3_cell (x : Vec Ideal S1x256x1024 .f32) (mu ad : Vec Ideal S1x1x1024 .f32) (w : Vec Ideal S1024x128 .bf16) (r : Fin 256) (e : Fin 128) :
    k0_pay3 x mu ad w (ix3 0 r e) = ∑ d : Fin 1024, k0_pay1 x mu ad (ix2 r d) * w (ix2 d e) := by
  unfold k0_pay3
  generalize k0_pay1 x mu ad = y
  pointwise []

/-- The first result's block. -/
theorem pay4_cell (s : Vec Ideal S256x1024 .bf16) (w : Vec Ideal S1024x1024 .bf16) (r : Fin 256) (e : Fin 1024) :
    k0_pay4 s w (ix3 0 r e) = ∑ d : Fin 1024, s (ix2 r d) * w (ix2 d e) := by
  pointwise [k0_pay4]

end Cert.Kernel4Ideal.Proj

end
-- ==== Proof.PI4.Host.lean ====
/-
  What the operations before the projection leave in the three arrays they make: the main columns of the weights, the dt
  columns with zero columns beside them, and the norm's weights times the modulation.
-/
module

public import proofs.«01_k».proof.Proof.Gen.Kernel4Ideal.Frame
public import proofs.«01_k».proof.Proof.Math.Rms
public import Idealize.ShloMosaic.Lib.StableHlo.Run
public import Idealize.ShloMosaic.Lib.Pointwise
public import Idealize.ShloMosaic.PureOps.Ideal.Laws

@[expose] public section

noncomputable section

namespace Cert.Kernel4Ideal.Proj

open Cert.Kernel4Ideal Cert.Kernel4Ideal.Gen
open Idealize.ShloMosaic Idealize.ShloMosaic.TcCoe
open Idealize.ShloMosaic.Pointwise

/-- The main columns: those before the dt columns and those after. -/
def hostW {F : FTy → Type} [FloatOps F] (x4 : Vec F S1024x10272 .f32) : Vec F S1024x10240 .bf16 :=
  truncf .bf16 (concatenate S1024x10240 1 [⟨S1024x2048, extractStridedSlice S1024x2048 ![0, 0] x4 slices_S1024x10272_S1024x2048_0_0⟩,
    ⟨S1024x8192, extractStridedSlice S1024x8192 ![0, 2080] x4 slices_S1024x10272_S1024x8192_0_2080⟩] concatenates_S1024x2048_S1024x8192_S1024x10240_d1) bitsLt_bf16_f32

/-- The dt columns, padded. -/
def hostDt {F : FTy → Type} [FloatOps F] (x4 : Vec F S1024x10272 .f32) : Vec F S1024x128 .bf16 :=
  truncf .bf16 (pad S1024x128 ![0, 0] ![0, 96] ![0, 0] (extractStridedSlice S1024x32 ![0, 2048] x4 slices_S1024x10272_S1024x32_0_2048)
    (sitofp .f32 (constantI S_ 32 0#32) : Vec F S_ .f32) pads_S1024x32_S1024x128_000_0960 h_S_) bitsLt_bf16_f32

/-- The norm's weights times one plus the scale. -/
def hostMul {F : FTy → Type} [FloatOps F] (x1 : Vec F S1024 .f32) (x2 : Vec F S4x1x1024 .f32) : Vec F S4x1x1024 .f32 :=
  mulf (broadcastInDim S4x1x1024 ![0, 1, 2] bcast_S1x1x1024_S4x1x1024_0_1_2 (broadcastInDim S1x1x1024 ![2] bcast_S1024_S1x1x1024_2 x1))
    (addf (broadcastInDim S4x1x1024 ![] bcast_S_S4x1x1024 (constant S_ .f32 0x3F800000#32)) x2)

section Runs

variable {F : FTy → Type} [FloatOps F] (m : (ℓ : Loc nD τ sig) → Buf (Elt F) ℓ)

theorem V_v3 (c : Dev nD) : V m c main_v3 = hostW (m ((c : Thread nD τ).loc main_arg4)) := by
  show StableHlo.after (List.flatten [hostOps0, hostOps0_1, hostOps0_2]) (fun b => m (c, b)) (Proc.devRef .tc main_v3) = _
  unfold hostOps0 hostOps0_1 hostOps0_2
  simp only [List.flatten_cons, List.flatten_nil, List.append_nil, List.cons_append, List.nil_append]
  after_results_simp <;> rfl

theorem V_v6 (c : Dev nD) : V m c main_v6 = hostDt (m ((c : Thread nD τ).loc main_arg4)) := by
  show StableHlo.after (List.flatten [hostOps0, hostOps0_1, hostOps0_2]) (fun b => m (c, b)) (Proc.devRef .tc main_v6) = _
  unfold hostOps0 hostOps0_1 hostOps0_2
  simp only [List.flatten_cons, List.flatten_nil, List.append_nil, List.cons_append, List.nil_append]
  after_results_simp <;> rfl

theorem V_v11 (c : Dev nD) : V m c main_v11 = hostMul (m ((c : Thread nD τ).loc main_arg1)) (m ((c : Thread nD τ).loc main_arg2)) := by
  show StableHlo.after (List.flatten [hostOps0, hostOps0_1, hostOps0_2]) (fun b => m (c, b)) (Proc.devRef .tc main_v11) = _
  unfold hostOps0 hostOps0_1 hostOps0_2
  simp only [List.flatten_cons, List.flatten_nil, List.append_nil, List.cons_append, List.nil_append]
  after_results_simp <;> rfl

end Runs

theorem hostW_low (x4 : Vec Ideal S1024x10272 .f32) (d : Fin 1024) (c : Fin 2048) :
    hostW x4 (ix2 d ⟨c.val, by omega⟩) = x4 (ix2 d ⟨c.val, by omega⟩) := by
  pointwise [hostW]

theorem hostW_high (x4 : Vec Ideal S1024x10272 .f32) (d : Fin 1024) (c : Fin 8192) :
    hostW x4 (ix2 d ⟨2048 + c.val, by omega⟩) = x4 (ix2 d ⟨2080 + c.val, by omega⟩) := by
  pointwise [hostW]

theorem hostDt_low (x4 : Vec Ideal S1024x10272 .f32) (d : Fin 1024) (e : Fin 32) :
    hostDt x4 (ix2 d ⟨e.val, by omega⟩) = x4 (ix2 d ⟨2048 + e.val, by omega⟩) := by
  pointwise [hostDt]

theorem hostDt_high (x4 : Vec Ideal S1024x10272 .f32) (d : Fin 1024) (e : Fin 96) :
    hostDt x4 (ix2 d ⟨32 + e.val, by omega⟩) = 0 := by
  pointwise [hostDt]
  exact Rms.sitofp_zero

theorem hostMul_cell (x1 : Vec Ideal S1024 .f32) (x2 : Vec Ideal S4x1x1024 .f32) (b : Fin 4) (d : Fin 1024) :
    hostMul x1 x2 (ix3 b 0 d) = x1 (ix1 d) * (1 + x2 (ix3 b 0 d)) := by
  pointwise [hostMul]

end Cert.Kernel4Ideal.Proj

end
-- ==== Proof.PI4.Array.lean ====
/-
  What the projection's two result arrays hold, element by element: the normalised, scaled and shifted rows by the weights.
-/
module

public import proofs.«01_k».proof.Proof.PI4.Blocks
public import proofs.«01_k».proof.Proof.PI4.Cells
public import proofs.«01_k».proof.Proof.PI4.Host
public import proofs.«01_k».proof.Proof.PI4.Frame

@[expose] public section

noncomputable section

namespace Cert.Kernel4Ideal.Proj

open Cert.Kernel4Ideal Cert.Kernel4Ideal.Gen
open Idealize.ShloMosaic Idealize.ShloMosaic.TcCoe Idealize.ShloMosaic.Pipeline
open Idealize.ShloMosaic.Pointwise

/-- The rows that the weights multiply. -/
def hid (x0 : Vec Ideal S4x256x1024 .f32) (x1 : Vec Ideal S1024 .f32) (x2 x3 : Vec Ideal S4x1x1024 .f32) (b : Fin 4) (q : Fin 256) (d : Fin 1024) : EReal :=
  Rms.nrm (fun d => x0 (ix3 b q d)) d * hostMul x1 x2 (ix3 b 0 d) + x3 (ix3 b 0 d)

/-- The first result as one function of the arguments. -/
def resMain (x0 : Vec Ideal S4x256x1024 .f32) (x1 : Vec Ideal S1024 .f32) (x2 x3 : Vec Ideal S4x1x1024 .f32) (x4 : Vec Ideal S1024x10272 .f32) :
    Vec Ideal S4x256x10240 .bf16 := fun i =>
  ∑ d : Fin 1024, hid x0 x1 x2 x3 ⟨(i 0).val, (i 0).isLt⟩ ⟨(i 1).val, (i 1).isLt⟩ d * hostW x4 (ix2 d ⟨(i 2).val, (i 2).isLt⟩)

/-- The second result as one function of the arguments. -/
def resDt (x0 : Vec Ideal S4x256x1024 .f32) (x1 : Vec Ideal S1024 .f32) (x2 x3 : Vec Ideal S4x1x1024 .f32) (x4 : Vec Ideal S1024x10272 .f32) :
    Vec Ideal S4x256x128 .f32 := fun i =>
  ∑ d : Fin 1024, hid x0 x1 x2 x3 ⟨(i 0).val, (i 0).isLt⟩ ⟨(i 1).val, (i 1).isLt⟩ d * hostDt x4 (ix2 d ⟨(i 2).val, (i 2).isLt⟩)

variable (m : (ℓ : Loc nD τ sig) → Buf (Elt Ideal) ℓ) (c : Dev nD)

theorem blk0 (t : Fin cfg0.N) (r : Fin 256) (d : Fin 1024) : iblk m c 0 t (ix3 (0 : Fin 1) r d) = m ((c : Thread nD τ).loc main_arg0) (ix3 (bOf t) (rOf t r) d) := by
  show V m c main_arg0 (((cfg0.win 0).blk t).view.emb (ix3 (0 : Fin 1) r d)) = _
  rw [emb0, V_main_arg0]

theorem blk1 (t : Fin cfg0.N) (d : Fin 1024) :
    iblk m c 1 t (ix3 (0 : Fin 1) (0 : Fin 1) d) = hostMul (F := Ideal) (m ((c : Thread nD τ).loc main_arg1)) (m ((c : Thread nD τ).loc main_arg2)) (ix3 (bOf t) (0 : Fin 1) d) := by
  show V m c main_v11 (((cfg0.win 1).blk t).view.emb (ix3 (0 : Fin 1) (0 : Fin 1) d)) = _
  rw [emb1, V_v11]

theorem blk2 (t : Fin cfg0.N) (d : Fin 1024) : iblk m c 2 t (ix3 (0 : Fin 1) (0 : Fin 1) d) = m ((c : Thread nD τ).loc main_arg3) (ix3 (bOf t) (0 : Fin 1) d) := by
  show V m c main_arg3 (((cfg0.win 2).blk t).view.emb (ix3 (0 : Fin 1) (0 : Fin 1) d)) = _
  rw [emb2, V_main_arg3]

theorem blk3 (t : Fin cfg0.N) (d e : Fin 1024) : iblk m c 3 t (ix2 d e) = hostW (F := Ideal) (m ((c : Thread nD τ).loc main_arg4)) (ix2 d (cOf t e)) := by
  show V m c main_v3 (((cfg0.win 3).blk t).view.emb (ix2 d e)) = _
  rw [emb3, V_v3]

theorem blk4 (t : Fin cfg0.N) (d : Fin 1024) (e : Fin 128) : iblk m c 4 t (ix2 d e) = hostDt (F := Ideal) (m ((c : Thread nD τ).loc main_arg4)) (ix2 d e) := by
  show V m c main_v6 (((cfg0.win 4).blk t).view.emb (ix2 d e)) = _
  rw [emb4, V_v6]

/-- The first point of a row block has the batch of every point of it, -/
theorem bOf_base (t : Fin cfg0.N) : bOf (base t) = bOf t := Fin.ext (by simp only [bOf, base]; omega)
/-- and the rows. -/
theorem rOf_base (t : Fin cfg0.N) (r : Fin 256) : rOf (base t) r = rOf t r := rfl

/-- A row that a row block's first point makes. -/
theorem row_cell (b : Fin cfg0.N) (r : Fin 256) (d : Fin 1024) :
    k0_pay1 (iblk m c 0 b) (iblk m c 1 b) (iblk m c 2 b) (ix2 r d)
      = hid (m ((c : Thread nD τ).loc main_arg0)) (m ((c : Thread nD τ).loc main_arg1)) (m ((c : Thread nD τ).loc main_arg2)) (m ((c : Thread nD τ).loc main_arg3)) (bOf b) (rOf b r) d := by
  rw [pay1_cell (iblk m c 0 b) (iblk m c 1 b) (iblk m c 2 b) r d, blk1 m c b d, blk2 m c b d]
  unfold hid
  exact congrArg (fun f => Rms.nrm f d * _ + _) (funext fun d => blk0 m c b r d)

/-- A grid point's block of the first result. -/
theorem mainAt_cell (t : Fin cfg0.N) (r : Fin 256) (e : Fin 1024) :
    mainAt m c t (ix3 0 r e)
      = ∑ d : Fin 1024, hid (m ((c : Thread nD τ).loc main_arg0)) (m ((c : Thread nD τ).loc main_arg1)) (m ((c : Thread nD τ).loc main_arg2)) (m ((c : Thread nD τ).loc main_arg3)) (bOf t) (rOf t r) d
          * hostW (F := Ideal) (m ((c : Thread nD τ).loc main_arg4)) (ix2 d (cOf t e)) := by
  unfold mainAt
  rw [pay4_cell (rowsOf m c (base t)) (iblk m c 3 t) r e]
  refine Finset.sum_congr rfl fun d _ => ?_
  unfold rowsOf
  rw [pay2_cell (iblk m c 0 (base t)) (iblk m c 1 (base t)) (iblk m c 2 (base t)) r d, row_cell, blk3 m c t d e, bOf_base, rOf_base]

/-- A row block's block of the second result. -/
theorem dtOf_cell (t : Fin cfg0.N) (r : Fin 256) (e : Fin 128) :
    dtOf m c (base t) (ix3 0 r e)
      = ∑ d : Fin 1024, hid (m ((c : Thread nD τ).loc main_arg0)) (m ((c : Thread nD τ).loc main_arg1)) (m ((c : Thread nD τ).loc main_arg2)) (m ((c : Thread nD τ).loc main_arg3)) (bOf t) (rOf t r) d
          * hostDt (F := Ideal) (m ((c : Thread nD τ).loc main_arg4)) (ix2 d e) := by
  unfold dtOf
  rw [pay3_cell (iblk m c 0 (base t)) (iblk m c 1 (base t)) (iblk m c 2 (base t)) (iblk m c 4 (base t)) r e]
  refine Finset.sum_congr rfl fun d _ => ?_
  rw [row_cell, blk4 m c (base t) d e, bOf_base, rOf_base]

/-- The first result array after the run. -/
theorem arr5 : (dats m 0 c).arrAt 5 cfg0.N = resMain (m ((c : Thread nD τ).loc main_arg0)) (m ((c : Thread nD τ).loc main_arg1)) (m ((c : Thread nD τ).loc main_arg2))
    (m ((c : Thread nD τ).loc main_arg3)) (m ((c : Thread nD τ).loc main_arg4)) := by
  refine (dats m 0 c).arrAt_eq_of_cover 5 (resMain _ _ _ _ _) (fun t _ => ?_) fun i => ?_
  · show (cfg0.win 5).cut (grid0.coords t) ((dats m 0 c).after 5 t) = _
    rw [after0_5]
    refine funext fun (j : S1x256x1024.Idx) => ?_
    obtain ⟨r, e, rfl⟩ : ∃ (r : Fin 256) (e : Fin 1024), j = ix3 (0 : Fin 1) r e := ⟨j 1, j 2, funext fun a => by match a with | ⟨0, _⟩ => exact Subsingleton.elim (α := Fin 1) _ _ | ⟨1, _⟩ => rfl | ⟨2, _⟩ => rfl⟩
    show mainAt m c t (ix3 0 r e) = resMain _ _ _ _ _ (((cfg0.win 5).blk t).view.emb (ix3 (0 : Fin 1) r e))
    rw [emb5, mainAt_cell m c t r e]
    rfl
  · obtain ⟨p, r, e, h⟩ := covered5 ⟨(i 0).val, (i 0).isLt⟩ ⟨(i 1).val, (i 1).isLt⟩ ⟨(i 2).val, (i 2).isLt⟩
    refine ⟨p, flush0_5 p, ?_⟩
    have hi : ((cfg0.win 5).blk p).view.emb (ix3 (0 : Fin 1) r e) = i := h.trans (funext fun a => by match a with | ⟨0, _⟩ => rfl | ⟨1, _⟩ => rfl | ⟨2, _⟩ => rfl)
    exact hi ▸ ((cfg0.win 5).blk p).view.emb_mem_set (ix3 (0 : Fin 1) r e)

/-- The second result array after the run. -/
theorem arr6 : (dats m 0 c).arrAt 6 cfg0.N = resDt (m ((c : Thread nD τ).loc main_arg0)) (m ((c : Thread nD τ).loc main_arg1)) (m ((c : Thread nD τ).loc main_arg2))
    (m ((c : Thread nD τ).loc main_arg3)) (m ((c : Thread nD τ).loc main_arg4)) := by
  refine (dats m 0 c).arrAt_eq_of_cover 6 (resDt _ _ _ _ _) (fun t _ => ?_) fun i => ?_
  · show (cfg0.win 6).cut (grid0.coords t) ((dats m 0 c).after 6 t) = _
    rw [after0_6]
    refine funext fun (j : S1x256x128.Idx) => ?_
    obtain ⟨r, e, rfl⟩ : ∃ (r : Fin 256) (e : Fin 128), j = ix3 (0 : Fin 1) r e := ⟨j 1, j 2, funext fun a => by match a with | ⟨0, _⟩ => exact Subsingleton.elim (α := Fin 1) _ _ | ⟨1, _⟩ => rfl | ⟨2, _⟩ => rfl⟩
    show dtOf m c (base t) (ix3 0 r e) = resDt _ _ _ _ _ (((cfg0.win 6).blk t).view.emb (ix3 (0 : Fin 1) r e))
    rw [emb6, dtOf_cell m c t r e]
    rfl
  · obtain ⟨p, r, hp, h⟩ := covered6 ⟨(i 0).val, (i 0).isLt⟩ ⟨(i 1).val, (i 1).isLt⟩ ⟨(i 2).val, (i 2).isLt⟩
    refine ⟨p, (flush0_6 p).2 hp, ?_⟩
    have hi : ((cfg0.win 6).blk p).view.emb (ix3 (0 : Fin 1) r ⟨(i 2).val, (i 2).isLt⟩) = i := h.trans (funext fun a => by match a with | ⟨0, _⟩ => rfl | ⟨1, _⟩ => rfl | ⟨2, _⟩ => rfl)
    exact hi ▸ ((cfg0.win 6).blk p).view.emb_mem_set (ix3 (0 : Fin 1) r ⟨(i 2).val, (i 2).isLt⟩)

end Cert.Kernel4Ideal.Proj

end
-- ==== Proof.RI4.Reads.lean ====
/-
  What the projection's reference holds, element by element, of the arguments.
-/
module

public import proofs.«01_k».proof.Proof.Gen.Reference4Ideal.Read
public import proofs.«01_k».proof.Proof.Math.Rms
public import Idealize.ShloMosaic.Lib.Pointwise

@[expose] public section

noncomputable section

namespace Cert.Reference4Ideal.Ref

open Cert.Reference4Ideal Cert.Reference4Ideal.Gen Cert.Reference4Ideal.Read
open Idealize.ShloMosaic Idealize.ShloMosaic.TcCoe
open Idealize.ShloMosaic.Pointwise

/-- The normalised rows. -/
theorem v9_cell (x0 : Vec Ideal S4x256x1024 .f32) (b : Fin 4) (t : Fin 256) (d : Fin 1024) :
    val_main_v9 (F := Ideal) x0 (ix3 b t d) = Rms.nrm (fun d => x0 (ix3 b t d)) d := by
  pointwise [val_main_v9, val_main_v8, val_main_v7, val_main_v6, val_main_v5, val_main_v4, val_main_v3, val_main_v2, val_main_v1, val_main_v0, val_main_cst, val_main_cst_0, val_main_cst_1]
  rfl

/-- The rows the weights multiply. -/
theorem v18_cell (x0 : Vec Ideal S4x256x1024 .f32) (x1 : Vec Ideal S1024 .f32) (x2 x3 : Vec Ideal S4x1x1024 .f32) (b : Fin 4) (t : Fin 256) (d : Fin 1024) :
    val_main_v18 (F := Ideal) x0 x1 x2 x3 (ix3 b t d)
      = Rms.nrm (fun d => x0 (ix3 b t d)) d * x1 (ix1 d) * (1 + x2 (ix3 b 0 d)) + x3 (ix3 b 0 d) := by
  rw [← v9_cell]
  unfold val_main_v18 val_main_v16 val_main_v12
  generalize val_main_v9 (F := Ideal) x0 = y
  pointwise [val_main_v17, val_main_v15, val_main_v14, val_main_v13, val_main_v11, val_main_v10, val_main_cst_2]

/-- All columns of the products. -/
theorem v19_cell (x0 : Vec Ideal S4x256x1024 .f32) (x1 : Vec Ideal S1024 .f32) (x2 x3 : Vec Ideal S4x1x1024 .f32) (x4 : Vec Ideal S1024x10272 .f32) (b : Fin 4) (t : Fin 256) (c : Fin 10272) :
    val_main_v19 (F := Ideal) x0 x1 x2 x3 x4 (ix3 b t c) = ∑ d : Fin 1024, val_main_v18 (F := Ideal) x0 x1 x2 x3 (ix3 b t d) * x4 (ix2 d c) := by
  unfold val_main_v19
  generalize val_main_v18 (F := Ideal) x0 x1 x2 x3 = y
  pointwise []

/-- The first result's columns before the dt columns, -/
theorem v25_low (x0 : Vec Ideal S4x256x1024 .f32) (x1 : Vec Ideal S1024 .f32) (x2 x3 : Vec Ideal S4x1x1024 .f32) (x4 : Vec Ideal S1024x10272 .f32) (b : Fin 4) (t : Fin 256) (c : Fin 2048) :
    val_main_v25 (F := Ideal) x0 x1 x2 x3 x4 (ix3 b t ⟨c.val, by omega⟩) = val_main_v19 (F := Ideal) x0 x1 x2 x3 x4 (ix3 b t ⟨c.val, by omega⟩) := by
  unfold val_main_v25 val_main_v22 val_main_v21 val_main_v20
  generalize val_main_v19 (F := Ideal) x0 x1 x2 x3 x4 = y
  pointwise []

/-- and after them. -/
theorem v25_high (x0 : Vec Ideal S4x256x1024 .f32) (x1 : Vec Ideal S1024 .f32) (x2 x3 : Vec Ideal S4x1x1024 .f32) (x4 : Vec Ideal S1024x10272 .f32) (b : Fin 4) (t : Fin 256) (c : Fin 8192) :
    val_main_v25 (F := Ideal) x0 x1 x2 x3 x4 (ix3 b t ⟨2048 + c.val, by omega⟩) = val_main_v19 (F := Ideal) x0 x1 x2 x3 x4 (ix3 b t ⟨2080 + c.val, by omega⟩) := by
  unfold val_main_v25 val_main_v22 val_main_v21 val_main_v20
  generalize val_main_v19 (F := Ideal) x0 x1 x2 x3 x4 = y
  pointwise []

/-- The second result: the dt columns, -/
theorem v24_low (x0 : Vec Ideal S4x256x1024 .f32) (x1 : Vec Ideal S1024 .f32) (x2 x3 : Vec Ideal S4x1x1024 .f32) (x4 : Vec Ideal S1024x10272 .f32) (b : Fin 4) (t : Fin 256) (e : Fin 32) :
    val_main_v24 (F := Ideal) x0 x1 x2 x3 x4 (ix3 b t ⟨e.val, by omega⟩) = val_main_v19 (F := Ideal) x0 x1 x2 x3 x4 (ix3 b t ⟨2048 + e.val, by omega⟩) := by
  unfold val_main_v24 val_main_v23
  generalize val_main_v19 (F := Ideal) x0 x1 x2 x3 x4 = y
  pointwise [val_main_call0_v0, val_main_c]

/-- then zeros. -/
theorem v24_high (x0 : Vec Ideal S4x256x1024 .f32) (x1 : Vec Ideal S1024 .f32) (x2 x3 : Vec Ideal S4x1x1024 .f32) (x4 : Vec Ideal S1024x10272 .f32) (b : Fin 4) (t : Fin 256) (e : Fin 96) :
    val_main_v24 (F := Ideal) x0 x1 x2 x3 x4 (ix3 b t ⟨32 + e.val, by omega⟩) = 0 := by
  unfold val_main_v24 val_main_v23
  generalize val_main_v19 (F := Ideal) x0 x1 x2 x3 x4 = y
  pointwise [val_main_call0_v0, val_main_c]
  exact Rms.sitofp_zero

end Cert.Reference4Ideal.Ref

end
-- ==== Proof.Equation4.lean ====
/-
  The projection's equation: the kernel's two result arrays and the reference's are the same functions of the arguments.
-/
module

public import proofs.«01_k».proof.Defs
public import proofs.«01_k».proof.Proof.Equation
public import proofs.«01_k».proof.Proof.PI4.Array
public import proofs.«01_k».proof.Proof.RI4.Reads
public import proofs.«01_k».proof.Proof.RI4.Run

@[expose] public section

noncomputable section

namespace Cert.Equation4

open Idealize.ShloMosaic Idealize.ShloMosaic.TcCoe Idealize.SL.Sem
open Idealize.ShloMosaic.Pointwise

section Result
open Cert.Kernel4Ideal Cert.Kernel4Ideal.Proj

variable (x0 : Vec Ideal S4x256x1024 .f32) (x1 : Vec Ideal S1024 .f32) (x2 x3 : Vec Ideal S4x1x1024 .f32) (x4 : Vec Ideal S1024x10272 .f32)

/-- The rows that the weights multiply are the same: the norm's weights and the scale multiply in either order of brackets. -/
theorem rows_eq (b : Fin 4) (t : Fin 256) (d : Fin 1024) :
    Cert.Reference4Ideal.Read.val_main_v18 (F := Ideal) x0 x1 x2 x3 (ix3 b t d) = hid x0 x1 x2 x3 b t d := by
  rw [Cert.Reference4Ideal.Ref.v18_cell]
  unfold hid
  rw [hostMul_cell, mul_assoc]

/-- The first result. -/
theorem main_eq : Cert.Reference4Ideal.Read.val_main_v25 (F := Ideal) x0 x1 x2 x3 x4 = resMain x0 x1 x2 x3 x4 := by
  refine funext fun (i : S4x256x10240.Idx) => ?_
  obtain ⟨b, t, c, rfl⟩ : ∃ (b : Fin 4) (t : Fin 256) (c : Fin 10240), i = ix3 b t c :=
    ⟨i 0, i 1, i 2, funext fun a => by match a with | ⟨0, _⟩ => rfl | ⟨1, _⟩ => rfl | ⟨2, _⟩ => rfl⟩
  show _ = ∑ d : Fin 1024, hid x0 x1 x2 x3 b t d * hostW x4 (ix2 d c)
  by_cases h : c.val < 2048
  · refine (Cert.Reference4Ideal.Ref.v25_low x0 x1 x2 x3 x4 b t ⟨c.val, h⟩).trans ?_
    rw [Cert.Reference4Ideal.Ref.v19_cell]
    exact Finset.sum_congr rfl fun d _ => congrArg₂ (· * ·) (rows_eq x0 x1 x2 x3 b t d) (hostW_low x4 d ⟨c.val, h⟩).symm
  · obtain ⟨e, rfl⟩ : ∃ e : Fin 8192, c = ⟨2048 + e.val, Nat.lt_of_lt_of_le (Nat.add_lt_add_left e.isLt 2048) (by decide)⟩ := ⟨⟨c.val - 2048, by omega⟩, Fin.ext (by show c.val = 2048 + (c.val - 2048); omega)⟩
    rw [Cert.Reference4Ideal.Ref.v25_high, Cert.Reference4Ideal.Ref.v19_cell]
    exact Finset.sum_congr rfl fun d _ => congrArg₂ (· * ·) (rows_eq x0 x1 x2 x3 b t d) (hostW_high x4 d e).symm

/-- The second result: past the dt columns the rows meet zero columns, and the sums are zero. -/
theorem dt_eq : Cert.Reference4Ideal.Read.val_main_v24 (F := Ideal) x0 x1 x2 x3 x4 = resDt x0 x1 x2 x3 x4 := by
  refine funext fun (i : S4x256x128.Idx) => ?_
  obtain ⟨b, t, c, rfl⟩ : ∃ (b : Fin 4) (t : Fin 256) (c : Fin 128), i = ix3 b t c :=
    ⟨i 0, i 1, i 2, funext fun a => by match a with | ⟨0, _⟩ => rfl | ⟨1, _⟩ => rfl | ⟨2, _⟩ => rfl⟩
  show _ = ∑ d : Fin 1024, hid x0 x1 x2 x3 b t d * hostDt x4 (ix2 d c)
  by_cases h : c.val < 32
  · refine (Cert.Reference4Ideal.Ref.v24_low x0 x1 x2 x3 x4 b t ⟨c.val, h⟩).trans ?_
    rw [Cert.Reference4Ideal.Ref.v19_cell]
    exact Finset.sum_congr rfl fun d _ => congrArg₂ (· * ·) (rows_eq x0 x1 x2 x3 b t d) (hostDt_low x4 d ⟨c.val, h⟩).symm
  · obtain ⟨e, rfl⟩ : ∃ e : Fin 96, c = ⟨32 + e.val, Nat.lt_of_lt_of_le (Nat.add_lt_add_left e.isLt 32) (by decide)⟩ := ⟨⟨c.val - 32, by omega⟩, Fin.ext (by show c.val = 32 + (c.val - 32); omega)⟩
    rw [Cert.Reference4Ideal.Ref.v24_high]
    exact (Finset.sum_eq_zero fun d _ => by rw [hostDt_high x4 d e]; exact mul_zero (M₀ := EReal) _).symm

end Result

/-- The two programs end with equal results, and with their arguments unchanged. -/
theorem algebraic : Cert.algebraic_Kernel4Ideal_Reference4Ideal := by
  intro m g m' g' hpre harg
  refine ⟨fun c => Cert.Kernel4Ideal.Proj.resMain (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1))
      (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))
      (m ((c.tc : Thread Cert.Kernel4Ideal.nD Cert.Kernel4Ideal.τ).loc Cert.Kernel4Ideal.main_arg4)),
    fun c => Cert.Kernel4Ideal.Proj.resDt (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1))
      (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))
      (m ((c.tc : Thread Cert.Kernel4Ideal.nD Cert.Kernel4Ideal.τ).loc Cert.Kernel4Ideal.main_arg4)), ?_, ?_⟩
  · have hrun := Cert.Kernel4Ideal.Proj.run_main m g
    have hargs := Cert.Kernel4Ideal.Gen.frame_of m g (Cert.Kernel4Ideal.Proj.dats m) (fun _ _ => rfl) ((θ_run _ _ _).mono (fun _ h => h.1) hrun)
    exact (θ_run _ _ _).mono (fun r h c => ⟨((h.1.1 c).1 5).trans (Cert.Kernel4Ideal.Proj.arr5 m c), ((h.1.1 c).1 6).trans (Cert.Kernel4Ideal.Proj.arr6 m c), h.2 c⟩)
      (Cert.Equation.both hrun hargs)
  · refine (θ_run _ _ _).mono (fun r h c => ⟨(h c).1.trans ?_, (h c).2.1.trans ?_, (h c).2.2⟩) (Cert.Reference4Ideal.Value.run m' g')
    · obtain ⟨a0, a1, a2, a3, a4⟩ := harg c
      rw [Cert.Reference4Ideal.Read.val_main_v25_eq, a0, a1, a2, a3, a4]
      exact main_eq _ _ _ _ _
    · obtain ⟨a0, a1, a2, a3, a4⟩ := harg c
      rw [Cert.Reference4Ideal.Read.val_main_v24_eq, a0, a1, a2, a3, a4]
      exact dt_eq _ _ _ _ _

end Cert.Equation4

end
-- ==== Proof.RI5.Run.lean ====
/-
  The context's merge's reference's run: it ends with the arguments unchanged and every semaphore at zero.
-/
module

public import proofs.«01_k».proof.Proof.Gen.Reference5Ideal.Run
public import Idealize.ShloMosaic.Lib.Quiescent

@[expose] public section

noncomputable section

namespace Cert.Reference5Ideal.Ref

open Cert.Reference5Ideal Cert.Reference5Ideal.Gen
open Idealize.ShloMosaic Idealize.ShloMosaic.TcCoe Idealize.SL.Sem

variable {F : FTy → Type} [FloatOps F]

/-- Every run of the reference ends with the arguments unchanged and every semaphore at zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16))
      ∧ r.2.sem = fun _ => 0) :=
  (θ_run defs _ _).mono (fun r h => ⟨fun c => (h c).2.2.2, Idealize.ShloMosaic.sem_eq_zero_of_no_sems (by decide) r.2⟩) (Value.run m ρ)

end Cert.Reference5Ideal.Ref

end
-- ==== Proof.PI5.Blocks.lean ====
/-
  Which elements of the arrays each grid point's blocks are: point `t` takes the whole of batch `t`, and of the scans and
  the convolved columns its rows from 8192.
-/
module

public import proofs.«01_k».proof.Proof.Gen.Kernel5Ideal.Frame
public import Idealize.ShloMosaic.Lib.Pointwise

@[expose] public section

noncomputable section

namespace Cert.Kernel5Ideal.Mrg

open Cert.Kernel5Ideal Cert.Kernel5Ideal.Gen
open Idealize.ShloMosaic Idealize.ShloMosaic.TcCoe
open Idealize.ShloMosaic.Pointwise

theorem N_eq : cfg0.N = 4 := by decide +kernel

theorem t_lt (t : Fin cfg0.N) : t.val < 4 := lt_of_lt_of_eq t.isLt N_eq

/-- The batch of a grid point. -/
def bOf (t : Fin cfg0.N) : Fin 4 := ⟨t.val, t_lt t⟩
/-- A row of a grid point's row block, in the array. -/
def rOf (_t : Fin cfg0.N) (r : Fin 256) : Fin 256 := r

theorem idx0 : ∀ t : Fin cfg0.N, win0_0.index t (0 : Fin 3) = t.val ∧ win0_0.index t (1 : Fin 3) = 32 ∧ win0_0.index t (2 : Fin 3) = 0 :=
  (by decide +kernel : ∀ t : Fin grid0.N, _)

theorem emb0 (t : Fin cfg0.N) (r : Fin 256) (d : Fin 1024) :
    ((cfg0.win 0).blk t).view.emb (ix3 (0 : Fin 1) r d) = ix3 (bOf t) ⟨8192 + (rOf t r).val, Nat.add_lt_add_left (rOf t r).isLt 8192⟩ d := by
  obtain ⟨e0, e1, e2⟩ := idx0 t
  funext a; apply Fin.ext
  match a with
  | ⟨0, _⟩ => show win0_0.index t (0 : Fin 3) * 1 + 1 * 0 = t.val; omega
  | ⟨1, _⟩ => show win0_0.index t (1 : Fin 3) * 256 + 1 * r.val = 8192 + r.val; omega
  | ⟨2, _⟩ => show win0_0.index t (2 : Fin 3) * 1024 + 1 * d.val = d.val; omega

theorem idx1 : ∀ t : Fin cfg0.N, win0_1.index t (0 : Fin 3) = t.val ∧ win0_1.index t (1 : Fin 3) = 32 ∧ win0_1.index t (2 : Fin 3) = 0 :=
  (by decide +kernel : ∀ t : Fin grid0.N, _)

theorem emb1 (t : Fin cfg0.N) (r : Fin 256) (d : Fin 1024) :
    ((cfg0.win 1).blk t).view.emb (ix3 (0 : Fin 1) r d) = ix3 (bOf t) ⟨8192 + (rOf t r).val, Nat.add_lt_add_left (rOf t r).isLt 8192⟩ d := by
  obtain ⟨e0, e1, e2⟩ := idx1 t
  funext a; apply Fin.ext
  match a with
  | ⟨0, _⟩ => show win0_1.index t (0 : Fin 3) * 1 + 1 * 0 = t.val; omega
  | ⟨1, _⟩ => show win0_1.index t (1 : Fin 3) * 256 + 1 * r.val = 8192 + r.val; omega
  | ⟨2, _⟩ => show win0_1.index t (2 : Fin 3) * 1024 + 1 * d.val = d.val; omega

theorem idx2 : ∀ t : Fin cfg0.N, win0_2.index t (0 : Fin 3) = t.val ∧ win0_2.index t (1 : Fin 3) = 32 ∧ win0_2.index t (2 : Fin 3) = 0 :=
  (by decide +kernel : ∀ t : Fin grid0.N, _)

theorem emb2 (t : Fin cfg0.N) (r : Fin 256) (d : Fin 1024) :
    ((cfg0.win 2).blk t).view.emb (ix3 (0 : Fin 1) r d) = ix3 (bOf t) ⟨8192 + (rOf t r).val, Nat.add_lt_add_left (rOf t r).isLt 8192⟩ ⟨d.val, Nat.lt_of_lt_of_le d.isLt (by decide)⟩ := by
  obtain ⟨e0, e1, e2⟩ := idx2 t
  funext a; apply Fin.ext
  match a with
  | ⟨0, _⟩ => show win0_2.index t (0 : Fin 3) * 1 + 1 * 0 = t.val; omega
  | ⟨1, _⟩ => show win0_2.index t (1 : Fin 3) * 256 + 1 * r.val = 8192 + r.val; omega
  | ⟨2, _⟩ => show win0_2.index t (2 : Fin 3) * 1024 + 1 * d.val = d.val; omega

theorem idx3 : ∀ t : Fin cfg0.N, win0_3.index t (0 : Fin 3) = t.val ∧ win0_3.index t (1 : Fin 3) = 0 ∧ win0_3.index t (2 : Fin 3) = 4 :=
  (by decide +kernel : ∀ t : Fin grid0.N, _)

theorem emb3 (t : Fin cfg0.N) (r : Fin 256) (d : Fin 1024) :
    ((cfg0.win 3).blk t).view.emb (ix3 (0 : Fin 1) r d) = ix3 (bOf t) (rOf t r) ⟨4096 + d.val, Nat.lt_of_lt_of_le (Nat.add_lt_add_left d.isLt 4096) (by decide)⟩ := by
  obtain ⟨e0, e1, e2⟩ := idx3 t
  funext a; apply Fin.ext
  match a with
  | ⟨0, _⟩ => show win0_3.index t (0 : Fin 3) * 1 + 1 * 0 = t.val; omega
  | ⟨1, _⟩ => show win0_3.index t (1 : Fin 3) * 256 + 1 * r.val = r.val; omega
  | ⟨2, _⟩ => show win0_3.index t (2 : Fin 3) * 1024 + 1 * d.val = 4096 + d.val; omega

theorem idx4 : ∀ t : Fin cfg0.N, win0_4.index t (0 : Fin 3) = t.val ∧ win0_4.index t (1 : Fin 3) = 0 ∧ win0_4.index t (2 : Fin 3) = 0 :=
  (by decide +kernel : ∀ t : Fin grid0.N, _)

theorem emb4 (t : Fin cfg0.N) (r : Fin 256) (d : Fin 1024) :
    ((cfg0.win 4).blk t).view.emb (ix3 (0 : Fin 1) r d) = ix3 (bOf t) (rOf t r) d := by
  obtain ⟨e0, e1, e2⟩ := idx4 t
  funext a; apply Fin.ext
  match a with
  | ⟨0, _⟩ => show win0_4.index t (0 : Fin 3) * 1 + 1 * 0 = t.val; omega
  | ⟨1, _⟩ => show win0_4.index t (1 : Fin 3) * 256 + 1 * r.val = r.val; omega
  | ⟨2, _⟩ => show win0_4.index t (2 : Fin 3) * 1024 + 1 * d.val = d.val; omega

theorem idx5 : ∀ t : Fin cfg0.N, win0_5.index t (0 : Fin 3) = t.val ∧ win0_5.index t (1 : Fin 3) = 0 ∧ win0_5.index t (2 : Fin 3) = 0 :=
  (by decide +kernel : ∀ t : Fin grid0.N, _)

theorem emb5 (t : Fin cfg0.N) (r : Fin 256) (d : Fin 1024) :
    ((cfg0.win 5).blk t).view.emb (ix3 (0 : Fin 1) r d) = ix3 (bOf t) (rOf t r) d := by
  obtain ⟨e0, e1, e2⟩ := idx5 t
  funext a; apply Fin.ext
  match a with
  | ⟨0, _⟩ => show win0_5.index t (0 : Fin 3) * 1 + 1 * 0 = t.val; omega
  | ⟨1, _⟩ => show win0_5.index t (1 : Fin 3) * 256 + 1 * r.val = r.val; omega
  | ⟨2, _⟩ => show win0_5.index t (2 : Fin 3) * 1024 + 1 * d.val = d.val; omega

theorem idx6 : ∀ t : Fin cfg0.N, win0_6.index t (0 : Fin 3) = t.val ∧ win0_6.index t (1 : Fin 3) = 0 ∧ win0_6.index t (2 : Fin 3) = 7 :=
  (by decide +kernel : ∀ t : Fin grid0.N, _)

theorem emb6 (t : Fin cfg0.N) (r : Fin 256) (d : Fin 1024) :
    ((cfg0.win 6).blk t).view.emb (ix3 (0 : Fin 1) r d) = ix3 (bOf t) (rOf t r) ⟨7168 + d.val, Nat.lt_of_lt_of_le (Nat.add_lt_add_left d.isLt 7168) (by decide)⟩ := by
  obtain ⟨e0, e1, e2⟩ := idx6 t
  funext a; apply Fin.ext
  match a with
  | ⟨0, _⟩ => show win0_6.index t (0 : Fin 3) * 1 + 1 * 0 = t.val; omega
  | ⟨1, _⟩ => show win0_6.index t (1 : Fin 3) * 256 + 1 * r.val = r.val; omega
  | ⟨2, _⟩ => show win0_6.index t (2 : Fin 3) * 1024 + 1 * d.val = 7168 + d.val; omega

theorem idx7 : ∀ t : Fin cfg0.N, win0_7.index t (0 : Fin 3) = t.val ∧ win0_7.index t (1 : Fin 3) = 0 ∧ win0_7.index t (2 : Fin 3) = 8 :=
  (by decide +kernel : ∀ t : Fin grid0.N, _)

theorem emb7 (t : Fin cfg0.N) (r : Fin 256) (d : Fin 1024) :
    ((cfg0.win 7).blk t).view.emb (ix3 (0 : Fin 1) r d) = ix3 (bOf t) (rOf t r) ⟨8192 + d.val, Nat.lt_of_lt_of_le (Nat.add_lt_add_left d.isLt 8192) (by decide)⟩ := by
  obtain ⟨e0, e1, e2⟩ := idx7 t
  funext a; apply Fin.ext
  match a with
  | ⟨0, _⟩ => show win0_7.index t (0 : Fin 3) * 1 + 1 * 0 = t.val; omega
  | ⟨1, _⟩ => show win0_7.index t (1 : Fin 3) * 256 + 1 * r.val = r.val; omega
  | ⟨2, _⟩ => show win0_7.index t (2 : Fin 3) * 1024 + 1 * d.val = 8192 + d.val; omega

theorem idx8 : ∀ t : Fin cfg0.N, win0_8.index t (0 : Fin 3) = t.val ∧ win0_8.index t (1 : Fin 3) = 0 ∧ win0_8.index t (2 : Fin 3) = 9 :=
  (by decide +kernel : ∀ t : Fin grid0.N, _)

theorem emb8 (t : Fin cfg0.N) (r : Fin 256) (d : Fin 1024) :
    ((cfg0.win 8).blk t).view.emb (ix3 (0 : Fin 1) r d) = ix3 (bOf t) (rOf t r) ⟨9216 + d.val, Nat.lt_of_lt_of_le (Nat.add_lt_add_left d.isLt 9216) (by decide)⟩ := by
  obtain ⟨e0, e1, e2⟩ := idx8 t
  funext a; apply Fin.ext
  match a with
  | ⟨0, _⟩ => show win0_8.index t (0 : Fin 3) * 1 + 1 * 0 = t.val; omega
  | ⟨1, _⟩ => show win0_8.index t (1 : Fin 3) * 256 + 1 * r.val = r.val; omega
  | ⟨2, _⟩ => show win0_8.index t (2 : Fin 3) * 1024 + 1 * d.val = 9216 + d.val; omega

theorem idx9 : ∀ t : Fin cfg0.N, win0_9.index t (0 : Fin 3) = t.val ∧ win0_9.index t (1 : Fin 3) = 0 ∧ win0_9.index t (2 : Fin 3) = 0 :=
  (by decide +kernel : ∀ t : Fin grid0.N, _)

theorem emb9 (t : Fin cfg0.N) (r : Fin 256) (d : Fin 1024) :
    ((cfg0.win 9).blk t).view.emb (ix3 (0 : Fin 1) r d) = ix3 (bOf t) (rOf t r) d := by
  obtain ⟨e0, e1, e2⟩ := idx9 t
  funext a; apply Fin.ext
  match a with
  | ⟨0, _⟩ => show win0_9.index t (0 : Fin 3) * 1 + 1 * 0 = t.val; omega
  | ⟨1, _⟩ => show win0_9.index t (1 : Fin 3) * 256 + 1 * r.val = r.val; omega
  | ⟨2, _⟩ => show win0_9.index t (2 : Fin 3) * 1024 + 1 * d.val = d.val; omega

theorem idx10 : ∀ t : Fin cfg0.N, win0_10.index t (0 : Fin 2) = 0 ∧ win0_10.index t (1 : Fin 2) = 0 :=
  (by decide +kernel : ∀ t : Fin grid0.N, _)

theorem emb10 (t : Fin cfg0.N) (k : Fin 1) (d : Fin 1024) : ((cfg0.win 10).blk t).view.emb (ix2 k d) = ix2 k d := by
  obtain ⟨e0, e1⟩ := idx10 t
  funext a; apply Fin.ext
  match a with
  | ⟨0, _⟩ => show win0_10.index t (0 : Fin 2) * 1 + 1 * k.val = k.val; omega
  | ⟨1, _⟩ => show win0_10.index t (1 : Fin 2) * 1024 + 1 * d.val = d.val; omega

theorem idx11 : ∀ t : Fin cfg0.N, win0_11.index t (0 : Fin 2) = 0 ∧ win0_11.index t (1 : Fin 2) = 0 :=
  (by decide +kernel : ∀ t : Fin grid0.N, _)

theorem emb11 (t : Fin cfg0.N) (k : Fin 1) (d : Fin 1024) : ((cfg0.win 11).blk t).view.emb (ix2 k d) = ix2 k d := by
  obtain ⟨e0, e1⟩ := idx11 t
  funext a; apply Fin.ext
  match a with
  | ⟨0, _⟩ => show win0_11.index t (0 : Fin 2) * 1 + 1 * k.val = k.val; omega
  | ⟨1, _⟩ => show win0_11.index t (1 : Fin 2) * 1024 + 1 * d.val = d.val; omega

theorem idx12 : ∀ t : Fin cfg0.N, win0_12.index t (0 : Fin 3) = 0 ∧ win0_12.index t (1 : Fin 3) = 0 ∧ win0_12.index t (2 : Fin 3) = 0 :=
  (by decide +kernel : ∀ t : Fin grid0.N, _)

theorem emb12 (t : Fin cfg0.N) (i : Fin 3) (k d : Fin 1024) : ((cfg0.win 12).blk t).view.emb (ix3 i k d) = ix3 i k d := by
  obtain ⟨e0, e1, e2⟩ := idx12 t
  funext a; apply Fin.ext
  match a with
  | ⟨0, _⟩ => show win0_12.index t (0 : Fin 3) * 3 + 1 * i.val = i.val; omega
  | ⟨1, _⟩ => show win0_12.index t (1 : Fin 3) * 1024 + 1 * k.val = k.val; omega
  | ⟨2, _⟩ => show win0_12.index t (2 : Fin 3) * 1024 + 1 * d.val = d.val; omega

theorem idx13 : ∀ t : Fin cfg0.N, win0_13.index t (0 : Fin 2) = 0 ∧ win0_13.index t (1 : Fin 2) = 0 :=
  (by decide +kernel : ∀ t : Fin grid0.N, _)

theorem emb13 (t : Fin cfg0.N) (k : Fin 1024) (d : Fin 1024) : ((cfg0.win 13).blk t).view.emb (ix2 k d) = ix2 k d := by
  obtain ⟨e0, e1⟩ := idx13 t
  funext a; apply Fin.ext
  match a with
  | ⟨0, _⟩ => show win0_13.index t (0 : Fin 2) * 1024 + 1 * k.val = k.val; omega
  | ⟨1, _⟩ => show win0_13.index t (1 : Fin 2) * 1024 + 1 * d.val = d.val; omega

theorem idx14 : ∀ t : Fin cfg0.N, win0_14.index t (0 : Fin 2) = 0 ∧ win0_14.index t (1 : Fin 2) = 0 :=
  (by decide +kernel : ∀ t : Fin grid0.N, _)

theorem emb14 (t : Fin cfg0.N) (k : Fin 1) (d : Fin 1024) : ((cfg0.win 14).blk t).view.emb (ix2 k d) = ix2 k d := by
  obtain ⟨e0, e1⟩ := idx14 t
  funext a; apply Fin.ext
  match a with
  | ⟨0, _⟩ => show win0_14.index t (0 : Fin 2) * 1 + 1 * k.val = k.val; omega
  | ⟨1, _⟩ => show win0_14.index t (1 : Fin 2) * 1024 + 1 * d.val = d.val; omega

theorem idx15 : ∀ t : Fin cfg0.N, win0_15.index t (0 : Fin 3) = t.val ∧ win0_15.index t (1 : Fin 3) = 0 ∧ win0_15.index t (2 : Fin 3) = 0 :=
  (by decide +kernel : ∀ t : Fin grid0.N, _)

theorem emb15 (t : Fin cfg0.N) (d : Fin 1024) :
    ((cfg0.win 15).blk t).view.emb (ix3 (0 : Fin 1) (0 : Fin 1) d) = ix3 (bOf t) (0 : Fin 1) d := by
  obtain ⟨e0, e1, e2⟩ := idx15 t
  funext a; apply Fin.ext
  match a with
  | ⟨0, _⟩ => show win0_15.index t (0 : Fin 3) * 1 + 1 * 0 = t.val; omega
  | ⟨1, _⟩ => show win0_15.index t (1 : Fin 3) * 1 + 1 * 0 = 0; omega
  | ⟨2, _⟩ => show win0_15.index t (2 : Fin 3) * 1024 + 1 * d.val = d.val; omega

theorem idx16 : ∀ t : Fin cfg0.N, win0_16.index t (0 : Fin 3) = t.val ∧ win0_16.index t (1 : Fin 3) = 0 ∧ win0_16.index t (2 : Fin 3) = 0 :=
  (by decide +kernel : ∀ t : Fin grid0.N, _)

theorem emb16 (t : Fin cfg0.N) (d : Fin 1024) :
    ((cfg0.win 16).blk t).view.emb (ix3 (0 : Fin 1) (0 : Fin 1) d) = ix3 (bOf t) (0 : Fin 1) d := by
  obtain ⟨e0, e1, e2⟩ := idx16 t
  funext a; apply Fin.ext
  match a with
  | ⟨0, _⟩ => show win0_16.index t (0 : Fin 3) * 1 + 1 * 0 = t.val; omega
  | ⟨1, _⟩ => show win0_16.index t (1 : Fin 3) * 1 + 1 * 0 = 0; omega
  | ⟨2, _⟩ => show win0_16.index t (2 : Fin 3) * 1024 + 1 * d.val = d.val; omega

theorem idx17 : ∀ t : Fin cfg0.N, win0_17.index t (0 : Fin 3) = t.val ∧ win0_17.index t (1 : Fin 3) = 0 ∧ win0_17.index t (2 : Fin 3) = 0 :=
  (by decide +kernel : ∀ t : Fin grid0.N, _)

theorem emb17 (t : Fin cfg0.N) (d : Fin 1024) :
    ((cfg0.win 17).blk t).view.emb (ix3 (0 : Fin 1) (0 : Fin 1) d) = ix3 (bOf t) (0 : Fin 1) d := by
  obtain ⟨e0, e1, e2⟩ := idx17 t
  funext a; apply Fin.ext
  match a with
  | ⟨0, _⟩ => show win0_17.index t (0 : Fin 3) * 1 + 1 * 0 = t.val; omega
  | ⟨1, _⟩ => show win0_17.index t (1 : Fin 3) * 1 + 1 * 0 = 0; omega
  | ⟨2, _⟩ => show win0_17.index t (2 : Fin 3) * 1024 + 1 * d.val = d.val; omega

theorem idx18 : ∀ t : Fin cfg0.N, win0_18.index t (0 : Fin 2) = 0 ∧ win0_18.index t (1 : Fin 2) = 0 :=
  (by decide +kernel : ∀ t : Fin grid0.N, _)

theorem emb18 (t : Fin cfg0.N) (k : Fin 32) (d : Fin 1024) : ((cfg0.win 18).blk t).view.emb (ix2 k d) = ix2 k d := by
  obtain ⟨e0, e1⟩ := idx18 t
  funext a; apply Fin.ext
  match a with
  | ⟨0, _⟩ => show win0_18.index t (0 : Fin 2) * 32 + 1 * k.val = k.val; omega
  | ⟨1, _⟩ => show win0_18.index t (1 : Fin 2) * 1024 + 1 * d.val = d.val; omega

theorem idx19 : ∀ t : Fin cfg0.N, win0_19.index t (0 : Fin 3) = t.val ∧ win0_19.index t (1 : Fin 3) = 0 ∧ win0_19.index t (2 : Fin 3) = 0 :=
  (by decide +kernel : ∀ t : Fin grid0.N, _)

theorem emb19 (t : Fin cfg0.N) (r : Fin 256) (d : Fin 1024) :
    ((cfg0.win 19).blk t).view.emb (ix3 (0 : Fin 1) r d) = ix3 (bOf t) (rOf t r) d := by
  obtain ⟨e0, e1, e2⟩ := idx19 t
  funext a; apply Fin.ext
  match a with
  | ⟨0, _⟩ => show win0_19.index t (0 : Fin 3) * 1 + 1 * 0 = t.val; omega
  | ⟨1, _⟩ => show win0_19.index t (1 : Fin 3) * 256 + 1 * r.val = r.val; omega
  | ⟨2, _⟩ => show win0_19.index t (2 : Fin 3) * 1024 + 1 * d.val = d.val; omega

theorem idx20 : ∀ t : Fin cfg0.N, win0_20.index t (0 : Fin 3) = t.val ∧ win0_20.index t (1 : Fin 3) = 0 ∧ win0_20.index t (2 : Fin 3) = 0 :=
  (by decide +kernel : ∀ t : Fin grid0.N, _)

theorem emb20 (t : Fin cfg0.N) (r : Fin 256) (d : Fin 1024) :
    ((cfg0.win 20).blk t).view.emb (ix3 (0 : Fin 1) r d) = ix3 (bOf t) (rOf t r) d := by
  obtain ⟨e0, e1, e2⟩ := idx20 t
  funext a; apply Fin.ext
  match a with
  | ⟨0, _⟩ => show win0_20.index t (0 : Fin 3) * 1 + 1 * 0 = t.val; omega
  | ⟨1, _⟩ => show win0_20.index t (1 : Fin 3) * 256 + 1 * r.val = r.val; omega
  | ⟨2, _⟩ => show win0_20.index t (2 : Fin 3) * 1024 + 1 * d.val = d.val; omega

theorem idx21 : ∀ t : Fin cfg0.N, win0_21.index t (0 : Fin 3) = t.val ∧ win0_21.index t (1 : Fin 3) = 0 ∧ win0_21.index t (2 : Fin 3) = 0 :=
  (by decide +kernel : ∀ t : Fin grid0.N, _)

theorem emb21 (t : Fin cfg0.N) (e : Fin 32) (r : Fin 256) :
    ((cfg0.win 21).blk t).view.emb (ix3 (0 : Fin 1) e r) = ix3 (bOf t) e (rOf t r) := by
  obtain ⟨e0, e1, e2⟩ := idx21 t
  funext a; apply Fin.ext
  match a with
  | ⟨0, _⟩ => show win0_21.index t (0 : Fin 3) * 1 + 1 * 0 = t.val; omega
  | ⟨1, _⟩ => show win0_21.index t (1 : Fin 3) * 32 + 1 * e.val = e.val; omega
  | ⟨2, _⟩ => show win0_21.index t (2 : Fin 3) * 256 + 1 * r.val = r.val; omega

/-- Every token is a row of some point's block. -/
theorem tok (b : Fin 4) (q : Fin 256) : ∃ (p : Fin cfg0.N) (r : Fin 256), bOf p = b ∧ rOf p r = q :=
  ⟨⟨b.val, by rw [N_eq]; exact b.isLt⟩, q, rfl, rfl⟩

end Cert.Kernel5Ideal.Mrg

end
-- ==== Proof.PI5.Body.lean ====
/-
  What a grid point leaves in its three output blocks, of the blocks it reads: the body's values, composed.
-/
module

public import proofs.«01_k».proof.Proof.Gen.Kernel5Ideal.Frame
public import Idealize.ShloMosaic.Lib.Pipeline.Value

@[expose] public section

noncomputable section

namespace Cert.Kernel5Ideal.Mrg

open Cert.Kernel5Ideal Cert.Kernel5Ideal.Gen
open Idealize.ShloMosaic Idealize.ShloMosaic.TcCoe

variable {F : FTy → Type} [FloatOps F]

theorem hz3 : (![0, 0, 0] : Fin 3 → Nat) = fun _ => 0 := funext fun a => by match a with | ⟨0, _⟩ => rfl | ⟨1, _⟩ => rfl | ⟨2, _⟩ => rfl
theorem hz2 : (![0, 0] : Fin 2 → Nat) = fun _ => 0 := funext fun a => by match a with | ⟨0, _⟩ => rfl | ⟨1, _⟩ => rfl

/-- One branch's weights. -/
def wb0 (w : Vec F S3x1024x1024 .bf16) : Vec F S1x1024x1024 .bf16 := View.ld w (Rect.unit (s := S3x1024x1024) ![0, 0, 0] S1x1024x1024.size inb_S3x1024x1024_S1x1024x1024_0_0_0)
def wb1 (w : Vec F S3x1024x1024 .bf16) : Vec F S1x1024x1024 .bf16 := View.ld w (Rect.unit (s := S3x1024x1024) ![1, 0, 0] S1x1024x1024.size inb_S3x1024x1024_S1x1024x1024_1_0_0)
def wb2 (w : Vec F S3x1024x1024 .bf16) : Vec F S1x1024x1024 .bf16 := View.ld w (Rect.unit (s := S3x1024x1024) ![2, 0, 0] S1x1024x1024.size inb_S3x1024x1024_S1x1024x1024_2_0_0)

/-- The normalised product of the mix with the last weights. -/
def mixOf (x0 x1 x2 x3 x4 x5 x6 x7 x8 : Vec F S1x256x1024 .bf16) (x10 x11 : Vec F S1x1024 .f32) (x12 : Vec F S3x1024x1024 .bf16) (x13 : Vec F S1024x1024 .bf16) :
    FVec F S256x1024 .f32 :=
  k0_pay6 (k0_pay3 (k0_pay2 x2 x3 x0 x1 x10) x11 x6 (wb0 x12) x7 x4 (wb1 x12)) x8 x5 (wb2 x12) x13

variable (m : (ℓ : Loc nD τ sig) → Buf (Elt F) ℓ) (c : Dev nD) (t : Fin cfg0.N)

/-- A point's normalised product. -/
def mixAt : FVec F S256x1024 .f32 :=
  mixOf (iblk m c 0 t) (iblk m c 1 t) (iblk m c 2 t) (iblk m c 3 t) (iblk m c 4 t) (iblk m c 5 t) (iblk m c 6 t) (iblk m c 7 t) (iblk m c 8 t)
    (iblk m c 10 t) (iblk m c 11 t) (iblk m c 12 t) (iblk m c 13 t)

/-- The first output block. -/
def outs19 : Vec F S1x256x1024 .f32 := (dats m 0 c).after 19 t

theorem out19 : outs19 m c t = k0_pay9 (k0_pay4 (iblk m c 9 t)) (k0_pay5 (iblk m c 15 t)) (mixAt m c t) (iblk m c 14 t) := by
  unfold outs19
  rw [after0_19]
  unfold out0_19 k0_pay14 k0_pay13 k0_pay12
  rw [View.canon_unit_zero (S := S1x256x1024) hz3]
  simp only [View.ld_unit_zero (S := S1x256x1024) hz3, View.ld_unit_zero (S := S1x1x1024) hz3,
    View.ld_unit_zero (S := S1x1024) hz2, View.ld_unit_zero (S := S1024x1024) hz2, View.ld_unit_zero (S := S32x1024) hz2]
  rfl

/-- The second output block. -/
def outs20 : Vec F S1x256x1024 .bf16 := (dats m 0 c).after 20 t

theorem out20 : outs20 m c t = k0_pay10 (k0_pay4 (iblk m c 9 t)) (k0_pay5 (iblk m c 15 t)) (mixAt m c t) (iblk m c 14 t) (iblk m c 16 t) (iblk m c 17 t) := by
  unfold outs20
  rw [after0_20]
  unfold out0_20 k0_pay14 k0_pay13 k0_pay12
  rw [View.canon_unit_zero (S := S1x256x1024) hz3]
  simp only [View.ld_unit_zero (S := S1x256x1024) hz3, View.ld_unit_zero (S := S1x1x1024) hz3,
    View.ld_unit_zero (S := S1x1024) hz2, View.ld_unit_zero (S := S1024x1024) hz2, View.ld_unit_zero (S := S32x1024) hz2]
  rfl

/-- The third output block. -/
def outs21 : Vec F S1x32x256 .f32 := (dats m 0 c).after 21 t

theorem out21 : outs21 m c t = k0_pay1 (k0_pay11 (k0_pay4 (iblk m c 9 t)) (k0_pay5 (iblk m c 15 t)) (mixAt m c t) (iblk m c 14 t) (iblk m c 16 t) (iblk m c 17 t) (iblk m c 18 t)) := by
  unfold outs21
  rw [after0_21]
  unfold out0_21 k0_pay14 k0_pay13 k0_pay12
  rw [View.canon_unit_zero (S := S1x32x256) hz3]
  simp only [View.ld_unit_zero (S := S1x256x1024) hz3, View.ld_unit_zero (S := S1x1x1024) hz3,
    View.ld_unit_zero (S := S1x1024) hz2, View.ld_unit_zero (S := S1024x1024) hz2, View.ld_unit_zero (S := S32x1024) hz2]
  rfl

end Cert.Kernel5Ideal.Mrg

end
-- ==== Proof.PI5.Cells.lean ====
/-
  What each value of the context's merge's body holds at an index, over the extended reals.
-/
module

public import proofs.«01_k».proof.Proof.Gen.Kernel5Ideal.Skeleton
public import proofs.«01_k».proof.Proof.Math.Merge
public import Idealize.ShloMosaic.Lib.Pointwise

@[expose] public section

noncomputable section

namespace Cert.Kernel5Ideal.Mrg

open Cert.Kernel5Ideal Cert.Kernel5Ideal.Gen
open Idealize.ShloMosaic Idealize.ShloMosaic.TcCoe
open Idealize.ShloMosaic.Pointwise
open Cert.Merge (sg)

/-- The normalised gated rows. -/
theorem pay2_cell (xs z yf yb : Vec Ideal S1x256x1024 .bf16) (dsk : Vec Ideal S1x1024 .f32) (r : Fin 256) (d : Fin 1024) :
    k0_pay2 xs z yf yb dsk (ix2 r d)
      = Rms.nrm (fun d => (yf (ix3 0 r d) + yb (ix3 0 r d) + dsk (ix2 0 d) * xs (ix3 0 r d)) * (z (ix3 0 r d) * sg (z (ix3 0 r d)))) d := by
  pointwise [k0_pay2]
  rfl

/-- The first two branches, gated. -/
theorem pay3_cell (s : FVec Ideal S256x1024 .f32) (nsw : Vec Ideal S1x1024 .f32) (g0 : Vec Ideal S1x256x1024 .bf16) (w0 : Vec Ideal S1x1024x1024 .bf16)
    (g1 a : Vec Ideal S1x256x1024 .bf16) (w1 : Vec Ideal S1x1024x1024 .bf16) (r : Fin 256) (e : Fin 1024) :
    k0_pay3 s nsw g0 w0 g1 a w1 (ix2 r e)
      = sg (g0 (ix3 0 r e)) * (∑ k : Fin 1024, s (ix2 r k) * nsw (ix2 0 k) * w0 (ix3 0 k e))
        + sg (g1 (ix3 0 r e)) * (∑ k : Fin 1024, a (ix3 0 r k) * w1 (ix3 0 k e)) := by
  pointwise [k0_pay3]
  rfl

/-- The product of the three branches' sum with the last weights, normalised. -/
theorem pay6_cell (s : FVec Ideal S256x1024 .f32) (g2 f : Vec Ideal S1x256x1024 .bf16) (w2 : Vec Ideal S1x1024x1024 .bf16) (wo : Vec Ideal S1024x1024 .bf16)
    (r : Fin 256) (d : Fin 1024) :
    k0_pay6 s g2 f w2 wo (ix2 r d)
      = Rms.nrm (fun d => ∑ k : Fin 1024, (s (ix2 r k) + sg (g2 (ix3 0 r k)) * (∑ l : Fin 1024, f (ix3 0 r l) * w2 (ix3 0 l k))) * wo (ix2 k d)) d := by
  pointwise [k0_pay6]
  rfl

/-- The stream with the gated, normalised product added. -/
theorem pay7_cell (x : Vec Ideal S1x256x1024 .f32) (g : Vec Ideal S1x1x1024 .f32) (s : FVec Ideal S256x1024 .f32) (w : Vec Ideal S1x1024 .f32)
    (r : Fin 256) (d : Fin 1024) :
    k0_pay7 (k0_pay4 x) (k0_pay5 g) s w (ix2 r d) = x (ix3 0 r d) + g (ix3 0 0 d) * (s (ix2 r d) * w (ix2 0 d)) := by
  pointwise [k0_pay7, k0_pay4, k0_pay5]

/-- The normalised, scaled and shifted rows. -/
theorem pay8_cell (x : FVec Ideal S256x1024 .f32) (g : FVec Ideal S1x1024 .f32) (s : FVec Ideal S256x1024 .f32) (w : Vec Ideal S1x1024 .f32)
    (mu ad : Vec Ideal S1x1x1024 .f32) (r : Fin 256) (d : Fin 1024) :
    k0_pay8 x g s w mu ad (ix2 r d) = Rms.nrm (fun d => k0_pay7 x g s w (ix2 r d)) d * mu (ix3 0 0 d) + ad (ix3 0 0 d) := by
  unfold k0_pay8
  generalize k0_pay7 x g s w = y
  pointwise []
  rfl

/-- The first result's block. -/
theorem pay9_cell (x : FVec Ideal S256x1024 .f32) (g : FVec Ideal S1x1024 .f32) (s : FVec Ideal S256x1024 .f32) (w : Vec Ideal S1x1024 .f32)
    (r : Fin 256) (d : Fin 1024) :
    k0_pay9 x g s w (ix3 0 r d) = k0_pay7 x g s w (ix2 r d) := by
  unfold k0_pay9
  generalize k0_pay7 x g s w = y
  pointwise []

/-- The second result's block. -/
theorem pay10_cell (x : FVec Ideal S256x1024 .f32) (g : FVec Ideal S1x1024 .f32) (s : FVec Ideal S256x1024 .f32) (w : Vec Ideal S1x1024 .f32)
    (mu ad : Vec Ideal S1x1x1024 .f32) (r : Fin 256) (d : Fin 1024) :
    k0_pay10 x g s w mu ad (ix3 0 r d) = k0_pay8 x g s w mu ad (ix2 r d) := by
  unfold k0_pay10
  generalize k0_pay8 x g s w mu ad = y
  pointwise []

/-- The third result's block. -/
theorem pay11_cell (x : FVec Ideal S256x1024 .f32) (g : FVec Ideal S1x1024 .f32) (s : FVec Ideal S256x1024 .f32) (w : Vec Ideal S1x1024 .f32)
    (mu ad : Vec Ideal S1x1x1024 .f32) (rw : Vec Ideal S32x1024 .f32) (e : Fin 32) (r : Fin 256) :
    k0_pay1 (k0_pay11 x g s w mu ad rw) (ix3 0 e r) = ∑ d : Fin 1024, rw (ix2 e d) * k0_pay8 x g s w mu ad (ix2 r d) := by
  unfold k0_pay11
  generalize k0_pay8 x g s w mu ad = y
  pointwise [k0_pay1]

end Cert.Kernel5Ideal.Mrg

end
-- ==== Proof.PI5.Host.lean ====
/-
  What the operations before the merge leave in the arrays they make: the weights' rows, the casts and the transpose,
  and the norm's weights times the modulation.
-/
module

public import proofs.«01_k».proof.Proof.Gen.Kernel5Ideal.Frame
public import Idealize.ShloMosaic.Lib.StableHlo.Run
public import Idealize.ShloMosaic.Lib.Pointwise
public import Idealize.ShloMosaic.PureOps.Ideal.Laws

@[expose] public section

noncomputable section

namespace Cert.Kernel5Ideal.Mrg

open Cert.Kernel5Ideal Cert.Kernel5Ideal.Gen
open Idealize.ShloMosaic Idealize.ShloMosaic.TcCoe
open Idealize.ShloMosaic.Pointwise

/-- The skip weights, each repeated over its head's columns, as a row. -/
def hostSkip {F : FTy → Type} [FloatOps F] (x7 : Vec F S16 .f32) : Vec F S1x1024 .f32 :=
  broadcastInDim S1x1024 ![1] bcast_S1024_S1x1024_1 (shapeCast S1024 (broadcastInDim S16x64 ![0] bcast_S16_S16x64_0 x7) shapeCasts_S16x64_S1024)

/-- Weights as a row. -/
def hostRow {F : FTy → Type} [FloatOps F] (x : Vec F S1024 .f32) : Vec F S1x1024 .f32 :=
  broadcastInDim S1x1024 ![1] bcast_S1024_S1x1024_1 x

/-- The branches' weights. -/
def hostWb {F : FTy → Type} [FloatOps F] (x9 : Vec F S3x1024x1024 .f32) : Vec F S3x1024x1024 .bf16 := truncf .bf16 x9 bitsLt_bf16_f32

/-- The last weights. -/
def hostWo {F : FTy → Type} [FloatOps F] (x10 : Vec F S1024x1024 .f32) : Vec F S1024x1024 .bf16 := truncf .bf16 x10 bitsLt_bf16_f32

/-- The router's weights, transposed. -/
def hostRw {F : FTy → Type} [FloatOps F] (x13 : Vec F S1024x32 .f32) : Vec F S32x1024 .f32 := transpose S32x1024 [1, 0] x13 transposes_S1024x32_S32x1024_1_0

/-- The norm's weights times one plus the scale. -/
def hostMul {F : FTy → Type} [FloatOps F] (x12 : Vec F S1024 .f32) (x15 : Vec F S4x1x1024 .f32) : Vec F S4x1x1024 .f32 :=
  mulf (broadcastInDim S4x1x1024 ![0, 1, 2] bcast_S1x1x1024_S4x1x1024_0_1_2 (broadcastInDim S1x1x1024 ![2] bcast_S1024_S1x1x1024_2 x12))
    (addf (broadcastInDim S4x1x1024 ![] bcast_S_S4x1x1024 (constant S_ .f32 0x3F800000#32)) x15)

section Runs

variable {F : FTy → Type} [FloatOps F] (m : (ℓ : Loc nD τ sig) → Buf (Elt F) ℓ)

theorem V_v2 (c : Dev nD) : V m c main_v2 = hostSkip (m ((c : Thread nD τ).loc main_arg7)) := by
  show StableHlo.after hostOps0 (fun b => m (c, b)) (Proc.devRef .tc main_v2) = _
  unfold hostOps0
  after_results_simp <;> rfl

theorem V_v3 (c : Dev nD) : V m c main_v3 = hostRow (m ((c : Thread nD τ).loc main_arg8)) := by
  show StableHlo.after hostOps0 (fun b => m (c, b)) (Proc.devRef .tc main_v3) = _
  unfold hostOps0
  after_results_simp <;> rfl

theorem V_v4 (c : Dev nD) : V m c main_v4 = hostWb (m ((c : Thread nD τ).loc main_arg9)) := by
  show StableHlo.after hostOps0 (fun b => m (c, b)) (Proc.devRef .tc main_v4) = _
  unfold hostOps0
  after_results_simp <;> rfl

theorem V_v5 (c : Dev nD) : V m c main_v5 = hostWo (m ((c : Thread nD τ).loc main_arg10)) := by
  show StableHlo.after hostOps0 (fun b => m (c, b)) (Proc.devRef .tc main_v5) = _
  unfold hostOps0
  after_results_simp <;> rfl

theorem V_v6 (c : Dev nD) : V m c main_v6 = hostRw (m ((c : Thread nD τ).loc main_arg13)) := by
  show StableHlo.after hostOps0 (fun b => m (c, b)) (Proc.devRef .tc main_v6) = _
  unfold hostOps0
  after_results_simp <;> rfl

theorem V_v7 (c : Dev nD) : V m c main_v7 = hostRow (m ((c : Thread nD τ).loc main_arg11)) := by
  show StableHlo.after hostOps0 (fun b => m (c, b)) (Proc.devRef .tc main_v7) = _
  unfold hostOps0
  after_results_simp <;> rfl

theorem V_v12 (c : Dev nD) : V m c main_v12 = hostMul (m ((c : Thread nD τ).loc main_arg12)) (m ((c : Thread nD τ).loc main_arg15)) := by
  show StableHlo.after hostOps0 (fun b => m (c, b)) (Proc.devRef .tc main_v12) = _
  unfold hostOps0
  after_results_simp <;> rfl

end Runs

theorem hostSkip_cell (x7 : Vec Ideal S16 .f32) (d : Fin 1024) : hostSkip x7 (ix2 0 d) = x7 (ix1 ⟨d.val / 64, Nat.div_lt_of_lt_mul d.isLt⟩) := by
  pointwise [hostSkip]

theorem hostRow_cell (x : Vec Ideal S1024 .f32) (d : Fin 1024) : hostRow x (ix2 0 d) = x (ix1 d) := by
  pointwise [hostRow]

theorem hostRw_cell (x13 : Vec Ideal S1024x32 .f32) (e : Fin 32) (d : Fin 1024) : hostRw x13 (ix2 e d) = x13 (ix2 d e) := by
  pointwise [hostRw]

theorem hostMul_cell (x12 : Vec Ideal S1024 .f32) (x15 : Vec Ideal S4x1x1024 .f32) (b : Fin 4) (d : Fin 1024) :
    hostMul x12 x15 (ix3 b 0 d) = x12 (ix1 d) * (1 + x15 (ix3 b 0 d)) := by
  pointwise [hostMul]

end Cert.Kernel5Ideal.Mrg

end
-- ==== Proof.RI5.Reads.lean ====
/-
  What the context's merge's reference holds, element by element: each token's row of the merge of the values it reads.
-/
module

public import proofs.«01_k».proof.Proof.Gen.Reference5Ideal.Read
public import proofs.«01_k».proof.Proof.Math.Merge
public import Idealize.ShloMosaic.Lib.Pointwise

@[expose] public section

noncomputable section

namespace Cert.Reference5Ideal.Ref

open Cert.Reference5Ideal Cert.Reference5Ideal.Gen Cert.Reference5Ideal.Read
open Idealize.ShloMosaic Idealize.ShloMosaic.TcCoe
open Idealize.ShloMosaic.Pointwise

variable (x0 : Vec Ideal S4x8448x1024 .bf16) (x1 : Vec Ideal S4x8448x1024 .bf16) (x2 : Vec Ideal S4x8448x2048 .bf16) (x3 : Vec Ideal S4x256x10240 .bf16) (x4 : Vec Ideal S4x256x1024 .bf16) (x5 : Vec Ideal S4x256x1024 .bf16) (x6 : Vec Ideal S4x256x1024 .f32) (x7 : Vec Ideal S16 .f32) (x8 : Vec Ideal S1024 .f32) (x9 : Vec Ideal S3x1024x1024 .f32) (x10 : Vec Ideal S1024x1024 .f32) (x11 : Vec Ideal S1024 .f32) (x12 : Vec Ideal S1024 .f32) (x13 : Vec Ideal S1024x32 .f32) (x14 : Vec Ideal S4x1x1024 .f32) (x15 : Vec Ideal S4x1x1024 .f32) (x16 : Vec Ideal S4x1x1024 .f32)

/-- What the merge of one token reads, of the arguments. -/
def rowOf (b : Fin 4) (t : Fin 256) : Merge.Row where
  yf d := x0 (ix3 b ⟨8192 + t.val, Nat.add_lt_add_left t.isLt 8192⟩ d)
  yb d := x1 (ix3 b ⟨8192 + t.val, Nat.add_lt_add_left t.isLt 8192⟩ d)
  xs d := x2 (ix3 b ⟨8192 + t.val, Nat.add_lt_add_left t.isLt 8192⟩ ⟨d.val, Nat.lt_of_lt_of_le d.isLt (by decide)⟩)
  z d := x3 (ix3 b t ⟨4096 + d.val, Nat.lt_of_lt_of_le (Nat.add_lt_add_left d.isLt 4096) (by decide)⟩)
  at' d := x4 (ix3 b t d)
  fo d := x5 (ix3 b t d)
  g0 d := x3 (ix3 b t ⟨7168 + d.val, Nat.lt_of_lt_of_le (Nat.add_lt_add_left d.isLt 7168) (by decide)⟩)
  g1 d := x3 (ix3 b t ⟨8192 + d.val, Nat.lt_of_lt_of_le (Nat.add_lt_add_left d.isLt 8192) (by decide)⟩)
  g2 d := x3 (ix3 b t ⟨9216 + d.val, Nat.lt_of_lt_of_le (Nat.add_lt_add_left d.isLt 9216) (by decide)⟩)
  x d := x6 (ix3 b t d)
  skip d := x7 (ix1 ⟨d.val / 64, Nat.div_lt_of_lt_mul d.isLt⟩)
  nsw d := x8 (ix1 d)
  wb i k d := x9 (ix3 i k d)
  wo k d := x10 (ix2 k d)
  nw1 d := x11 (ix1 d)
  gate d := x14 (ix3 b 0 d)
  mul d := x12 (ix1 d) * (1 + x15 (ix3 b 0 d))
  add d := x16 (ix3 b 0 d)
  rw d e := x13 (ix2 d e)

/-- The row of the repeated skip weights. -/
theorem v12_cell (b : Fin 4) (t : Fin 256) (d : Fin 1024) :
    val_main_v12 (F := Ideal) x7 (ix3 b t d) = x7 (ix1 ⟨d.val / 64, Nat.div_lt_of_lt_mul d.isLt⟩) := by
  pointwise [val_main_v12, val_main_v11, val_main_v10, val_main_v9]

/-- The gated rows. -/
theorem v16_cell (b : Fin 4) (t : Fin 256) (d : Fin 1024) :
    val_main_v16 (F := Ideal) x0 x1 x2 x3 x7 (ix3 b t d) = (rowOf x0 x1 x2 x3 x4 x5 x6 x7 x8 x9 x10 x11 x12 x13 x14 x15 x16 b t).gated d := by
  unfold val_main_v16 val_main_v14 val_main_v13
  have h := v12_cell x7 b t d
  generalize val_main_v12 (F := Ideal) x7 = y at h ⊢
  pointwise [val_main_v8, val_main_v7, val_main_v6, val_main_v5, val_main_v4, val_main_v1, val_main_v0, val_main_v15, val_main_v3, val_main_v2, val_main_call0_v5, val_main_call0_v4, val_main_call0_v3, val_main_call0_v2, val_main_call0_v1, val_main_call0_v0, val_main_call0_cst, val_main_call0_cst_0]
  rw [h]
  rfl

/-- The state-space branch. -/
theorem v29_cell (b : Fin 4) (t : Fin 256) (d : Fin 1024) :
    val_main_v29 (F := Ideal) x0 x1 x2 x3 x7 x8 (ix3 b t d) = (rowOf x0 x1 x2 x3 x4 x5 x6 x7 x8 x9 x10 x11 x12 x13 x14 x15 x16 b t).ssm d := by
  have h := fun d => v16_cell x0 x1 x2 x3 x4 x5 x6 x7 x8 x9 x10 x11 x12 x13 x14 x15 x16 b t d
  unfold val_main_v29 val_main_v26 val_main_v25 val_main_v24 val_main_v23 val_main_v21 val_main_v19 val_main_v18 val_main_v17
  generalize val_main_v16 (F := Ideal) x0 x1 x2 x3 x7 = y at h ⊢
  pointwise [val_main_v28, val_main_v27, val_main_v22, val_main_v20, val_main_cst, val_main_cst_0, val_main_cst_1]
  simp only [h]
  rfl

/-- The gates' columns. -/
theorem v37_cell (b : Fin 4) (t : Fin 256) (d : Fin 3072) :
    val_main_v37 (F := Ideal) x3 (ix3 b t d) = Ideal.logistic (x3 (ix3 b t ⟨7168 + d.val, Nat.lt_of_lt_of_le (Nat.add_lt_add_left d.isLt 7168) (by decide)⟩)) := by
  pointwise [val_main_v37, val_main_v36, val_main_v35, val_main_v34, val_main_v33, val_main_v32, val_main_v31, val_main_v30, val_main_cst_2, val_main_cst_3]
  rfl

theorem v38_cell (b : Fin 4) (t : Fin 256) (d : Fin 1024) : val_main_v38 (F := Ideal) x3 (ix3 b t d) = Ideal.logistic ((rowOf x0 x1 x2 x3 x4 x5 x6 x7 x8 x9 x10 x11 x12 x13 x14 x15 x16 b t).g0 d) := by
  have h := v37_cell x3 b t ⟨d.val, by omega⟩
  unfold val_main_v38
  generalize val_main_v37 (F := Ideal) x3 = y at h ⊢
  pointwise []
  exact h

theorem v43_cell (b : Fin 4) (t : Fin 256) (d : Fin 1024) : val_main_v43 (F := Ideal) x3 (ix3 b t d) = Ideal.logistic ((rowOf x0 x1 x2 x3 x4 x5 x6 x7 x8 x9 x10 x11 x12 x13 x14 x15 x16 b t).g1 d) := by
  have h := v37_cell x3 b t ⟨1024 + d.val, by omega⟩
  unfold val_main_v43
  generalize val_main_v37 (F := Ideal) x3 = y at h ⊢
  pointwise []
  refine h.trans ?_
  exact congrArg (fun c => Ideal.logistic (x3 (ix3 b t c))) (Fin.ext (by show 7168 + (1024 + d.val) = 8192 + d.val; omega))

theorem v50_cell (b : Fin 4) (t : Fin 256) (d : Fin 1024) : val_main_v50 (F := Ideal) x3 (ix3 b t d) = Ideal.logistic ((rowOf x0 x1 x2 x3 x4 x5 x6 x7 x8 x9 x10 x11 x12 x13 x14 x15 x16 b t).g2 d) := by
  have h := v37_cell x3 b t ⟨2048 + d.val, by omega⟩
  unfold val_main_v50
  generalize val_main_v37 (F := Ideal) x3 = y at h ⊢
  pointwise []
  refine h.trans ?_
  exact congrArg (fun c => Ideal.logistic (x3 (ix3 b t c))) (Fin.ext (by show 7168 + (2048 + d.val) = 9216 + d.val; omega))

/-- The branches' products. -/
theorem v41_cell (b : Fin 4) (t : Fin 256) (e : Fin 1024) :
    val_main_v41 (F := Ideal) x0 x1 x2 x3 x7 x8 x9 (ix3 b t e) = ∑ k : Fin 1024, (rowOf x0 x1 x2 x3 x4 x5 x6 x7 x8 x9 x10 x11 x12 x13 x14 x15 x16 b t).ssm k * (rowOf x0 x1 x2 x3 x4 x5 x6 x7 x8 x9 x10 x11 x12 x13 x14 x15 x16 b t).wb 0 k e := by
  have h := fun d => v29_cell x0 x1 x2 x3 x4 x5 x6 x7 x8 x9 x10 x11 x12 x13 x14 x15 x16 b t d
  unfold val_main_v41
  generalize val_main_v29 (F := Ideal) x0 x1 x2 x3 x7 x8 = y at h ⊢
  pointwise [val_main_v40, val_main_v39]
  simp only [h]
  rfl

theorem v47_cell (b : Fin 4) (t : Fin 256) (e : Fin 1024) :
    val_main_v47 (F := Ideal) x4 x9 (ix3 b t e) = ∑ k : Fin 1024, (rowOf x0 x1 x2 x3 x4 x5 x6 x7 x8 x9 x10 x11 x12 x13 x14 x15 x16 b t).at' k * (rowOf x0 x1 x2 x3 x4 x5 x6 x7 x8 x9 x10 x11 x12 x13 x14 x15 x16 b t).wb 1 k e := by
  pointwise [val_main_v47, val_main_v46, val_main_v45, val_main_v44]
  rfl

theorem v54_cell (b : Fin 4) (t : Fin 256) (e : Fin 1024) :
    val_main_v54 (F := Ideal) x5 x9 (ix3 b t e) = ∑ k : Fin 1024, (rowOf x0 x1 x2 x3 x4 x5 x6 x7 x8 x9 x10 x11 x12 x13 x14 x15 x16 b t).fo k * (rowOf x0 x1 x2 x3 x4 x5 x6 x7 x8 x9 x10 x11 x12 x13 x14 x15 x16 b t).wb 2 k e := by
  pointwise [val_main_v54, val_main_v53, val_main_v52, val_main_v51]
  rfl

/-- The gated branches' sum. -/
theorem v56_cell (b : Fin 4) (t : Fin 256) (e : Fin 1024) : val_main_v56 (F := Ideal) x0 x1 x2 x3 x4 x5 x7 x8 x9 (ix3 b t e) = (rowOf x0 x1 x2 x3 x4 x5 x6 x7 x8 x9 x10 x11 x12 x13 x14 x15 x16 b t).mixed e := by
  rw [val_main_v56_apply, val_main_v49_apply, val_main_v42_apply, val_main_v48_apply, val_main_v55_apply,
    v38_cell x0 x1 x2 x3 x4 x5 x6 x7 x8 x9 x10 x11 x12 x13 x14 x15 x16, v43_cell x0 x1 x2 x3 x4 x5 x6 x7 x8 x9 x10 x11 x12 x13 x14 x15 x16, v50_cell x0 x1 x2 x3 x4 x5 x6 x7 x8 x9 x10 x11 x12 x13 x14 x15 x16, v41_cell x0 x1 x2 x3 x4 x5 x6 x7 x8 x9 x10 x11 x12 x13 x14 x15 x16, v47_cell x0 x1 x2 x3 x4 x5 x6 x7 x8 x9 x10 x11 x12 x13 x14 x15 x16, v54_cell x0 x1 x2 x3 x4 x5 x6 x7 x8 x9 x10 x11 x12 x13 x14 x15 x16]
  rfl

/-- Its product with the last weights. -/
theorem v57_cell (b : Fin 4) (t : Fin 256) (e : Fin 1024) : val_main_v57 (F := Ideal) x0 x1 x2 x3 x4 x5 x7 x8 x9 x10 (ix3 b t e) = (rowOf x0 x1 x2 x3 x4 x5 x6 x7 x8 x9 x10 x11 x12 x13 x14 x15 x16 b t).proj e := by
  have h := fun d => v56_cell x0 x1 x2 x3 x4 x5 x6 x7 x8 x9 x10 x11 x12 x13 x14 x15 x16 b t d
  unfold val_main_v57
  generalize val_main_v56 (F := Ideal) x0 x1 x2 x3 x4 x5 x7 x8 x9 = y at h ⊢
  pointwise []
  simp only [h]
  rfl

/-- The first result. -/
theorem v73_cell (b : Fin 4) (t : Fin 256) (d : Fin 1024) : val_main_v73 (F := Ideal) x0 x1 x2 x3 x4 x5 x6 x7 x8 x9 x10 x11 x14 (ix3 b t d) = (rowOf x0 x1 x2 x3 x4 x5 x6 x7 x8 x9 x10 x11 x12 x13 x14 x15 x16 b t).x1 d := by
  have h := fun d => v57_cell x0 x1 x2 x3 x4 x5 x6 x7 x8 x9 x10 x11 x12 x13 x14 x15 x16 b t d
  unfold val_main_v73 val_main_v72 val_main_v70 val_main_v67 val_main_v66 val_main_v65 val_main_v64 val_main_v62 val_main_v60 val_main_v59 val_main_v58
  generalize val_main_v57 (F := Ideal) x0 x1 x2 x3 x4 x5 x7 x8 x9 x10 = y at h ⊢
  pointwise [val_main_v71, val_main_v69, val_main_v68, val_main_v63, val_main_v61, val_main_cst_4, val_main_cst_5, val_main_cst_6]
  simp only [h]
  rfl

/-- The normalised, scaled and shifted rows. -/
theorem v92_cell (b : Fin 4) (t : Fin 256) (d : Fin 1024) : val_main_v92 (F := Ideal) x0 x1 x2 x3 x4 x5 x6 x7 x8 x9 x10 x11 x12 x14 x15 x16 (ix3 b t d) = (rowOf x0 x1 x2 x3 x4 x5 x6 x7 x8 x9 x10 x11 x12 x13 x14 x15 x16 b t).h2 d := by
  have h := fun d => v73_cell x0 x1 x2 x3 x4 x5 x6 x7 x8 x9 x10 x11 x12 x13 x14 x15 x16 b t d
  unfold val_main_v92 val_main_v90 val_main_v86 val_main_v83 val_main_v82 val_main_v81 val_main_v80 val_main_v78 val_main_v76 val_main_v75 val_main_v74
  generalize val_main_v73 (F := Ideal) x0 x1 x2 x3 x4 x5 x6 x7 x8 x9 x10 x11 x14 = y at h ⊢
  pointwise [val_main_v91, val_main_v89, val_main_v88, val_main_v87, val_main_v85, val_main_v84, val_main_v79, val_main_v77, val_main_cst_7, val_main_cst_8, val_main_cst_9, val_main_cst_10]
  simp only [h]
  rw [mul_assoc (G := EReal) _ (x12 (ix1 d))]
  rfl

/-- The second result. -/
theorem v93_cell (b : Fin 4) (t : Fin 256) (d : Fin 1024) : val_main_v93 (F := Ideal) x0 x1 x2 x3 x4 x5 x6 x7 x8 x9 x10 x11 x12 x14 x15 x16 (ix3 b t d) = (rowOf x0 x1 x2 x3 x4 x5 x6 x7 x8 x9 x10 x11 x12 x13 x14 x15 x16 b t).h2 d := by
  have h := v92_cell x0 x1 x2 x3 x4 x5 x6 x7 x8 x9 x10 x11 x12 x13 x14 x15 x16 b t d
  unfold val_main_v93
  generalize val_main_v92 (F := Ideal) x0 x1 x2 x3 x4 x5 x6 x7 x8 x9 x10 x11 x12 x14 x15 x16 = y at h ⊢
  pointwise []
  exact h

/-- The third result. -/
theorem v95_cell (b : Fin 4) (e : Fin 32) (t : Fin 256) : val_main_v95 (F := Ideal) x0 x1 x2 x3 x4 x5 x6 x7 x8 x9 x10 x11 x12 x13 x14 x15 x16 (ix3 b e t) = (rowOf x0 x1 x2 x3 x4 x5 x6 x7 x8 x9 x10 x11 x12 x13 x14 x15 x16 b t).logit e := by
  have h := fun d => v92_cell x0 x1 x2 x3 x4 x5 x6 x7 x8 x9 x10 x11 x12 x13 x14 x15 x16 b t d
  unfold val_main_v95 val_main_v94
  generalize val_main_v92 (F := Ideal) x0 x1 x2 x3 x4 x5 x6 x7 x8 x9 x10 x11 x12 x14 x15 x16 = y at h ⊢
  pointwise []
  simp only [h]
  rfl

end Cert.Reference5Ideal.Ref

end
-- ==== Proof.PI5.Array.lean ====
/-
  What the context's merge's three result arrays hold, element by element: each token's row of the merge of the values it reads.
-/
module

public import proofs.«01_k».proof.Proof.PI5.Blocks
public import proofs.«01_k».proof.Proof.PI5.Body
public import proofs.«01_k».proof.Proof.PI5.Cells
public import proofs.«01_k».proof.Proof.PI5.Host
public import proofs.«01_k».proof.Proof.RI5.Reads

@[expose] public section

noncomputable section

namespace Cert.Kernel5Ideal.Mrg

open Cert.Kernel5Ideal Cert.Kernel5Ideal.Gen
open Idealize.ShloMosaic Idealize.ShloMosaic.TcCoe Idealize.ShloMosaic.Pipeline
open Idealize.ShloMosaic.Pointwise
open Cert.Reference5Ideal.Ref (rowOf)

variable (m : (ℓ : Loc nD τ sig) → Buf (Elt Ideal) ℓ) (c : Dev nD)

/-- What the merge of one token reads, of the arguments. -/
abbrev row (b : Fin 4) (q : Fin 256) : Merge.Row :=
  rowOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) b q

section Blocks

variable (t : Fin cfg0.N)

/-- What the merge of a row of a point's block reads. -/
abbrev rowAt (r : Fin 256) : Merge.Row := row m c (bOf t) (rOf t r)

theorem blk0 (r : Fin 256) (d : Fin 1024) : iblk m c 0 t (ix3 (0 : Fin 1) r d) = (rowAt m c t r).yf d := by
  show V m c main_arg0 (((cfg0.win 0).blk t).view.emb (ix3 (0 : Fin 1) r d)) = _
  rw [emb0, V_main_arg0]
  rfl

theorem blk1 (r : Fin 256) (d : Fin 1024) : iblk m c 1 t (ix3 (0 : Fin 1) r d) = (rowAt m c t r).yb d := by
  show V m c main_arg1 (((cfg0.win 1).blk t).view.emb (ix3 (0 : Fin 1) r d)) = _
  rw [emb1, V_main_arg1]
  rfl

theorem blk2 (r : Fin 256) (d : Fin 1024) : iblk m c 2 t (ix3 (0 : Fin 1) r d) = (rowAt m c t r).xs d := by
  show V m c main_arg2 (((cfg0.win 2).blk t).view.emb (ix3 (0 : Fin 1) r d)) = _
  rw [emb2, V_main_arg2]
  rfl

theorem blk3 (r : Fin 256) (d : Fin 1024) : iblk m c 3 t (ix3 (0 : Fin 1) r d) = (rowAt m c t r).z d := by
  show V m c main_arg3 (((cfg0.win 3).blk t).view.emb (ix3 (0 : Fin 1) r d)) = _
  rw [emb3, V_main_arg3]
  rfl

theorem blk4 (r : Fin 256) (d : Fin 1024) : iblk m c 4 t (ix3 (0 : Fin 1) r d) = (rowAt m c t r).at' d := by
  show V m c main_arg4 (((cfg0.win 4).blk t).view.emb (ix3 (0 : Fin 1) r d)) = _
  rw [emb4, V_main_arg4]
  rfl

theorem blk5 (r : Fin 256) (d : Fin 1024) : iblk m c 5 t (ix3 (0 : Fin 1) r d) = (rowAt m c t r).fo d := by
  show V m c main_arg5 (((cfg0.win 5).blk t).view.emb (ix3 (0 : Fin 1) r d)) = _
  rw [emb5, V_main_arg5]
  rfl

theorem blk6 (r : Fin 256) (d : Fin 1024) : iblk m c 6 t (ix3 (0 : Fin 1) r d) = (rowAt m c t r).g0 d := by
  show V m c main_arg3 (((cfg0.win 6).blk t).view.emb (ix3 (0 : Fin 1) r d)) = _
  rw [emb6, V_main_arg3]
  rfl

theorem blk7 (r : Fin 256) (d : Fin 1024) : iblk m c 7 t (ix3 (0 : Fin 1) r d) = (rowAt m c t r).g1 d := by
  show V m c main_arg3 (((cfg0.win 7).blk t).view.emb (ix3 (0 : Fin 1) r d)) = _
  rw [emb7, V_main_arg3]
  rfl

theorem blk8 (r : Fin 256) (d : Fin 1024) : iblk m c 8 t (ix3 (0 : Fin 1) r d) = (rowAt m c t r).g2 d := by
  show V m c main_arg3 (((cfg0.win 8).blk t).view.emb (ix3 (0 : Fin 1) r d)) = _
  rw [emb8, V_main_arg3]
  rfl

theorem blk9 (r : Fin 256) (d : Fin 1024) : iblk m c 9 t (ix3 (0 : Fin 1) r d) = (rowAt m c t r).x d := by
  show V m c main_arg6 (((cfg0.win 9).blk t).view.emb (ix3 (0 : Fin 1) r d)) = _
  rw [emb9, V_main_arg6]
  rfl

theorem blk10 (r : Fin 256) (d : Fin 1024) : iblk m c 10 t (ix2 (0 : Fin 1) d) = (rowAt m c t r).skip d := by
  show V m c main_v2 (((cfg0.win 10).blk t).view.emb (ix2 (0 : Fin 1) d)) = _
  rw [emb10, V_v2, hostSkip_cell]
  rfl

theorem blk11 (r : Fin 256) (d : Fin 1024) : iblk m c 11 t (ix2 (0 : Fin 1) d) = (rowAt m c t r).nsw d := by
  show V m c main_v3 (((cfg0.win 11).blk t).view.emb (ix2 (0 : Fin 1) d)) = _
  rw [emb11, V_v3, hostRow_cell]
  rfl

theorem blk14 (r : Fin 256) (d : Fin 1024) : iblk m c 14 t (ix2 (0 : Fin 1) d) = (rowAt m c t r).nw1 d := by
  show V m c main_v7 (((cfg0.win 14).blk t).view.emb (ix2 (0 : Fin 1) d)) = _
  rw [emb14, V_v7, hostRow_cell]
  rfl

theorem blk12 (r : Fin 256) (i : Fin 3) (k d : Fin 1024) : iblk m c 12 t (ix3 i k d) = (rowAt m c t r).wb i k d := by
  show V m c main_v4 (((cfg0.win 12).blk t).view.emb (ix3 i k d)) = _
  rw [emb12, V_v4]
  rfl

theorem blk13 (r : Fin 256) (k d : Fin 1024) : iblk m c 13 t (ix2 k d) = (rowAt m c t r).wo k d := by
  show V m c main_v5 (((cfg0.win 13).blk t).view.emb (ix2 k d)) = _
  rw [emb13, V_v5]
  rfl

theorem blk15 (r : Fin 256) (d : Fin 1024) : iblk m c 15 t (ix3 (0 : Fin 1) (0 : Fin 1) d) = (rowAt m c t r).gate d := by
  show V m c main_arg14 (((cfg0.win 15).blk t).view.emb (ix3 (0 : Fin 1) (0 : Fin 1) d)) = _
  rw [emb15, V_main_arg14]
  rfl

theorem blk16 (r : Fin 256) (d : Fin 1024) : iblk m c 16 t (ix3 (0 : Fin 1) (0 : Fin 1) d) = (rowAt m c t r).mul d := by
  show V m c main_v12 (((cfg0.win 16).blk t).view.emb (ix3 (0 : Fin 1) (0 : Fin 1) d)) = _
  rw [emb16, V_v12, hostMul_cell]
  rfl

theorem blk17 (r : Fin 256) (d : Fin 1024) : iblk m c 17 t (ix3 (0 : Fin 1) (0 : Fin 1) d) = (rowAt m c t r).add d := by
  show V m c main_arg16 (((cfg0.win 17).blk t).view.emb (ix3 (0 : Fin 1) (0 : Fin 1) d)) = _
  rw [emb17, V_main_arg16]
  rfl

theorem blk18 (r : Fin 256) (e : Fin 32) (d : Fin 1024) : iblk m c 18 t (ix2 e d) = (rowAt m c t r).rw d e := by
  show V m c main_v6 (((cfg0.win 18).blk t).view.emb (ix2 e d)) = _
  rw [emb18, V_v6, hostRw_cell]
  rfl

/-- One branch's weights, in the block of all three. -/
theorem wb0_cell (w : Vec Ideal S3x1024x1024 .bf16) (k d : Fin 1024) : wb0 w (ix3 (0 : Fin 1) k d) = w (ix3 (0 : Fin 3) k d) :=
  congrArg w (funext fun a => Fin.ext (by
    match a with
    | ⟨0, _⟩ => rfl
    | ⟨1, _⟩ => show 0 + 1 * k.val = k.val; omega
    | ⟨2, _⟩ => show 0 + 1 * d.val = d.val; omega))
theorem wb1_cell (w : Vec Ideal S3x1024x1024 .bf16) (k d : Fin 1024) : wb1 w (ix3 (0 : Fin 1) k d) = w (ix3 (1 : Fin 3) k d) :=
  congrArg w (funext fun a => Fin.ext (by
    match a with
    | ⟨0, _⟩ => rfl
    | ⟨1, _⟩ => show 0 + 1 * k.val = k.val; omega
    | ⟨2, _⟩ => show 0 + 1 * d.val = d.val; omega))
theorem wb2_cell (w : Vec Ideal S3x1024x1024 .bf16) (k d : Fin 1024) : wb2 w (ix3 (0 : Fin 1) k d) = w (ix3 (2 : Fin 3) k d) :=
  congrArg w (funext fun a => Fin.ext (by
    match a with
    | ⟨0, _⟩ => rfl
    | ⟨1, _⟩ => show 0 + 1 * k.val = k.val; omega
    | ⟨2, _⟩ => show 0 + 1 * d.val = d.val; omega))

/-- The normalised gated rows. -/
theorem gated_cell (r : Fin 256) (d : Fin 1024) :
    k0_pay2 (iblk m c 2 t) (iblk m c 3 t) (iblk m c 0 t) (iblk m c 1 t) (iblk m c 10 t) (ix2 r d) = Rms.nrm (rowAt m c t r).gated d := by
  rw [pay2_cell (iblk m c 2 t) (iblk m c 3 t) (iblk m c 0 t) (iblk m c 1 t) (iblk m c 10 t) r d]
  refine congrArg (fun f => Rms.nrm f d) (funext fun d => ?_)
  rw [blk0, blk1, blk2, blk3 m c t r d, blk10 m c t r d, Merge.sg_eq]
  rfl

/-- The mix's product with the last weights, normalised. -/
theorem mix_cell (r : Fin 256) (d : Fin 1024) : mixAt m c t (ix2 r d) = Rms.nrm (rowAt m c t r).proj d := by
  unfold mixAt mixOf
  rw [pay6_cell _ (iblk m c 8 t) (iblk m c 5 t) _ (iblk m c 13 t) r d]
  refine congrArg (fun f => Rms.nrm f d) (funext fun e => Finset.sum_congr rfl fun k _ => ?_)
  rw [pay3_cell _ (iblk m c 11 t) (iblk m c 6 t) _ (iblk m c 7 t) (iblk m c 4 t) _ r k, blk8 m c t r k, blk6 m c t r k, blk7 m c t r k,
    blk13 m c t r k e, Merge.sg_eq, Merge.sg_eq, Merge.sg_eq]
  refine congrArg (fun v => v * (rowAt m c t r).wo k e) (congrArg₂ (· + ·) (congrArg₂ (· + ·) (congrArg (fun v => Ideal.logistic ((rowAt m c t r).g0 k) * v) ?_) (congrArg (fun v => Ideal.logistic ((rowAt m c t r).g1 k) * v) ?_))
    (congrArg (fun v => Ideal.logistic ((rowAt m c t r).g2 k) * v) ?_))
  · exact Finset.sum_congr rfl fun l _ => congrArg₂ (· * ·) (congrArg₂ (· * ·) (gated_cell m c t r l) (blk11 m c t r l))
      ((wb0_cell _ l k).trans (blk12 m c t r 0 l k))
  · exact Finset.sum_congr rfl fun l _ => congrArg₂ (· * ·) (blk4 m c t r l) ((wb1_cell _ l k).trans (blk12 m c t r 1 l k))
  · exact Finset.sum_congr rfl fun l _ => congrArg₂ (· * ·) (blk5 m c t r l) ((wb2_cell _ l k).trans (blk12 m c t r 2 l k))

/-- The first result's rows. -/
theorem x1_cell (r : Fin 256) (d : Fin 1024) :
    k0_pay7 (k0_pay4 (iblk m c 9 t)) (k0_pay5 (iblk m c 15 t)) (mixAt m c t) (iblk m c 14 t) (ix2 r d) = (rowAt m c t r).x1 d := by
  rw [pay7_cell (iblk m c 9 t) (iblk m c 15 t) (mixAt m c t) (iblk m c 14 t) r d, mix_cell, blk9 m c t r d, blk15 m c t r d, blk14 m c t r d]
  rfl

/-- The second result's rows. -/
theorem h2_cell (r : Fin 256) (d : Fin 1024) :
    k0_pay8 (k0_pay4 (iblk m c 9 t)) (k0_pay5 (iblk m c 15 t)) (mixAt m c t) (iblk m c 14 t) (iblk m c 16 t) (iblk m c 17 t) (ix2 r d) = (rowAt m c t r).h2 d := by
  rw [pay8_cell (k0_pay4 (iblk m c 9 t)) (k0_pay5 (iblk m c 15 t)) (mixAt m c t) (iblk m c 14 t) (iblk m c 16 t) (iblk m c 17 t) r d,
    blk16 m c t r d, blk17 m c t r d]
  exact congrArg (fun f => Rms.nrm f d * _ + _) (funext fun d => x1_cell m c t r d)

/-- A grid point's three output blocks. -/
theorem out19_cell (r : Fin 256) (d : Fin 1024) : outs19 m c t (ix3 0 r d) = (rowAt m c t r).x1 d := by
  rw [out19, pay9_cell (k0_pay4 (iblk m c 9 t)) (k0_pay5 (iblk m c 15 t)) (mixAt m c t) (iblk m c 14 t) r d, x1_cell]

theorem out20_cell (r : Fin 256) (d : Fin 1024) : outs20 m c t (ix3 0 r d) = (rowAt m c t r).h2 d := by
  rw [out20, pay10_cell (k0_pay4 (iblk m c 9 t)) (k0_pay5 (iblk m c 15 t)) (mixAt m c t) (iblk m c 14 t) (iblk m c 16 t) (iblk m c 17 t) r d, h2_cell]

theorem out21_cell (e : Fin 32) (r : Fin 256) : outs21 m c t (ix3 0 e r) = (rowAt m c t r).logit e := by
  rw [out21, pay11_cell (k0_pay4 (iblk m c 9 t)) (k0_pay5 (iblk m c 15 t)) (mixAt m c t) (iblk m c 14 t) (iblk m c 16 t) (iblk m c 17 t) (iblk m c 18 t) e r]
  exact Finset.sum_congr rfl fun d _ => (congrArg₂ (fun a b : EReal => a * b) (blk18 m c t r e d) (h2_cell m c t r d)).trans (mul_comm (G := EReal) _ _)

end Blocks

/-- The three results as functions of the arguments. -/
def res19 : Vec Ideal S4x256x1024 .f32 := fun i => (row m c ⟨(i 0).val, (i 0).isLt⟩ ⟨(i 1).val, (i 1).isLt⟩).x1 ⟨(i 2).val, (i 2).isLt⟩
def res20 : Vec Ideal S4x256x1024 .bf16 := fun i => (row m c ⟨(i 0).val, (i 0).isLt⟩ ⟨(i 1).val, (i 1).isLt⟩).h2 ⟨(i 2).val, (i 2).isLt⟩
def res21 : Vec Ideal S4x32x256 .f32 := fun i => (row m c ⟨(i 0).val, (i 0).isLt⟩ ⟨(i 2).val, (i 2).isLt⟩).logit ⟨(i 1).val, (i 1).isLt⟩

/-- The first result array after the run. -/
theorem arr19 : (dats m 0 c).arrAt 19 cfg0.N = res19 m c := by
  refine (dats m 0 c).arrAt_eq_of_cover 19 (res19 m c) (fun t _ => ?_) fun i => ?_
  · show (cfg0.win 19).cut (grid0.coords t) ((dats m 0 c).after 19 t) = _
    refine funext fun (j : S1x256x1024.Idx) => ?_
    obtain ⟨r, e, rfl⟩ : ∃ (r : Fin 256) (e : Fin 1024), j = ix3 (0 : Fin 1) r e := ⟨j 1, j 2, funext fun a => by match a with | ⟨0, _⟩ => exact Subsingleton.elim (α := Fin 1) _ _ | ⟨1, _⟩ => rfl | ⟨2, _⟩ => rfl⟩
    show outs19 m c t (ix3 0 r e) = res19 m c (((cfg0.win 19).blk t).view.emb (ix3 (0 : Fin 1) r e))
    rw [emb19, out19_cell m c t r e]
    rfl
  · obtain ⟨p, r, hb, hr⟩ := tok ⟨(i 0).val, (i 0).isLt⟩ ⟨(i 1).val, (i 1).isLt⟩
    refine ⟨p, flush0_19 p, ?_⟩
    have hi : ((cfg0.win 19).blk p).view.emb (ix3 (0 : Fin 1) r ⟨(i 2).val, (i 2).isLt⟩) = i := by
      rw [emb19, hb, hr]
      exact funext fun a => by match a with | ⟨0, _⟩ => rfl | ⟨1, _⟩ => rfl | ⟨2, _⟩ => rfl
    exact hi ▸ ((cfg0.win 19).blk p).view.emb_mem_set (ix3 (0 : Fin 1) r ⟨(i 2).val, (i 2).isLt⟩)

/-- The second result array after the run. -/
theorem arr20 : (dats m 0 c).arrAt 20 cfg0.N = res20 m c := by
  refine (dats m 0 c).arrAt_eq_of_cover 20 (res20 m c) (fun t _ => ?_) fun i => ?_
  · show (cfg0.win 20).cut (grid0.coords t) ((dats m 0 c).after 20 t) = _
    refine funext fun (j : S1x256x1024.Idx) => ?_
    obtain ⟨r, e, rfl⟩ : ∃ (r : Fin 256) (e : Fin 1024), j = ix3 (0 : Fin 1) r e := ⟨j 1, j 2, funext fun a => by match a with | ⟨0, _⟩ => exact Subsingleton.elim (α := Fin 1) _ _ | ⟨1, _⟩ => rfl | ⟨2, _⟩ => rfl⟩
    show outs20 m c t (ix3 0 r e) = res20 m c (((cfg0.win 20).blk t).view.emb (ix3 (0 : Fin 1) r e))
    rw [emb20, out20_cell m c t r e]
    rfl
  · obtain ⟨p, r, hb, hr⟩ := tok ⟨(i 0).val, (i 0).isLt⟩ ⟨(i 1).val, (i 1).isLt⟩
    refine ⟨p, flush0_20 p, ?_⟩
    have hi : ((cfg0.win 20).blk p).view.emb (ix3 (0 : Fin 1) r ⟨(i 2).val, (i 2).isLt⟩) = i := by
      rw [emb20, hb, hr]
      exact funext fun a => by match a with | ⟨0, _⟩ => rfl | ⟨1, _⟩ => rfl | ⟨2, _⟩ => rfl
    exact hi ▸ ((cfg0.win 20).blk p).view.emb_mem_set (ix3 (0 : Fin 1) r ⟨(i 2).val, (i 2).isLt⟩)

/-- The third result array after the run. -/
theorem arr21 : (dats m 0 c).arrAt 21 cfg0.N = res21 m c := by
  refine (dats m 0 c).arrAt_eq_of_cover 21 (res21 m c) (fun t _ => ?_) fun i => ?_
  · show (cfg0.win 21).cut (grid0.coords t) ((dats m 0 c).after 21 t) = _
    refine funext fun (j : S1x32x256.Idx) => ?_
    obtain ⟨e, r, rfl⟩ : ∃ (e : Fin 32) (r : Fin 256), j = ix3 (0 : Fin 1) e r := ⟨j 1, j 2, funext fun a => by match a with | ⟨0, _⟩ => exact Subsingleton.elim (α := Fin 1) _ _ | ⟨1, _⟩ => rfl | ⟨2, _⟩ => rfl⟩
    show outs21 m c t (ix3 0 e r) = res21 m c (((cfg0.win 21).blk t).view.emb (ix3 (0 : Fin 1) e r))
    rw [emb21, out21_cell m c t e r]
    rfl
  · obtain ⟨p, r, hb, hr⟩ := tok ⟨(i 0).val, (i 0).isLt⟩ ⟨(i 2).val, (i 2).isLt⟩
    refine ⟨p, flush0_21 p, ?_⟩
    have hi : ((cfg0.win 21).blk p).view.emb (ix3 (0 : Fin 1) ⟨(i 1).val, (i 1).isLt⟩ r) = i := by
      rw [emb21, hb, hr]
      exact funext fun a => by match a with | ⟨0, _⟩ => rfl | ⟨1, _⟩ => rfl | ⟨2, _⟩ => rfl
    exact hi ▸ ((cfg0.win 21).blk p).view.emb_mem_set (ix3 (0 : Fin 1) ⟨(i 1).val, (i 1).isLt⟩ r)

end Cert.Kernel5Ideal.Mrg

end
-- ==== Proof.Equation5.lean ====
/-
  The equation of the context's merge: the kernel's three result arrays and the reference's are the same functions of the arguments.
-/
module

public import proofs.«01_k».proof.Defs
public import proofs.«01_k».proof.Proof.PI5.Array
public import proofs.«01_k».proof.Proof.RI5.Reads
public import proofs.«01_k».proof.Proof.RI5.Run
public import proofs.«01_k».proof.Proof.Gen.Kernel5Ideal.Value

@[expose] public section

noncomputable section

namespace Cert.Equation5

open Idealize.ShloMosaic Idealize.ShloMosaic.TcCoe Idealize.SL.Sem
open Idealize.ShloMosaic.Pointwise

section Result
open Cert.Kernel5Ideal Cert.Kernel5Ideal.Mrg

variable (m : (ℓ : Loc nD τ sig) → Buf (Elt Ideal) ℓ) (c : Dev nD)

/-- The first result. -/
theorem eq19 : Cert.Reference5Ideal.Read.val_main_v73 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg14)) = res19 m c := by
  refine funext fun (i : S4x256x1024.Idx) => ?_
  obtain ⟨b, t, d, rfl⟩ : ∃ (b : Fin 4) (t : Fin 256) (d : Fin 1024), i = ix3 b t d :=
    ⟨i 0, i 1, i 2, funext fun a => by match a with | ⟨0, _⟩ => rfl | ⟨1, _⟩ => rfl | ⟨2, _⟩ => rfl⟩
  exact Cert.Reference5Ideal.Ref.v73_cell (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) b t d

/-- The second result. -/
theorem eq20 : Cert.Reference5Ideal.Read.val_main_v93 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg14)) (m ((c.tc : Thread nD τ).loc main_arg15)) (m ((c.tc : Thread nD τ).loc main_arg16)) = res20 m c := by
  refine funext fun (i : S4x256x1024.Idx) => ?_
  obtain ⟨b, t, d, rfl⟩ : ∃ (b : Fin 4) (t : Fin 256) (d : Fin 1024), i = ix3 b t d :=
    ⟨i 0, i 1, i 2, funext fun a => by match a with | ⟨0, _⟩ => rfl | ⟨1, _⟩ => rfl | ⟨2, _⟩ => rfl⟩
  exact Cert.Reference5Ideal.Ref.v93_cell (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) b t d

/-- The third result. -/
theorem eq21 : Cert.Reference5Ideal.Read.val_main_v95 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) = res21 m c := by
  refine funext fun (i : S4x32x256.Idx) => ?_
  obtain ⟨b, e, t, rfl⟩ : ∃ (b : Fin 4) (e : Fin 32) (t : Fin 256), i = ix3 b e t :=
    ⟨i 0, i 1, i 2, funext fun a => by match a with | ⟨0, _⟩ => rfl | ⟨1, _⟩ => rfl | ⟨2, _⟩ => rfl⟩
  exact Cert.Reference5Ideal.Ref.v95_cell (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) b e t

end Result

/-- The two programs end with equal results, and with their arguments unchanged. -/
theorem algebraic : Cert.algebraic_Kernel5Ideal_Reference5Ideal := by
  intro m g m' g' hpre harg
  refine ⟨fun c => Cert.Kernel5Ideal.Mrg.res19 m c, fun c => Cert.Kernel5Ideal.Mrg.res20 m c, fun c => Cert.Kernel5Ideal.Mrg.res21 m c, ?_, ?_⟩
  · exact (θ_run _ _ _).mono (fun r h c => ⟨(h c).1.trans (Cert.Kernel5Ideal.Mrg.arr19 m c), (h c).2.1.trans (Cert.Kernel5Ideal.Mrg.arr20 m c),
      (h c).2.2.1.trans (Cert.Kernel5Ideal.Mrg.arr21 m c), (h c).2.2.2⟩) (Cert.Kernel5Ideal.Value.run_blocks m g)
  · refine (θ_run _ _ _).mono (fun r h c => ⟨(h c).1.trans ?_, (h c).2.1.trans ?_, (h c).2.2.1.trans ?_, (h c).2.2.2⟩) (Cert.Reference5Ideal.Value.run m' g')
    · obtain ⟨a0, a1, a2, a3, a4, a5, a6, a7, a8, a9, a10, a11, a12, a13, a14, a15, a16⟩ := harg c
      rw [Cert.Reference5Ideal.Read.val_main_v73_eq, a0, a1, a2, a3, a4, a5, a6, a7, a8, a9, a10, a11, a14]
      exact eq19 m c
    · obtain ⟨a0, a1, a2, a3, a4, a5, a6, a7, a8, a9, a10, a11, a12, a13, a14, a15, a16⟩ := harg c
      rw [Cert.Reference5Ideal.Read.val_main_v93_eq, a0, a1, a2, a3, a4, a5, a6, a7, a8, a9, a10, a11, a12, a14, a15, a16]
      exact eq20 m c
    · obtain ⟨a0, a1, a2, a3, a4, a5, a6, a7, a8, a9, a10, a11, a12, a13, a14, a15, a16⟩ := harg c
      rw [Cert.Reference5Ideal.Read.val_main_v95_eq, a0, a1, a2, a3, a4, a5, a6, a7, a8, a9, a10, a11, a12, a13, a14, a15, a16]
      exact eq21 m c

end Cert.Equation5

end
-- ==== Proof.RI6.Run.lean ====
/-
  The run of the reference of the combination of the latent tokens: it ends with the arguments unchanged and every semaphore at zero.
-/
module

public import proofs.«01_k».proof.Proof.Gen.Reference6Ideal.Run
public import Idealize.ShloMosaic.Lib.Quiescent

@[expose] public section

noncomputable section

namespace Cert.Reference6Ideal.Ref

open Cert.Reference6Ideal Cert.Reference6Ideal.Gen
open Idealize.ShloMosaic Idealize.ShloMosaic.TcCoe Idealize.SL.Sem

variable {F : FTy → Type} [FloatOps F]

/-- Every run of the reference ends with the arguments unchanged and every semaphore at zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => (h c).2, Idealize.ShloMosaic.sem_eq_zero_of_no_sems (by decide) r.2⟩) (Value.run m ρ)

end Cert.Reference6Ideal.Ref

end
-- ==== Proof.PI6.Blocks.lean ====
/-
  Which elements of the arrays each grid point's blocks are, in the combination of the latent tokens: point `t` takes the 256 tokens from `256 t`.
-/
module

public import proofs.«01_k».proof.Proof.Gen.Kernel6Ideal.Frame
public import Idealize.ShloMosaic.Lib.Pointwise

@[expose] public section

noncomputable section

namespace Cert.Kernel6Ideal.Cmb

open Cert.Kernel6Ideal Cert.Kernel6Ideal.Gen
open Idealize.ShloMosaic Idealize.ShloMosaic.TcCoe
open Idealize.ShloMosaic.Pointwise

theorem N_eq : cfg0.N = 128 := by decide +kernel

theorem t_lt (t : Fin cfg0.N) : t.val < 128 := lt_of_lt_of_eq t.isLt N_eq

/-- A row of a grid point's block, among the tokens. -/
def rOf (t : Fin cfg0.N) (r : Fin 256) : Fin 32768 := ⟨256 * t.val + r.val, by have := t_lt t; omega⟩

theorem idx0 : ∀ t : Fin cfg0.N, win0_0.index t (0 : Fin 3) = 0 ∧ win0_0.index t (1 : Fin 3) = t.val ∧ win0_0.index t (2 : Fin 3) = 0 :=
  (by decide +kernel : ∀ t : Fin grid0.N, _)

theorem emb0 (t : Fin cfg0.N) (k : Fin 4) (r : Fin 256) (d : Fin 1024) :
    ((cfg0.win 0).blk t).view.emb (ix3 k r d) = ix3 k ⟨(rOf t r).val, lt_trans (rOf t r).isLt (by decide)⟩ d := by
  obtain ⟨e0, e1, e2⟩ := idx0 t
  funext a; apply Fin.ext
  match a with
  | ⟨0, _⟩ => show win0_0.index t (0 : Fin 3) * 4 + 1 * k.val = k.val; omega
  | ⟨1, _⟩ => show win0_0.index t (1 : Fin 3) * 256 + 1 * r.val = 256 * t.val + r.val; omega
  | ⟨2, _⟩ => show win0_0.index t (2 : Fin 3) * 1024 + 1 * d.val = d.val; omega

theorem idx1 : ∀ t : Fin cfg0.N, win0_1.index t (0 : Fin 2) = t.val ∧ win0_1.index t (1 : Fin 2) = 0 :=
  (by decide +kernel : ∀ t : Fin grid0.N, _)

theorem emb1 (t : Fin cfg0.N) (r : Fin 256) (k : Fin 4) :
    ((cfg0.win 1).blk t).view.emb (ix2 r k) = ix2 ⟨(rOf t r).val, lt_trans (rOf t r).isLt (by decide)⟩ k := by
  obtain ⟨e0, e1⟩ := idx1 t
  funext a; apply Fin.ext
  match a with
  | ⟨0, _⟩ => show win0_1.index t (0 : Fin 2) * 256 + 1 * r.val = 256 * t.val + r.val; omega
  | ⟨1, _⟩ => show win0_1.index t (1 : Fin 2) * 4 + 1 * k.val = k.val; omega

theorem idx2 : ∀ t : Fin cfg0.N, win0_2.index t (0 : Fin 2) = t.val ∧ win0_2.index t (1 : Fin 2) = 0 :=
  (by decide +kernel : ∀ t : Fin grid0.N, _)

theorem emb2 (t : Fin cfg0.N) (r : Fin 256) (d : Fin 1024) :
    ((cfg0.win 2).blk t).view.emb (ix2 r d) = ix2 (rOf t r) d := by
  obtain ⟨e0, e1⟩ := idx2 t
  funext a; apply Fin.ext
  match a with
  | ⟨0, _⟩ => show win0_2.index t (0 : Fin 2) * 256 + 1 * r.val = 256 * t.val + r.val; omega
  | ⟨1, _⟩ => show win0_2.index t (1 : Fin 2) * 1024 + 1 * d.val = d.val; omega

theorem idx3 : ∀ t : Fin cfg0.N, win0_3.index t (0 : Fin 3) = t.val ∧ win0_3.index t (1 : Fin 3) = 0 ∧ win0_3.index t (2 : Fin 3) = 0 :=
  (by decide +kernel : ∀ t : Fin grid0.N, _)

theorem emb3 (t : Fin cfg0.N) (d : Fin 1024) :
    ((cfg0.win 3).blk t).view.emb (ix3 (0 : Fin 1) (0 : Fin 1) d) = ix3 (⟨t.val, t_lt t⟩ : Fin 128) 0 d := by
  obtain ⟨e0, e1, e2⟩ := idx3 t
  funext a; apply Fin.ext
  match a with
  | ⟨0, _⟩ => show win0_3.index t (0 : Fin 3) * 1 + 1 * 0 = t.val; omega
  | ⟨1, _⟩ => show win0_3.index t (1 : Fin 3) * 1 + 1 * 0 = 0; omega
  | ⟨2, _⟩ => show win0_3.index t (2 : Fin 3) * 1024 + 1 * d.val = d.val; omega

theorem idx4 : ∀ t : Fin cfg0.N, win0_4.index t (0 : Fin 2) = 0 ∧ win0_4.index t (1 : Fin 2) = 0 :=
  (by decide +kernel : ∀ t : Fin grid0.N, _)

theorem emb4 (t : Fin cfg0.N) (d : Fin 1024) :
    ((cfg0.win 4).blk t).view.emb (ix2 (0 : Fin 1) d) = ix2 0 d := by
  obtain ⟨e0, e1⟩ := idx4 t
  funext a; apply Fin.ext
  match a with
  | ⟨0, _⟩ => show win0_4.index t (0 : Fin 2) * 1 + 1 * 0 = 0; omega
  | ⟨1, _⟩ => show win0_4.index t (1 : Fin 2) * 1024 + 1 * d.val = d.val; omega

theorem idx5 : ∀ t : Fin cfg0.N, win0_5.index t (0 : Fin 2) = t.val ∧ win0_5.index t (1 : Fin 2) = 0 :=
  (by decide +kernel : ∀ t : Fin grid0.N, _)

theorem emb5 (t : Fin cfg0.N) (r : Fin 256) (d : Fin 1024) :
    ((cfg0.win 5).blk t).view.emb (ix2 r d) = ix2 (rOf t r) d := by
  obtain ⟨e0, e1⟩ := idx5 t
  funext a; apply Fin.ext
  match a with
  | ⟨0, _⟩ => show win0_5.index t (0 : Fin 2) * 256 + 1 * r.val = 256 * t.val + r.val; omega
  | ⟨1, _⟩ => show win0_5.index t (1 : Fin 2) * 1024 + 1 * d.val = d.val; omega

/-- Every token is a row of some grid point's block. -/
theorem tok (q : Fin 32768) : ∃ (p : Fin cfg0.N) (r : Fin 256), rOf p r = q :=
  ⟨⟨q.val / 256, by rw [N_eq]; omega⟩, ⟨q.val % 256, by omega⟩, Fin.ext (by simp only [rOf]; omega)⟩

end Cert.Kernel6Ideal.Cmb

end
-- ==== Proof.PI6.Body.lean ====
/-
  What a grid point leaves in its output block, of the blocks it reads, in the combination of the latent tokens.
-/
module

public import proofs.«01_k».proof.Proof.Gen.Kernel6Ideal.Frame
public import Idealize.ShloMosaic.Lib.Pipeline.Value

@[expose] public section

noncomputable section

namespace Cert.Kernel6Ideal.Cmb

open Cert.Kernel6Ideal Cert.Kernel6Ideal.Gen
open Idealize.ShloMosaic Idealize.ShloMosaic.TcCoe

variable {F : FTy → Type} [FloatOps F]

theorem hz3 : (![0, 0, 0] : Fin 3 → Nat) = fun _ => 0 := funext fun a => by match a with | ⟨0, _⟩ => rfl | ⟨1, _⟩ => rfl | ⟨2, _⟩ => rfl
theorem hz2 : (![0, 0] : Fin 2 → Nat) = fun _ => 0 := funext fun a => by match a with | ⟨0, _⟩ => rfl | ⟨1, _⟩ => rfl

/-- Expert 0's gates and rows in a block. -/
def g0 (w : Vec F S256x4 .f32) : Vec F S256x1 .f32 := View.ld w (Rect.unit (s := S256x4) ![0, 0] S256x1.size inb_S256x4_S256x1_0_0)
def y0 (w : Vec F S4x256x1024 .bf16) : Vec F S1x256x1024 .bf16 := View.ld w (Rect.unit (s := S4x256x1024) ![0, 0, 0] S1x256x1024.size inb_S4x256x1024_S1x256x1024_0_0_0)

/-- Expert 1's gates and rows in a block. -/
def g1 (w : Vec F S256x4 .f32) : Vec F S256x1 .f32 := View.ld w (Rect.unit (s := S256x4) ![0, 1] S256x1.size inb_S256x4_S256x1_0_1)
def y1 (w : Vec F S4x256x1024 .bf16) : Vec F S1x256x1024 .bf16 := View.ld w (Rect.unit (s := S4x256x1024) ![1, 0, 0] S1x256x1024.size inb_S4x256x1024_S1x256x1024_1_0_0)

/-- Expert 2's gates and rows in a block. -/
def g2 (w : Vec F S256x4 .f32) : Vec F S256x1 .f32 := View.ld w (Rect.unit (s := S256x4) ![0, 2] S256x1.size inb_S256x4_S256x1_0_2)
def y2 (w : Vec F S4x256x1024 .bf16) : Vec F S1x256x1024 .bf16 := View.ld w (Rect.unit (s := S4x256x1024) ![2, 0, 0] S1x256x1024.size inb_S4x256x1024_S1x256x1024_2_0_0)

/-- Expert 3's gates and rows in a block. -/
def g3 (w : Vec F S256x4 .f32) : Vec F S256x1 .f32 := View.ld w (Rect.unit (s := S256x4) ![0, 3] S256x1.size inb_S256x4_S256x1_0_3)
def y3 (w : Vec F S4x256x1024 .bf16) : Vec F S1x256x1024 .bf16 := View.ld w (Rect.unit (s := S4x256x1024) ![3, 0, 0] S1x256x1024.size inb_S4x256x1024_S1x256x1024_3_0_0)

/-- The output block, of the input blocks. -/
def bodyOf (x0 : Vec F S4x256x1024 .bf16) (x1 : Vec F S256x4 .f32) (x2 : Vec F S256x1024 .f32) (x3 : Vec F S1x1x1024 .f32) (x4 : Vec F S1x1024 .f32) : Vec F S256x1024 .f32 :=
  k0_pay1 (k0_pay2 (g0 x1) (y0 x0) (g1 x1) (y1 x0) (g2 x1) (y2 x0) (g3 x1) (y3 x0)) x2 (k0_pay3 x3) (k0_pay4 (g0 x1) (y0 x0) (g1 x1) (y1 x0) (g2 x1) (y2 x0) (g3 x1) (y3 x0)) x4

variable (m : (ℓ : Loc nD τ sig) → Buf (Elt F) ℓ) (c : Dev nD) (t : Fin cfg0.N)

/-- A point's output block. -/
def outs5 : Vec F S256x1024 .f32 := (dats m 0 c).after 5 t

theorem out5 : outs5 m c t = bodyOf (iblk m c 0 t) (iblk m c 1 t) (iblk m c 2 t) (iblk m c 3 t) (iblk m c 4 t) := by
  unfold outs5
  rw [after0_5]
  unfold out0_5
  rw [View.canon_unit_zero (S := S256x1024) hz2]
  simp only [View.ld_unit_zero (S := S256x1024) hz2, View.ld_unit_zero (S := S1x1x1024) hz3, View.ld_unit_zero (S := S1x1024) hz2]
  rfl

end Cert.Kernel6Ideal.Cmb

end
-- ==== Proof.Math.Combine.lean ====
/-
  The combination of a token's four experts' rows, with its norm, gate and residual.
-/
module

public import proofs.«01_k».proof.Proof.Math.Rms

@[expose] public section

noncomputable section

namespace Cert.Combine

/-- The residual `x` plus the gate `c` times the normalised, weighted sum of the four experts' rows `y` by their gates `g`. -/
def row (g : Fin 4 → EReal) (y : Fin 4 → Fin 1024 → EReal) (x c w : Fin 1024 → EReal) (d : Fin 1024) : EReal :=
  x d + c d * (Rms.nrm (fun d => ∑ k : Fin 4, g k * y k d) d * w d)

end Cert.Combine

end
-- ==== Proof.PI6.Cells.lean ====
/-
  What the body of the combination of the latent tokens holds at an index, over the extended reals.
-/
module

public import proofs.«01_k».proof.Proof.Gen.Kernel6Ideal.Skeleton
public import proofs.«01_k».proof.Proof.PI6.Body
public import proofs.«01_k».proof.Proof.Math.Combine
public import Idealize.ShloMosaic.Lib.Pointwise

@[expose] public section

noncomputable section

namespace Cert.Kernel6Ideal.Cmb

open Cert.Kernel6Ideal Cert.Kernel6Ideal.Gen
open Idealize.ShloMosaic Idealize.ShloMosaic.TcCoe
open Idealize.ShloMosaic.Pointwise

theorem g0_cell (w : Vec Ideal S256x4 .f32) (r : Fin 256) : g0 w (ix2 r (0 : Fin 1)) = w (ix2 r (0 : Fin 4)) :=
  congrArg w (funext fun a => Fin.ext (by
    match a with
    | ⟨0, _⟩ => show 0 + 1 * r.val = r.val; omega
    | ⟨1, _⟩ => rfl))

theorem y0_cell (w : Vec Ideal S4x256x1024 .bf16) (r : Fin 256) (d : Fin 1024) : y0 w (ix3 (0 : Fin 1) r d) = w (ix3 (0 : Fin 4) r d) :=
  congrArg w (funext fun a => Fin.ext (by
    match a with
    | ⟨0, _⟩ => rfl
    | ⟨1, _⟩ => show 0 + 1 * r.val = r.val; omega
    | ⟨2, _⟩ => show 0 + 1 * d.val = d.val; omega))

theorem g1_cell (w : Vec Ideal S256x4 .f32) (r : Fin 256) : g1 w (ix2 r (0 : Fin 1)) = w (ix2 r (1 : Fin 4)) :=
  congrArg w (funext fun a => Fin.ext (by
    match a with
    | ⟨0, _⟩ => show 0 + 1 * r.val = r.val; omega
    | ⟨1, _⟩ => rfl))

theorem y1_cell (w : Vec Ideal S4x256x1024 .bf16) (r : Fin 256) (d : Fin 1024) : y1 w (ix3 (0 : Fin 1) r d) = w (ix3 (1 : Fin 4) r d) :=
  congrArg w (funext fun a => Fin.ext (by
    match a with
    | ⟨0, _⟩ => rfl
    | ⟨1, _⟩ => show 0 + 1 * r.val = r.val; omega
    | ⟨2, _⟩ => show 0 + 1 * d.val = d.val; omega))

theorem g2_cell (w : Vec Ideal S256x4 .f32) (r : Fin 256) : g2 w (ix2 r (0 : Fin 1)) = w (ix2 r (2 : Fin 4)) :=
  congrArg w (funext fun a => Fin.ext (by
    match a with
    | ⟨0, _⟩ => show 0 + 1 * r.val = r.val; omega
    | ⟨1, _⟩ => rfl))

theorem y2_cell (w : Vec Ideal S4x256x1024 .bf16) (r : Fin 256) (d : Fin 1024) : y2 w (ix3 (0 : Fin 1) r d) = w (ix3 (2 : Fin 4) r d) :=
  congrArg w (funext fun a => Fin.ext (by
    match a with
    | ⟨0, _⟩ => rfl
    | ⟨1, _⟩ => show 0 + 1 * r.val = r.val; omega
    | ⟨2, _⟩ => show 0 + 1 * d.val = d.val; omega))

theorem g3_cell (w : Vec Ideal S256x4 .f32) (r : Fin 256) : g3 w (ix2 r (0 : Fin 1)) = w (ix2 r (3 : Fin 4)) :=
  congrArg w (funext fun a => Fin.ext (by
    match a with
    | ⟨0, _⟩ => show 0 + 1 * r.val = r.val; omega
    | ⟨1, _⟩ => rfl))

theorem y3_cell (w : Vec Ideal S4x256x1024 .bf16) (r : Fin 256) (d : Fin 1024) : y3 w (ix3 (0 : Fin 1) r d) = w (ix3 (3 : Fin 4) r d) :=
  congrArg w (funext fun a => Fin.ext (by
    match a with
    | ⟨0, _⟩ => rfl
    | ⟨1, _⟩ => show 0 + 1 * r.val = r.val; omega
    | ⟨2, _⟩ => show 0 + 1 * d.val = d.val; omega))

/-- The sum of the four experts' rows by their gates. -/
theorem pay2_cell (a0 : Vec Ideal S256x1 .f32) (b0 : Vec Ideal S1x256x1024 .bf16) (a1 : Vec Ideal S256x1 .f32) (b1 : Vec Ideal S1x256x1024 .bf16) (a2 : Vec Ideal S256x1 .f32) (b2 : Vec Ideal S1x256x1024 .bf16) (a3 : Vec Ideal S256x1 .f32) (b3 : Vec Ideal S1x256x1024 .bf16) (r : Fin 256) (d : Fin 1024) :
    k0_pay2 a0 b0 a1 b1 a2 b2 a3 b3 (ix2 r d)
      = a0 (ix2 r 0) * b0 (ix3 0 r d) + a1 (ix2 r 0) * b1 (ix3 0 r d) + a2 (ix2 r 0) * b2 (ix3 0 r d) + a3 (ix2 r 0) * b3 (ix3 0 r d) := by
  pointwise [k0_pay2]

/-- The output block. -/
theorem pay1_cell (a0 : Vec Ideal S256x1 .f32) (b0 : Vec Ideal S1x256x1024 .bf16) (a1 : Vec Ideal S256x1 .f32) (b1 : Vec Ideal S1x256x1024 .bf16) (a2 : Vec Ideal S256x1 .f32) (b2 : Vec Ideal S1x256x1024 .bf16) (a3 : Vec Ideal S256x1 .f32) (b3 : Vec Ideal S1x256x1024 .bf16)
    (x : Vec Ideal S256x1024 .f32) (g : Vec Ideal S1x1x1024 .f32) (w : Vec Ideal S1x1024 .f32) (r : Fin 256) (d : Fin 1024) :
    k0_pay1 (k0_pay2 a0 b0 a1 b1 a2 b2 a3 b3) x (k0_pay3 g) (k0_pay4 a0 b0 a1 b1 a2 b2 a3 b3) w (ix2 r d)
      = x (ix2 r d) + g (ix3 0 0 d) * (Rms.nrm (fun d => k0_pay2 a0 b0 a1 b1 a2 b2 a3 b3 (ix2 r d)) d * w (ix2 0 d)) := by
  unfold k0_pay4
  generalize k0_pay2 a0 b0 a1 b1 a2 b2 a3 b3 = y
  pointwise [k0_pay1, k0_pay3]
  try rfl

/-- The output block, of the input blocks. -/
theorem body_cell (x0 : Vec Ideal S4x256x1024 .bf16) (x1 : Vec Ideal S256x4 .f32) (x2 : Vec Ideal S256x1024 .f32) (x3 : Vec Ideal S1x1x1024 .f32) (x4 : Vec Ideal S1x1024 .f32)
    (r : Fin 256) (d : Fin 1024) :
    bodyOf x0 x1 x2 x3 x4 (ix2 r d)
      = Combine.row (fun k => x1 (ix2 r k)) (fun k d => x0 (ix3 k r d)) (fun d => x2 (ix2 r d)) (fun d => x3 (ix3 0 0 d)) (fun d => x4 (ix2 0 d)) d := by
  unfold bodyOf
  rw [pay1_cell]
  unfold Combine.row
  refine congrArg (fun f => x2 (ix2 r d) + x3 (ix3 0 0 d) * (Rms.nrm f d * x4 (ix2 0 d))) (funext fun d => ?_)
  rw [pay2_cell, g0_cell, g1_cell, g2_cell, g3_cell, y0_cell, y1_cell, y2_cell, y3_cell, Fin.sum_univ_four]

end Cert.Kernel6Ideal.Cmb

end
-- ==== Proof.PI6.Host.lean ====
/-
  What the operations before the combination of the latent tokens leave in the arrays they make: the gate repeated over its blocks, and the norm's weights as a row.
-/
module

public import proofs.«01_k».proof.Proof.Gen.Kernel6Ideal.Frame
public import Idealize.ShloMosaic.Lib.StableHlo.Run
public import Idealize.ShloMosaic.Lib.Pointwise
public import Idealize.ShloMosaic.PureOps.Ideal.Laws

@[expose] public section

noncomputable section

namespace Cert.Kernel6Ideal.Cmb

open Cert.Kernel6Ideal Cert.Kernel6Ideal.Gen
open Idealize.ShloMosaic Idealize.ShloMosaic.TcCoe
open Idealize.ShloMosaic.Pointwise

/-- The gate of each batch, repeated over its blocks. -/
def hostGate {F : FTy → Type} [FloatOps F] (x3 : Vec F S4x1x1024 .f32) : Vec F S128x1x1024 .f32 :=
  shapeCast S128x1x1024 (broadcastInDim S4x32x1x1024 ![0, 2, 3] bcast_S4x1x1024_S4x32x1x1024_0_2_3 x3) shapeCasts_S4x32x1x1024_S128x1x1024

/-- Weights as a row. -/
def hostRow {F : FTy → Type} [FloatOps F] (x : Vec F S1024 .f32) : Vec F S1x1024 .f32 :=
  broadcastInDim S1x1024 ![1] bcast_S1024_S1x1024_1 x

section Runs

variable {F : FTy → Type} [FloatOps F] (m : (ℓ : Loc nD τ sig) → Buf (Elt F) ℓ)

theorem V_v1 (c : Dev nD) : V m c main_v1 = hostGate (m ((c : Thread nD τ).loc main_arg3)) := by
  show StableHlo.after hostOps0 (fun b => m (c, b)) (Proc.devRef .tc main_v1) = _
  unfold hostOps0
  after_results_simp <;> rfl

theorem V_v2 (c : Dev nD) : V m c main_v2 = hostRow (m ((c : Thread nD τ).loc main_arg4)) := by
  show StableHlo.after hostOps0 (fun b => m (c, b)) (Proc.devRef .tc main_v2) = _
  unfold hostOps0
  after_results_simp <;> rfl

end Runs

theorem hostGate_cell (x3 : Vec Ideal S4x1x1024 .f32) (b : Fin 128) (d : Fin 1024) :
    hostGate x3 (ix3 b 0 d) = x3 (ix3 ⟨b.val / 32, Nat.div_lt_of_lt_mul b.isLt⟩ 0 d) := by
  pointwise [hostGate]

theorem hostRow_cell (x : Vec Ideal S1024 .f32) (d : Fin 1024) : hostRow x (ix2 0 d) = x (ix1 d) := by
  pointwise [hostRow]

end Cert.Kernel6Ideal.Cmb

end
-- ==== Proof.RI6.Reads.lean ====
/-
  What the reference of the combination of the latent tokens holds at an index.
-/
module

public import proofs.«01_k».proof.Proof.Gen.Reference6Ideal.Read
public import proofs.«01_k».proof.Proof.Math.Combine
public import Idealize.ShloMosaic.Lib.Pointwise

@[expose] public section

noncomputable section

namespace Cert.Reference6Ideal.Ref

open Cert.Reference6Ideal Cert.Reference6Ideal.Gen Cert.Reference6Ideal.Read
open Idealize.ShloMosaic Idealize.ShloMosaic.TcCoe
open Idealize.ShloMosaic.Pointwise

variable (x0 : Vec Ideal S4x33792x1024 .bf16) (x1 : Vec Ideal S33792x4 .f32) (x2 : Vec Ideal S32768x1024 .f32) (x3 : Vec Ideal S4x1x1024 .f32) (x4 : Vec Ideal S1024 .f32)

/-- A token's row of the result, of the arguments. -/
def rowOf (q : Fin 32768) (d : Fin 1024) : EReal :=
  Combine.row (fun k => x1 (ix2 ⟨q.val, lt_trans q.isLt (by decide)⟩ k)) (fun k d => x0 (ix3 k ⟨q.val, lt_trans q.isLt (by decide)⟩ d)) (fun d => x2 (ix2 q d))
    (fun d => x3 (ix3 ⟨q.val / 8192, Nat.div_lt_of_lt_mul q.isLt⟩ 0 d)) (fun d => x4 (ix1 d)) d

/-- The sum of the experts' rows by their gates. -/
theorem v7_cell (q : Fin 32768) (d : Fin 1024) :
    val_main_v7 (F := Ideal) x0 x1 (ix2 q d) = ∑ k : Fin 4, x1 (ix2 ⟨q.val, lt_trans q.isLt (by decide)⟩ k) * x0 (ix3 k ⟨q.val, lt_trans q.isLt (by decide)⟩ d) := by
  pointwise [val_main_v7, val_main_v6, val_main_v5, val_main_v4, val_main_v3, val_main_v2, val_main_v1, val_main_v0, val_main_cst]
  try rfl

/-- The gate of a token's batch. -/
theorem v10_cell (q : Fin 32768) (d : Fin 1024) : val_main_v10 (F := Ideal) x3 (ix2 q d) = x3 (ix3 ⟨q.val / 8192, Nat.div_lt_of_lt_mul q.isLt⟩ 0 d) := by
  pointwise [val_main_v10, val_main_v9, val_main_v8]

/-- The result. -/
theorem v25_cell (q : Fin 32768) (d : Fin 1024) : val_main_v25 (F := Ideal) x0 x1 x2 x3 x4 (ix2 q d) = rowOf x0 x1 x2 x3 x4 q d := by
  have h := fun d => v7_cell x0 x1 q d
  have h' := v10_cell x3 q d
  unfold val_main_v25 val_main_v24 val_main_v23 val_main_v20 val_main_v19 val_main_v18 val_main_v17 val_main_v15 val_main_v13 val_main_v12 val_main_v11
  generalize val_main_v7 (F := Ideal) x0 x1 = y at h ⊢
  generalize val_main_v10 (F := Ideal) x3 = z at h' ⊢
  pointwise [val_main_v22, val_main_v21, val_main_v16, val_main_v14, val_main_cst_0, val_main_cst_1, val_main_cst_2]
  simp only [h, h']
  rfl

end Cert.Reference6Ideal.Ref

end
-- ==== Proof.PI6.Array.lean ====
/-
  What the result array of the combination of the latent tokens holds, element by element: each token's combined row.
-/
module

public import proofs.«01_k».proof.Proof.PI6.Blocks
public import proofs.«01_k».proof.Proof.PI6.Cells
public import proofs.«01_k».proof.Proof.PI6.Host
public import proofs.«01_k».proof.Proof.RI6.Reads

@[expose] public section

noncomputable section

namespace Cert.Kernel6Ideal.Cmb

open Cert.Kernel6Ideal Cert.Kernel6Ideal.Gen
open Idealize.ShloMosaic Idealize.ShloMosaic.TcCoe Idealize.ShloMosaic.Pipeline
open Idealize.ShloMosaic.Pointwise
open Cert.Reference6Ideal.Ref (rowOf)

variable (m : (ℓ : Loc nD τ sig) → Buf (Elt Ideal) ℓ) (c : Dev nD)

section Blocks

variable (t : Fin cfg0.N)

theorem blk0 (k : Fin 4) (r : Fin 256) (d : Fin 1024) : iblk m c 0 t (ix3 k r d) = m ((c : Thread nD τ).loc main_arg0) (ix3 k ⟨(rOf t r).val, lt_trans (rOf t r).isLt (by decide)⟩ d) := by
  show V m c main_arg0 (((cfg0.win 0).blk t).view.emb (ix3 k r d)) = _
  rw [emb0, V_main_arg0]

theorem blk1 (r : Fin 256) (k : Fin 4) : iblk m c 1 t (ix2 r k) = m ((c : Thread nD τ).loc main_arg1) (ix2 ⟨(rOf t r).val, lt_trans (rOf t r).isLt (by decide)⟩ k) := by
  show V m c main_arg1 (((cfg0.win 1).blk t).view.emb (ix2 r k)) = _
  rw [emb1, V_main_arg1]

theorem blk2 (r : Fin 256) (d : Fin 1024) : iblk m c 2 t (ix2 r d) = m ((c : Thread nD τ).loc main_arg2) (ix2 (rOf t r) d) := by
  show V m c main_arg2 (((cfg0.win 2).blk t).view.emb (ix2 r d)) = _
  rw [emb2, V_main_arg2]

theorem blk3 (r : Fin 256) (d : Fin 1024) :
    iblk m c 3 t (ix3 (0 : Fin 1) (0 : Fin 1) d) = m ((c : Thread nD τ).loc main_arg3) (ix3 ⟨(rOf t r).val / 8192, Nat.div_lt_of_lt_mul (rOf t r).isLt⟩ 0 d) := by
  show V m c main_v1 (((cfg0.win 3).blk t).view.emb (ix3 (0 : Fin 1) (0 : Fin 1) d)) = _
  rw [emb3, V_v1]
  refine (hostGate_cell (m ((c : Thread nD τ).loc main_arg3)) ⟨t.val, t_lt t⟩ d).trans ?_
  exact congrArg (fun b => m ((c : Thread nD τ).loc main_arg3) (ix3 b 0 d)) (Fin.ext (by have := r.isLt; show t.val / 32 = (256 * t.val + r.val) / 8192; omega))

theorem blk4 (d : Fin 1024) : iblk m c 4 t (ix2 (0 : Fin 1) d) = m ((c : Thread nD τ).loc main_arg4) (ix1 d) := by
  show V m c main_v2 (((cfg0.win 4).blk t).view.emb (ix2 (0 : Fin 1) d)) = _
  rw [emb4, V_v2]
  exact hostRow_cell _ d

/-- A grid point's output block. -/
theorem out5_cell (r : Fin 256) (d : Fin 1024) : outs5 m c t (ix2 r d) = rowOf (m ((c : Thread nD τ).loc main_arg0)) (m ((c : Thread nD τ).loc main_arg1)) (m ((c : Thread nD τ).loc main_arg2)) (m ((c : Thread nD τ).loc main_arg3)) (m ((c : Thread nD τ).loc main_arg4)) (rOf t r) d := by
  rw [out5, body_cell (iblk m c 0 t) (iblk m c 1 t) (iblk m c 2 t) (iblk m c 3 t) (iblk m c 4 t) r d]
  unfold rowOf
  have e0 := funext fun k => funext fun d => blk0 m c t k r d
  have e1 := funext fun k => blk1 m c t r k
  have e2 := funext fun d => blk2 m c t r d
  have e3 := funext fun d => blk3 m c t r d
  have e4 := funext fun d => blk4 m c t d
  exact congrFun (congr (congr (congr (congr (congrArg Combine.row e1) e0) e2) e3) e4) d

end Blocks

/-- The result as a function of the arguments. -/
def res5 : Vec Ideal S32768x1024 .f32 := fun i => rowOf (m ((c : Thread nD τ).loc main_arg0)) (m ((c : Thread nD τ).loc main_arg1)) (m ((c : Thread nD τ).loc main_arg2)) (m ((c : Thread nD τ).loc main_arg3)) (m ((c : Thread nD τ).loc main_arg4)) ⟨(i 0).val, (i 0).isLt⟩ ⟨(i 1).val, (i 1).isLt⟩

/-- The result array after the run. -/
theorem arr5 : (dats m 0 c).arrAt 5 cfg0.N = res5 m c := by
  refine (dats m 0 c).arrAt_eq_of_cover 5 (res5 m c) (fun t _ => ?_) fun i => ?_
  · show (cfg0.win 5).cut (grid0.coords t) ((dats m 0 c).after 5 t) = _
    refine funext fun (j : S256x1024.Idx) => ?_
    obtain ⟨r, e, rfl⟩ : ∃ (r : Fin 256) (e : Fin 1024), j = ix2 r e := ⟨j 0, j 1, funext fun a => by match a with | ⟨0, _⟩ => rfl | ⟨1, _⟩ => rfl⟩
    show outs5 m c t (ix2 r e) = res5 m c (((cfg0.win 5).blk t).view.emb (ix2 r e))
    rw [emb5, out5_cell m c t r e]
    rfl
  · obtain ⟨p, r, hr⟩ := tok ⟨(i 0).val, (i 0).isLt⟩
    refine ⟨p, flush0_5 p, ?_⟩
    have hi : ((cfg0.win 5).blk p).view.emb (ix2 r ⟨(i 1).val, (i 1).isLt⟩) = i := by
      rw [emb5, hr]
      exact funext fun a => by match a with | ⟨0, _⟩ => rfl | ⟨1, _⟩ => rfl
    exact hi ▸ ((cfg0.win 5).blk p).view.emb_mem_set (ix2 r ⟨(i 1).val, (i 1).isLt⟩)

end Cert.Kernel6Ideal.Cmb

end
-- ==== Proof.Equation6.lean ====
/-
  The equation of the combination of the latent tokens: the kernel's result array and the reference's are the same function of the arguments.
-/
module

public import proofs.«01_k».proof.Defs
public import proofs.«01_k».proof.Proof.PI6.Array
public import proofs.«01_k».proof.Proof.RI6.Reads
public import proofs.«01_k».proof.Proof.RI6.Run
public import proofs.«01_k».proof.Proof.Gen.Kernel6Ideal.Value

@[expose] public section

noncomputable section

namespace Cert.Equation6

open Idealize.ShloMosaic Idealize.ShloMosaic.TcCoe Idealize.SL.Sem
open Idealize.ShloMosaic.Pointwise

section Result
open Cert.Kernel6Ideal Cert.Kernel6Ideal.Cmb

variable (m : (ℓ : Loc nD τ sig) → Buf (Elt Ideal) ℓ) (c : Dev nD)

/-- The result. -/
theorem eq5 : Cert.Reference6Ideal.Read.val_main_v25 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) = res5 m c := by
  refine funext fun (i : S32768x1024.Idx) => ?_
  obtain ⟨q, d, rfl⟩ : ∃ (q : Fin 32768) (d : Fin 1024), i = ix2 q d :=
    ⟨i 0, i 1, funext fun a => by match a with | ⟨0, _⟩ => rfl | ⟨1, _⟩ => rfl⟩
  exact Cert.Reference6Ideal.Ref.v25_cell (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) q d

end Result

/-- The two programs end with equal results, and with their arguments unchanged. -/
theorem algebraic : Cert.algebraic_Kernel6Ideal_Reference6Ideal := by
  intro m g m' g' hpre harg
  refine ⟨fun c => Cert.Kernel6Ideal.Cmb.res5 m c, ?_, ?_⟩
  · exact (θ_run _ _ _).mono (fun r h c => ⟨(h c).1.trans (Cert.Kernel6Ideal.Cmb.arr5 m c), (h c).2⟩) (Cert.Kernel6Ideal.Value.run_blocks m g)
  · refine (θ_run _ _ _).mono (fun r h c => ⟨(h c).1.trans ?_, (h c).2⟩) (Cert.Reference6Ideal.Value.run m' g')
    obtain ⟨a0, a1, a2, a3, a4⟩ := harg c
    refine (Cert.Reference6Ideal.Read.val_main_v25_eq (F := Ideal) _ _ _ _ _).trans ?_
    rw [a0, a1, a2, a3, a4]
    exact eq5 m c

end Cert.Equation6

end
-- ==== Proof.RI7.Run.lean ====
/-
  The run of the reference of the combination of the context's tokens: it ends with the arguments unchanged and every semaphore at zero.
-/
module

public import proofs.«01_k».proof.Proof.Gen.Reference7Ideal.Run
public import Idealize.ShloMosaic.Lib.Quiescent

@[expose] public section

noncomputable section

namespace Cert.Reference7Ideal.Ref

open Cert.Reference7Ideal Cert.Reference7Ideal.Gen
open Idealize.ShloMosaic Idealize.ShloMosaic.TcCoe Idealize.SL.Sem

variable {F : FTy → Type} [FloatOps F]

/-- Every run of the reference ends with the arguments unchanged and every semaphore at zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => (h c).2, Idealize.ShloMosaic.sem_eq_zero_of_no_sems (by decide) r.2⟩) (Value.run m ρ)

end Cert.Reference7Ideal.Ref

end
-- ==== Proof.PI7.Blocks.lean ====
/-
  Which elements of the arrays each grid point's blocks are, in the combination of the context's tokens: point `t` takes the 256 tokens from `256 t`.
-/
module

public import proofs.«01_k».proof.Proof.Gen.Kernel7Ideal.Frame
public import Idealize.ShloMosaic.Lib.Pointwise

@[expose] public section

noncomputable section

namespace Cert.Kernel7Ideal.Cmb

open Cert.Kernel7Ideal Cert.Kernel7Ideal.Gen
open Idealize.ShloMosaic Idealize.ShloMosaic.TcCoe
open Idealize.ShloMosaic.Pointwise

theorem N_eq : cfg0.N = 4 := by decide +kernel

theorem t_lt (t : Fin cfg0.N) : t.val < 4 := lt_of_lt_of_eq t.isLt N_eq

/-- A row of a grid point's block, among the tokens. -/
def rOf (t : Fin cfg0.N) (r : Fin 256) : Fin 1024 := ⟨256 * t.val + r.val, by have := t_lt t; omega⟩

theorem idx0 : ∀ t : Fin cfg0.N, win0_0.index t (0 : Fin 3) = 0 ∧ win0_0.index t (1 : Fin 3) = 128 + t.val ∧ win0_0.index t (2 : Fin 3) = 0 :=
  (by decide +kernel : ∀ t : Fin grid0.N, _)

theorem emb0 (t : Fin cfg0.N) (k : Fin 4) (r : Fin 256) (d : Fin 1024) :
    ((cfg0.win 0).blk t).view.emb (ix3 k r d) = ix3 k ⟨32768 + (rOf t r).val, Nat.add_lt_add_left (rOf t r).isLt 32768⟩ d := by
  obtain ⟨e0, e1, e2⟩ := idx0 t
  funext a; apply Fin.ext
  match a with
  | ⟨0, _⟩ => show win0_0.index t (0 : Fin 3) * 4 + 1 * k.val = k.val; omega
  | ⟨1, _⟩ => show win0_0.index t (1 : Fin 3) * 256 + 1 * r.val = 32768 + (256 * t.val + r.val); omega
  | ⟨2, _⟩ => show win0_0.index t (2 : Fin 3) * 1024 + 1 * d.val = d.val; omega

theorem idx1 : ∀ t : Fin cfg0.N, win0_1.index t (0 : Fin 2) = 128 + t.val ∧ win0_1.index t (1 : Fin 2) = 0 :=
  (by decide +kernel : ∀ t : Fin grid0.N, _)

theorem emb1 (t : Fin cfg0.N) (r : Fin 256) (k : Fin 4) :
    ((cfg0.win 1).blk t).view.emb (ix2 r k) = ix2 ⟨32768 + (rOf t r).val, Nat.add_lt_add_left (rOf t r).isLt 32768⟩ k := by
  obtain ⟨e0, e1⟩ := idx1 t
  funext a; apply Fin.ext
  match a with
  | ⟨0, _⟩ => show win0_1.index t (0 : Fin 2) * 256 + 1 * r.val = 32768 + (256 * t.val + r.val); omega
  | ⟨1, _⟩ => show win0_1.index t (1 : Fin 2) * 4 + 1 * k.val = k.val; omega

theorem idx2 : ∀ t : Fin cfg0.N, win0_2.index t (0 : Fin 2) = t.val ∧ win0_2.index t (1 : Fin 2) = 0 :=
  (by decide +kernel : ∀ t : Fin grid0.N, _)

theorem emb2 (t : Fin cfg0.N) (r : Fin 256) (d : Fin 1024) :
    ((cfg0.win 2).blk t).view.emb (ix2 r d) = ix2 (rOf t r) d := by
  obtain ⟨e0, e1⟩ := idx2 t
  funext a; apply Fin.ext
  match a with
  | ⟨0, _⟩ => show win0_2.index t (0 : Fin 2) * 256 + 1 * r.val = 256 * t.val + r.val; omega
  | ⟨1, _⟩ => show win0_2.index t (1 : Fin 2) * 1024 + 1 * d.val = d.val; omega

theorem idx3 : ∀ t : Fin cfg0.N, win0_3.index t (0 : Fin 3) = t.val ∧ win0_3.index t (1 : Fin 3) = 0 ∧ win0_3.index t (2 : Fin 3) = 0 :=
  (by decide +kernel : ∀ t : Fin grid0.N, _)

theorem emb3 (t : Fin cfg0.N) (d : Fin 1024) :
    ((cfg0.win 3).blk t).view.emb (ix3 (0 : Fin 1) (0 : Fin 1) d) = ix3 (⟨t.val, t_lt t⟩ : Fin 4) 0 d := by
  obtain ⟨e0, e1, e2⟩ := idx3 t
  funext a; apply Fin.ext
  match a with
  | ⟨0, _⟩ => show win0_3.index t (0 : Fin 3) * 1 + 1 * 0 = t.val; omega
  | ⟨1, _⟩ => show win0_3.index t (1 : Fin 3) * 1 + 1 * 0 = 0; omega
  | ⟨2, _⟩ => show win0_3.index t (2 : Fin 3) * 1024 + 1 * d.val = d.val; omega

theorem idx4 : ∀ t : Fin cfg0.N, win0_4.index t (0 : Fin 2) = 0 ∧ win0_4.index t (1 : Fin 2) = 0 :=
  (by decide +kernel : ∀ t : Fin grid0.N, _)

theorem emb4 (t : Fin cfg0.N) (d : Fin 1024) :
    ((cfg0.win 4).blk t).view.emb (ix2 (0 : Fin 1) d) = ix2 0 d := by
  obtain ⟨e0, e1⟩ := idx4 t
  funext a; apply Fin.ext
  match a with
  | ⟨0, _⟩ => show win0_4.index t (0 : Fin 2) * 1 + 1 * 0 = 0; omega
  | ⟨1, _⟩ => show win0_4.index t (1 : Fin 2) * 1024 + 1 * d.val = d.val; omega

theorem idx5 : ∀ t : Fin cfg0.N, win0_5.index t (0 : Fin 2) = t.val ∧ win0_5.index t (1 : Fin 2) = 0 :=
  (by decide +kernel : ∀ t : Fin grid0.N, _)

theorem emb5 (t : Fin cfg0.N) (r : Fin 256) (d : Fin 1024) :
    ((cfg0.win 5).blk t).view.emb (ix2 r d) = ix2 (rOf t r) d := by
  obtain ⟨e0, e1⟩ := idx5 t
  funext a; apply Fin.ext
  match a with
  | ⟨0, _⟩ => show win0_5.index t (0 : Fin 2) * 256 + 1 * r.val = 256 * t.val + r.val; omega
  | ⟨1, _⟩ => show win0_5.index t (1 : Fin 2) * 1024 + 1 * d.val = d.val; omega

/-- Every token is a row of some grid point's block. -/
theorem tok (q : Fin 1024) : ∃ (p : Fin cfg0.N) (r : Fin 256), rOf p r = q :=
  ⟨⟨q.val / 256, by rw [N_eq]; omega⟩, ⟨q.val % 256, by omega⟩, Fin.ext (by simp only [rOf]; omega)⟩

end Cert.Kernel7Ideal.Cmb

end
-- ==== Proof.PI7.Body.lean ====
/-
  What a grid point leaves in its output block, of the blocks it reads, in the combination of the context's tokens.
-/
module

public import proofs.«01_k».proof.Proof.Gen.Kernel7Ideal.Frame
public import Idealize.ShloMosaic.Lib.Pipeline.Value

@[expose] public section

noncomputable section

namespace Cert.Kernel7Ideal.Cmb

open Cert.Kernel7Ideal Cert.Kernel7Ideal.Gen
open Idealize.ShloMosaic Idealize.ShloMosaic.TcCoe

variable {F : FTy → Type} [FloatOps F]

theorem hz3 : (![0, 0, 0] : Fin 3 → Nat) = fun _ => 0 := funext fun a => by match a with | ⟨0, _⟩ => rfl | ⟨1, _⟩ => rfl | ⟨2, _⟩ => rfl
theorem hz2 : (![0, 0] : Fin 2 → Nat) = fun _ => 0 := funext fun a => by match a with | ⟨0, _⟩ => rfl | ⟨1, _⟩ => rfl

/-- Expert 0's gates and rows in a block. -/
def g0 (w : Vec F S256x4 .f32) : Vec F S256x1 .f32 := View.ld w (Rect.unit (s := S256x4) ![0, 0] S256x1.size inb_S256x4_S256x1_0_0)
def y0 (w : Vec F S4x256x1024 .bf16) : Vec F S1x256x1024 .bf16 := View.ld w (Rect.unit (s := S4x256x1024) ![0, 0, 0] S1x256x1024.size inb_S4x256x1024_S1x256x1024_0_0_0)

/-- Expert 1's gates and rows in a block. -/
def g1 (w : Vec F S256x4 .f32) : Vec F S256x1 .f32 := View.ld w (Rect.unit (s := S256x4) ![0, 1] S256x1.size inb_S256x4_S256x1_0_1)
def y1 (w : Vec F S4x256x1024 .bf16) : Vec F S1x256x1024 .bf16 := View.ld w (Rect.unit (s := S4x256x1024) ![1, 0, 0] S1x256x1024.size inb_S4x256x1024_S1x256x1024_1_0_0)

/-- Expert 2's gates and rows in a block. -/
def g2 (w : Vec F S256x4 .f32) : Vec F S256x1 .f32 := View.ld w (Rect.unit (s := S256x4) ![0, 2] S256x1.size inb_S256x4_S256x1_0_2)
def y2 (w : Vec F S4x256x1024 .bf16) : Vec F S1x256x1024 .bf16 := View.ld w (Rect.unit (s := S4x256x1024) ![2, 0, 0] S1x256x1024.size inb_S4x256x1024_S1x256x1024_2_0_0)

/-- Expert 3's gates and rows in a block. -/
def g3 (w : Vec F S256x4 .f32) : Vec F S256x1 .f32 := View.ld w (Rect.unit (s := S256x4) ![0, 3] S256x1.size inb_S256x4_S256x1_0_3)
def y3 (w : Vec F S4x256x1024 .bf16) : Vec F S1x256x1024 .bf16 := View.ld w (Rect.unit (s := S4x256x1024) ![3, 0, 0] S1x256x1024.size inb_S4x256x1024_S1x256x1024_3_0_0)

/-- The output block, of the input blocks. -/
def bodyOf (x0 : Vec F S4x256x1024 .bf16) (x1 : Vec F S256x4 .f32) (x2 : Vec F S256x1024 .f32) (x3 : Vec F S1x1x1024 .f32) (x4 : Vec F S1x1024 .f32) : Vec F S256x1024 .f32 :=
  k0_pay1 (k0_pay2 (g0 x1) (y0 x0) (g1 x1) (y1 x0) (g2 x1) (y2 x0) (g3 x1) (y3 x0)) x2 (k0_pay3 x3) (k0_pay4 (g0 x1) (y0 x0) (g1 x1) (y1 x0) (g2 x1) (y2 x0) (g3 x1) (y3 x0)) x4

variable (m : (ℓ : Loc nD τ sig) → Buf (Elt F) ℓ) (c : Dev nD) (t : Fin cfg0.N)

/-- A point's output block. -/
def outs5 : Vec F S256x1024 .f32 := (dats m 0 c).after 5 t

theorem out5 : outs5 m c t = bodyOf (iblk m c 0 t) (iblk m c 1 t) (iblk m c 2 t) (iblk m c 3 t) (iblk m c 4 t) := by
  unfold outs5
  rw [after0_5]
  unfold out0_5
  rw [View.canon_unit_zero (S := S256x1024) hz2]
  simp only [View.ld_unit_zero (S := S256x1024) hz2, View.ld_unit_zero (S := S1x1x1024) hz3, View.ld_unit_zero (S := S1x1024) hz2]
  rfl

end Cert.Kernel7Ideal.Cmb

end
-- ==== Proof.PI7.Cells.lean ====
/-
  What the body of the combination of the context's tokens holds at an index, over the extended reals.
-/
module

public import proofs.«01_k».proof.Proof.Gen.Kernel7Ideal.Skeleton
public import proofs.«01_k».proof.Proof.PI7.Body
public import proofs.«01_k».proof.Proof.Math.Combine
public import Idealize.ShloMosaic.Lib.Pointwise

@[expose] public section

noncomputable section

namespace Cert.Kernel7Ideal.Cmb

open Cert.Kernel7Ideal Cert.Kernel7Ideal.Gen
open Idealize.ShloMosaic Idealize.ShloMosaic.TcCoe
open Idealize.ShloMosaic.Pointwise

theorem g0_cell (w : Vec Ideal S256x4 .f32) (r : Fin 256) : g0 w (ix2 r (0 : Fin 1)) = w (ix2 r (0 : Fin 4)) :=
  congrArg w (funext fun a => Fin.ext (by
    match a with
    | ⟨0, _⟩ => show 0 + 1 * r.val = r.val; omega
    | ⟨1, _⟩ => rfl))

theorem y0_cell (w : Vec Ideal S4x256x1024 .bf16) (r : Fin 256) (d : Fin 1024) : y0 w (ix3 (0 : Fin 1) r d) = w (ix3 (0 : Fin 4) r d) :=
  congrArg w (funext fun a => Fin.ext (by
    match a with
    | ⟨0, _⟩ => rfl
    | ⟨1, _⟩ => show 0 + 1 * r.val = r.val; omega
    | ⟨2, _⟩ => show 0 + 1 * d.val = d.val; omega))

theorem g1_cell (w : Vec Ideal S256x4 .f32) (r : Fin 256) : g1 w (ix2 r (0 : Fin 1)) = w (ix2 r (1 : Fin 4)) :=
  congrArg w (funext fun a => Fin.ext (by
    match a with
    | ⟨0, _⟩ => show 0 + 1 * r.val = r.val; omega
    | ⟨1, _⟩ => rfl))

theorem y1_cell (w : Vec Ideal S4x256x1024 .bf16) (r : Fin 256) (d : Fin 1024) : y1 w (ix3 (0 : Fin 1) r d) = w (ix3 (1 : Fin 4) r d) :=
  congrArg w (funext fun a => Fin.ext (by
    match a with
    | ⟨0, _⟩ => rfl
    | ⟨1, _⟩ => show 0 + 1 * r.val = r.val; omega
    | ⟨2, _⟩ => show 0 + 1 * d.val = d.val; omega))

theorem g2_cell (w : Vec Ideal S256x4 .f32) (r : Fin 256) : g2 w (ix2 r (0 : Fin 1)) = w (ix2 r (2 : Fin 4)) :=
  congrArg w (funext fun a => Fin.ext (by
    match a with
    | ⟨0, _⟩ => show 0 + 1 * r.val = r.val; omega
    | ⟨1, _⟩ => rfl))

theorem y2_cell (w : Vec Ideal S4x256x1024 .bf16) (r : Fin 256) (d : Fin 1024) : y2 w (ix3 (0 : Fin 1) r d) = w (ix3 (2 : Fin 4) r d) :=
  congrArg w (funext fun a => Fin.ext (by
    match a with
    | ⟨0, _⟩ => rfl
    | ⟨1, _⟩ => show 0 + 1 * r.val = r.val; omega
    | ⟨2, _⟩ => show 0 + 1 * d.val = d.val; omega))

theorem g3_cell (w : Vec Ideal S256x4 .f32) (r : Fin 256) : g3 w (ix2 r (0 : Fin 1)) = w (ix2 r (3 : Fin 4)) :=
  congrArg w (funext fun a => Fin.ext (by
    match a with
    | ⟨0, _⟩ => show 0 + 1 * r.val = r.val; omega
    | ⟨1, _⟩ => rfl))

theorem y3_cell (w : Vec Ideal S4x256x1024 .bf16) (r : Fin 256) (d : Fin 1024) : y3 w (ix3 (0 : Fin 1) r d) = w (ix3 (3 : Fin 4) r d) :=
  congrArg w (funext fun a => Fin.ext (by
    match a with
    | ⟨0, _⟩ => rfl
    | ⟨1, _⟩ => show 0 + 1 * r.val = r.val; omega
    | ⟨2, _⟩ => show 0 + 1 * d.val = d.val; omega))

/-- The sum of the four experts' rows by their gates. -/
theorem pay2_cell (a0 : Vec Ideal S256x1 .f32) (b0 : Vec Ideal S1x256x1024 .bf16) (a1 : Vec Ideal S256x1 .f32) (b1 : Vec Ideal S1x256x1024 .bf16) (a2 : Vec Ideal S256x1 .f32) (b2 : Vec Ideal S1x256x1024 .bf16) (a3 : Vec Ideal S256x1 .f32) (b3 : Vec Ideal S1x256x1024 .bf16) (r : Fin 256) (d : Fin 1024) :
    k0_pay2 a0 b0 a1 b1 a2 b2 a3 b3 (ix2 r d)
      = a0 (ix2 r 0) * b0 (ix3 0 r d) + a1 (ix2 r 0) * b1 (ix3 0 r d) + a2 (ix2 r 0) * b2 (ix3 0 r d) + a3 (ix2 r 0) * b3 (ix3 0 r d) := by
  pointwise [k0_pay2]

/-- The output block. -/
theorem pay1_cell (a0 : Vec Ideal S256x1 .f32) (b0 : Vec Ideal S1x256x1024 .bf16) (a1 : Vec Ideal S256x1 .f32) (b1 : Vec Ideal S1x256x1024 .bf16) (a2 : Vec Ideal S256x1 .f32) (b2 : Vec Ideal S1x256x1024 .bf16) (a3 : Vec Ideal S256x1 .f32) (b3 : Vec Ideal S1x256x1024 .bf16)
    (x : Vec Ideal S256x1024 .f32) (g : Vec Ideal S1x1x1024 .f32) (w : Vec Ideal S1x1024 .f32) (r : Fin 256) (d : Fin 1024) :
    k0_pay1 (k0_pay2 a0 b0 a1 b1 a2 b2 a3 b3) x (k0_pay3 g) (k0_pay4 a0 b0 a1 b1 a2 b2 a3 b3) w (ix2 r d)
      = x (ix2 r d) + g (ix3 0 0 d) * (Rms.nrm (fun d => k0_pay2 a0 b0 a1 b1 a2 b2 a3 b3 (ix2 r d)) d * w (ix2 0 d)) := by
  unfold k0_pay4
  generalize k0_pay2 a0 b0 a1 b1 a2 b2 a3 b3 = y
  pointwise [k0_pay1, k0_pay3]
  try rfl

/-- The output block, of the input blocks. -/
theorem body_cell (x0 : Vec Ideal S4x256x1024 .bf16) (x1 : Vec Ideal S256x4 .f32) (x2 : Vec Ideal S256x1024 .f32) (x3 : Vec Ideal S1x1x1024 .f32) (x4 : Vec Ideal S1x1024 .f32)
    (r : Fin 256) (d : Fin 1024) :
    bodyOf x0 x1 x2 x3 x4 (ix2 r d)
      = Combine.row (fun k => x1 (ix2 r k)) (fun k d => x0 (ix3 k r d)) (fun d => x2 (ix2 r d)) (fun d => x3 (ix3 0 0 d)) (fun d => x4 (ix2 0 d)) d := by
  unfold bodyOf
  rw [pay1_cell]
  unfold Combine.row
  refine congrArg (fun f => x2 (ix2 r d) + x3 (ix3 0 0 d) * (Rms.nrm f d * x4 (ix2 0 d))) (funext fun d => ?_)
  rw [pay2_cell, g0_cell, g1_cell, g2_cell, g3_cell, y0_cell, y1_cell, y2_cell, y3_cell, Fin.sum_univ_four]

end Cert.Kernel7Ideal.Cmb

end
-- ==== Proof.PI7.Host.lean ====
/-
  What the operations before the combination of the context's tokens leave in the arrays they make: the gate repeated over its blocks, and the norm's weights as a row.
-/
module

public import proofs.«01_k».proof.Proof.Gen.Kernel7Ideal.Frame
public import Idealize.ShloMosaic.Lib.StableHlo.Run
public import Idealize.ShloMosaic.Lib.Pointwise
public import Idealize.ShloMosaic.PureOps.Ideal.Laws

@[expose] public section

noncomputable section

namespace Cert.Kernel7Ideal.Cmb

open Cert.Kernel7Ideal Cert.Kernel7Ideal.Gen
open Idealize.ShloMosaic Idealize.ShloMosaic.TcCoe
open Idealize.ShloMosaic.Pointwise

/-- The gate of each batch, repeated over its blocks. -/
def hostGate {F : FTy → Type} [FloatOps F] (x3 : Vec F S4x1x1024 .f32) : Vec F S4x1x1024 .f32 :=
  shapeCast S4x1x1024 (broadcastInDim S4x1x1x1024 ![0, 2, 3] bcast_S4x1x1024_S4x1x1x1024_0_2_3 x3) shapeCasts_S4x1x1x1024_S4x1x1024

/-- Weights as a row. -/
def hostRow {F : FTy → Type} [FloatOps F] (x : Vec F S1024 .f32) : Vec F S1x1024 .f32 :=
  broadcastInDim S1x1024 ![1] bcast_S1024_S1x1024_1 x

section Runs

variable {F : FTy → Type} [FloatOps F] (m : (ℓ : Loc nD τ sig) → Buf (Elt F) ℓ)

theorem V_v1 (c : Dev nD) : V m c main_v1 = hostGate (m ((c : Thread nD τ).loc main_arg3)) := by
  show StableHlo.after hostOps0 (fun b => m (c, b)) (Proc.devRef .tc main_v1) = _
  unfold hostOps0
  after_results_simp <;> rfl

theorem V_v2 (c : Dev nD) : V m c main_v2 = hostRow (m ((c : Thread nD τ).loc main_arg4)) := by
  show StableHlo.after hostOps0 (fun b => m (c, b)) (Proc.devRef .tc main_v2) = _
  unfold hostOps0
  after_results_simp <;> rfl

end Runs

theorem hostGate_cell (x3 : Vec Ideal S4x1x1024 .f32) (b : Fin 4) (d : Fin 1024) :
    hostGate x3 (ix3 b 0 d) = x3 (ix3 b 0 d) := by
  pointwise [hostGate]

theorem hostRow_cell (x : Vec Ideal S1024 .f32) (d : Fin 1024) : hostRow x (ix2 0 d) = x (ix1 d) := by
  pointwise [hostRow]

end Cert.Kernel7Ideal.Cmb

end
-- ==== Proof.RI7.Reads.lean ====
/-
  What the reference of the combination of the context's tokens holds at an index.
-/
module

public import proofs.«01_k».proof.Proof.Gen.Reference7Ideal.Read
public import proofs.«01_k».proof.Proof.Math.Combine
public import Idealize.ShloMosaic.Lib.Pointwise

@[expose] public section

noncomputable section

namespace Cert.Reference7Ideal.Ref

open Cert.Reference7Ideal Cert.Reference7Ideal.Gen Cert.Reference7Ideal.Read
open Idealize.ShloMosaic Idealize.ShloMosaic.TcCoe
open Idealize.ShloMosaic.Pointwise

variable (x0 : Vec Ideal S4x33792x1024 .bf16) (x1 : Vec Ideal S33792x4 .f32) (x2 : Vec Ideal S1024x1024 .f32) (x3 : Vec Ideal S4x1x1024 .f32) (x4 : Vec Ideal S1024 .f32)

/-- A token's row of the result, of the arguments. -/
def rowOf (q : Fin 1024) (d : Fin 1024) : EReal :=
  Combine.row (fun k => x1 (ix2 ⟨32768 + q.val, Nat.add_lt_add_left q.isLt 32768⟩ k)) (fun k d => x0 (ix3 k ⟨32768 + q.val, Nat.add_lt_add_left q.isLt 32768⟩ d)) (fun d => x2 (ix2 q d))
    (fun d => x3 (ix3 ⟨q.val / 256, Nat.div_lt_of_lt_mul q.isLt⟩ 0 d)) (fun d => x4 (ix1 d)) d

/-- The sum of the experts' rows by their gates. -/
theorem v7_cell (q : Fin 1024) (d : Fin 1024) :
    val_main_v7 (F := Ideal) x0 x1 (ix2 q d) = ∑ k : Fin 4, x1 (ix2 ⟨32768 + q.val, Nat.add_lt_add_left q.isLt 32768⟩ k) * x0 (ix3 k ⟨32768 + q.val, Nat.add_lt_add_left q.isLt 32768⟩ d) := by
  pointwise [val_main_v7, val_main_v6, val_main_v5, val_main_v4, val_main_v3, val_main_v2, val_main_v1, val_main_v0, val_main_cst]
  try rfl

/-- The gate of a token's batch. -/
theorem v10_cell (q : Fin 1024) (d : Fin 1024) : val_main_v10 (F := Ideal) x3 (ix2 q d) = x3 (ix3 ⟨q.val / 256, Nat.div_lt_of_lt_mul q.isLt⟩ 0 d) := by
  pointwise [val_main_v10, val_main_v9, val_main_v8]

/-- The result. -/
theorem v25_cell (q : Fin 1024) (d : Fin 1024) : val_main_v25 (F := Ideal) x0 x1 x2 x3 x4 (ix2 q d) = rowOf x0 x1 x2 x3 x4 q d := by
  have h := fun d => v7_cell x0 x1 q d
  have h' := v10_cell x3 q d
  unfold val_main_v25 val_main_v24 val_main_v23 val_main_v20 val_main_v19 val_main_v18 val_main_v17 val_main_v15 val_main_v13 val_main_v12 val_main_v11
  generalize val_main_v7 (F := Ideal) x0 x1 = y at h ⊢
  generalize val_main_v10 (F := Ideal) x3 = z at h' ⊢
  pointwise [val_main_v22, val_main_v21, val_main_v16, val_main_v14, val_main_cst_0, val_main_cst_1, val_main_cst_2]
  simp only [h, h']
  rfl

end Cert.Reference7Ideal.Ref

end
-- ==== Proof.PI7.Array.lean ====
/-
  What the result array of the combination of the context's tokens holds, element by element: each token's combined row.
-/
module

public import proofs.«01_k».proof.Proof.PI7.Blocks
public import proofs.«01_k».proof.Proof.PI7.Cells
public import proofs.«01_k».proof.Proof.PI7.Host
public import proofs.«01_k».proof.Proof.RI7.Reads

@[expose] public section

noncomputable section

namespace Cert.Kernel7Ideal.Cmb

open Cert.Kernel7Ideal Cert.Kernel7Ideal.Gen
open Idealize.ShloMosaic Idealize.ShloMosaic.TcCoe Idealize.ShloMosaic.Pipeline
open Idealize.ShloMosaic.Pointwise
open Cert.Reference7Ideal.Ref (rowOf)

variable (m : (ℓ : Loc nD τ sig) → Buf (Elt Ideal) ℓ) (c : Dev nD)

section Blocks

variable (t : Fin cfg0.N)

theorem blk0 (k : Fin 4) (r : Fin 256) (d : Fin 1024) : iblk m c 0 t (ix3 k r d) = m ((c : Thread nD τ).loc main_arg0) (ix3 k ⟨32768 + (rOf t r).val, Nat.add_lt_add_left (rOf t r).isLt 32768⟩ d) := by
  show V m c main_arg0 (((cfg0.win 0).blk t).view.emb (ix3 k r d)) = _
  rw [emb0, V_main_arg0]

theorem blk1 (r : Fin 256) (k : Fin 4) : iblk m c 1 t (ix2 r k) = m ((c : Thread nD τ).loc main_arg1) (ix2 ⟨32768 + (rOf t r).val, Nat.add_lt_add_left (rOf t r).isLt 32768⟩ k) := by
  show V m c main_arg1 (((cfg0.win 1).blk t).view.emb (ix2 r k)) = _
  rw [emb1, V_main_arg1]

theorem blk2 (r : Fin 256) (d : Fin 1024) : iblk m c 2 t (ix2 r d) = m ((c : Thread nD τ).loc main_arg2) (ix2 (rOf t r) d) := by
  show V m c main_arg2 (((cfg0.win 2).blk t).view.emb (ix2 r d)) = _
  rw [emb2, V_main_arg2]

theorem blk3 (r : Fin 256) (d : Fin 1024) :
    iblk m c 3 t (ix3 (0 : Fin 1) (0 : Fin 1) d) = m ((c : Thread nD τ).loc main_arg3) (ix3 ⟨(rOf t r).val / 256, Nat.div_lt_of_lt_mul (rOf t r).isLt⟩ 0 d) := by
  show V m c main_v1 (((cfg0.win 3).blk t).view.emb (ix3 (0 : Fin 1) (0 : Fin 1) d)) = _
  rw [emb3, V_v1]
  refine (hostGate_cell (m ((c : Thread nD τ).loc main_arg3)) ⟨t.val, t_lt t⟩ d).trans ?_
  exact congrArg (fun b => m ((c : Thread nD τ).loc main_arg3) (ix3 b 0 d)) (Fin.ext (by have := r.isLt; show t.val = (256 * t.val + r.val) / 256; omega))

theorem blk4 (d : Fin 1024) : iblk m c 4 t (ix2 (0 : Fin 1) d) = m ((c : Thread nD τ).loc main_arg4) (ix1 d) := by
  show V m c main_v2 (((cfg0.win 4).blk t).view.emb (ix2 (0 : Fin 1) d)) = _
  rw [emb4, V_v2]
  exact hostRow_cell _ d

/-- A grid point's output block. -/
theorem out5_cell (r : Fin 256) (d : Fin 1024) : outs5 m c t (ix2 r d) = rowOf (m ((c : Thread nD τ).loc main_arg0)) (m ((c : Thread nD τ).loc main_arg1)) (m ((c : Thread nD τ).loc main_arg2)) (m ((c : Thread nD τ).loc main_arg3)) (m ((c : Thread nD τ).loc main_arg4)) (rOf t r) d := by
  rw [out5, body_cell (iblk m c 0 t) (iblk m c 1 t) (iblk m c 2 t) (iblk m c 3 t) (iblk m c 4 t) r d]
  unfold rowOf
  have e0 := funext fun k => funext fun d => blk0 m c t k r d
  have e1 := funext fun k => blk1 m c t r k
  have e2 := funext fun d => blk2 m c t r d
  have e3 := funext fun d => blk3 m c t r d
  have e4 := funext fun d => blk4 m c t d
  exact congrFun (congr (congr (congr (congr (congrArg Combine.row e1) e0) e2) e3) e4) d

end Blocks

/-- The result as a function of the arguments. -/
def res5 : Vec Ideal S1024x1024 .f32 := fun i => rowOf (m ((c : Thread nD τ).loc main_arg0)) (m ((c : Thread nD τ).loc main_arg1)) (m ((c : Thread nD τ).loc main_arg2)) (m ((c : Thread nD τ).loc main_arg3)) (m ((c : Thread nD τ).loc main_arg4)) ⟨(i 0).val, (i 0).isLt⟩ ⟨(i 1).val, (i 1).isLt⟩

/-- The result array after the run. -/
theorem arr5 : (dats m 0 c).arrAt 5 cfg0.N = res5 m c := by
  refine (dats m 0 c).arrAt_eq_of_cover 5 (res5 m c) (fun t _ => ?_) fun i => ?_
  · show (cfg0.win 5).cut (grid0.coords t) ((dats m 0 c).after 5 t) = _
    refine funext fun (j : S256x1024.Idx) => ?_
    obtain ⟨r, e, rfl⟩ : ∃ (r : Fin 256) (e : Fin 1024), j = ix2 r e := ⟨j 0, j 1, funext fun a => by match a with | ⟨0, _⟩ => rfl | ⟨1, _⟩ => rfl⟩
    show outs5 m c t (ix2 r e) = res5 m c (((cfg0.win 5).blk t).view.emb (ix2 r e))
    rw [emb5, out5_cell m c t r e]
    rfl
  · obtain ⟨p, r, hr⟩ := tok ⟨(i 0).val, (i 0).isLt⟩
    refine ⟨p, flush0_5 p, ?_⟩
    have hi : ((cfg0.win 5).blk p).view.emb (ix2 r ⟨(i 1).val, (i 1).isLt⟩) = i := by
      rw [emb5, hr]
      exact funext fun a => by match a with | ⟨0, _⟩ => rfl | ⟨1, _⟩ => rfl
    exact hi ▸ ((cfg0.win 5).blk p).view.emb_mem_set (ix2 r ⟨(i 1).val, (i 1).isLt⟩)

end Cert.Kernel7Ideal.Cmb

end
-- ==== Proof.Equation7.lean ====
/-
  The equation of the combination of the context's tokens: the kernel's result array and the reference's are the same function of the arguments.
-/
module

public import proofs.«01_k».proof.Defs
public import proofs.«01_k».proof.Proof.PI7.Array
public import proofs.«01_k».proof.Proof.RI7.Reads
public import proofs.«01_k».proof.Proof.RI7.Run
public import proofs.«01_k».proof.Proof.Gen.Kernel7Ideal.Value

@[expose] public section

noncomputable section

namespace Cert.Equation7

open Idealize.ShloMosaic Idealize.ShloMosaic.TcCoe Idealize.SL.Sem
open Idealize.ShloMosaic.Pointwise

section Result
open Cert.Kernel7Ideal Cert.Kernel7Ideal.Cmb

variable (m : (ℓ : Loc nD τ sig) → Buf (Elt Ideal) ℓ) (c : Dev nD)

/-- The result. -/
theorem eq5 : Cert.Reference7Ideal.Read.val_main_v25 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) = res5 m c := by
  refine funext fun (i : S1024x1024.Idx) => ?_
  obtain ⟨q, d, rfl⟩ : ∃ (q : Fin 1024) (d : Fin 1024), i = ix2 q d :=
    ⟨i 0, i 1, funext fun a => by match a with | ⟨0, _⟩ => rfl | ⟨1, _⟩ => rfl⟩
  exact Cert.Reference7Ideal.Ref.v25_cell (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) q d

end Result

/-- The two programs end with equal results, and with their arguments unchanged. -/
theorem algebraic : Cert.algebraic_Kernel7Ideal_Reference7Ideal := by
  intro m g m' g' hpre harg
  refine ⟨fun c => Cert.Kernel7Ideal.Cmb.res5 m c, ?_, ?_⟩
  · exact (θ_run _ _ _).mono (fun r h c => ⟨(h c).1.trans (Cert.Kernel7Ideal.Cmb.arr5 m c), (h c).2⟩) (Cert.Kernel7Ideal.Value.run_blocks m g)
  · refine (θ_run _ _ _).mono (fun r h c => ⟨(h c).1.trans ?_, (h c).2⟩) (Cert.Reference7Ideal.Value.run m' g')
    obtain ⟨a0, a1, a2, a3, a4⟩ := harg c
    refine (Cert.Reference7Ideal.Read.val_main_v25_eq (F := Ideal) _ _ _ _ _).trans ?_
    rw [a0, a1, a2, a3, a4]
    exact eq5 m c

end Cert.Equation7

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2.Frame
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3.Value
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Pre_finite
public import proofs.«01_k».proof.Proof.P.Frame
public import proofs.«01_k».proof.Proof.PI.Frame
public import proofs.«01_k».proof.Proof.RI.Run
public import proofs.«01_k».proof.Proof.Equation
public import proofs.«01_k».proof.Proof.P2.Frame
public import proofs.«01_k».proof.Proof.PI2.Frame
public import proofs.«01_k».proof.Proof.RI2.Run
public import proofs.«01_k».proof.Proof.Equation2
public import proofs.«01_k».proof.Proof.RI3.Run
public import proofs.«01_k».proof.Proof.Equation3
public import proofs.«01_k».proof.Proof.P4.Frame
public import proofs.«01_k».proof.Proof.PI4.Frame
public import proofs.«01_k».proof.Proof.RI4.Run
public import proofs.«01_k».proof.Proof.Equation4
public import proofs.«01_k».proof.Proof.Gen.Kernel2
public import proofs.«01_k».proof.Proof.Gen.Kernel2Ideal
public import proofs.«01_k».proof.Proof.Gen.Reference2Ideal
public import proofs.«01_k».proof.Proof.Gen.Kernel4.Frame
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal.Run
public import proofs.«01_k».proof.Proof.Gen.Reference4Ideal.Read
public import proofs.«01_k».proof.Proof.Gen.Kernel4
public import proofs.«01_k».proof.Proof.Gen.Kernel4Ideal
public import proofs.«01_k».proof.Proof.Gen.Reference4Ideal
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5.Value
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6.Value
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7.Value
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.RI5.Run
public import proofs.«01_k».proof.Proof.Equation5
public import proofs.«01_k».proof.Proof.RI6.Run
public import proofs.«01_k».proof.Proof.Equation6
public import proofs.«01_k».proof.Proof.RI7.Run
public import proofs.«01_k».proof.Proof.Equation7
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts, Cert.Kernel3Ideal.Gen.facts, Cert.Reference3Ideal.Gen.facts, Cert.Kernel4.Gen.facts,
  Cert.Kernel4Ideal.Gen.facts, Cert.Reference4Ideal.Gen.facts, Cert.Kernel5.Gen.facts, Cert.Kernel5Ideal.Gen.facts, Cert.Reference5Ideal.Gen.facts,
  Cert.Kernel6.Gen.facts, Cert.Kernel6Ideal.Gen.facts, Cert.Reference6Ideal.Gen.facts, Cert.Kernel7.Gen.facts, Cert.Kernel7Ideal.Gen.facts, Cert.Reference7Ideal.Gen.facts, Cert.Pre_finite.Gen.facts,
  fun m g _ => Cert.Kernel.Att.frame m g, fun m g _ => Cert.KernelIdeal.Att.frame m g, fun m g _ => Cert.KernelIdeal.Att.frame m g,
  fun m g _ => Cert.ReferenceIdeal.Ref.frame m g, fun m g _ => Cert.ReferenceIdeal.Ref.frame m g,
  fun m g _ => Cert.Kernel2.Proj.frame m g, fun m g _ => Cert.Kernel2Ideal.Proj.frame m g, fun m g _ => Cert.Reference2Ideal.Ref.frame m g,
  fun m g _ => Cert.Kernel3.Gen.frame m g, fun m g _ => Cert.Kernel3Ideal.Gen.frame m g, fun m g _ => Cert.Reference3Ideal.Ref.frame m g,
  fun m g _ => Cert.Kernel4.Proj.frame m g, fun m g _ => Cert.Kernel4Ideal.Proj.frame m g, fun m g _ => Cert.Reference4Ideal.Ref.frame m g,
  fun m g _ => Cert.Kernel5.Gen.frame m g, fun m g _ => Cert.Kernel5Ideal.Gen.frame m g, fun m g _ => Cert.Reference5Ideal.Ref.frame m g,
  fun m g _ => Cert.Kernel6.Gen.frame m g, fun m g _ => Cert.Kernel6Ideal.Gen.frame m g, fun m g _ => Cert.Reference6Ideal.Ref.frame m g,
  fun m g _ => Cert.Kernel7.Gen.frame m g, fun m g _ => Cert.Kernel7Ideal.Gen.frame m g, fun m g _ => Cert.Reference7Ideal.Ref.frame m g,
  IdealRules.named_const.statement Cert.KernelIdeal.κ "scale" .f32 0x3E38AA3B#32 (((1 / 8) * (Real.log 2)⁻¹ : ℝ) : EReal) rfl,
  Cert.Equation.algebraic, trivial, Cert.Equation2.algebraic, trivial, Cert.Equation3.algebraic, trivial, Cert.Equation4.algebraic, trivial, Cert.Equation5.algebraic,
  trivial, Cert.Equation6.algebraic, trivial, Cert.Equation7.algebraic⟩

end Cert.Proof

end
